-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesReferenceIdeal (m : (ℓ : Loc Cert.GatesReferenceIdeal.nD Cert.GatesReferenceIdeal.τ Cert.GatesReferenceIdeal.sig) → Buf (Elt Ideal) ℓ) : Prop :=
  True

def Pre_Heads (m : (ℓ : Loc Cert.Heads.nD Cert.Heads.τ Cert.Heads.sig) → Buf (Elt Bits) ℓ) : Prop :=
  True

def Pre_HeadsIdeal (m : (ℓ : Loc Cert.HeadsIdeal.nD Cert.HeadsIdeal.τ Cert.HeadsIdeal.sig) → Buf (Elt Ideal) ℓ) : Prop :=
  True

def Pre_HeadsReferenceIdeal (m : (ℓ : Loc Cert.HeadsReferenceIdeal.nD Cert.HeadsReferenceIdeal.τ Cert.HeadsReferenceIdeal.sig) → Buf (Elt Ideal) ℓ) : Prop :=
  True

def Pre_Forget (m : (ℓ : Loc Cert.Forget.nD Cert.Forget.τ Cert.Forget.sig) → Buf (Elt Bits) ℓ) : Prop :=
  True

def Pre_ForgetIdeal (m : (ℓ : Loc Cert.ForgetIdeal.nD Cert.ForgetIdeal.τ Cert.ForgetIdeal.sig) → Buf (Elt Ideal) ℓ) : Prop :=
  True

def Pre_ForgetReferenceIdeal (m : (ℓ : Loc Cert.ForgetReferenceIdeal.nD Cert.ForgetReferenceIdeal.τ Cert.ForgetReferenceIdeal.sig) → Buf (Elt Ideal) ℓ) : Prop :=
  True

def Pre_Input (m : (ℓ : Loc Cert.Input.nD Cert.Input.τ Cert.Input.sig) → Buf (Elt Bits) ℓ) : Prop :=
  True

def Pre_InputIdeal (m : (ℓ : Loc Cert.InputIdeal.nD Cert.InputIdeal.τ Cert.InputIdeal.sig) → Buf (Elt Ideal) ℓ) : Prop :=
  True

def Pre_InputReferenceIdeal (m : (ℓ : Loc Cert.InputReferenceIdeal.nD Cert.InputReferenceIdeal.τ Cert.InputReferenceIdeal.sig) → Buf (Elt Ideal) ℓ) : Prop :=
  True

def Pre_Output (m : (ℓ : Loc Cert.Output.nD Cert.Output.τ Cert.Output.sig) → Buf (Elt Bits) ℓ) : Prop :=
  True

def Pre_OutputIdeal (m : (ℓ : Loc Cert.OutputIdeal.nD Cert.OutputIdeal.τ Cert.OutputIdeal.sig) → Buf (Elt Ideal) ℓ) : Prop :=
  True

def Pre_OutputReferenceIdeal (m : (ℓ : Loc Cert.OutputReferenceIdeal.nD Cert.OutputReferenceIdeal.τ Cert.OutputReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1))
      ∧ r.2.sem = fun _ => 0)

def quiescent_Heads [hHeads : Cert.Heads.Facts] : Prop :=
  ∀ (m : (ℓ : Loc Cert.Heads.nD Cert.Heads.τ Cert.Heads.sig) → Buf (Elt Bits) ℓ) (g : Dev Cert.Heads.nD → PrngReg), Pre_Heads m →
    θ_run (Cert.Heads.defs (F := Bits)) (onTc (τ := Cert.Heads.τ) (Cert.Heads.main (F := Bits))) ⟨m, fun _ => 0, g⟩ (fun r => (∀ c : Dev Cert.Heads.nD,
      r.2.mem ((c.tc : Thread Cert.Heads.nD Cert.Heads.τ).loc Cert.Heads.main_arg0) = m ((c.tc : Thread Cert.Heads.nD Cert.Heads.τ).loc Cert.Heads.main_arg0)
      ∧ r.2.mem ((c.tc : Thread Cert.Heads.nD Cert.Heads.τ).loc Cert.Heads.main_arg1) = m ((c.tc : Thread Cert.Heads.nD Cert.Heads.τ).loc Cert.Heads.main_arg1))
      ∧ r.2.sem = fun _ => 0)

def quiescent_HeadsIdeal [hHeadsIdeal : Cert.HeadsIdeal.Facts] : Prop :=
  ∀ (m : (ℓ : Loc Cert.HeadsIdeal.nD Cert.HeadsIdeal.τ Cert.HeadsIdeal.sig) → Buf (Elt Ideal) ℓ) (g : Dev Cert.HeadsIdeal.nD → PrngReg), Pre_HeadsIdeal m →
    θ_run (Cert.HeadsIdeal.defs (F := Ideal)) (onTc (τ := Cert.HeadsIdeal.τ) (Cert.HeadsIdeal.main (F := Ideal))) ⟨m, fun _ => 0, g⟩ (fun r => (∀ c : Dev Cert.HeadsIdeal.nD,
      r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
      ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1))
      ∧ r.2.sem = fun _ => 0)

def quiescent_HeadsReferenceIdeal [hHeadsReferenceIdeal : Cert.HeadsReferenceIdeal.Facts] : Prop :=
  ∀ (m : (ℓ : Loc Cert.HeadsReferenceIdeal.nD Cert.HeadsReferenceIdeal.τ Cert.HeadsReferenceIdeal.sig) → Buf (Elt Ideal) ℓ) (g : Dev Cert.HeadsReferenceIdeal.nD → PrngReg), Pre_HeadsReferenceIdeal m →
    θ_run (Cert.HeadsReferenceIdeal.defs (F := Ideal)) (onTc (τ := Cert.HeadsReferenceIdeal.τ) (Cert.HeadsReferenceIdeal.main (F := Ideal))) ⟨m, fun _ => 0, g⟩ (fun r => (∀ c : Dev Cert.HeadsReferenceIdeal.nD,
      r.2.mem ((c.tc : Thread Cert.HeadsReferenceIdeal.nD Cert.HeadsReferenceIdeal.τ).loc Cert.HeadsReferenceIdeal.main_arg0) = m ((c.tc : Thread Cert.HeadsReferenceIdeal.nD Cert.HeadsReferenceIdeal.τ).loc Cert.HeadsReferenceIdeal.main_arg0)
      ∧ r.2.mem ((c.tc : Thread Cert.HeadsReferenceIdeal.nD Cert.HeadsReferenceIdeal.τ).loc Cert.HeadsReferenceIdeal.main_arg1) = m ((c.tc : Thread Cert.HeadsReferenceIdeal.nD Cert.HeadsReferenceIdeal.τ).loc Cert.HeadsReferenceIdeal.main_arg1))
      ∧ r.2.sem = fun _ => 0)

def quiescent_Forget [hForget : Cert.Forget.Facts] : Prop :=
  ∀ (m : (ℓ : Loc Cert.Forget.nD Cert.Forget.τ Cert.Forget.sig) → Buf (Elt Bits) ℓ) (g : Dev Cert.Forget.nD → PrngReg), Pre_Forget m →
    θ_run (Cert.Forget.defs (F := Bits)) (onTc (τ := Cert.Forget.τ) (Cert.Forget.main (F := Bits))) ⟨m, fun _ => 0, g⟩ (fun r => (∀ c : Dev Cert.Forget.nD,
      r.2.mem ((c.tc : Thread Cert.Forget.nD Cert.Forget.τ).loc Cert.Forget.main_arg0) = m ((c.tc : Thread Cert.Forget.nD Cert.Forget.τ).loc Cert.Forget.main_arg0)
      ∧ r.2.mem ((c.tc : Thread Cert.Forget.nD Cert.Forget.τ).loc Cert.Forget.main_arg1) = m ((c.tc : Thread Cert.Forget.nD Cert.Forget.τ).loc Cert.Forget.main_arg1)
      ∧ r.2.mem ((c.tc : Thread Cert.Forget.nD Cert.Forget.τ).loc Cert.Forget.main_arg2) = m ((c.tc : Thread Cert.Forget.nD Cert.Forget.τ).loc Cert.Forget.main_arg2))
      ∧ r.2.sem = fun _ => 0)

def quiescent_ForgetIdeal [hForgetIdeal : Cert.ForgetIdeal.Facts] : Prop :=
  ∀ (m : (ℓ : Loc Cert.ForgetIdeal.nD Cert.ForgetIdeal.τ Cert.ForgetIdeal.sig) → Buf (Elt Ideal) ℓ) (g : Dev Cert.ForgetIdeal.nD → PrngReg), Pre_ForgetIdeal m →
    θ_run (Cert.ForgetIdeal.defs (F := Ideal)) (onTc (τ := Cert.ForgetIdeal.τ) (Cert.ForgetIdeal.main (F := Ideal))) ⟨m, fun _ => 0, g⟩ (fun r => (∀ c : Dev Cert.ForgetIdeal.nD,
      r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
      ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
      ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2))
      ∧ r.2.sem = fun _ => 0)

def quiescent_ForgetReferenceIdeal [hForgetReferenceIdeal : Cert.ForgetReferenceIdeal.Facts] : Prop :=
  ∀ (m : (ℓ : Loc Cert.ForgetReferenceIdeal.nD Cert.ForgetReferenceIdeal.τ Cert.ForgetReferenceIdeal.sig) → Buf (Elt Ideal) ℓ) (g : Dev Cert.ForgetReferenceIdeal.nD → PrngReg), Pre_ForgetReferenceIdeal m →
    θ_run (Cert.ForgetReferenceIdeal.defs (F := Ideal)) (onTc (τ := Cert.ForgetReferenceIdeal.τ) (Cert.ForgetReferenceIdeal.main (F := Ideal))) ⟨m, fun _ => 0, g⟩ (fun r => (∀ c : Dev Cert.ForgetReferenceIdeal.nD,
      r.2.mem ((c.tc : Thread Cert.ForgetReferenceIdeal.nD Cert.ForgetReferenceIdeal.τ).loc Cert.ForgetReferenceIdeal.main_arg0) = m ((c.tc : Thread Cert.ForgetReferenceIdeal.nD Cert.ForgetReferenceIdeal.τ).loc Cert.ForgetReferenceIdeal.main_arg0)
      ∧ r.2.mem ((c.tc : Thread Cert.ForgetReferenceIdeal.nD Cert.ForgetReferenceIdeal.τ).loc Cert.ForgetReferenceIdeal.main_arg1) = m ((c.tc : Thread Cert.ForgetReferenceIdeal.nD Cert.ForgetReferenceIdeal.τ).loc Cert.ForgetReferenceIdeal.main_arg1)
      ∧ r.2.mem ((c.tc : Thread Cert.ForgetReferenceIdeal.nD Cert.ForgetReferenceIdeal.τ).loc Cert.ForgetReferenceIdeal.main_arg2) = m ((c.tc : Thread Cert.ForgetReferenceIdeal.nD Cert.ForgetReferenceIdeal.τ).loc Cert.ForgetReferenceIdeal.main_arg2))
      ∧ r.2.sem = fun _ => 0)

def quiescent_Input [hInput : Cert.Input.Facts] : Prop :=
  ∀ (m : (ℓ : Loc Cert.Input.nD Cert.Input.τ Cert.Input.sig) → Buf (Elt Bits) ℓ) (g : Dev Cert.Input.nD → PrngReg), Pre_Input m →
    θ_run (Cert.Input.defs (F := Bits)) (onTc (τ := Cert.Input.τ) (Cert.Input.main (F := Bits))) ⟨m, fun _ => 0, g⟩ (fun r => (∀ c : Dev Cert.Input.nD,
      r.2.mem ((c.tc : Thread Cert.Input.nD Cert.Input.τ).loc Cert.Input.main_arg0) = m ((c.tc : Thread Cert.Input.nD Cert.Input.τ).loc Cert.Input.main_arg0)
      ∧ r.2.mem ((c.tc : Thread Cert.Input.nD Cert.Input.τ).loc Cert.Input.main_arg1) = m ((c.tc : Thread Cert.Input.nD Cert.Input.τ).loc Cert.Input.main_arg1))
      ∧ r.2.sem = fun _ => 0)

def quiescent_InputIdeal [hInputIdeal : Cert.InputIdeal.Facts] : Prop :=
  ∀ (m : (ℓ : Loc Cert.InputIdeal.nD Cert.InputIdeal.τ Cert.InputIdeal.sig) → Buf (Elt Ideal) ℓ) (g : Dev Cert.InputIdeal.nD → PrngReg), Pre_InputIdeal m →
    θ_run (Cert.InputIdeal.defs (F := Ideal)) (onTc (τ := Cert.InputIdeal.τ) (Cert.InputIdeal.main (F := Ideal))) ⟨m, fun _ => 0, g⟩ (fun r => (∀ c : Dev Cert.InputIdeal.nD,
      r.2.mem ((c.tc : Thread Cert.InputIdeal.nD Cert.InputIdeal.τ).loc Cert.InputIdeal.main_arg0) = m ((c.tc : Thread Cert.InputIdeal.nD Cert.InputIdeal.τ).loc Cert.InputIdeal.main_arg0)
      ∧ r.2.mem ((c.tc : Thread Cert.InputIdeal.nD Cert.InputIdeal.τ).loc Cert.InputIdeal.main_arg1) = m ((c.tc : Thread Cert.InputIdeal.nD Cert.InputIdeal.τ).loc Cert.InputIdeal.main_arg1))
      ∧ r.2.sem = fun _ => 0)

def quiescent_InputReferenceIdeal [hInputReferenceIdeal : Cert.InputReferenceIdeal.Facts] : Prop :=
  ∀ (m : (ℓ : Loc Cert.InputReferenceIdeal.nD Cert.InputReferenceIdeal.τ Cert.InputReferenceIdeal.sig) → Buf (Elt Ideal) ℓ) (g : Dev Cert.InputReferenceIdeal.nD → PrngReg), Pre_InputReferenceIdeal m →
    θ_run (Cert.InputReferenceIdeal.defs (F := Ideal)) (onTc (τ := Cert.InputReferenceIdeal.τ) (Cert.InputReferenceIdeal.main (F := Ideal))) ⟨m, fun _ => 0, g⟩ (fun r => (∀ c : Dev Cert.InputReferenceIdeal.nD,
      r.2.mem ((c.tc : Thread Cert.InputReferenceIdeal.nD Cert.InputReferenceIdeal.τ).loc Cert.InputReferenceIdeal.main_arg0) = m ((c.tc : Thread Cert.InputReferenceIdeal.nD Cert.InputReferenceIdeal.τ).loc Cert.InputReferenceIdeal.main_arg0)
      ∧ r.2.mem ((c.tc : Thread Cert.InputReferenceIdeal.nD Cert.InputReferenceIdeal.τ).loc Cert.InputReferenceIdeal.main_arg1) = m ((c.tc : Thread Cert.InputReferenceIdeal.nD Cert.InputReferenceIdeal.τ).loc Cert.InputReferenceIdeal.main_arg1))
      ∧ r.2.sem = fun _ => 0)

def quiescent_Output [hOutput : Cert.Output.Facts] : Prop :=
  ∀ (m : (ℓ : Loc Cert.Output.nD Cert.Output.τ Cert.Output.sig) → Buf (Elt Bits) ℓ) (g : Dev Cert.Output.nD → PrngReg), Pre_Output m →
    θ_run (Cert.Output.defs (F := Bits)) (onTc (τ := Cert.Output.τ) (Cert.Output.main (F := Bits))) ⟨m, fun _ => 0, g⟩ (fun r => (∀ c : Dev Cert.Output.nD,
      r.2.mem ((c.tc : Thread Cert.Output.nD Cert.Output.τ).loc Cert.Output.main_arg0) = m ((c.tc : Thread Cert.Output.nD Cert.Output.τ).loc Cert.Output.main_arg0)
      ∧ r.2.mem ((c.tc : Thread Cert.Output.nD Cert.Output.τ).loc Cert.Output.main_arg1) = m ((c.tc : Thread Cert.Output.nD Cert.Output.τ).loc Cert.Output.main_arg1))
      ∧ r.2.sem = fun _ => 0)

def quiescent_OutputIdeal [hOutputIdeal : Cert.OutputIdeal.Facts] : Prop :=
  ∀ (m : (ℓ : Loc Cert.OutputIdeal.nD Cert.OutputIdeal.τ Cert.OutputIdeal.sig) → Buf (Elt Ideal) ℓ) (g : Dev Cert.OutputIdeal.nD → PrngReg), Pre_OutputIdeal m →
    θ_run (Cert.OutputIdeal.defs (F := Ideal)) (onTc (τ := Cert.OutputIdeal.τ) (Cert.OutputIdeal.main (F := Ideal))) ⟨m, fun _ => 0, g⟩ (fun r => (∀ c : Dev Cert.OutputIdeal.nD,
      r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
      ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1))
      ∧ r.2.sem = fun _ => 0)

def quiescent_OutputReferenceIdeal [hOutputReferenceIdeal : Cert.OutputReferenceIdeal.Facts] : Prop :=
  ∀ (m : (ℓ : Loc Cert.OutputReferenceIdeal.nD Cert.OutputReferenceIdeal.τ Cert.OutputReferenceIdeal.sig) → Buf (Elt Ideal) ℓ) (g : Dev Cert.OutputReferenceIdeal.nD → PrngReg), Pre_OutputReferenceIdeal m →
    θ_run (Cert.OutputReferenceIdeal.defs (F := Ideal)) (onTc (τ := Cert.OutputReferenceIdeal.τ) (Cert.OutputReferenceIdeal.main (F := Ideal))) ⟨m, fun _ => 0, g⟩ (fun r => (∀ c : Dev Cert.OutputReferenceIdeal.nD,
      r.2.mem ((c.tc : Thread Cert.OutputReferenceIdeal.nD Cert.OutputReferenceIdeal.τ).loc Cert.OutputReferenceIdeal.main_arg0) = m ((c.tc : Thread Cert.OutputReferenceIdeal.nD Cert.OutputReferenceIdeal.τ).loc Cert.OutputReferenceIdeal.main_arg0)
      ∧ r.2.mem ((c.tc : Thread Cert.OutputReferenceIdeal.nD Cert.OutputReferenceIdeal.τ).loc Cert.OutputReferenceIdeal.main_arg1) = m ((c.tc : Thread Cert.OutputReferenceIdeal.nD Cert.OutputReferenceIdeal.τ).loc Cert.OutputReferenceIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1)
      ∧ r.2.mem ((c.tc : Thread Cert.NormReferenceIdeal.nD Cert.NormReferenceIdeal.τ).loc Cert.NormReferenceIdeal.main_arg2) = m ((c.tc : Thread Cert.NormReferenceIdeal.nD Cert.NormReferenceIdeal.τ).loc Cert.NormReferenceIdeal.main_arg2))
      ∧ r.2.sem = fun _ => 0)

def preserves_Kernel_KernelIdeal : Prop :=
  IdealRules.named_const.Statement Cert.KernelIdeal.κ "scale" .f32 0x3DB504F3#32 (((Real.sqrt 128)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Gates_GatesIdeal : Prop :=
  True

def algebraic_GatesIdeal_GatesReferenceIdeal [hGatesIdeal : Cert.GatesIdeal.Facts] [hGatesReferenceIdeal : Cert.GatesReferenceIdeal.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)) →
    ∃ (v0 : (c : Dev Cert.GatesIdeal.nD) → Buf (Elt Ideal) ((c.tc : Thread Cert.GatesIdeal.nD Cert.GatesIdeal.τ).loc Cert.GatesIdeal.main_v1)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v1) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v10) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1))

def preserves_Heads_HeadsIdeal : Prop :=
  True

def algebraic_HeadsIdeal_HeadsReferenceIdeal [hHeadsIdeal : Cert.HeadsIdeal.Facts] [hHeadsReferenceIdeal : Cert.HeadsReferenceIdeal.Facts] : Prop :=
  ∀ (m : (ℓ : Loc Cert.HeadsIdeal.nD Cert.HeadsIdeal.τ Cert.HeadsIdeal.sig) → Buf (Elt Ideal) ℓ) (g : Dev Cert.HeadsIdeal.nD → PrngReg)
    (m' : (ℓ : Loc Cert.HeadsReferenceIdeal.nD Cert.HeadsReferenceIdeal.τ Cert.HeadsReferenceIdeal.sig) → Buf (Elt Ideal) ℓ) (g' : Dev Cert.HeadsReferenceIdeal.nD → PrngReg), Pre_HeadsIdeal m →
    (∀ c : Dev Cert.HeadsIdeal.nD,
      m' ((c.tc : Thread Cert.HeadsReferenceIdeal.nD Cert.HeadsReferenceIdeal.τ).loc Cert.HeadsReferenceIdeal.main_arg0) = m ((c.tc : Thread Cert.HeadsIdeal.nD Cert.HeadsIdeal.τ).loc Cert.HeadsIdeal.main_arg0)
      ∧ m' ((c.tc : Thread Cert.HeadsReferenceIdeal.nD Cert.HeadsReferenceIdeal.τ).loc Cert.HeadsReferenceIdeal.main_arg1) = m ((c.tc : Thread Cert.HeadsIdeal.nD Cert.HeadsIdeal.τ).loc Cert.HeadsIdeal.main_arg1)) →
    ∃ (v0 : (c : Dev Cert.HeadsIdeal.nD) → Buf (Elt Ideal) ((c.tc : Thread Cert.HeadsIdeal.nD Cert.HeadsIdeal.τ).loc Cert.HeadsIdeal.main_v1)),
      θ_run (Cert.HeadsIdeal.defs (F := Ideal)) (onTc (τ := Cert.HeadsIdeal.τ) (Cert.HeadsIdeal.main (F := Ideal))) ⟨m, fun _ => 0, g⟩ (fun r => ∀ c : Dev Cert.HeadsIdeal.nD,
          r.2.mem ((c.tc : Thread Cert.HeadsIdeal.nD Cert.HeadsIdeal.τ).loc Cert.HeadsIdeal.main_v1) = v0 c
          ∧ r.2.mem ((c.tc : Thread Cert.HeadsIdeal.nD Cert.HeadsIdeal.τ).loc Cert.HeadsIdeal.main_arg0) = m ((c.tc : Thread Cert.HeadsIdeal.nD Cert.HeadsIdeal.τ).loc Cert.HeadsIdeal.main_arg0)
          ∧ r.2.mem ((c.tc : Thread Cert.HeadsIdeal.nD Cert.HeadsIdeal.τ).loc Cert.HeadsIdeal.main_arg1) = m ((c.tc : Thread Cert.HeadsIdeal.nD Cert.HeadsIdeal.τ).loc Cert.HeadsIdeal.main_arg1))
      ∧ θ_run (Cert.HeadsReferenceIdeal.defs (F := Ideal)) (onTc (τ := Cert.HeadsReferenceIdeal.τ) (Cert.HeadsReferenceIdeal.main (F := Ideal))) ⟨m', fun _ => 0, g'⟩ (fun r => ∀ c : Dev Cert.HeadsReferenceIdeal.nD,
          r.2.mem ((c.tc : Thread Cert.HeadsReferenceIdeal.nD Cert.HeadsReferenceIdeal.τ).loc Cert.HeadsReferenceIdeal.main_v6) = v0 c
          ∧ r.2.mem ((c.tc : Thread Cert.HeadsReferenceIdeal.nD Cert.HeadsReferenceIdeal.τ).loc Cert.HeadsReferenceIdeal.main_arg0) = m' ((c.tc : Thread Cert.HeadsReferenceIdeal.nD Cert.HeadsReferenceIdeal.τ).loc Cert.HeadsReferenceIdeal.main_arg0)
          ∧ r.2.mem ((c.tc : Thread Cert.HeadsReferenceIdeal.nD Cert.HeadsReferenceIdeal.τ).loc Cert.HeadsReferenceIdeal.main_arg1) = m' ((c.tc : Thread Cert.HeadsReferenceIdeal.nD Cert.HeadsReferenceIdeal.τ).loc Cert.HeadsReferenceIdeal.main_arg1))

def preserves_Forget_ForgetIdeal : Prop :=
  True

def algebraic_ForgetIdeal_ForgetReferenceIdeal [hForgetIdeal : Cert.ForgetIdeal.Facts] [hForgetReferenceIdeal : Cert.ForgetReferenceIdeal.Facts] : Prop :=
  ∀ (m : (ℓ : Loc Cert.ForgetIdeal.nD Cert.ForgetIdeal.τ Cert.ForgetIdeal.sig) → Buf (Elt Ideal) ℓ) (g : Dev Cert.ForgetIdeal.nD → PrngReg)
    (m' : (ℓ : Loc Cert.ForgetReferenceIdeal.nD Cert.ForgetReferenceIdeal.τ Cert.ForgetReferenceIdeal.sig) → Buf (Elt Ideal) ℓ) (g' : Dev Cert.ForgetReferenceIdeal.nD → PrngReg), Pre_ForgetIdeal m →
    (∀ c : Dev Cert.ForgetIdeal.nD,
      m' ((c.tc : Thread Cert.ForgetReferenceIdeal.nD Cert.ForgetReferenceIdeal.τ).loc Cert.ForgetReferenceIdeal.main_arg0) = m ((c.tc : Thread Cert.ForgetIdeal.nD Cert.ForgetIdeal.τ).loc Cert.ForgetIdeal.main_arg0)
      ∧ m' ((c.tc : Thread Cert.ForgetReferenceIdeal.nD Cert.ForgetReferenceIdeal.τ).loc Cert.ForgetReferenceIdeal.main_arg1) = m ((c.tc : Thread Cert.ForgetIdeal.nD Cert.ForgetIdeal.τ).loc Cert.ForgetIdeal.main_arg1)
      ∧ m' ((c.tc : Thread Cert.ForgetReferenceIdeal.nD Cert.ForgetReferenceIdeal.τ).loc Cert.ForgetReferenceIdeal.main_arg2) = m ((c.tc : Thread Cert.ForgetIdeal.nD Cert.ForgetIdeal.τ).loc Cert.ForgetIdeal.main_arg2)) →
    ∃ (v0 : (c : Dev Cert.ForgetIdeal.nD) → Buf (Elt Ideal) ((c.tc : Thread Cert.ForgetIdeal.nD Cert.ForgetIdeal.τ).loc Cert.ForgetIdeal.main_v1)),
      θ_run (Cert.ForgetIdeal.defs (F := Ideal)) (onTc (τ := Cert.ForgetIdeal.τ) (Cert.ForgetIdeal.main (F := Ideal))) ⟨m, fun _ => 0, g⟩ (fun r => ∀ c : Dev Cert.ForgetIdeal.nD,
          r.2.mem ((c.tc : Thread Cert.ForgetIdeal.nD Cert.ForgetIdeal.τ).loc Cert.ForgetIdeal.main_v1) = v0 c
          ∧ r.2.mem ((c.tc : Thread Cert.ForgetIdeal.nD Cert.ForgetIdeal.τ).loc Cert.ForgetIdeal.main_arg0) = m ((c.tc : Thread Cert.ForgetIdeal.nD Cert.ForgetIdeal.τ).loc Cert.ForgetIdeal.main_arg0)
          ∧ r.2.mem ((c.tc : Thread Cert.ForgetIdeal.nD Cert.ForgetIdeal.τ).loc Cert.ForgetIdeal.main_arg1) = m ((c.tc : Thread Cert.ForgetIdeal.nD Cert.ForgetIdeal.τ).loc Cert.ForgetIdeal.main_arg1)
          ∧ r.2.mem ((c.tc : Thread Cert.ForgetIdeal.nD Cert.ForgetIdeal.τ).loc Cert.ForgetIdeal.main_arg2) = m ((c.tc : Thread Cert.ForgetIdeal.nD Cert.ForgetIdeal.τ).loc Cert.ForgetIdeal.main_arg2))
      ∧ θ_run (Cert.ForgetReferenceIdeal.defs (F := Ideal)) (onTc (τ := Cert.ForgetReferenceIdeal.τ) (Cert.ForgetReferenceIdeal.main (F := Ideal))) ⟨m', fun _ => 0, g'⟩ (fun r => ∀ c : Dev Cert.ForgetReferenceIdeal.nD,
          r.2.mem ((c.tc : Thread Cert.ForgetReferenceIdeal.nD Cert.ForgetReferenceIdeal.τ).loc Cert.ForgetReferenceIdeal.main_v19) = v0 c
          ∧ r.2.mem ((c.tc : Thread Cert.ForgetReferenceIdeal.nD Cert.ForgetReferenceIdeal.τ).loc Cert.ForgetReferenceIdeal.main_arg0) = m' ((c.tc : Thread Cert.ForgetReferenceIdeal.nD Cert.ForgetReferenceIdeal.τ).loc Cert.ForgetReferenceIdeal.main_arg0)
          ∧ r.2.mem ((c.tc : Thread Cert.ForgetReferenceIdeal.nD Cert.ForgetReferenceIdeal.τ).loc Cert.ForgetReferenceIdeal.main_arg1) = m' ((c.tc : Thread Cert.ForgetReferenceIdeal.nD Cert.ForgetReferenceIdeal.τ).loc Cert.ForgetReferenceIdeal.main_arg1)
          ∧ r.2.mem ((c.tc : Thread Cert.ForgetReferenceIdeal.nD Cert.ForgetReferenceIdeal.τ).loc Cert.ForgetReferenceIdeal.main_arg2) = m' ((c.tc : Thread Cert.ForgetReferenceIdeal.nD Cert.ForgetReferenceIdeal.τ).loc Cert.ForgetReferenceIdeal.main_arg2))

def preserves_Input_InputIdeal : Prop :=
  True

def algebraic_InputIdeal_InputReferenceIdeal [hInputIdeal : Cert.InputIdeal.Facts] [hInputReferenceIdeal : Cert.InputReferenceIdeal.Facts] : Prop :=
  ∀ (m : (ℓ : Loc Cert.InputIdeal.nD Cert.InputIdeal.τ Cert.InputIdeal.sig) → Buf (Elt Ideal) ℓ) (g : Dev Cert.InputIdeal.nD → PrngReg)
    (m' : (ℓ : Loc Cert.InputReferenceIdeal.nD Cert.InputReferenceIdeal.τ Cert.InputReferenceIdeal.sig) → Buf (Elt Ideal) ℓ) (g' : Dev Cert.InputReferenceIdeal.nD → PrngReg), Pre_InputIdeal m →
    (∀ c : Dev Cert.InputIdeal.nD,
      m' ((c.tc : Thread Cert.InputReferenceIdeal.nD Cert.InputReferenceIdeal.τ).loc Cert.InputReferenceIdeal.main_arg0) = m ((c.tc : Thread Cert.InputIdeal.nD Cert.InputIdeal.τ).loc Cert.InputIdeal.main_arg0)
      ∧ m' ((c.tc : Thread Cert.InputReferenceIdeal.nD Cert.InputReferenceIdeal.τ).loc Cert.InputReferenceIdeal.main_arg1) = m ((c.tc : Thread Cert.InputIdeal.nD Cert.InputIdeal.τ).loc Cert.InputIdeal.main_arg1)) →
    ∃ (v0 : (c : Dev Cert.InputIdeal.nD) → Buf (Elt Ideal) ((c.tc : Thread Cert.InputIdeal.nD Cert.InputIdeal.τ).loc Cert.InputIdeal.main_v1)),
      θ_run (Cert.InputIdeal.defs (F := Ideal)) (onTc (τ := Cert.InputIdeal.τ) (Cert.InputIdeal.main (F := Ideal))) ⟨m, fun _ => 0, g⟩ (fun r => ∀ c : Dev Cert.InputIdeal.nD,
          r.2.mem ((c.tc : Thread Cert.InputIdeal.nD Cert.InputIdeal.τ).loc Cert.InputIdeal.main_v1) = v0 c
          ∧ r.2.mem ((c.tc : Thread Cert.InputIdeal.nD Cert.InputIdeal.τ).loc Cert.InputIdeal.main_arg0) = m ((c.tc : Thread Cert.InputIdeal.nD Cert.InputIdeal.τ).loc Cert.InputIdeal.main_arg0)
          ∧ r.2.mem ((c.tc : Thread Cert.InputIdeal.nD Cert.InputIdeal.τ).loc Cert.InputIdeal.main_arg1) = m ((c.tc : Thread Cert.InputIdeal.nD Cert.InputIdeal.τ).loc Cert.InputIdeal.main_arg1))
      ∧ θ_run (Cert.InputReferenceIdeal.defs (F := Ideal)) (onTc (τ := Cert.InputReferenceIdeal.τ) (Cert.InputReferenceIdeal.main (F := Ideal))) ⟨m', fun _ => 0, g'⟩ (fun r => ∀ c : Dev Cert.InputReferenceIdeal.nD,
          r.2.mem ((c.tc : Thread Cert.InputReferenceIdeal.nD Cert.InputReferenceIdeal.τ).loc Cert.InputReferenceIdeal.main_v6) = v0 c
          ∧ r.2.mem ((c.tc : Thread Cert.InputReferenceIdeal.nD Cert.InputReferenceIdeal.τ).loc Cert.InputReferenceIdeal.main_arg0) = m' ((c.tc : Thread Cert.InputReferenceIdeal.nD Cert.InputReferenceIdeal.τ).loc Cert.InputReferenceIdeal.main_arg0)
          ∧ r.2.mem ((c.tc : Thread Cert.InputReferenceIdeal.nD Cert.InputReferenceIdeal.τ).loc Cert.InputReferenceIdeal.main_arg1) = m' ((c.tc : Thread Cert.InputReferenceIdeal.nD Cert.InputReferenceIdeal.τ).loc Cert.InputReferenceIdeal.main_arg1))

def preserves_Output_OutputIdeal : Prop :=
  True

def algebraic_OutputIdeal_OutputReferenceIdeal [hOutputIdeal : Cert.OutputIdeal.Facts] [hOutputReferenceIdeal : Cert.OutputReferenceIdeal.Facts] : Prop :=
  ∀ (m : (ℓ : Loc Cert.OutputIdeal.nD Cert.OutputIdeal.τ Cert.OutputIdeal.sig) → Buf (Elt Ideal) ℓ) (g : Dev Cert.OutputIdeal.nD → PrngReg)
    (m' : (ℓ : Loc Cert.OutputReferenceIdeal.nD Cert.OutputReferenceIdeal.τ Cert.OutputReferenceIdeal.sig) → Buf (Elt Ideal) ℓ) (g' : Dev Cert.OutputReferenceIdeal.nD → PrngReg), Pre_OutputIdeal m →
    (∀ c : Dev Cert.OutputIdeal.nD,
      m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0)
      ∧ m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)) →
    ∃ (v0 : (c : Dev Cert.OutputIdeal.nD) → Buf (Elt Ideal) ((c.tc : Thread Cert.OutputIdeal.nD Cert.OutputIdeal.τ).loc Cert.OutputIdeal.main_v1)),
      θ_run (Cert.OutputIdeal.defs (F := Ideal)) (onTc (τ := Cert.OutputIdeal.τ) (Cert.OutputIdeal.main (F := Ideal))) ⟨m, fun _ => 0, g⟩ (fun r => ∀ c : Dev Cert.OutputIdeal.nD,
          r.2.mem ((c.tc : Thread Cert.OutputIdeal.nD Cert.OutputIdeal.τ).loc Cert.OutputIdeal.main_v1) = v0 c
          ∧ r.2.mem ((c.tc : Thread Cert.OutputIdeal.nD Cert.OutputIdeal.τ).loc Cert.OutputIdeal.main_arg0) = m ((c.tc : Thread Cert.OutputIdeal.nD Cert.OutputIdeal.τ).loc Cert.OutputIdeal.main_arg0)
          ∧ r.2.mem ((c.tc : Thread Cert.OutputIdeal.nD Cert.OutputIdeal.τ).loc Cert.OutputIdeal.main_arg1) = m ((c.tc : Thread Cert.OutputIdeal.nD Cert.OutputIdeal.τ).loc Cert.OutputIdeal.main_arg1))
      ∧ θ_run (Cert.OutputReferenceIdeal.defs (F := Ideal)) (onTc (τ := Cert.OutputReferenceIdeal.τ) (Cert.OutputReferenceIdeal.main (F := Ideal))) ⟨m', fun _ => 0, g'⟩ (fun r => ∀ c : Dev Cert.OutputReferenceIdeal.nD,
          r.2.mem ((c.tc : Thread Cert.OutputReferenceIdeal.nD Cert.OutputReferenceIdeal.τ).loc Cert.OutputReferenceIdeal.main_v12) = v0 c
          ∧ r.2.mem ((c.tc : Thread Cert.OutputReferenceIdeal.nD Cert.OutputReferenceIdeal.τ).loc Cert.OutputReferenceIdeal.main_arg0) = m' ((c.tc : Thread Cert.OutputReferenceIdeal.nD Cert.OutputReferenceIdeal.τ).loc Cert.OutputReferenceIdeal.main_arg0)
          ∧ r.2.mem ((c.tc : Thread Cert.OutputReferenceIdeal.nD Cert.OutputReferenceIdeal.τ).loc Cert.OutputReferenceIdeal.main_arg1) = m' ((c.tc : Thread Cert.OutputReferenceIdeal.nD Cert.OutputReferenceIdeal.τ).loc Cert.OutputReferenceIdeal.main_arg1))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v10) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)
      ∧ m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)) →
    ∃ (v0 : (c : Dev Cert.NormIdeal.nD) → Buf (Elt Ideal) ((c.tc : Thread Cert.NormIdeal.nD Cert.NormIdeal.τ).loc Cert.NormIdeal.main_v1_0)) (v1 : (c : Dev Cert.NormIdeal.nD) → Buf (Elt Ideal) ((c.tc : Thread Cert.NormIdeal.nD Cert.NormIdeal.τ).loc Cert.NormIdeal.main_v1_1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1_0) = v0 c
          ∧ r.2.mem ((c.tc : Thread Cert.NormIdeal.nD Cert.NormIdeal.τ).loc Cert.NormIdeal.main_v1_1) = v1 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v16) = v0 c
          ∧ r.2.mem ((c.tc : Thread Cert.NormReferenceIdeal.nD Cert.NormReferenceIdeal.τ).loc Cert.NormReferenceIdeal.main_v19) = v1 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1)
          ∧ r.2.mem ((c.tc : Thread Cert.NormReferenceIdeal.nD Cert.NormReferenceIdeal.τ).loc Cert.NormReferenceIdeal.main_arg2) = m' ((c.tc : Thread Cert.NormReferenceIdeal.nD Cert.NormReferenceIdeal.τ).loc Cert.NormReferenceIdeal.main_arg2))

def Claim : Prop :=
  ∃ (hKernel : Cert.Kernel.Facts) (hKernelIdeal : Cert.KernelIdeal.Facts) (hReferenceIdeal : Cert.ReferenceIdeal.Facts) (hGates : Cert.Gates.Facts) (hGatesIdeal : Cert.GatesIdeal.Facts) (hGatesReferenceIdeal : Cert.GatesReferenceIdeal.Facts) (hHeads : Cert.Heads.Facts) (hHeadsIdeal : Cert.HeadsIdeal.Facts) (hHeadsReferenceIdeal : Cert.HeadsReferenceIdeal.Facts) (hForget : Cert.Forget.Facts) (hForgetIdeal : Cert.ForgetIdeal.Facts) (hForgetReferenceIdeal : Cert.ForgetReferenceIdeal.Facts) (hInput : Cert.Input.Facts) (hInputIdeal : Cert.InputIdeal.Facts) (hInputReferenceIdeal : Cert.InputReferenceIdeal.Facts) (hOutput : Cert.Output.Facts) (hOutputIdeal : Cert.OutputIdeal.Facts) (hOutputReferenceIdeal : Cert.OutputReferenceIdeal.Facts) (hMerge : Cert.Merge.Facts) (hMergeIdeal : Cert.MergeIdeal.Facts) (hMergeReferenceIdeal : Cert.MergeReferenceIdeal.Facts) (hNorm : Cert.Norm.Facts) (hNormIdeal : Cert.NormIdeal.Facts) (hNormReferenceIdeal : Cert.NormReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Gates (hGates := hGates)
    ∧ quiescent_GatesIdeal (hGatesIdeal := hGatesIdeal)
    ∧ quiescent_GatesReferenceIdeal (hGatesReferenceIdeal := hGatesReferenceIdeal)
    ∧ quiescent_Heads (hHeads := hHeads)
    ∧ quiescent_HeadsIdeal (hHeadsIdeal := hHeadsIdeal)
    ∧ quiescent_HeadsReferenceIdeal (hHeadsReferenceIdeal := hHeadsReferenceIdeal)
    ∧ quiescent_Forget (hForget := hForget)
    ∧ quiescent_ForgetIdeal (hForgetIdeal := hForgetIdeal)
    ∧ quiescent_ForgetReferenceIdeal (hForgetReferenceIdeal := hForgetReferenceIdeal)
    ∧ quiescent_Input (hInput := hInput)
    ∧ quiescent_InputIdeal (hInputIdeal := hInputIdeal)
    ∧ quiescent_InputReferenceIdeal (hInputReferenceIdeal := hInputReferenceIdeal)
    ∧ quiescent_Output (hOutput := hOutput)
    ∧ quiescent_OutputIdeal (hOutputIdeal := hOutputIdeal)
    ∧ quiescent_OutputReferenceIdeal (hOutputReferenceIdeal := hOutputReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Norm (hNorm := hNorm)
    ∧ quiescent_NormIdeal (hNormIdeal := hNormIdeal)
    ∧ quiescent_NormReferenceIdeal (hNormReferenceIdeal := hNormReferenceIdeal)
    ∧ preserves_Kernel_KernelIdeal
    ∧ algebraic_KernelIdeal_ReferenceIdeal (hKernelIdeal := hKernelIdeal) (hReferenceIdeal := hReferenceIdeal)
    ∧ preserves_Gates_GatesIdeal
    ∧ algebraic_GatesIdeal_GatesReferenceIdeal (hGatesIdeal := hGatesIdeal) (hGatesReferenceIdeal := hGatesReferenceIdeal)
    ∧ preserves_Heads_HeadsIdeal
    ∧ algebraic_HeadsIdeal_HeadsReferenceIdeal (hHeadsIdeal := hHeadsIdeal) (hHeadsReferenceIdeal := hHeadsReferenceIdeal)
    ∧ preserves_Forget_ForgetIdeal
    ∧ algebraic_ForgetIdeal_ForgetReferenceIdeal (hForgetIdeal := hForgetIdeal) (hForgetReferenceIdeal := hForgetReferenceIdeal)
    ∧ preserves_Input_InputIdeal
    ∧ algebraic_InputIdeal_InputReferenceIdeal (hInputIdeal := hInputIdeal) (hInputReferenceIdeal := hInputReferenceIdeal)
    ∧ preserves_Output_OutputIdeal
    ∧ algebraic_OutputIdeal_OutputReferenceIdeal (hOutputIdeal := hOutputIdeal) (hOutputReferenceIdeal := hOutputReferenceIdeal)
    ∧ preserves_Merge_MergeIdeal
    ∧ algebraic_MergeIdeal_MergeReferenceIdeal (hMergeIdeal := hMergeIdeal) (hMergeReferenceIdeal := hMergeReferenceIdeal)
    ∧ preserves_Norm_NormIdeal
    ∧ algebraic_NormIdeal_NormReferenceIdeal (hNormIdeal := hNormIdeal) (hNormReferenceIdeal := hNormReferenceIdeal)
-- ==== Kernel.lean ====
abbrev S8x36x2048x128 : Shape := ⟨4, ![8, 36, 2048, 128]⟩
abbrev S32x12 : Shape := ⟨2, ![32, 12]⟩
abbrev S129 : Shape := ⟨1, ![129]⟩
abbrev S32x4 : Shape := ⟨2, ![32, 4]⟩
abbrev S_ : Shape := ⟨0, ![]⟩
abbrev S129x1 : Shape := ⟨2, ![129, 1]⟩
abbrev S129x4 : Shape := ⟨2, ![129, 4]⟩
abbrev S4x129 : Shape := ⟨2, ![4, 129]⟩
abbrev S4x384 : Shape := ⟨2, ![4, 384]⟩
abbrev S1 : Shape := ⟨1, ![1]⟩
abbrev S1x4x1x384 : Shape := ⟨4, ![1, 4, 1, 384]⟩
abbrev S1x4x128x384 : Shape := ⟨4, ![1, 4, 128, 384]⟩
abbrev S4x49152 : Shape := ⟨2, ![4, 49152]⟩
abbrev S4x49024 : Shape := ⟨2, ![4, 49024]⟩
abbrev S4x128x383 : Shape := ⟨3, ![4, 128, 383]⟩
abbrev S4x128x256 : Shape := ⟨3, ![4, 128, 256]⟩
abbrev S1x4x128x256 : Shape := ⟨4, ![1, 4, 128, 256]⟩
abbrev S3x4x128x256 : Shape := ⟨4, ![3, 4, 128, 256]⟩
abbrev S8x3x3x4x2048x128 : Shape := ⟨6, ![8, 3, 3, 4, 2048, 128]⟩
abbrev S8x2048x512 : Shape := ⟨3, ![8, 2048, 512]⟩
abbrev S1x1x3x1x2048x128 : Shape := ⟨6, ![1, 1, 3, 1, 2048, 128]⟩
abbrev S3x1x128x256 : Shape := ⟨4, ![3, 1, 128, 256]⟩
abbrev S1x2048x128 : Shape := ⟨3, ![1, 2048, 128]⟩
abbrev S2048x128 : Shape := ⟨2, ![2048, 128]⟩
abbrev S3x2048x128 : Shape := ⟨3, ![3, 2048, 128]⟩
abbrev S1x1x1x1x128x128 : Shape := ⟨6, ![1, 1, 1, 1, 128, 128]⟩
abbrev S128x128 : Shape := ⟨2, ![128, 128]⟩
abbrev S1x1x128x128 : Shape := ⟨4, ![1, 1, 128, 128]⟩
abbrev S128 : Shape := ⟨1, ![128]⟩
abbrev S128x1 : Shape := ⟨2, ![128, 1]⟩
abbrev S1x128x128 : Shape := ⟨3, ![1, 128, 128]⟩
abbrev S1x1x1x1x256x128 : Shape := ⟨6, ![1, 1, 1, 1, 256, 128]⟩
abbrev S256x128 : Shape := ⟨2, ![256, 128]⟩
abbrev S128x256 : Shape := ⟨2, ![128, 256]⟩
abbrev S1x1x128x256 : Shape := ⟨4, ![1, 1, 128, 256]⟩
abbrev S1920x256 : Shape := ⟨2, ![1920, 256]⟩
abbrev S1920 : Shape := ⟨1, ![1920]⟩
abbrev S1920x1 : Shape := ⟨2, ![1920, 1]⟩
abbrev S1920x128 : Shape := ⟨2, ![1920, 128]⟩
abbrev S1x1x1x1x2048x128 : Shape := ⟨6, ![1, 1, 1, 1, 2048, 128]⟩
abbrev S512x128 : Shape := ⟨2, ![512, 128]⟩
abbrev S512 : Shape := ⟨1, ![512]⟩
abbrev S512x1 : Shape := ⟨2, ![512, 1]⟩
abbrev S1536x256 : Shape := ⟨2, ![1536, 256]⟩
abbrev S1536 : Shape := ⟨1, ![1536]⟩
abbrev S1536x1 : Shape := ⟨2, ![1536, 1]⟩
abbrev S1536x128 : Shape := ⟨2, ![1536, 128]⟩
abbrev S2048 : Shape := ⟨1, ![2048]⟩
abbrev S2048x1 : Shape := ⟨2, ![2048, 1]⟩
abbrev S1x256x128 : Shape := ⟨3, ![1, 256, 128]⟩

abbrev nBuf : Space → Nat
  | .hbm => 74
  | .vmem => 15
  | .smem => 0
  | _ => 0

abbrev bufTy : (tb : Table) → Fin (tcTables nBuf tb) → BufTy
  | .hbm, ⟨0, _⟩ => ⟨S8x36x2048x128, .bf16⟩
  | .hbm, ⟨1, _⟩ => ⟨S32x12, .f32⟩
  | .hbm, ⟨2, _⟩ => ⟨S129, .i32⟩
  | .hbm, ⟨3, _⟩ => ⟨S129, .i1⟩
  | .hbm, ⟨4, _⟩ => ⟨S129, .i32⟩
  | .hbm, ⟨5, _⟩ => ⟨S129, .i1⟩
  | .hbm, ⟨6, _⟩ => ⟨S129, .i32⟩
  | .hbm, ⟨7, _⟩ => ⟨S129, .i1⟩
  | .hbm, ⟨8, _⟩ => ⟨S32x4, .f32⟩
  | .hbm, ⟨9, _⟩ => ⟨S_, .i32⟩
  | .hbm, ⟨10, _⟩ => ⟨S129, .i32⟩
  | .hbm, ⟨11, _⟩ => ⟨S129, .i32⟩
  | .hbm, ⟨12, _⟩ => ⟨S129, .i32⟩
  | .hbm, ⟨13, _⟩ => ⟨S129x1, .i32⟩
  | .hbm, ⟨14, _⟩ => ⟨S129x4, .f32⟩
  | .hbm, ⟨15, _⟩ => ⟨S4x129, .f32⟩
  | .hbm, ⟨16, _⟩ => ⟨S_, .f32⟩
  | .hbm, ⟨17, _⟩ => ⟨S4x384, .f32⟩
  | .hbm, ⟨18, _⟩ => ⟨S4x129, .f32⟩
  | .hbm, ⟨19, _⟩ => ⟨S_, .i32⟩
  | .hbm, ⟨20, _⟩ => ⟨S1, .i32⟩
  | .hbm, ⟨21, _⟩ => ⟨S4x384, .f32⟩
  | .hbm, ⟨22, _⟩ => ⟨S1x4x1x384, .f32⟩
  | .hbm, ⟨23, _⟩ => ⟨S1x4x128x384, .f32⟩
  | .hbm, ⟨24, _⟩ => ⟨S4x49152, .f32⟩
  | .hbm, ⟨25, _⟩ => ⟨S4x49024, .f32⟩
  | .hbm, ⟨26, _⟩ => ⟨S4x128x383, .f32⟩
  | .hbm, ⟨27, _⟩ => ⟨S4x128x256, .f32⟩
  | .hbm, ⟨28, _⟩ => ⟨S32x4, .f32⟩
  | .hbm, ⟨29, _⟩ => ⟨S_, .i32⟩
  | .hbm, ⟨30, _⟩ => ⟨S129, .i32⟩
  | .hbm, ⟨31, _⟩ => ⟨S129, .i32⟩
  | .hbm, ⟨32, _⟩ => ⟨S129, .i32⟩
  | .hbm, ⟨33, _⟩ => ⟨S129x1, .i32⟩
  | .hbm, ⟨34, _⟩ => ⟨S129x4, .f32⟩
  | .hbm, ⟨35, _⟩ => ⟨S4x129, .f32⟩
  | .hbm, ⟨36, _⟩ => ⟨S_, .f32⟩
  | .hbm, ⟨37, _⟩ => ⟨S4x384, .f32⟩
  | .hbm, ⟨38, _⟩ => ⟨S4x129, .f32⟩
  | .hbm, ⟨39, _⟩ => ⟨S_, .i32⟩
  | .hbm, ⟨40, _⟩ => ⟨S1, .i32⟩
  | .hbm, ⟨41, _⟩ => ⟨S4x384, .f32⟩
  | .hbm, ⟨42, _⟩ => ⟨S1x4x1x384, .f32⟩
  | .hbm, ⟨43, _⟩ => ⟨S1x4x128x384, .f32⟩
  | .hbm, ⟨44, _⟩ => ⟨S4x49152, .f32⟩
  | .hbm, ⟨45, _⟩ => ⟨S4x49024, .f32⟩
  | .hbm, ⟨46, _⟩ => ⟨S4x128x383, .f32⟩
  | .hbm, ⟨47, _⟩ => ⟨S4x128x256, .f32⟩
  | .hbm, ⟨48, _⟩ => ⟨S32x4, .f32⟩
  | .hbm, ⟨49, _⟩ => ⟨S_, .i32⟩
  | .hbm, ⟨50, _⟩ => ⟨S129, .i32⟩
  | .hbm, ⟨51, _⟩ => ⟨S129, .i32⟩
  | .hbm, ⟨52, _⟩ => ⟨S129, .i32⟩
  | .hbm, ⟨53, _⟩ => ⟨S129x1, .i32⟩
  | .hbm, ⟨54, _⟩ => ⟨S129x4, .f32⟩
  | .hbm, ⟨55, _⟩ => ⟨S4x129, .f32⟩
  | .hbm, ⟨56, _⟩ => ⟨S_, .f32⟩
  | .hbm, ⟨57, _⟩ => ⟨S4x384, .f32⟩
  | .hbm, ⟨58, _⟩ => ⟨S4x129, .f32⟩
  | .hbm, ⟨59, _⟩ => ⟨S_, .i32⟩
  | .hbm, ⟨60, _⟩ => ⟨S1, .i32⟩
  | .hbm, ⟨61, _⟩ => ⟨S4x384, .f32⟩
  | .hbm, ⟨62, _⟩ => ⟨S1x4x1x384, .f32⟩
  | .hbm, ⟨63, _⟩ => ⟨S1x4x128x384, .f32⟩
  | .hbm, ⟨64, _⟩ => ⟨S4x49152, .f32⟩
  | .hbm, ⟨65, _⟩ => ⟨S4x49024, .f32⟩
  | .hbm, ⟨66, _⟩ => ⟨S4x128x383, .f32⟩
  | .hbm, ⟨67, _⟩ => ⟨S4x128x256, .f32⟩
  | .hbm, ⟨68, _⟩ => ⟨S1x4x128x256, .f32⟩
  | .hbm, ⟨69, _⟩ => ⟨S1x4x128x256, .f32⟩
  | .hbm, ⟨70, _⟩ => ⟨S1x4x128x256, .f32⟩
  | .hbm, ⟨71, _⟩ => ⟨S3x4x128x256, .f32⟩
  | .hbm, ⟨72, _⟩ => ⟨S8x3x3x4x2048x128, .bf16⟩
  | .hbm, ⟨73, _⟩ => ⟨S8x2048x512, .bf16⟩
  | .local _ .vmem, ⟨0, _⟩ => ⟨S1x1x3x1x2048x128, .bf16⟩
  | .local _ .vmem, ⟨1, _⟩ => ⟨S1x1x3x1x2048x128, .bf16⟩
  | .local _ .vmem, ⟨2, _⟩ => ⟨S1x1x3x1x2048x128, .bf16⟩
  | .local _ .vmem, ⟨3, _⟩ => ⟨S1x1x3x1x2048x128, .bf16⟩
  | .local _ .vmem, ⟨4, _⟩ => ⟨S1x1x3x1x2048x128, .bf16⟩
  | .local _ .vmem, ⟨5, _⟩ => ⟨S1x1x3x1x2048x128, .bf16⟩
  | .local _ .vmem, ⟨6, _⟩ => ⟨S3x1x128x256, .f32⟩
  | .local _ .vmem, ⟨7, _⟩ => ⟨S3x1x128x256, .f32⟩
  | .local _ .vmem, ⟨8, _⟩ => ⟨S1x2048x128, .bf16⟩
  | .local _ .vmem, ⟨9, _⟩ => ⟨S1x2048x128, .bf16⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S3x2048x128, .f32⟩
  | .local _ .vmem, ⟨14, _⟩ => ⟨S3x2048x128, .f32⟩
  | _, _ => ⟨S8x36x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_c_2 : Ref sig .tc := ⟨.hbm, 5, rfl⟩
abbrev main_c_3 : Ref sig .tc := ⟨.hbm, 6, rfl⟩
abbrev main_c_4 : Ref sig .tc := ⟨.hbm, 7, rfl⟩
abbrev main_v0 : Ref sig .tc := ⟨.hbm, 8, rfl⟩
abbrev main_c_5 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_c_6 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_7 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_8 : Ref sig .tc := ⟨.hbm, 36, rfl⟩
abbrev main_v24 : Ref sig .tc := ⟨.hbm, 37, rfl⟩
abbrev main_v25 : Ref sig .tc := ⟨.hbm, 38, rfl⟩
abbrev main_c_9 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_c_10 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_c_12 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

@[reducible] def k0_t1_loop : Scf.Loop 32 :=
  let c0_i32 : BitVec 32 := 0#32
  let c8_i32 : BitVec 32 := 8#32
  let v1249 : BitVec 32 := Scalar.addi c0_i32 c8_i32
  let c1_i32 : BitVec 32 := 1#32
  ⟨c0_i32, v1249, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v1250 : BitVec 32 := Scalar.muli arg12 c256_i32
  v1250
def k0_off1 (k0_t1 : Fin k0_t1_loop.trips) : Fin 3 → Nat :=
  let c0_1122 : Index := 0#32
  let c0_i32 : BitVec 32 := 0#32
  let c1_i32 : BitVec 32 := 1#32
  let arg12 : BitVec 32 := Scf.iv c0_i32 c1_i32 k0_t1
  let c256_i32 : BitVec 32 := 256#32
  let v1250 : BitVec 32 := Scalar.muli arg12 c256_i32
  let v1251 : BitVec 32 := v1250
  let v1252 : Index := Scalar.indexCast v1251
  let c0_1123 : Index := 0#32
  ![0, v1252.toNat, 0]
def k0_off2 (k0_t1 : Fin k0_t1_loop.trips) : Fin 3 → Nat :=
  let c1_1124 : Index := 1#32
  let c0_i32 : BitVec 32 := 0#32
  let c1_i32 : BitVec 32 := 1#32
  let arg12 : BitVec 32 := Scf.iv c0_i32 c1_i32 k0_t1
  let c256_i32 : BitVec 32 := 256#32
  let v1250 : BitVec 32 := Scalar.muli arg12 c256_i32
  let v1251 : BitVec 32 := v1250
  let v1255 : Index := Scalar.indexCast v1251
  let c0_1125 : Index := 0#32
  ![1, v1255.toNat, 0]
def k0_off3 (k0_t1 : Fin k0_t1_loop.trips) : Fin 3 → Nat :=
  let c2_1126 : Index := 2#32
  let c0_i32 : BitVec 32 := 0#32
  let c1_i32 : BitVec 32 := 1#32
  let arg12 : BitVec 32 := Scf.iv c0_i32 c1_i32 k0_t1
  let c256_i32 : BitVec 32 := 256#32
  let v1250 : BitVec 32 := Scalar.muli arg12 c256_i32
  let v1251 : BitVec 32 := v1250
  let v1258 : Index := Scalar.indexCast v1251
  let c0_1127 : Index := 0#32
  ![2, v1258.toNat, 0]
def k0_off4 (k0_t1 : Fin k0_t1_loop.trips) : Fin 3 → Nat :=
  let c0_1134 : Index := 0#32
  let c0_i32 : BitVec 32 := 0#32
  let c1_i32 : BitVec 32 := 1#32
  let arg12 : BitVec 32 := Scf.iv c0_i32 c1_i32 k0_t1
  let c256_i32 : BitVec 32 := 256#32
  let v1250 : BitVec 32 := Scalar.muli arg12 c256_i32
  let v1251 : BitVec 32 := v1250
  let v1287 : Index := Scalar.indexCast v1251
  let c0_1135 : Index := 0#32
  ![0, v1287.toNat, 0]
def cc0_transform_0 (i : grid0.Coords) : Fin 6 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, arg1.toNat, c0_i32_1.toNat, c0_i32_2.toNat]

def cc0_transform_1 (i : grid0.Coords) : Fin 6 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![arg0.toNat, c1_i32.toNat, c0_i32.toNat, arg1.toNat, c0_i32_0.toNat, c0_i32_1.toNat]

def cc0_transform_2 (i : grid0.Coords) : Fin 6 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  let c0_i32_2 : BitVec 32 := 0#32
  ![arg0.toNat, c2_i32.toNat, c0_i32.toNat, arg1.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg1.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x3x1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x3x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "scale" => some (((Real.sqrt 128)⁻¹ : ℝ) : EReal)
  | _ => none
-- ==== ReferenceIdeal.lean ====
abbrev S8x36x2048x128 : Shape := ⟨4, ![8, 36, 2048, 128]⟩
abbrev S32x12 : Shape := ⟨2, ![32, 12]⟩
abbrev S3 : Shape := ⟨1, ![3]⟩
abbrev S2048 : Shape := ⟨1, ![2048]⟩
abbrev S8x3x3x4x2048x128 : Shape := ⟨6, ![8, 3, 3, 4, 2048, 128]⟩
abbrev S8x1x3x4x2048x128 : Shape := ⟨6, ![8, 1, 3, 4, 2048, 128]⟩
abbrev S8x3x4x2048x128 : Shape := ⟨5, ![8, 3, 4, 2048, 128]⟩
abbrev S3x1x1 : Shape := ⟨3, ![3, 1, 1]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S1x2048x2048 : Shape := ⟨3, ![1, 2048, 2048]⟩
abbrev S3x2048x2048 : Shape := ⟨3, ![3, 2048, 2048]⟩
abbrev S2048x12 : Shape := ⟨2, ![2048, 12]⟩
abbrev S2048x2048x1 : Shape := ⟨3, ![2048, 2048, 1]⟩
abbrev S2048x2048x12 : Shape := ⟨3, ![2048, 2048, 12]⟩
abbrev S12x2048x2048 : Shape := ⟨3, ![12, 2048, 2048]⟩
abbrev S3x4x2048x2048 : Shape := ⟨4, ![3, 4, 2048, 2048]⟩
abbrev S8x3x4x2048x2048 : Shape := ⟨5, ![8, 3, 4, 2048, 2048]⟩
abbrev S1x3x4x2048x2048 : Shape := ⟨5, ![1, 3, 4, 2048, 2048]⟩
abbrev S1x3x1x2048x2048 : Shape := ⟨5, ![1, 3, 1, 2048, 2048]⟩
abbrev S8x3x4x2048 : Shape := ⟨4, ![8, 3, 4, 2048]⟩
abbrev S8x3x4x2048x1 : Shape := ⟨5, ![8, 3, 4, 2048, 1]⟩
abbrev S8x4x2048 : Shape := ⟨3, ![8, 4, 2048]⟩
abbrev S8x1x4x2048 : Shape := ⟨4, ![8, 1, 4, 2048]⟩
abbrev S8x4x2048x128 : Shape := ⟨4, ![8, 4, 2048, 128]⟩
abbrev S8x4x2048x1 : Shape := ⟨4, ![8, 4, 2048, 1]⟩
abbrev S8x2048x4x128 : Shape := ⟨4, ![8, 2048, 4, 128]⟩
abbrev S8x2048x512 : Shape := ⟨3, ![8, 2048, 512]⟩

abbrev nBuf : Space → Nat
  | .hbm => 95
  | .vmem => 0
  | .smem => 0
  | _ => 0

abbrev bufTy : (tb : Table) → Fin (tcTables nBuf tb) → BufTy
  | .hbm, ⟨0, _⟩ => ⟨S8x36x2048x128, .bf16⟩
  | .hbm, ⟨1, _⟩ => ⟨S32x12, .f32⟩
  | .hbm, ⟨2, _⟩ => ⟨S3, .i32⟩
  | .hbm, ⟨3, _⟩ => ⟨S3, .i32⟩
  | .hbm, ⟨4, _⟩ => ⟨S2048, .i32⟩
  | .hbm, ⟨5, _⟩ => ⟨S8x36x2048x128, .f32⟩
  | .hbm, ⟨6, _⟩ => ⟨S8x3x3x4x2048x128, .f32⟩
  | .hbm, ⟨7, _⟩ => ⟨S8x1x3x4x2048x128, .f32⟩
  | .hbm, ⟨8, _⟩ => ⟨S8x3x4x2048x128, .f32⟩
  | .hbm, ⟨9, _⟩ => ⟨S8x1x3x4x2048x128, .f32⟩
  | .hbm, ⟨10, _⟩ => ⟨S8x3x4x2048x128, .f32⟩
  | .hbm, ⟨11, _⟩ => ⟨S8x1x3x4x2048x128, .f32⟩
  | .hbm, ⟨12, _⟩ => ⟨S8x3x4x2048x128, .f32⟩
  | .hbm, ⟨13, _⟩ => ⟨S3x1x1, .i32⟩
  | .hbm, ⟨14, _⟩ => ⟨S3x1x1, .i32⟩
  | .hbm, ⟨15, _⟩ => ⟨S2048, .i32⟩
  | .hbm, ⟨16, _⟩ => ⟨S2048x1, .i32⟩
  | .hbm, ⟨17, _⟩ => ⟨S1x2048, .i32⟩
  | .hbm, ⟨18, _⟩ => ⟨S2048x2048, .i32⟩
  | .hbm, ⟨19, _⟩ => ⟨S2048x2048, .i32⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i1⟩
  | .hbm, ⟨24, _⟩ => ⟨S1x2048x2048, .i32⟩
  | .hbm, ⟨25, _⟩ => ⟨S3x2048x2048, .i32⟩
  | .hbm, ⟨26, _⟩ => ⟨S3x2048x2048, .i32⟩
  | .hbm, ⟨27, _⟩ => ⟨S3x2048x2048, .i1⟩
  | .hbm, ⟨28, _⟩ => ⟨S1x2048x2048, .i1⟩
  | .hbm, ⟨29, _⟩ => ⟨S3x2048x2048, .i1⟩
  | .hbm, ⟨30, _⟩ => ⟨S3x2048x2048, .i1⟩
  | .hbm, ⟨31, _⟩ => ⟨S3x2048x2048, .i32⟩
  | .hbm, ⟨32, _⟩ => ⟨S3x2048x2048, .i32⟩
  | .hbm, ⟨33, _⟩ => ⟨S3x2048x2048, .i32⟩
  | .hbm, ⟨34, _⟩ => ⟨S_, .i32⟩
  | .hbm, ⟨35, _⟩ => ⟨S3x2048x2048, .i32⟩
  | .hbm, ⟨36, _⟩ => ⟨S3x2048x2048, .i1⟩
  | .hbm, ⟨37, _⟩ => ⟨S3x2048x2048, .i1⟩
  | .hbm, ⟨38, _⟩ => ⟨S2048x1, .i32⟩
  | .hbm, ⟨39, _⟩ => ⟨S2048x12, .f32⟩
  | .hbm, ⟨40, _⟩ => ⟨S_, .i32⟩
  | .hbm, ⟨41, _⟩ => ⟨S2048x2048, .i32⟩
  | .hbm, ⟨42, _⟩ => ⟨S2048x2048, .i32⟩
  | .hbm, ⟨43, _⟩ => ⟨S2048x2048x1, .i32⟩
  | .hbm, ⟨44, _⟩ => ⟨S2048x2048x12, .f32⟩
  | .hbm, ⟨45, _⟩ => ⟨S12x2048x2048, .f32⟩
  | .hbm, ⟨46, _⟩ => ⟨S3x4x2048x2048, .f32⟩
  | .hbm, ⟨47, _⟩ => ⟨S8x3x4x2048x2048, .f32⟩
  | .hbm, ⟨48, _⟩ => ⟨S_, .f32⟩
  | .hbm, ⟨49, _⟩ => ⟨S_, .f32⟩
  | .hbm, ⟨50, _⟩ => ⟨S8x3x4x2048x2048, .f32⟩
  | .hbm, ⟨51, _⟩ => ⟨S8x3x4x2048x2048, .f32⟩
  | .hbm, ⟨52, _⟩ => ⟨S1x3x4x2048x2048, .f32⟩
  | .hbm, ⟨53, _⟩ => ⟨S8x3x4x2048x2048, .f32⟩
  | .hbm, ⟨54, _⟩ => ⟨S8x3x4x2048x2048, .f32⟩
  | .hbm, ⟨55, _⟩ => ⟨S1x3x1x2048x2048, .i1⟩
  | .hbm, ⟨56, _⟩ => ⟨S_, .f32⟩
  | .hbm, ⟨57, _⟩ => ⟨S_, .f32⟩
  | .hbm, ⟨58, _⟩ => ⟨S8x3x4x2048x2048, .i1⟩
  | .hbm, ⟨59, _⟩ => ⟨S8x3x4x2048x2048, .f32⟩
  | .hbm, ⟨60, _⟩ => ⟨S8x3x4x2048x2048, .f32⟩
  | .hbm, ⟨61, _⟩ => ⟨S_, .f32⟩
  | .hbm, ⟨62, _⟩ => ⟨S8x3x4x2048, .f32⟩
  | .hbm, ⟨63, _⟩ => ⟨S8x3x4x2048x1, .f32⟩
  | .hbm, ⟨64, _⟩ => ⟨S8x3x4x2048x2048, .f32⟩
  | .hbm, ⟨65, _⟩ => ⟨S8x3x4x2048x2048, .f32⟩
  | .hbm, ⟨66, _⟩ => ⟨S8x3x4x2048x2048, .f32⟩
  | .hbm, ⟨67, _⟩ => ⟨S_, .f32⟩
  | .hbm, ⟨68, _⟩ => ⟨S8x3x4x2048, .f32⟩
  | .hbm, ⟨69, _⟩ => ⟨S8x3x4x2048x128, .f32⟩
  | .hbm, ⟨70, _⟩ => ⟨S8x3x4x2048x1, .f32⟩
  | .hbm, ⟨71, _⟩ => ⟨S8x3x4x2048x128, .f32⟩
  | .hbm, ⟨72, _⟩ => ⟨S8x3x4x2048x128, .f32⟩
  | .hbm, ⟨73, _⟩ => ⟨S8x3x4x2048, .f32⟩
  | .hbm, ⟨74, _⟩ => ⟨S8x3x4x2048, .f32⟩
  | .hbm, ⟨75, _⟩ => ⟨S8x3x4x2048, .f32⟩
  | .hbm, ⟨76, _⟩ => ⟨S_, .f32⟩
  | .hbm, ⟨77, _⟩ => ⟨S8x4x2048, .f32⟩
  | .hbm, ⟨78, _⟩ => ⟨S8x1x4x2048, .f32⟩
  | .hbm, ⟨79, _⟩ => ⟨S8x3x4x2048, .f32⟩
  | .hbm, ⟨80, _⟩ => ⟨S8x3x4x2048, .f32⟩
  | .hbm, ⟨81, _⟩ => ⟨S8x3x4x2048, .f32⟩
  | .hbm, ⟨82, _⟩ => ⟨S8x3x4x2048x1, .f32⟩
  | .hbm, ⟨83, _⟩ => ⟨S8x3x4x2048x128, .f32⟩
  | .hbm, ⟨84, _⟩ => ⟨S8x3x4x2048x128, .f32⟩
  | .hbm, ⟨85, _⟩ => ⟨S_, .f32⟩
  | .hbm, ⟨86, _⟩ => ⟨S8x4x2048x128, .f32⟩
  | .hbm, ⟨87, _⟩ => ⟨S_, .f32⟩
  | .hbm, ⟨88, _⟩ => ⟨S8x4x2048, .f32⟩
  | .hbm, ⟨89, _⟩ => ⟨S8x4x2048x1, .f32⟩
  | .hbm, ⟨90, _⟩ => ⟨S8x4x2048x128, .f32⟩
  | .hbm, ⟨91, _⟩ => ⟨S8x4x2048x128, .f32⟩
  | .hbm, ⟨92, _⟩ => ⟨S8x2048x4x128, .f32⟩
  | .hbm, ⟨93, _⟩ => ⟨S8x2048x512, .f32⟩
  | .hbm, ⟨94, _⟩ => ⟨S8x2048x512, .bf16⟩
  | _, _ => ⟨S8x36x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_c_1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c_3 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_c_4 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_5 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v47 : Ref sig .tc := ⟨.hbm, 60, rfl⟩
abbrev main_cst_6 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_7 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_cst_8 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_9 : Ref sig .tc := ⟨.hbm, 85, rfl⟩
abbrev main_v69 : Ref sig .tc := ⟨.hbm, 86, rfl⟩
abbrev main_cst_10 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩

abbrev nD : Nat := 1
abbrev τ : Topo := Topo.v7x

variable {F : FTy → Type} [FloatOps F]
-- ==== Gates.lean ====
abbrev S16384x2048 : Shape := ⟨2, ![16384, 2048]⟩
abbrev S1x2048x16896 : Shape := ⟨3, ![1, 2048, 16896]⟩
abbrev S_ : Shape := ⟨0, ![]⟩
abbrev S1x4608 : Shape := ⟨2, ![1, 4608]⟩
abbrev S16384x4096 : Shape := ⟨2, ![16384, 4096]⟩
abbrev S1024x2048 : Shape := ⟨2, ![1024, 2048]⟩
abbrev S1x2048x1024 : Shape := ⟨3, ![1, 2048, 1024]⟩
abbrev S1x1024 : Shape := ⟨2, ![1, 1024]⟩
abbrev S1024x1024 : Shape := ⟨2, ![1024, 1024]⟩
abbrev S2048x1024 : Shape := ⟨2, ![2048, 1024]⟩

abbrev nBuf : Space → Nat
  | .hbm => 5
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S1x2048x16896, .f32⟩
  | .hbm, ⟨2, _⟩ => ⟨S_, .f32⟩
  | .hbm, ⟨3, _⟩ => ⟨S1x4608, .f32⟩
  | .hbm, ⟨4, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c12800_i32 : BitVec 32 := 12800#32
  let arg0 : BitVec 32 := BitVec.ofNat 32 (i 0).val
  let c1024_i32 : BitVec 32 := 1024#32
  let v0 : BitVec 32 := Scalar.muli arg0 c1024_i32
  let v1 : BitVec 32 := Scalar.addi c12800_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c12800_i32 : BitVec 32 := 12800#32
  let v1 : BitVec 32 := Scalar.addi c12800_i32 v0
  let v2 : BitVec 32 := v1
  let c0_i32 : BitVec 32 := 0#32
  let c0_i32_0 : BitVec 32 := 0#32
  let c0_i32_1 : BitVec 32 := 0#32
  ![c0_i32.toNat, c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GatesReferenceIdeal.lean ====
abbrev S16384x2048 : Shape := ⟨2, ![16384, 2048]⟩
abbrev S1x2048x16896 : Shape := ⟨3, ![1, 2048, 16896]⟩
abbrev S1x2048x4096 : Shape := ⟨3, ![1, 2048, 4096]⟩
abbrev S2048x4096 : Shape := ⟨2, ![2048, 4096]⟩
abbrev S16384x4096 : Shape := ⟨2, ![16384, 4096]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x16896, .f32⟩
  | .hbm, ⟨2, _⟩ => ⟨S16384x2048, .f32⟩
  | .hbm, ⟨3, _⟩ => ⟨S1x2048x4096, .f32⟩
  | .hbm, ⟨4, _⟩ => ⟨S2048x4096, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S_, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Heads.lean ====
abbrev S16384x2048 : Shape := ⟨2, ![16384, 2048]⟩
abbrev S1x2048x16896 : Shape := ⟨3, ![1, 2048, 16896]⟩
abbrev S_ : Shape := ⟨0, ![]⟩
abbrev S1x4608 : Shape := ⟨2, ![1, 4608]⟩
abbrev S8x36x2048x128 : Shape := ⟨4, ![8, 36, 2048, 128]⟩
abbrev S1024x2048 : Shape := ⟨2, ![1024, 2048]⟩
abbrev S1x2048x1536 : Shape := ⟨3, ![1, 2048, 1536]⟩
abbrev S1x1536 : Shape := ⟨2, ![1, 1536]⟩
abbrev S1x12x1024x128 : Shape := ⟨4, ![1, 12, 1024, 128]⟩
abbrev S2048x1536 : Shape := ⟨2, ![2048, 1536]⟩
abbrev S1024x1536 : Shape := ⟨2, ![1024, 1536]⟩
abbrev S1024x128 : Shape := ⟨2, ![1024, 128]⟩
abbrev S1x1x1024x128 : Shape := ⟨4, ![1, 1, 1024, 128]⟩

abbrev nBuf : Space → Nat
  | .hbm => 5
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S1x2048x16896, .f32⟩
  | .hbm, ⟨2, _⟩ => ⟨S_, .f32⟩
  | .hbm, ⟨3, _⟩ => ⟨S1x4608, .f32⟩
  | .hbm, ⟨4, _⟩ => ⟨S8x36x2048x128, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1536, .f32⟩
  | .local _ .vmem, ⟨3, _⟩ => ⟨S1x2048x1536, .f32⟩
  | .local _ .vmem, ⟨4, _⟩ => ⟨S1x1536, .f32⟩
  | .local _ .vmem, ⟨5, _⟩ => ⟨S1x1536, .f32⟩
  | .local _ .vmem, ⟨6, _⟩ => ⟨S1x12x1024x128, .bf16⟩
  | .local _ .vmem, ⟨7, _⟩ => ⟨S1x12x1024x128, .bf16⟩
  | .local _ .vmem, ⟨8, _⟩ => ⟨S2048x1536, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![3, 16], ![false, false]⟩

def k0_mult1 (i : grid0.Coords) : BitVec 32 :=
  let c8192_i32 : BitVec 32 := 8192#32
  let arg0 : BitVec 32 := BitVec.ofNat 32 (i 0).val
  let c1536_i32 : BitVec 32 := 1536#32
  let v0 : BitVec 32 := Scalar.muli arg0 c1536_i32
  let v1 : BitVec 32 := Scalar.addi c8192_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1536_i32 : BitVec 32 := 1536#32
  let v0 : BitVec 32 := Scalar.muli arg0 c1536_i32
  let c8192_i32 : BitVec 32 := 8192#32
  let v1 : BitVec 32 := Scalar.addi c8192_i32 v0
  let v2 : BitVec 32 := v1
  let c0_i32 : BitVec 32 := 0#32
  let c0_i32_0 : BitVec 32 := 0#32
  let c0_i32_1 : BitVec 32 := 0#32
  ![c0_i32.toNat, c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, v26.toNat, c0_i32_10.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x12x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== HeadsReferenceIdeal.lean ====
abbrev S16384x2048 : Shape := ⟨2, ![16384, 2048]⟩
abbrev S1x2048x16896 : Shape := ⟨3, ![1, 2048, 16896]⟩
abbrev S1x2048x4608 : Shape := ⟨3, ![1, 2048, 4608]⟩
abbrev S2048x4608 : Shape := ⟨2, ![2048, 4608]⟩
abbrev S16384x4608 : Shape := ⟨2, ![16384, 4608]⟩
abbrev S8x2048x36x128 : Shape := ⟨4, ![8, 2048, 36, 128]⟩
abbrev S8x36x2048x128 : Shape := ⟨4, ![8, 36, 2048, 128]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x16896, .f32⟩
  | .hbm, ⟨2, _⟩ => ⟨S16384x2048, .f32⟩
  | .hbm, ⟨3, _⟩ => ⟨S1x2048x4608, .f32⟩
  | .hbm, ⟨4, _⟩ => ⟨S2048x4608, .f32⟩
  | .hbm, ⟨5, _⟩ => ⟨S16384x4608, .f32⟩
  | .hbm, ⟨6, _⟩ => ⟨S8x2048x36x128, .f32⟩
  | .hbm, ⟨7, _⟩ => ⟨S8x36x2048x128, .f32⟩
  | .hbm, ⟨8, _⟩ => ⟨S8x36x2048x128, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Forget.lean ====
abbrev S16384x2048 : Shape := ⟨2, ![16384, 2048]⟩
abbrev S1x2048x16896 : Shape := ⟨3, ![1, 2048, 16896]⟩
abbrev S2048 : Shape := ⟨1, ![2048]⟩
abbrev S1x2048 : Shape := ⟨2, ![1, 2048]⟩
abbrev S8x16x2048x128 : Shape := ⟨4, ![8, 16, 2048, 128]⟩
abbrev S1024x2048 : Shape := ⟨2, ![1024, 2048]⟩
abbrev S1x2048x1024 : Shape := ⟨3, ![1, 2048, 1024]⟩
abbrev S1x1024 : Shape := ⟨2, ![1, 1024]⟩
abbrev S1x8x1024x128 : Shape := ⟨4, ![1, 8, 1024, 128]⟩
abbrev S2048x1024 : Shape := ⟨2, ![2048, 1024]⟩
abbrev S1024x1024 : Shape := ⟨2, ![1024, 1024]⟩
abbrev S1024x128 : Shape := ⟨2, ![1024, 128]⟩
abbrev S1x1x1024x128 : Shape := ⟨4, ![1, 1, 1024, 128]⟩

abbrev nBuf : Space → Nat
  | .hbm => 5
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S1x2048x16896, .f32⟩
  | .hbm, ⟨2, _⟩ => ⟨S2048, .f32⟩
  | .hbm, ⟨3, _⟩ => ⟨S1x2048, .f32⟩
  | .hbm, ⟨4, _⟩ => ⟨S8x16x2048x128, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024, .f32⟩
  | .local _ .vmem, ⟨5, _⟩ => ⟨S1x1024, .f32⟩
  | .local _ .vmem, ⟨6, _⟩ => ⟨S1x8x1024x128, .f32⟩
  | .local _ .vmem, ⟨7, _⟩ => ⟨S1x8x1024x128, .f32⟩
  | .local _ .vmem, ⟨8, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c2048_i32 : BitVec 32 := 2048#32
  let arg0 : BitVec 32 := BitVec.ofNat 32 (i 0).val
  let c1024_i32 : BitVec 32 := 1024#32
  let v0 : BitVec 32 := Scalar.muli arg0 c1024_i32
  let v1 : BitVec 32 := Scalar.addi c2048_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.addi c2048_i32 v0
  let v2 : BitVec 32 := v1
  let c0_i32 : BitVec 32 := 0#32
  let c0_i32_0 : BitVec 32 := 0#32
  let c0_i32_1 : BitVec 32 := 0#32
  ![c0_i32.toNat, c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, v26.toNat, c0_i32_10.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ForgetReferenceIdeal.lean ====
abbrev S16384x2048 : Shape := ⟨2, ![16384, 2048]⟩
abbrev S1x2048x16896 : Shape := ⟨3, ![1, 2048, 16896]⟩
abbrev S2048 : Shape := ⟨1, ![2048]⟩
abbrev S1x2048x2048 : Shape := ⟨3, ![1, 2048, 2048]⟩
abbrev S2048x2048 : Shape := ⟨2, ![2048, 2048]⟩
abbrev S_ : Shape := ⟨0, ![]⟩
abbrev S1x2048 : Shape := ⟨2, ![1, 2048]⟩
abbrev S8x2048x16x128 : Shape := ⟨4, ![8, 2048, 16, 128]⟩
abbrev S8x16x2048x128 : Shape := ⟨4, ![8, 16, 2048, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x16896, .f32⟩
  | .hbm, ⟨2, _⟩ => ⟨S2048, .f32⟩
  | .hbm, ⟨3, _⟩ => ⟨S16384x2048, .f32⟩
  | .hbm, ⟨4, _⟩ => ⟨S1x2048x2048, .f32⟩
  | .hbm, ⟨5, _⟩ => ⟨S2048x2048, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S_, .f32⟩
  | .hbm, ⟨10, _⟩ => ⟨S16384x2048, .f32⟩
  | .hbm, ⟨11, _⟩ => ⟨S16384x2048, .f32⟩
  | .hbm, ⟨12, _⟩ => ⟨S_, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S2048, .f32⟩
  | .hbm, ⟨17, _⟩ => ⟨S2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S8x2048x16x128, .f32⟩
  | .hbm, ⟨25, _⟩ => ⟨S8x16x2048x128, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Input.lean ====
abbrev S16384x2048 : Shape := ⟨2, ![16384, 2048]⟩
abbrev S1x2048x16896 : Shape := ⟨3, ![1, 2048, 16896]⟩
abbrev S_ : Shape := ⟨0, ![]⟩
abbrev S1x4608 : Shape := ⟨2, ![1, 4608]⟩
abbrev S8x16x2048x128 : Shape := ⟨4, ![8, 16, 2048, 128]⟩
abbrev S1024x2048 : Shape := ⟨2, ![1024, 2048]⟩
abbrev S1x2048x1024 : Shape := ⟨3, ![1, 2048, 1024]⟩
abbrev S1x1024 : Shape := ⟨2, ![1, 1024]⟩
abbrev S1x8x1024x128 : Shape := ⟨4, ![1, 8, 1024, 128]⟩
abbrev S2048x1024 : Shape := ⟨2, ![2048, 1024]⟩
abbrev S1024x1024 : Shape := ⟨2, ![1024, 1024]⟩
abbrev S1024x128 : Shape := ⟨2, ![1024, 128]⟩
abbrev S1x1x1024x128 : Shape := ⟨4, ![1, 1, 1024, 128]⟩

abbrev nBuf : Space → Nat
  | .hbm => 5
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S1x2048x16896, .f32⟩
  | .hbm, ⟨2, _⟩ => ⟨S_, .f32⟩
  | .hbm, ⟨3, _⟩ => ⟨S1x4608, .f32⟩
  | .hbm, ⟨4, _⟩ => ⟨S8x16x2048x128, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024, .f32⟩
  | .local _ .vmem, ⟨5, _⟩ => ⟨S1x1024, .f32⟩
  | .local _ .vmem, ⟨6, _⟩ => ⟨S1x8x1024x128, .bf16⟩
  | .local _ .vmem, ⟨7, _⟩ => ⟨S1x8x1024x128, .bf16⟩
  | .local _ .vmem, ⟨8, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c4096_i32 : BitVec 32 := 4096#32
  let arg0 : BitVec 32 := BitVec.ofNat 32 (i 0).val
  let c1024_i32 : BitVec 32 := 1024#32
  let v0 : BitVec 32 := Scalar.muli arg0 c1024_i32
  let v1 : BitVec 32 := Scalar.addi c4096_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.addi c4096_i32 v0
  let v2 : BitVec 32 := v1
  let c0_i32 : BitVec 32 := 0#32
  let c0_i32_0 : BitVec 32 := 0#32
  let c0_i32_1 : BitVec 32 := 0#32
  ![c0_i32.toNat, c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, v26.toNat, c0_i32_10.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InputReferenceIdeal.lean ====
abbrev S16384x2048 : Shape := ⟨2, ![16384, 2048]⟩
abbrev S1x2048x16896 : Shape := ⟨3, ![1, 2048, 16896]⟩
abbrev S1x2048x2048 : Shape := ⟨3, ![1, 2048, 2048]⟩
abbrev S2048x2048 : Shape := ⟨2, ![2048, 2048]⟩
abbrev S8x2048x16x128 : Shape := ⟨4, ![8, 2048, 16, 128]⟩
abbrev S8x16x2048x128 : Shape := ⟨4, ![8, 16, 2048, 128]⟩

abbrev nBuf : Space → Nat
  | .hbm => 9
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x16896, .f32⟩
  | .hbm, ⟨2, _⟩ => ⟨S16384x2048, .f32⟩
  | .hbm, ⟨3, _⟩ => ⟨S1x2048x2048, .f32⟩
  | .hbm, ⟨4, _⟩ => ⟨S2048x2048, .f32⟩
  | .hbm, ⟨5, _⟩ => ⟨S16384x2048, .f32⟩
  | .hbm, ⟨6, _⟩ => ⟨S8x2048x16x128, .f32⟩
  | .hbm, ⟨7, _⟩ => ⟨S8x16x2048x128, .f32⟩
  | .hbm, ⟨8, _⟩ => ⟨S8x16x2048x128, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Output.lean ====
abbrev S16384x2048 : Shape := ⟨2, ![16384, 2048]⟩
abbrev S1x2048x16896 : Shape := ⟨3, ![1, 2048, 16896]⟩
abbrev S_ : Shape := ⟨0, ![]⟩
abbrev S1x4608 : Shape := ⟨2, ![1, 4608]⟩
abbrev S8x16x2048x128 : Shape := ⟨4, ![8, 16, 2048, 128]⟩
abbrev S1024x2048 : Shape := ⟨2, ![1024, 2048]⟩
abbrev S1x2048x1024 : Shape := ⟨3, ![1, 2048, 1024]⟩
abbrev S1x1024 : Shape := ⟨2, ![1, 1024]⟩
abbrev S1x8x1024x128 : Shape := ⟨4, ![1, 8, 1024, 128]⟩
abbrev S2048x1024 : Shape := ⟨2, ![2048, 1024]⟩
abbrev S1024x1024 : Shape := ⟨2, ![1024, 1024]⟩
abbrev S1024x128 : Shape := ⟨2, ![1024, 128]⟩
abbrev S1x1x1024x128 : Shape := ⟨4, ![1, 1, 1024, 128]⟩

abbrev nBuf : Space → Nat
  | .hbm => 5
  | .vmem => 9
  | .smem => 0
  | _ => 0

abbrev bufTy : (tb : Table) → Fin (tcTables nBuf tb) → BufTy
  | .hbm, ⟨0, _⟩ => ⟨S16384x2048, .bf16⟩
  | .hbm, ⟨1, _⟩ => ⟨S1x2048x16896, .f32⟩
  | .hbm, ⟨2, _⟩ => ⟨S_, .f32⟩
  | .hbm, ⟨3, _⟩ => ⟨S1x4608, .f32⟩
  | .hbm, ⟨4, _⟩ => ⟨S8x16x2048x128, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1024, .f32⟩
  | .local _ .vmem, ⟨5, _⟩ => ⟨S1x1024, .f32⟩
  | .local _ .vmem, ⟨6, _⟩ => ⟨S1x8x1024x128, .bf16⟩
  | .local _ .vmem, ⟨7, _⟩ => ⟨S1x8x1024x128, .bf16⟩
  | .local _ .vmem, ⟨8, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let c6144_i32 : BitVec 32 := 6144#32
  let arg0 : BitVec 32 := BitVec.ofNat 32 (i 0).val
  let c1024_i32 : BitVec 32 := 1024#32
  let v0 : BitVec 32 := Scalar.muli arg0 c1024_i32
  let v1 : BitVec 32 := Scalar.addi c6144_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c6144_i32 : BitVec 32 := 6144#32
  let v1 : BitVec 32 := Scalar.addi c6144_i32 v0
  let v2 : BitVec 32 := v1
  let c0_i32 : BitVec 32 := 0#32
  let c0_i32_0 : BitVec 32 := 0#32
  let c0_i32_1 : BitVec 32 := 0#32
  ![c0_i32.toNat, c0_i32_0.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, arg0.toNat, v26.toNat, c0_i32_10.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x8x1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== OutputReferenceIdeal.lean ====
abbrev S16384x2048 : Shape := ⟨2, ![16384, 2048]⟩
abbrev S1x2048x16896 : Shape := ⟨3, ![1, 2048, 16896]⟩
abbrev S1x2048x2048 : Shape := ⟨3, ![1, 2048, 2048]⟩
abbrev S2048x2048 : Shape := ⟨2, ![2048, 2048]⟩
abbrev S_ : Shape := ⟨0, ![]⟩
abbrev S8x2048x16x128 : Shape := ⟨4, ![8, 2048, 16, 128]⟩
abbrev S8x16x2048x128 : Shape := ⟨4, ![8, 16, 2048, 128]⟩

abbrev nBuf : Space → Nat
  | .hbm => 17
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x16896, .f32⟩
  | .hbm, ⟨2, _⟩ => ⟨S16384x2048, .f32⟩
  | .hbm, ⟨3, _⟩ => ⟨S1x2048x2048, .f32⟩
  | .hbm, ⟨4, _⟩ => ⟨S2048x2048, .f32⟩
  | .hbm, ⟨5, _⟩ => ⟨S16384x2048, .f32⟩
  | .hbm, ⟨6, _⟩ => ⟨S16384x2048, .f32⟩
  | .hbm, ⟨7, _⟩ => ⟨S16384x2048, .f32⟩
  | .hbm, ⟨8, _⟩ => ⟨S_, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384x2048, .f32⟩
  | .hbm, ⟨13, _⟩ => ⟨S16384x2048, .f32⟩
  | .hbm, ⟨14, _⟩ => ⟨S8x2048x16x128, .f32⟩
  | .hbm, ⟨15, _⟩ => ⟨S8x16x2048x128, .f32⟩
  | .hbm, ⟨16, _⟩ => ⟨S8x16x2048x128, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Merge.lean ====
abbrev S16384x2048 : Shape := ⟨2, ![16384, 2048]⟩
abbrev S16384x512 : Shape := ⟨2, ![16384, 512]⟩
abbrev S2048x2048 : Shape := ⟨2, ![2048, 2048]⟩
abbrev S512x2048 : Shape := ⟨2, ![512, 2048]⟩
abbrev S16384x4096 : Shape := ⟨2, ![16384, 4096]⟩
abbrev S1024x2048 : Shape := ⟨2, ![1024, 2048]⟩
abbrev S1024x512 : Shape := ⟨2, ![1024, 512]⟩
abbrev S2048x1024 : Shape := ⟨2, ![2048, 1024]⟩
abbrev S512x1024 : Shape := ⟨2, ![512, 1024]⟩
abbrev S1024x1024 : Shape := ⟨2, ![1024, 1024]⟩

abbrev nBuf : Space → Nat
  | .hbm => 6
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S2048x2048, .f32⟩
  | .hbm, ⟨3, _⟩ => ⟨S512x2048, .f32⟩
  | .hbm, ⟨4, _⟩ => ⟨S16384x4096, .bf16⟩
  | .hbm, ⟨5, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x512, .bf16⟩
  | .local _ .vmem, ⟨3, _⟩ => ⟨S1024x512, .bf16⟩
  | .local _ .vmem, ⟨4, _⟩ => ⟨S2048x1024, .f32⟩
  | .local _ .vmem, ⟨5, _⟩ => ⟨S2048x1024, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S2048x1024, .bf16⟩
  | .local _ .vmem, ⟨15, _⟩ => ⟨S512x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeReferenceIdeal.lean ====
abbrev S16384x2048 : Shape := ⟨2, ![16384, 2048]⟩
abbrev S16384x512 : Shape := ⟨2, ![16384, 512]⟩
abbrev S2048x2048 : Shape := ⟨2, ![2048, 2048]⟩
abbrev S512x2048 : Shape := ⟨2, ![512, 2048]⟩
abbrev S16384x4096 : Shape := ⟨2, ![16384, 4096]⟩

abbrev nBuf : Space → Nat
  | .hbm => 16
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x512, .bf16⟩
  | .hbm, ⟨2, _⟩ => ⟨S2048x2048, .f32⟩
  | .hbm, ⟨3, _⟩ => ⟨S512x2048, .f32⟩
  | .hbm, ⟨4, _⟩ => ⟨S16384x4096, .bf16⟩
  | .hbm, ⟨5, _⟩ => ⟨S16384x2048, .f32⟩
  | .hbm, ⟨6, _⟩ => ⟨S16384x2048, .f32⟩
  | .hbm, ⟨7, _⟩ => ⟨S16384x512, .f32⟩
  | .hbm, ⟨8, _⟩ => ⟨S16384x2048, .f32⟩
  | .hbm, ⟨9, _⟩ => ⟨S16384x4096, .f32⟩
  | .hbm, ⟨10, _⟩ => ⟨S16384x2048, .f32⟩
  | .hbm, ⟨11, _⟩ => ⟨S16384x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Norm.lean ====
abbrev S16384x2048 : Shape := ⟨2, ![16384, 2048]⟩
abbrev S2048 : Shape := ⟨1, ![2048]⟩
abbrev S1x2048x16896 : Shape := ⟨3, ![1, 2048, 16896]⟩
abbrev S1x2048 : Shape := ⟨2, ![1, 2048]⟩
abbrev S8x16x2048x128 : Shape := ⟨4, ![8, 16, 2048, 128]⟩
abbrev S512x2048 : Shape := ⟨2, ![512, 2048]⟩
abbrev S1x2048x2048 : Shape := ⟨3, ![1, 2048, 2048]⟩
abbrev S1x16x512x128 : Shape := ⟨4, ![1, 16, 512, 128]⟩
abbrev S2048x2048 : Shape := ⟨2, ![2048, 2048]⟩
abbrev S512 : Shape := ⟨1, ![512]⟩
abbrev S512x1 : Shape := ⟨2, ![512, 1]⟩
abbrev S512x128 : Shape := ⟨2, ![512, 128]⟩
abbrev S1x1x512x128 : Shape := ⟨4, ![1, 1, 512, 128]⟩

abbrev nBuf : Space → Nat
  | .hbm => 6
  | .vmem => 9
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048x16896, .f32⟩
  | .hbm, ⟨3, _⟩ => ⟨S1x2048, .f32⟩
  | .hbm, ⟨4, _⟩ => ⟨S16384x2048, .bf16⟩
  | .hbm, ⟨5, _⟩ => ⟨S8x16x2048x128, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048x2048, .f32⟩
  | .local _ .vmem, ⟨4, _⟩ => ⟨S512x2048, .bf16⟩
  | .local _ .vmem, ⟨5, _⟩ => ⟨S512x2048, .bf16⟩
  | .local _ .vmem, ⟨6, _⟩ => ⟨S1x16x512x128, .bf16⟩
  | .local _ .vmem, ⟨7, _⟩ => ⟨S1x16x512x128, .bf16⟩
  | .local _ .vmem, ⟨8, _⟩ => ⟨S2048x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 4 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x16x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormReferenceIdeal.lean ====
abbrev S16384x2048 : Shape := ⟨2, ![16384, 2048]⟩
abbrev S2048 : Shape := ⟨1, ![2048]⟩
abbrev S1x2048x16896 : Shape := ⟨3, ![1, 2048, 16896]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S1x2048x2048 : Shape := ⟨3, ![1, 2048, 2048]⟩
abbrev S2048x2048 : Shape := ⟨2, ![2048, 2048]⟩
abbrev S8x2048x16x128 : Shape := ⟨4, ![8, 2048, 16, 128]⟩
abbrev S8x16x2048x128 : Shape := ⟨4, ![8, 16, 2048, 128]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S1x2048x16896, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S1x2048x2048, .f32⟩
  | .hbm, ⟨20, _⟩ => ⟨S2048x2048, .f32⟩
  | .hbm, ⟨21, _⟩ => ⟨S16384x2048, .f32⟩
  | .hbm, ⟨22, _⟩ => ⟨S16384x2048, .bf16⟩
  | .hbm, ⟨23, _⟩ => ⟨S8x2048x16x128, .f32⟩
  | .hbm, ⟨24, _⟩ => ⟨S8x16x2048x128, .f32⟩
  | .hbm, ⟨25, _⟩ => ⟨S8x16x2048x128, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Proof.Row.lean ====
/-  One row of a softmax attention over the extended reals: the row's maximum, its exponentials, their sum,
    the weighted sum of values, and the logarithm of the denominator. A row read through an injection that misses
    only logits of −∞ has the same maximum, sum and weighted sum: so a row over a window of keys is the row over
    all the keys masked outside of the window. -/
module

public import Idealize.ShloMosaic.PureOps.Ideal.Laws
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.ValueIdxRank6
public import Idealize.ShloMosaic.Lib.Pipeline.Value

@[expose] public section

namespace Cert.Att

open Idealize.ShloMosaic Idealize.ShloMosaic.ValueIdx
open scoped BigOperators

variable {n m : ℕ}

/-- The row's maximum, −∞ where the row is empty. -/
noncomputable def top (s : Fin n → EReal) : EReal := (Finset.univ : Finset (Fin n)).fold max ⊥ s

/-- The exponential of a logit less the row's maximum. -/
noncomputable def ex (s : Fin n → EReal) (c : Fin n) : EReal := Ideal.exp (s c - top s)

/-- The row's denominator. -/
noncomputable def den (s : Fin n → EReal) : EReal := ∑ c, ex s c

/-- The values' sum weighted by the exponentials. -/
noncomputable def num (s v : Fin n → EReal) : EReal := ∑ c, ex s c * v c

/-- The row's output. -/
noncomputable def outv (s v : Fin n → EReal) : EReal := Ideal.div (num s v) (den s)

/-- The logarithm of the sum of the exponentials of the row's logits. -/
noncomputable def lse (s : Fin n → EReal) : EReal := top s + Ideal.log (den s)

theorem fold_max_eq_sup (S : Finset (Fin n)) (s : Fin n → EReal) : S.fold max ⊥ s = S.sup s := rfl

/-- The maximum does not see logits of −∞. -/
theorem top_embed (κ : Fin n → Fin m) (s : Fin n → EReal) (s' : Fin m → EReal)
    (hs : ∀ c, s c = s' (κ c)) (hz : ∀ u, (∀ c, κ c ≠ u) → s' u = ⊥) : top s = top s' := by
  unfold top
  rw [fold_max_eq_sup, fold_max_eq_sup]
  apply le_antisymm
  · refine Finset.sup_le fun c _ => ?_
    rw [hs c]; exact Finset.le_sup (f := s') (Finset.mem_univ _)
  · refine Finset.sup_le fun u _ => ?_
    by_cases h : ∃ c, κ c = u
    · obtain ⟨c, rfl⟩ := h
      rw [← hs c]; exact Finset.le_sup (f := s) (Finset.mem_univ _)
    · rw [hz u (fun c hc => h ⟨c, hc⟩)]; exact bot_le

theorem exp_bot_sub (a : EReal) : Ideal.exp (⊥ - a) = 0 := by
  rw [sub_eq_add_neg, EReal.bot_add]; rfl

/-- The denominator does not see logits of −∞. -/
theorem den_embed (κ : Fin n → Fin m) (hκ : Function.Injective κ) (s : Fin n → EReal) (s' : Fin m → EReal)
    (hs : ∀ c, s c = s' (κ c)) (hz : ∀ u, (∀ c, κ c ≠ u) → s' u = ⊥) : den s = den s' := by
  unfold den
  refine Fintype.sum_of_injective κ hκ _ _ (fun u hu => ?_) (fun c => ?_)
  · unfold ex; rw [hz u (fun c hc => hu ⟨c, hc⟩), exp_bot_sub]
  · unfold ex; rw [hs c, top_embed κ s s' hs hz]

/-- Nor does the weighted sum of the values. -/
theorem num_embed (κ : Fin n → Fin m) (hκ : Function.Injective κ) (s v : Fin n → EReal) (s' v' : Fin m → EReal)
    (hs : ∀ c, s c = s' (κ c)) (hv : ∀ c, v c = v' (κ c)) (hz : ∀ u, (∀ c, κ c ≠ u) → s' u = ⊥) :
    num s v = num s' v' := by
  unfold num
  refine Fintype.sum_of_injective κ hκ _ _ (fun u hu => ?_) (fun c => ?_)
  · unfold ex; rw [hz u (fun c hc => hu ⟨c, hc⟩), exp_bot_sub, zero_mul]
  · unfold ex; rw [hs c, hv c, top_embed κ s s' hs hz]

theorem outv_embed (κ : Fin n → Fin m) (hκ : Function.Injective κ) (s v : Fin n → EReal) (s' v' : Fin m → EReal)
    (hs : ∀ c, s c = s' (κ c)) (hv : ∀ c, v c = v' (κ c)) (hz : ∀ u, (∀ c, κ c ≠ u) → s' u = ⊥) :
    outv s v = outv s' v' := by
  unfold outv; rw [num_embed κ hκ s v s' v' hs hv hz, den_embed κ hκ s s' hs hz]

theorem lse_embed (κ : Fin n → Fin m) (hκ : Function.Injective κ) (s : Fin n → EReal) (s' : Fin m → EReal)
    (hs : ∀ c, s c = s' (κ c)) (hz : ∀ u, (∀ c, κ c ≠ u) → s' u = ⊥) : lse s = lse s' := by
  unfold lse; rw [top_embed κ s s' hs hz, den_embed κ hκ s s' hs hz]

/-! ## Rows of rank-two vectors -/

section Vec

variable {R C : ℕ}

/-- Row `i` of a rank-two vector. -/
def rowOf {φ : FTy} (L : FVec Ideal ⟨2, ![R, C]⟩ φ) (i : Fin R) : Fin C → EReal := fun c => L (ix2 i c)

theorem negInf : FloatOps.ofBits (F := Ideal) .f32 0xFF800000#32 = (⊥ : EReal) := by
  show Ideal.ofBits .f32 0xFF800000#32 = ⊥
  simp [Ideal.ofBits, Ideal.ieee]

theorem lift_axis1 (h : Shape.Reduces ⟨2, ![R, C]⟩ [1] ⟨1, ![R]⟩) (j : (⟨1, ![R]⟩ : Shape).Idx) (k : Fin C) :
    h.lift j k = ix2 (j 0) k := by
  funext a; match a with | ⟨0, _⟩ => rfl | ⟨1, _⟩ => rfl

/-- The maximum over the lanes, at a row. -/
theorem max_apply (L : FVec Ideal ⟨2, ![R, C]⟩ .f32) (h : Shape.Reduces ⟨2, ![R, C]⟩ [1] ⟨1, ![R]⟩)
    (hφ : FKind.Formats .f32) (hacc : (0xFF800000#32 : BitVec 32) = FKind.maximumf.neutral .f32 hφ)
    (hs : (⟨1, ![R]⟩ : Shape).ShapeCasts ⟨2, ![R, 1]⟩) (i : Fin R) (z : Fin 1) :
    shapeCast ⟨2, ![R, 1]⟩ (multiReduction .maximumf [1] ⟨1, ![R]⟩ L 0xFF800000#32 h hφ hacc) hs (ix2 i z)
      = top (rowOf L i) := by
  rw [shapeCast_a_a1_apply,
    Ideal.multiReduction_maximumf_single]
  unfold top
  rw [negInf]
  exact congrArg (fun f => (Finset.univ : Finset (Fin C)).fold max ⊥ f) (funext fun k => congrArg L (lift_axis1 h _ k))

/-- The sum over the lanes, at a row. -/
theorem sum_apply (L : FVec Ideal ⟨2, ![R, C]⟩ .f32) (h : Shape.Reduces ⟨2, ![R, C]⟩ [1] ⟨1, ![R]⟩)
    (hφ : FKind.Formats .f32) (hacc : (0x00000000#32 : BitVec 32) = FKind.add.neutral .f32 hφ)
    (hs : (⟨1, ![R]⟩ : Shape).ShapeCasts ⟨2, ![R, 1]⟩) (i : Fin R) (z : Fin 1) :
    shapeCast ⟨2, ![R, 1]⟩ (multiReduction .add [1] ⟨1, ![R]⟩ L 0x00000000#32 h hφ hacc) hs (ix2 i z)
      = ∑ c, L (ix2 i c) := by
  rw [shapeCast_a_a1_apply,
    Ideal.multiReduction_add_single]
  exact Finset.sum_congr rfl fun k _ => congrArg L (lift_axis1 h _ k)

/-- A column spread over the lanes, at an entry. -/
theorem spread_apply (x : FVec Ideal ⟨2, ![R, 1]⟩ .f32) (h : (⟨2, ![R, 1]⟩ : Shape).Broadcasts ⟨2, ![R, C]⟩)
    (i : Fin R) (c : Fin C) : broadcastTo ⟨2, ![R, C]⟩ x h (ix2 i c) = x (ix2 i 0) := by
  refine broadcastTo_apply x h (ix2 i c) (ix2 i 0) fun a => ?_
  match a with
  | ⟨0, _⟩ =>
    by_cases hR : R = 1
    · subst hR; have := i.isLt; simp
    · simp [hR]
  | ⟨1, _⟩ => simp

end Vec

end Cert.Att
-- ==== Proof.Proj.lean ====
/-  The projections of the layer's input: a row of the input against a column of the weights; and half a hyperbolic tangent
    of a half, plus a half, is the logistic function. -/
module

public import proofs.«01_k».proof.Proof.Row
public import Idealize.ShloMosaic.Lib.ValueIdx
public import Idealize.ShloMosaic.Lib.IdealHost
public import Idealize.ShloMosaic.Lib.StackMember

@[expose] public section

namespace Cert.Proj

open Idealize.ShloMosaic Idealize.ShloMosaic.ValueIdx
open scoped BigOperators

/-- A row of the input against a column of the weights. -/
noncomputable def entry (h : (⟨2, ![16384, 2048]⟩ : Shape).Idx → EReal) (w : (⟨3, ![1, 2048, 16896]⟩ : Shape).Idx → EReal)
    (r : Fin 16384) (n : Fin 16896) : EReal :=
  ∑ k : Fin 2048, h (ix2 r k) * w (ix3 (0 : Fin 1) k n)

/-- The word of a half. -/
theorem half_word : Ideal.ofBits .f32 0x3F000000#32 = (((1 / 2 : ℝ)) : EReal) := by
  simp [Ideal.ofBits, Ideal.ieee]
  rw [← EReal.coe_mul]
  norm_num

/-- The word of one. -/
theorem one_word : Ideal.ofBits .f32 0x3F800000#32 = (1 : EReal) := by
  simp [Ideal.ofBits, Ideal.ieee]
  rw [← EReal.coe_mul]
  norm_num

/-- The logistic function by the hyperbolic tangent. -/
theorem half_tanh (x : EReal) :
    ((1 / 2 : ℝ) : EReal) * Ideal.tanh (((1 / 2 : ℝ) : EReal) * x) + ((1 / 2 : ℝ) : EReal) = Ideal.logistic x := by
  induction x with
  | bot =>
    rw [EReal.coe_mul_bot_of_pos (by norm_num), Ideal.tanh_bot, Ideal.logistic_bot, ← EReal.coe_one, ← EReal.coe_neg,
      ← EReal.coe_mul, ← EReal.coe_add, ← EReal.coe_zero]
    norm_num
  | top =>
    rw [EReal.coe_mul_top_of_pos (by norm_num), Ideal.tanh_top, Ideal.logistic_top, ← EReal.coe_one,
      ← EReal.coe_mul, ← EReal.coe_add]
    norm_num
  | coe r =>
    rw [← EReal.coe_mul, Ideal.tanh_coe, Ideal.logistic_coe, ← EReal.coe_mul, ← EReal.coe_add, EReal.coe_eq_coe_iff,
      Real.tanh_eq_sinh_div_cosh, Real.sinh_eq, Real.cosh_eq]
    have e : Real.exp (-r) = Real.exp (-(1 / 2 * r)) * Real.exp (-(1 / 2 * r)) := by
      rw [← Real.exp_add]; congr 1; ring
    have p : Real.exp (1 / 2 * r) * Real.exp (-(1 / 2 * r)) = 1 := by
      rw [← Real.exp_add]; simp
    rw [e]
    have q : Real.exp (1 / 2 * r) = (Real.exp (-(1 / 2 * r)))⁻¹ := eq_inv_of_mul_eq_one_left p
    have h := Real.exp_pos (-(1 / 2 * r))
    rw [q]
    field_simp
    ring

theorem narrow_at {s : Shape} (x : s.Idx → EReal) (i : s.Idx) (hb : FTy.bf16.bits < FTy.f32.bits) :
    truncf (F := Ideal) (φ := .f32) .bf16 x hb i = x i := rfl

theorem widen_at {s : Shape} (x : s.Idx → EReal) (i : s.Idx) (hb : FTy.bf16.bits < FTy.f32.bits) :
    extf (F := Ideal) (φ := .bf16) .f32 x hb i = x i := rfl

/-- The kernel's last steps. -/
theorem gate_at {s : Shape} (x : s.Idx → EReal) (i : s.Idx) :
    addf (F := Ideal) (φ := .f32)
      (mulf (F := Ideal) (φ := .f32) (broadcast s (Scalar.ofBits (F := Ideal) .f32 0x3F000000#32))
        (tanh (F := Ideal) (φ := .f32) (mulf (F := Ideal) (φ := .f32) (broadcast s (Scalar.ofBits (F := Ideal) .f32 0x3F000000#32)) x)))
      (broadcast s (Scalar.ofBits (F := Ideal) .f32 0x3F000000#32)) i = Ideal.logistic (x i) :=
  (show _ = Ideal.ofBits .f32 0x3F000000#32 * Ideal.tanh (Ideal.ofBits .f32 0x3F000000#32 * x i) + Ideal.ofBits .f32 0x3F000000#32
    from rfl).trans (by rw [half_word]; exact half_tanh (x i))

/-- The reference's last steps. -/
theorem logistic_at {s : Shape} (x y z : s.Idx → EReal) (i : s.Idx) (hy : y i = 1) (hz : z i = 1) :
    Host.divf (F := Ideal) (φ := .f32) y (addf (F := Ideal) (φ := .f32) z
      (Host.exp (F := Ideal) (φ := .f32) (Host.negf (F := Ideal) (φ := .f32) x))) i = Ideal.logistic (x i) :=
  (show _ = Ideal.div (y i) (z i + Ideal.exp (-(x i))) from rfl).trans (by rw [hy, hz]; rfl)

/-- A plain product of matrices at an index. -/
theorem matmul_at {M K N : ℕ} (D : DotDims ⟨2, ![M, K]⟩ ⟨2, ![K, N]⟩ ⟨2, ![M, N]⟩) (hD : D = DotDims.plain M K N)
    (x : FVec Ideal ⟨2, ![M, K]⟩ .bf16) (w : FVec Ideal ⟨2, ![K, N]⟩ .bf16) (i : Fin M) (n : Fin N) :
    matmul D none x w (constant ⟨2, ![M, N]⟩ .f32 0x00000000#32) (ix2 i n) = ∑ k : Fin K, x (ix2 i k) * w (ix2 k n) := by
  subst hD
  refine (Ideal.matmul_plain_apply none x w _ i n).trans ?_
  rw [constant_apply, Ideal.ofBits_zero_f32, zero_add]

/-- The host's plain product of matrices at an index. -/
theorem dot_at {M K N : ℕ} (D : DotDims ⟨2, ![M, K]⟩ ⟨2, ![K, N]⟩ ⟨2, ![M, N]⟩) (hD : D = DotDims.plain M K N)
    (x : FVec Ideal ⟨2, ![M, K]⟩ .f32) (w : FVec Ideal ⟨2, ![K, N]⟩ .f32) (i : Fin M) (n : Fin N) :
    Host.dotGeneral D none x w (ix2 i n) = ∑ k : Fin K, x (ix2 i k) * w (ix2 k n) := by
  subst hD
  exact StackMember.dotGeneral_plain_apply none x w i n

/-- Columns of the weights from column `o`, as a matrix, at an index. -/
theorem columns_of {N o : ℕ} (w : (⟨3, ![1, 2048, 16896]⟩ : Shape).Idx → EReal)
    (hs : (⟨3, ![1, 2048, 16896]⟩ : Shape).Slices ![0, 0, o] ⟨3, ![1, 2048, N]⟩)
    (hc : (⟨3, ![1, 2048, N]⟩ : Shape).ShapeCasts ⟨2, ![2048, N]⟩) (k : Fin 2048) (n : Fin N) (hn : o + n.val < 16896) :
    shapeCast ⟨2, ![2048, N]⟩ (extractStridedSlice ⟨3, ![1, 2048, N]⟩ ![0, 0, o] w hs) hc (ix2 k n)
      = w (ix3 (0 : Fin 1) k (⟨o + n.val, hn⟩ : Fin 16896)) := by
  rw [shapeCast_apply _ _ _ (ix3 (0 : Fin 1) k n) (by
    rw [Shape.rowMajor_val_two, Shape.rowMajor_val_three]
    show (0 * 2048 + k.val) * N + n.val = k.val * N + n.val
    rw [Nat.zero_mul, Nat.zero_add])]
  refine extractStridedSlice_apply _ _ _ _ _ fun a => ?_
  match a with
  | ⟨0, _⟩ => rfl
  | ⟨1, _⟩ => exact (Nat.zero_add _).symm
  | ⟨2, _⟩ => rfl

end Cert.Proj
-- ==== Proof.Gate.lean ====
/-  The gates' call: what a grid point leaves, as sums of products. -/
module

public import proofs.«01_k».proof.Proof.Gen.GatesIdeal.Value
public import proofs.«01_k».proof.Proof.Proj

@[expose] public section

namespace Cert.Gate

open Idealize.ShloMosaic Idealize.ShloMosaic.ValueIdx Cert.GatesIdeal Cert.GatesIdeal.Gen
open Idealize.ShloMosaic.TcCoe Cert.Proj
open scoped BigOperators

/-- The offsets of a whole block. -/
theorem hz : (![0, 0] : Fin 2 → Nat) = fun _ => 0 := funext fun a => by fin_cases a <;> rfl

/-- The same on three axes. -/
theorem hz3 : (![0, 0, 0] : Fin 3 → Nat) = fun _ => 0 := funext fun a => by fin_cases a <;> rfl

section
variable (c : Dev nD) (i : grid0.Coords) (arg2 : Memref sig .tc .vmem S1024x2048 .bf16) (harg2 : arg2.IsWhole)
  (arg3 : Memref sig .tc .vmem S1x2048x1024 .f32) (harg3 : arg3.IsWhole) (arg4 : Memref sig .tc .vmem S1x1024 .f32) (harg4 : arg4.IsWhole)
  (arg5 : Memref sig .tc .vmem S1024x1024 .bf16) (harg5 : arg5.IsWhole) (arg6 : Memref sig .tc .vmem S2048x1024 .bf16) (harg6 : arg6.IsWhole)
  (x0 : Vec Ideal S1024x2048 .bf16) (x1 : Vec Ideal S1x2048x1024 .f32) (x2 : Vec Ideal S1x1024 .f32) (xs0 : Vec Ideal S2048x1024 .bf16)

/-- The output block of a point that casts the weights. -/
theorem out_A (hc0) : out0_A_3 (F := Ideal) c i arg2 harg2 arg3 harg3 arg4 harg4 arg5 harg5 arg6 harg6 hc0 x0 x1 x2 = k0_pay2 x0 (k0_pay1 x1) := by
  unfold out0_A_3
  rw [View.read_writes_junk_eq_canon]
  unfold kernelRun0_A
  dsimp only
  rw [View.canon_unit_zero hz, View.readAt_eq_ld, harg2.read_unread, View.ld_unit_zero hz]
  unfold kernelRun0_A.sl.v4 kernelRun0_A.sl.HS0_1
  rw [View.readCov_unit_zero _ hz, View.readAt_eq_ld, harg3.read_unread, View.ld_unit_zero hz3]

/-- The weights it keeps. -/
theorem keep_A (hc0) : sout0_A_0 (F := Ideal) c i arg2 harg2 arg3 harg3 arg4 harg4 arg5 harg5 arg6 harg6 hc0 x0 x1 x2 = k0_pay1 x1 := by
  unfold sout0_A_0
  rw [View.read_writes_junk_eq_canon]
  unfold kernelRun0_A
  dsimp only
  unfold kernelRun0_A.sl.HS0_1
  rw [View.canon_unit_zero hz, View.readAt_eq_ld, harg3.read_unread, View.ld_unit_zero hz3]

/-- The output block of a point that finds the weights cast. -/
theorem out_B (hc0) : out0_B_3 (F := Ideal) c i arg2 harg2 arg3 harg3 arg4 harg4 arg5 harg5 arg6 harg6 hc0 x0 x1 x2 xs0 = k0_pay2 x0 xs0 := by
  unfold out0_B_3
  rw [View.read_writes_junk_eq_canon]
  unfold kernelRun0_B
  dsimp only
  rw [View.canon_unit_zero hz, View.readAt_eq_ld, View.readAt_eq_ld, harg2.read_unread, harg6.read_unread, View.ld_unit_zero hz, View.ld_unit_zero hz]

end

/-- The weights cast, at an index. -/
theorem cast_at (x : Vec Ideal S1x2048x1024 .f32) (k : Fin 2048) (n : Fin 1024) :
    k0_pay1 (F := Ideal) x (ix2 k n) = x (ix3 (0 : Fin 1) k n) := by
  unfold k0_pay1
  rw [shapeCast_apply _ _ _ (ix2 k n) rfl, narrow_at, shapeCast_apply _ _ _ (ix3 (0 : Fin 1) k n) (by
    rw [Shape.rowMajor_val_two, Shape.rowMajor_val_three]
    show (0 * 2048 + k.val) * 1024 + n.val = k.val * 1024 + n.val
    omega)]

/-- The gates of a block, at an index. -/
theorem gates_at (x : Vec Ideal S1024x2048 .bf16) (w : Vec Ideal S2048x1024 .bf16) (r n : Fin 1024) :
    k0_pay2 (F := Ideal) x w (ix2 r n) = Ideal.logistic (∑ k : Fin 2048, x (ix2 r k) * w (ix2 k n)) := by
  unfold k0_pay2
  rw [narrow_at, gate_at]
  exact congrArg Ideal.logistic (matmul_at dot_S1024x2048_S2048x1024_S1024x1024_1_0_0_1_n_n rfl x w r n)

/-- The block of each window at a grid point. -/
theorem idx_facts : ∀ t : Fin cfg0.N,
    (win0_0.index t (0 : Fin 2) = t.val % 16 ∧ win0_0.index t (1 : Fin 2) = 0)
    ∧ (win0_1.index t (0 : Fin 3) = 0 ∧ win0_1.index t (1 : Fin 3) = 0
      ∧ win0_1.index t (2 : Fin 3) = 12800 + 1024 * (t.val / 16))
    ∧ (win0_3.index t (0 : Fin 2) = t.val % 16 ∧ win0_3.index t (1 : Fin 2) = t.val / 16) :=
  (by decide +kernel : ∀ t : Fin grid0.N, _)

/-- Every block of the result has its grid point, which writes it back. -/
theorem point_of : ∀ (a : Fin 16) (j : Fin 4), ∃ t : Fin cfg0.N,
    t.val % 16 = a.val ∧ t.val / 16 = j.val ∧ (cfg0.win 3).flush t = true :=
  (by decide +kernel : ∀ (a : Fin 16) (j : Fin 4), ∃ t : Fin grid0.N,
    t.val % 16 = a.val ∧ t.val / 16 = j.val ∧ win0_3.flush t = true)

theorem points (n : ℕ) (hn : n < cfg0.N) : n / 16 < 4 := by
  have := lt_of_lt_of_eq hn (show cfg0.N = 64 from N_0)
  omega

variable (m : (ℓ : Loc nD τ sig) → Buf (Elt Ideal) ℓ) (c : Dev nD)

/-- The rows a grid point is given. -/
theorem rows_at (t : Fin cfg0.N) (r : Fin 1024) (k : Fin 2048) :
    iblk m c 0 t (ix2 r k) = m ((c.tc : Thread nD τ).loc main_arg0)
      (ix2 (⟨1024 * (t.val % 16) + r.val, by omega⟩ : Fin 16384) k) := by
  show V m c main_arg0 (((cfg0.win 0).blk t).view.emb (ix2 r k)) = _
  obtain ⟨⟨e0, e1⟩, -, -⟩ := idx_facts t
  rw [V_main_arg0]
  refine congrArg (m ((c.tc : Thread nD τ).loc main_arg0)) (funext fun a => Fin.ext ?_)
  match a with
  | ⟨0, _⟩ => show win0_0.index t (0 : Fin 2) * 1024 + 1 * r.val = 1024 * (t.val % 16) + r.val; omega
  | ⟨1, _⟩ => show win0_0.index t (1 : Fin 2) * 2048 + 1 * k.val = k.val; omega

/-- The columns it is given. -/
theorem columns_at (t : Fin cfg0.N) (k : Fin 2048) (n : Fin 1024) :
    iblk m c 1 t (ix3 (0 : Fin 1) k n) = m ((c.tc : Thread nD τ).loc main_arg1)
      (ix3 (0 : Fin 1) k (⟨12800 + 1024 * (t.val / 16) + n.val, by have := points t.val t.isLt; omega⟩ : Fin 16896)) := by
  show V m c main_arg1 (((cfg0.win 1).blk t).view.emb (ix3 (0 : Fin 1) k n)) = _
  obtain ⟨-, ⟨e0, e1, e2⟩, -⟩ := idx_facts t
  rw [V_main_arg1]
  refine congrArg (m ((c.tc : Thread nD τ).loc main_arg1)) (funext fun a => Fin.ext ?_)
  match a with
  | ⟨0, _⟩ => show win0_1.index t (0 : Fin 3) + 1 * 0 = 0; omega
  | ⟨1, _⟩ => show win0_1.index t (1 : Fin 3) + 1 * k.val = k.val; omega
  | ⟨2, _⟩ => show win0_1.index t (2 : Fin 3) + 1 * n.val = 12800 + 1024 * (t.val / 16) + n.val; omega

/-- The weights a casting point keeps. -/
theorem kept_A (t : Fin cfg0.N) (h0 : t.val % 16 = 0) : (outsAt0 m c t.val t.isLt).2 = k0_pay1 (iblk m c 1 t) := by
  rw [outsAt0_A m c t h0]
  dsimp only
  rw [keep_A]

/-- Any other point keeps what it found. -/
theorem kept_B (t : Fin cfg0.N) (h0 : ¬t.val % 16 = 0) : (outsAt0 m c t.val t.isLt).2
    = (outsAt0 m c (t.val - 1) (Nat.lt_of_le_of_lt (Nat.sub_le _ _) t.isLt)).2 := by
  rw [outsAt0_B m c t h0]
  dsimp only
  unfold sout0_B_0
  rfl

/-- The output of a casting point. -/
theorem left_A (t : Fin cfg0.N) (h0 : t.val % 16 = 0) :
    (outsAt0 m c t.val t.isLt).1 = k0_pay2 (iblk m c 0 t) (k0_pay1 (iblk m c 1 t)) := by
  rw [outsAt0_A m c t h0]
  dsimp only
  rw [out_A]

/-- The output of any other point. -/
theorem left_B (t : Fin cfg0.N) (h0 : ¬t.val % 16 = 0) : (outsAt0 m c t.val t.isLt).1
    = k0_pay2 (iblk m c 0 t) (outsAt0 m c (t.val - 1) (Nat.lt_of_le_of_lt (Nat.sub_le _ _) t.isLt)).2 := by
  rw [outsAt0_B m c t h0]
  dsimp only
  rw [out_B]

attribute [local irreducible] outsAt0 iblk

/-- The weights kept after a point, by the point before. -/
theorem kept_step (n : ℕ) (hn : n + 1 < cfg0.N) (h0 : ¬(n + 1) % 16 = 0) :
    (outsAt0 m c (n + 1) hn).2 = (outsAt0 m c n (Nat.lt_of_succ_lt hn)).2 :=
  kept_B m c ⟨n + 1, hn⟩ h0

/-- After a grid point the kept weights are those of its columns. -/
theorem kept_at (n : ℕ) : ∀ (hn : n < cfg0.N) (k : Fin 2048) (q : Fin 1024),
    (outsAt0 m c n hn).2 (ix2 k q) = m ((c.tc : Thread nD τ).loc main_arg1)
      (ix3 (0 : Fin 1) k (⟨12800 + 1024 * (n / 16) + q.val, by have := points n hn; omega⟩ : Fin 16896)) := by
  induction n with
  | zero =>
    intro hn k q
    exact (congrFun (kept_A m c ⟨0, hn⟩ rfl) (ix2 k q)).trans ((cast_at _ k q).trans (columns_at m c ⟨0, hn⟩ k q))
  | succ n ih =>
    intro hn k q
    by_cases h0 : (n + 1) % 16 = 0
    · exact (congrFun (kept_A m c ⟨n + 1, hn⟩ h0) (ix2 k q)).trans ((cast_at _ k q).trans (columns_at m c ⟨n + 1, hn⟩ k q))
    · rw [kept_step m c n hn h0, ih]
      refine congrArg (fun z => m ((c.tc : Thread nD τ).loc main_arg1) (ix3 (0 : Fin 1) k z)) (Fin.ext ?_)
      show 12800 + 1024 * (n / 16) + q.val = 12800 + 1024 * ((n + 1) / 16) + q.val
      omega

/-- The gate at a row and a column. -/
noncomputable def gate (r : Fin 16384) (n : Fin 4096) : EReal :=
  Ideal.logistic (entry (m ((c.tc : Thread nD τ).loc main_arg0)) (m ((c.tc : Thread nD τ).loc main_arg1)) r
    (⟨12800 + n.val, by omega⟩ : Fin 16896))

/-- What a grid point leaves in its output block. -/
theorem point_at (t : Fin cfg0.N) (r q : Fin 1024) : (outsAt0 m c t.val t.isLt).1 (ix2 r q)
    = gate m c (⟨1024 * (t.val % 16) + r.val, by omega⟩ : Fin 16384)
        (⟨1024 * (t.val / 16) + q.val, by have := points t.val t.isLt; omega⟩ : Fin 4096) := by
  have hg : ∀ w : Vec Ideal S2048x1024 .bf16, (∀ k, w (ix2 k q) = m ((c.tc : Thread nD τ).loc main_arg1)
      (ix3 (0 : Fin 1) k (⟨12800 + 1024 * (t.val / 16) + q.val, by have := points t.val t.isLt; omega⟩ : Fin 16896))) →
      k0_pay2 (F := Ideal) (iblk m c 0 t) w (ix2 r q)
        = gate m c (⟨1024 * (t.val % 16) + r.val, by omega⟩ : Fin 16384)
        (⟨1024 * (t.val / 16) + q.val, by have := points t.val t.isLt; omega⟩ : Fin 4096) := by
    intro w hw
    rw [gates_at]
    unfold gate entry
    refine congrArg Ideal.logistic (Finset.sum_congr rfl fun k _ => congrArg₂ (· * ·) (rows_at m c t r k) ((hw k).trans ?_))
    refine congrArg (fun z => m ((c.tc : Thread nD τ).loc main_arg1) (ix3 (0 : Fin 1) k z)) (Fin.ext ?_)
    show 12800 + 1024 * (t.val / 16) + q.val = 12800 + (1024 * (t.val / 16) + q.val)
    omega
  by_cases h0 : t.val % 16 = 0
  · rw [left_A m c t h0]
    exact hg _ fun k => (cast_at _ k q).trans (columns_at m c t k q)
  · rw [left_B m c t h0]
    refine hg _ fun k => (kept_at m c _ _ k q).trans ?_
    refine congrArg (fun z => m ((c.tc : Thread nD τ).loc main_arg1) (ix3 (0 : Fin 1) k z)) (Fin.ext ?_)
    show 12800 + 1024 * ((t.val - 1) / 16) + q.val = 12800 + 1024 * (t.val / 16) + q.val
    omega

/-- The array after the run. -/
theorem final_at (a : Fin 16) (j : Fin 4) (r q : Fin 1024) :
    ((dats m 0 c).arrAt 3 cfg0.N : S16384x4096.Idx → EReal)
      (ix2 (⟨1024 * a.val + r.val, by omega⟩ : Fin 16384) (⟨1024 * j.val + q.val, by omega⟩ : Fin 4096))
      = gate m c (⟨1024 * a.val + r.val, by omega⟩ : Fin 16384) (⟨1024 * j.val + q.val, by omega⟩ : Fin 4096) := by
  obtain ⟨t, ha, hj, hf⟩ := point_of a j
  have k := congrFun (Cert.GatesIdeal.Value.blocks3 m c t hf) (ix2 r q)
  rw [Cert.GatesIdeal.Value.flushed3] at k
  have k' : (dats m 0 c).arrAt 3 cfg0.N (((cfg0.win 3).blk t).view.emb (ix2 r q)) = (outsAt0 m c t.val t.isLt).1 (ix2 r q) := k
  obtain ⟨-, -, e0, e1⟩ := idx_facts t
  rw [show ((cfg0.win 3).blk t).view.emb (ix2 r q)
      = (ix2 (⟨1024 * a.val + r.val, by omega⟩ : Fin 16384) (⟨1024 * j.val + q.val, by omega⟩ : Fin 4096) : S16384x4096.Idx) from by
    funext a'
    apply Fin.ext
    match a' with
    | ⟨0, _⟩ => show win0_3.index t (0 : Fin 2) * 1024 + 1 * r.val = 1024 * a.val + r.val; omega
    | ⟨1, _⟩ => show win0_3.index t (1 : Fin 2) * 1024 + 1 * q.val = 1024 * j.val + q.val; omega] at k'
  refine k'.trans ((point_at m c t r q).trans ?_)
  refine congrArg₂ (gate m c) (Fin.ext ?_) (Fin.ext ?_)
  · show 1024 * (t.val % 16) + r.val = 1024 * a.val + r.val; omega
  · show 1024 * (t.val / 16) + q.val = 1024 * j.val + q.val; omega

/-- At any row and column. -/
theorem final_apply (r : Fin 16384) (n : Fin 4096) :
    ((dats m 0 c).arrAt 3 cfg0.N : S16384x4096.Idx → EReal) (ix2 r n) = gate m c r n := by
  have k := final_at m c (⟨r.val / 1024, by omega⟩ : Fin 16) (⟨n.val / 1024, by omega⟩ : Fin 4)
    (⟨r.val % 1024, by omega⟩ : Fin 1024) (⟨n.val % 1024, by omega⟩ : Fin 1024)
  have hr : (⟨1024 * (r.val / 1024) + r.val % 1024, by omega⟩ : Fin 16384) = r := Fin.ext (by show _ = r.val; dsimp only; omega)
  have hn : (⟨1024 * (n.val / 1024) + n.val % 1024, by omega⟩ : Fin 4096) = n := Fin.ext (by show _ = n.val; dsimp only; omega)
  rw [hr, hn] at k
  exact k

end Cert.Gate
-- ==== Proof.Head.lean ====
/-  The heads' call: what a grid point leaves, as sums of products, twelve heads side by side. -/
module

public import proofs.«01_k».proof.Proof.Gen.HeadsIdeal.Value
public import proofs.«01_k».proof.Proof.Proj

@[expose] public section

namespace Cert.Head

open Idealize.ShloMosaic Idealize.ShloMosaic.ValueIdx Cert.HeadsIdeal Cert.HeadsIdeal.Gen
open Idealize.ShloMosaic.TcCoe Cert.Proj
open scoped BigOperators

/-- A product's columns, 128 to a head. -/
noncomputable def placed (M : S1024x1536.Idx → EReal) (y : S1x12x1024x128.Idx) : EReal :=
  M (ix2 (y 2 : Fin 1024) (⟨128 * (y 1).val + (y 3).val, by
    have h1 : (y 1).val < 12 := (y 1).isLt
    have h3 : (y 3).val < 128 := (y 3).isLt
    omega⟩ : Fin 1536))

/-- One head's piece. -/
theorem slab_piece (M : FVec Ideal S1024x1536 .f32) (h : Fin 12) (hv : ℕ) (hh : hv = h.val) (o : ℕ) (ho : o = 128 * h.val)
    (inb : ∀ a, (![0, hv, 0, 0] : Fin 4 → ℕ) a + (![1, 1, 1024, 128] : Fin 4 → ℕ) a ≤ S1x12x1024x128.size a)
    (hs : S1024x1536.Slices ![0, o] S1024x128) (hb : FTy.bf16.bits < FTy.f32.bits) (hc : S1024x128.ShapeCasts S1x1x1024x128)
    (x : S1x1x1024x128.Idx) :
    shapeCast S1x1x1024x128 (truncf (F := Ideal) .bf16 (extractStridedSlice S1024x128 ![0, o] M hs) hb) hc x
      = placed M ((Rect.unit (s := S1x12x1024x128) ![0, hv, 0, 0] ![1, 1, 1024, 128] inb).emb x) := by
  subst hh ho
  obtain ⟨z, z', r, e, rfl⟩ : ∃ (z z' : Fin 1) (r : Fin 1024) (e : Fin 128), x = ix4 z z' r e := ⟨_, _, _, _, eq_ix4 x⟩
  have hz : z.val = 0 := by omega
  have hz' : z'.val = 0 := by omega
  rw [shapeCast_apply _ _ _ (ix2 r e) (by
    rw [Shape.rowMajor_val_two, Shape.rowMajor_val_four]
    show r.val * 128 + e.val = ((z.val * 1 + z'.val) * 1024 + r.val) * 128 + e.val
    omega), narrow_at]
  unfold placed
  refine extractStridedSlice_apply _ _ _ _ _ fun a => ?_
  match a with
  | ⟨0, _⟩ => show 0 + 1 * r.val = 0 + r.val; omega
  | ⟨1, _⟩ => show 128 * (h.val + 1 * z'.val) + (0 + 1 * e.val) = 128 * h.val + e.val; omega

/-- The twelve pieces of a block, of the rows and the weights cast. -/
noncomputable def pieces (v : Vec Ideal S1024x2048 .bf16) (w : Vec Ideal S2048x1536 .bf16) :
    List (View.Piece (Elt Ideal) S1x12x1024x128 .bf16) :=
  [⟨Rect.unit ![0, 11, 0, 0] ![1, 1, 1024, 128] inb_S1x12x1024x128_S1x1x1024x128_0_11_0_0, k0_pay2 (k0_pay4 v w)⟩,
    ⟨Rect.unit ![0, 10, 0, 0] ![1, 1, 1024, 128] inb_S1x12x1024x128_S1x1x1024x128_0_10_0_0, k0_pay1 (k0_pay16 (k0_pay4 v w))⟩,
    ⟨Rect.unit ![0, 9, 0, 0] ![1, 1, 1024, 128] inb_S1x12x1024x128_S1x1x1024x128_0_9_0_0, k0_pay15 (k0_pay4 v w)⟩,
    ⟨Rect.unit ![0, 8, 0, 0] ![1, 1, 1024, 128] inb_S1x12x1024x128_S1x1x1024x128_0_8_0_0, k0_pay14 (k0_pay4 v w)⟩,
    ⟨Rect.unit ![0, 7, 0, 0] ![1, 1, 1024, 128] inb_S1x12x1024x128_S1x1x1024x128_0_7_0_0, k0_pay13 (k0_pay4 v w)⟩,
    ⟨Rect.unit ![0, 6, 0, 0] ![1, 1, 1024, 128] inb_S1x12x1024x128_S1x1x1024x128_0_6_0_0, k0_pay12 (k0_pay4 v w)⟩,
    ⟨Rect.unit ![0, 5, 0, 0] ![1, 1, 1024, 128] inb_S1x12x1024x128_S1x1x1024x128_0_5_0_0, k0_pay11 (k0_pay4 v w)⟩,
    ⟨Rect.unit ![0, 4, 0, 0] ![1, 1, 1024, 128] inb_S1x12x1024x128_S1x1x1024x128_0_4_0_0, k0_pay10 (k0_pay9 v w)⟩,
    ⟨Rect.unit ![0, 3, 0, 0] ![1, 1, 1024, 128] inb_S1x12x1024x128_S1x1x1024x128_0_3_0_0, k0_pay8 v w⟩,
    ⟨Rect.unit ![0, 2, 0, 0] ![1, 1, 1024, 128] inb_S1x12x1024x128_S1x1x1024x128_0_2_0_0, k0_pay7 v w⟩,
    ⟨Rect.unit ![0, 1, 0, 0] ![1, 1, 1024, 128] inb_S1x12x1024x128_S1x1x1024x128_0_1_0_0, k0_pay6 v w⟩,
    ⟨Rect.unit ![0, 0, 0, 0] ![1, 1, 1024, 128] inb_S1x12x1024x128_S1x1x1024x128_0_0_0_0, k0_pay5 v w⟩]

theorem pieces_placed (v : Vec Ideal S1024x2048 .bf16) (w : Vec Ideal S2048x1536 .bf16) :
    ∀ p ∈ pieces v w, ∀ x : p.1.shape.Idx, p.2 x = placed (k0_pay4 v w) (p.1.emb x) := by
  unfold pieces
  refine List.forall_mem_cons.2 ⟨slab_piece (k0_pay4 v w) 11 11 rfl 1408 rfl inb_S1x12x1024x128_S1x1x1024x128_0_11_0_0 slices_S1024x1536_o0_1408_S1024x128 bitsLt_bf16_f32
    shapeCasts_S1024x128_S1x1x1024x128, ?_⟩
  refine List.forall_mem_cons.2 ⟨slab_piece (k0_pay4 v w) 10 10 rfl 1280 rfl inb_S1x12x1024x128_S1x1x1024x128_0_10_0_0 slices_S1024x1536_o0_1280_S1024x128 bitsLt_bf16_f32
    shapeCasts_S1024x128_S1x1x1024x128, ?_⟩
  refine List.forall_mem_cons.2 ⟨slab_piece (k0_pay4 v w) 9 9 rfl 1152 rfl inb_S1x12x1024x128_S1x1x1024x128_0_9_0_0 slices_S1024x1536_o0_1152_S1024x128 bitsLt_bf16_f32
    shapeCasts_S1024x128_S1x1x1024x128, ?_⟩
  refine List.forall_mem_cons.2 ⟨slab_piece (k0_pay4 v w) 8 8 rfl 1024 rfl inb_S1x12x1024x128_S1x1x1024x128_0_8_0_0 slices_S1024x1536_o0_1024_S1024x128 bitsLt_bf16_f32
    shapeCasts_S1024x128_S1x1x1024x128, ?_⟩
  refine List.forall_mem_cons.2 ⟨slab_piece (k0_pay4 v w) 7 7 rfl 896 rfl inb_S1x12x1024x128_S1x1x1024x128_0_7_0_0 slices_S1024x1536_o0_896_S1024x128 bitsLt_bf16_f32
    shapeCasts_S1024x128_S1x1x1024x128, ?_⟩
  refine List.forall_mem_cons.2 ⟨slab_piece (k0_pay4 v w) 6 6 rfl 768 rfl inb_S1x12x1024x128_S1x1x1024x128_0_6_0_0 slices_S1024x1536_o0_768_S1024x128 bitsLt_bf16_f32
    shapeCasts_S1024x128_S1x1x1024x128, ?_⟩
  refine List.forall_mem_cons.2 ⟨slab_piece (k0_pay4 v w) 5 5 rfl 640 rfl inb_S1x12x1024x128_S1x1x1024x128_0_5_0_0 slices_S1024x1536_o0_640_S1024x128 bitsLt_bf16_f32
    shapeCasts_S1024x128_S1x1x1024x128, ?_⟩
  refine List.forall_mem_cons.2 ⟨slab_piece (k0_pay4 v w) 4 4 rfl 512 rfl inb_S1x12x1024x128_S1x1x1024x128_0_4_0_0 slices_S1024x1536_o0_512_S1024x128 bitsLt_bf16_f32
    shapeCasts_S1024x128_S1x1x1024x128, ?_⟩
  refine List.forall_mem_cons.2 ⟨slab_piece (k0_pay4 v w) 3 3 rfl 384 rfl inb_S1x12x1024x128_S1x1x1024x128_0_3_0_0 slices_S1024x1536_o0_384_S1024x128 bitsLt_bf16_f32
    shapeCasts_S1024x128_S1x1x1024x128, ?_⟩
  refine List.forall_mem_cons.2 ⟨slab_piece (k0_pay4 v w) 2 2 rfl 256 rfl inb_S1x12x1024x128_S1x1x1024x128_0_2_0_0 slices_S1024x1536_o0_256_S1024x128 bitsLt_bf16_f32
    shapeCasts_S1024x128_S1x1x1024x128, ?_⟩
  refine List.forall_mem_cons.2 ⟨slab_piece (k0_pay4 v w) 1 1 rfl 128 rfl inb_S1x12x1024x128_S1x1x1024x128_0_1_0_0 slices_S1024x1536_o0_128_S1024x128 bitsLt_bf16_f32
    shapeCasts_S1024x128_S1x1x1024x128, ?_⟩
  refine List.forall_mem_cons.2 ⟨slab_piece (k0_pay4 v w) 0 0 rfl 0 rfl inb_S1x12x1024x128_S1x1x1024x128_0_0_0_0 slices_S1024x1536_o0_0_S1024x128 bitsLt_bf16_f32
    shapeCasts_S1024x128_S1x1x1024x128, ?_⟩
  exact fun _ h => absurd h List.not_mem_nil

/-- The offsets of a whole block. -/
theorem hz : (![0, 0] : Fin 2 → Nat) = fun _ => 0 := funext fun a => by fin_cases a <;> rfl

/-- The same on three axes. -/
theorem hz3 : (![0, 0, 0] : Fin 3 → Nat) = fun _ => 0 := funext fun a => by fin_cases a <;> rfl

section
variable (c : Dev nD) (i : grid0.Coords) (arg2 : Memref sig .tc .vmem S1024x2048 .bf16) (harg2 : arg2.IsWhole)
  (arg3 : Memref sig .tc .vmem S1x2048x1536 .f32) (harg3 : arg3.IsWhole) (arg4 : Memref sig .tc .vmem S1x1536 .f32) (harg4 : arg4.IsWhole)
  (arg5 : Memref sig .tc .vmem S1x12x1024x128 .bf16) (harg5 : arg5.IsWhole) (arg6 : Memref sig .tc .vmem S2048x1536 .bf16) (harg6 : arg6.IsWhole)
  (x0 : Vec Ideal S1024x2048 .bf16) (x1 : Vec Ideal S1x2048x1536 .f32) (x2 : Vec Ideal S1x1536 .f32) (xs0 : Vec Ideal S2048x1536 .bf16)

/-- The pieces of a point that casts the weights. -/
theorem pieces_A (hc0) : (kernelRun0_A (F := Ideal) c i arg2 harg2 arg3 harg3 arg4 harg4 arg5 harg5 arg6 harg6 hc0 x0 x1 x2).1
    = pieces x0 (k0_pay3 x1) := by
  have e2 : View.readAt (Elt Ideal) arg2.view (Rect.unit ![0, 0] ![1024, 2048] inb_S1024x2048_S1024x2048_0_0).toLoadRect
      (harg2.unread x0) = x0 := by
    rw [View.readAt_eq_ld, harg2.read_unread]
    exact View.ld_unit_zero hz _ _
  have e4 : kernelRun0_A.sl.v4 (F := Ideal) c arg3 harg3 arg6 x1 = k0_pay3 x1 := by
    unfold kernelRun0_A.sl.v4 kernelRun0_A.sl.HS0_1
    rw [View.readCov_unit_zero _ hz, View.readAt_eq_ld, harg3.read_unread, View.ld_unit_zero hz3]
  unfold kernelRun0_A
  dsimp only
  unfold kernelRun0_A.sl.r kernelRun0_A.sl.r_1 kernelRun0_A.sl.r_2
  try unfold kernelRun0_A.sl.r
  rw [e2, e4]
  rfl

/-- The pieces of a point that finds the weights cast. -/
theorem pieces_B (hc0) : (kernelRun0_B (F := Ideal) c i arg2 harg2 arg3 harg3 arg4 harg4 arg5 harg5 arg6 harg6 hc0 x0 x1 x2 xs0).1
    = pieces x0 xs0 := by
  have e2 : View.readAt (Elt Ideal) arg2.view (Rect.unit ![0, 0] ![1024, 2048] inb_S1024x2048_S1024x2048_0_0).toLoadRect
      (harg2.unread x0) = x0 := by
    rw [View.readAt_eq_ld, harg2.read_unread]
    exact View.ld_unit_zero hz _ _
  have e6 : View.readAt (Elt Ideal) arg6.view (Rect.unit ![0, 0] ![2048, 1536] inb_S2048x1536_S2048x1536_0_0).toLoadRect
      (harg6.unread xs0) = xs0 := by
    rw [View.readAt_eq_ld, harg6.read_unread]
    exact View.ld_unit_zero hz _ _
  unfold kernelRun0_B
  dsimp only
  unfold kernelRun0_B.sl.r kernelRun0_B.sl.r_1 kernelRun0_B.sl.r_2
  try unfold kernelRun0_B.sl.r
  rw [e2, e6]
  rfl

/-- The output block of a point that casts the weights. -/
theorem out_A (hc0) : out0_A_3 (F := Ideal) c i arg2 harg2 arg3 harg3 arg4 harg4 arg5 harg5 arg6 harg6 hc0 x0 x1 x2
    = placed (k0_pay4 x0 (k0_pay3 x1)) := by
  funext y
  unfold out0_A_3
  rw [View.read_writes_junk_eq_canon]
  exact View.canon_apply_of_pieces _ _ (by rw [pieces_A]; exact pieces_placed x0 (k0_pay3 x1)) y
    (cover0_A_3 c i arg2 harg2 arg3 harg3 arg4 harg4 arg5 harg5 arg6 harg6 hc0 x0 x1 x2 y)

/-- The output block of a point that finds the weights cast. -/
theorem out_B (hc0) : out0_B_3 (F := Ideal) c i arg2 harg2 arg3 harg3 arg4 harg4 arg5 harg5 arg6 harg6 hc0 x0 x1 x2 xs0
    = placed (k0_pay4 x0 xs0) := by
  funext y
  unfold out0_B_3
  rw [View.read_writes_junk_eq_canon]
  exact View.canon_apply_of_pieces _ _ (by rw [pieces_B]; exact pieces_placed x0 xs0) y
    (cover0_B_3 c i arg2 harg2 arg3 harg3 arg4 harg4 arg5 harg5 arg6 harg6 hc0 x0 x1 x2 xs0 y)

/-- The weights a casting point keeps. -/
theorem keep_A (hc0) : sout0_A_0 (F := Ideal) c i arg2 harg2 arg3 harg3 arg4 harg4 arg5 harg5 arg6 harg6 hc0 x0 x1 x2 = k0_pay3 x1 := by
  unfold sout0_A_0
  rw [View.read_writes_junk_eq_canon]
  unfold kernelRun0_A
  dsimp only
  unfold kernelRun0_A.sl.HS0_1
  rw [View.canon_unit_zero hz, View.readAt_eq_ld, harg3.read_unread, View.ld_unit_zero hz3]

end

/-- The weights cast, at an index. -/
theorem cast_at (x : Vec Ideal S1x2048x1536 .f32) (k : Fin 2048) (n : Fin 1536) :
    k0_pay3 (F := Ideal) x (ix2 k n) = x (ix3 (0 : Fin 1) k n) := by
  unfold k0_pay3
  rw [shapeCast_apply _ _ _ (ix2 k n) rfl, narrow_at, shapeCast_apply _ _ _ (ix3 (0 : Fin 1) k n) (by
    rw [Shape.rowMajor_val_two, Shape.rowMajor_val_three]
    show (0 * 2048 + k.val) * 1536 + n.val = k.val * 1536 + n.val
    omega)]

/-- The block of each window at a grid point. -/
theorem idx_facts : ∀ t : Fin cfg0.N,
    (win0_0.index t (0 : Fin 2) = t.val % 16 ∧ win0_0.index t (1 : Fin 2) = 0)
    ∧ (win0_1.index t (0 : Fin 3) = 0 ∧ win0_1.index t (1 : Fin 3) = 0
      ∧ win0_1.index t (2 : Fin 3) = 8192 + 1536 * (t.val / 16))
    ∧ (win0_3.index t (0 : Fin 4) = t.val % 16 / 2 ∧ win0_3.index t (1 : Fin 4) = t.val / 16
      ∧ win0_3.index t (2 : Fin 4) = t.val % 2 ∧ win0_3.index t (3 : Fin 4) = 0) :=
  (by decide +kernel : ∀ t : Fin grid0.N, _)

/-- Every block of the result has its grid point, which writes it back. -/
theorem point_of : ∀ (a : Fin 16) (j : Fin 3), ∃ t : Fin cfg0.N,
    t.val % 16 = a.val ∧ t.val / 16 = j.val ∧ (cfg0.win 3).flush t = true :=
  (by decide +kernel : ∀ (a : Fin 16) (j : Fin 3), ∃ t : Fin grid0.N,
    t.val % 16 = a.val ∧ t.val / 16 = j.val ∧ win0_3.flush t = true)

/-- There are three blocks of columns. -/
theorem points (n : ℕ) (hn : n < cfg0.N) : n / 16 < 3 := by
  have := lt_of_lt_of_eq hn (show cfg0.N = 48 from N_0)
  omega

variable (m : (ℓ : Loc nD τ sig) → Buf (Elt Ideal) ℓ) (c : Dev nD)

/-- The rows a grid point is given. -/
theorem rows_at (t : Fin cfg0.N) (r : Fin 1024) (k : Fin 2048) :
    iblk m c 0 t (ix2 r k) = m ((c.tc : Thread nD τ).loc main_arg0)
      (ix2 (⟨1024 * (t.val % 16) + r.val, by omega⟩ : Fin 16384) k) := by
  show V m c main_arg0 (((cfg0.win 0).blk t).view.emb (ix2 r k)) = _
  obtain ⟨⟨e0, e1⟩, -, -⟩ := idx_facts t
  rw [V_main_arg0]
  refine congrArg (m ((c.tc : Thread nD τ).loc main_arg0)) (funext fun a => Fin.ext ?_)
  match a with
  | ⟨0, _⟩ => show win0_0.index t (0 : Fin 2) * 1024 + 1 * r.val = 1024 * (t.val % 16) + r.val; omega
  | ⟨1, _⟩ => show win0_0.index t (1 : Fin 2) * 2048 + 1 * k.val = k.val; omega

/-- The columns it is given. -/
theorem columns_at (t : Fin cfg0.N) (k : Fin 2048) (n : Fin 1536) :
    iblk m c 1 t (ix3 (0 : Fin 1) k n) = m ((c.tc : Thread nD τ).loc main_arg1)
      (ix3 (0 : Fin 1) k (⟨8192 + 1536 * (t.val / 16) + n.val, by have := points t.val t.isLt; omega⟩ : Fin 16896)) := by
  show V m c main_arg1 (((cfg0.win 1).blk t).view.emb (ix3 (0 : Fin 1) k n)) = _
  obtain ⟨-, ⟨e0, e1, e2⟩, -⟩ := idx_facts t
  rw [V_main_arg1]
  refine congrArg (m ((c.tc : Thread nD τ).loc main_arg1)) (funext fun a => Fin.ext ?_)
  match a with
  | ⟨0, _⟩ => show win0_1.index t (0 : Fin 3) + 1 * 0 = 0; omega
  | ⟨1, _⟩ => show win0_1.index t (1 : Fin 3) + 1 * k.val = k.val; omega
  | ⟨2, _⟩ => show win0_1.index t (2 : Fin 3) + 1 * n.val = 8192 + 1536 * (t.val / 16) + n.val; omega

/-- The weights a casting point keeps. -/
theorem kept_A (t : Fin cfg0.N) (h0 : t.val % 16 = 0) : (outsAt0 m c t.val t.isLt).2 = k0_pay3 (iblk m c 1 t) := by
  rw [outsAt0_A m c t h0]
  dsimp only
  rw [keep_A]

/-- Any other point keeps what it found. -/
theorem kept_B (t : Fin cfg0.N) (h0 : ¬t.val % 16 = 0) : (outsAt0 m c t.val t.isLt).2
    = (outsAt0 m c (t.val - 1) (Nat.lt_of_le_of_lt (Nat.sub_le _ _) t.isLt)).2 := by
  rw [outsAt0_B m c t h0]
  dsimp only
  unfold sout0_B_0
  rfl

/-- The output of a casting point. -/
theorem left_A (t : Fin cfg0.N) (h0 : t.val % 16 = 0) :
    (outsAt0 m c t.val t.isLt).1 = placed (k0_pay4 (iblk m c 0 t) (k0_pay3 (iblk m c 1 t))) := by
  rw [outsAt0_A m c t h0]
  dsimp only
  rw [out_A]

/-- The output of any other point. -/
theorem left_B (t : Fin cfg0.N) (h0 : ¬t.val % 16 = 0) : (outsAt0 m c t.val t.isLt).1
    = placed (k0_pay4 (iblk m c 0 t) (outsAt0 m c (t.val - 1) (Nat.lt_of_le_of_lt (Nat.sub_le _ _) t.isLt)).2) := by
  rw [outsAt0_B m c t h0]
  dsimp only
  rw [out_B]

attribute [local irreducible] outsAt0 iblk

/-- The weights kept after a point, by the point before. -/
theorem kept_step (n : ℕ) (hn : n + 1 < cfg0.N) (h0 : ¬(n + 1) % 16 = 0) :
    (outsAt0 m c (n + 1) hn).2 = (outsAt0 m c n (Nat.lt_of_succ_lt hn)).2 :=
  kept_B m c ⟨n + 1, hn⟩ h0

/-- After a grid point the kept weights are those of its columns. -/
theorem kept_at (n : ℕ) : ∀ (hn : n < cfg0.N) (k : Fin 2048) (q : Fin 1536),
    (outsAt0 m c n hn).2 (ix2 k q) = m ((c.tc : Thread nD τ).loc main_arg1)
      (ix3 (0 : Fin 1) k (⟨8192 + 1536 * (n / 16) + q.val, by have := points n hn; omega⟩ : Fin 16896)) := by
  induction n with
  | zero =>
    intro hn k q
    exact (congrFun (kept_A m c ⟨0, hn⟩ rfl) (ix2 k q)).trans ((cast_at _ k q).trans (columns_at m c ⟨0, hn⟩ k q))
  | succ n ih =>
    intro hn k q
    by_cases h0 : (n + 1) % 16 = 0
    · exact (congrFun (kept_A m c ⟨n + 1, hn⟩ h0) (ix2 k q)).trans ((cast_at _ k q).trans (columns_at m c ⟨n + 1, hn⟩ k q))
    · rw [kept_step m c n hn h0, ih]
      refine congrArg (fun z => m ((c.tc : Thread nD τ).loc main_arg1) (ix3 (0 : Fin 1) k z)) (Fin.ext ?_)
      show 8192 + 1536 * (n / 16) + q.val = 8192 + 1536 * ((n + 1) / 16) + q.val
      omega

/-- A head's channel at a batch and a row. -/
noncomputable def channel (b : Fin 8) (h : Fin 36) (u : Fin 2048) (e : Fin 128) : EReal :=
  entry (m ((c.tc : Thread nD τ).loc main_arg0)) (m ((c.tc : Thread nD τ).loc main_arg1))
    (⟨2048 * b.val + u.val, by omega⟩ : Fin 16384) (⟨8192 + (128 * h.val + e.val), by omega⟩ : Fin 16896)

/-- What a grid point leaves in its output block. -/
theorem point_at (t : Fin cfg0.N) (h : Fin 12) (r : Fin 1024) (e : Fin 128) :
    (outsAt0 m c t.val t.isLt).1 (ix4 (0 : Fin 1) h r e)
    = channel m c (⟨t.val % 16 / 2, by omega⟩ : Fin 8)
        (⟨12 * (t.val / 16) + h.val, by have := points t.val t.isLt; omega⟩ : Fin 36)
        (⟨1024 * (t.val % 2) + r.val, by omega⟩ : Fin 2048) e := by
  have hp := points t.val t.isLt
  have hg : ∀ w : Vec Ideal S2048x1536 .bf16, (∀ k, w (ix2 k (⟨128 * h.val + e.val, by omega⟩ : Fin 1536))
      = m ((c.tc : Thread nD τ).loc main_arg1) (ix3 (0 : Fin 1) k
        (⟨8192 + 1536 * (t.val / 16) + (128 * h.val + e.val), by omega⟩ : Fin 16896))) →
      placed (k0_pay4 (F := Ideal) (iblk m c 0 t) w) (ix4 (0 : Fin 1) h r e)
      = channel m c (⟨t.val % 16 / 2, by omega⟩ : Fin 8)
        (⟨12 * (t.val / 16) + h.val, by omega⟩ : Fin 36)
        (⟨1024 * (t.val % 2) + r.val, by omega⟩ : Fin 2048) e := by
    intro w hw
    unfold placed channel entry k0_pay4
    refine (matmul_at dot_S1024x2048_S2048x1536_S1024x1536_1_0_0_1_n_n rfl (iblk m c 0 t) w r
      (⟨128 * h.val + e.val, by omega⟩ : Fin 1536)).trans ?_
    refine Finset.sum_congr rfl fun k _ => congrArg₂ (· * ·) ((rows_at m c t r k).trans ?_) ((hw k).trans ?_)
    · refine congrArg (fun z => m ((c.tc : Thread nD τ).loc main_arg0) (ix2 z k)) (Fin.ext ?_)
      show 1024 * (t.val % 16) + r.val = 2048 * (t.val % 16 / 2) + (1024 * (t.val % 2) + r.val)
      omega
    · refine congrArg (fun z => m ((c.tc : Thread nD τ).loc main_arg1) (ix3 (0 : Fin 1) k z)) (Fin.ext ?_)
      show 8192 + 1536 * (t.val / 16) + (128 * h.val + e.val) = 8192 + (128 * (12 * (t.val / 16) + h.val) + e.val)
      omega
  by_cases h0 : t.val % 16 = 0
  · rw [left_A m c t h0]
    exact hg _ fun k => (cast_at _ k _).trans (columns_at m c t k _)
  · rw [left_B m c t h0]
    refine hg _ fun k => (kept_at m c _ _ k _).trans ?_
    refine congrArg (fun z => m ((c.tc : Thread nD τ).loc main_arg1) (ix3 (0 : Fin 1) k z)) (Fin.ext ?_)
    show 8192 + 1536 * ((t.val - 1) / 16) + (128 * h.val + e.val) = 8192 + 1536 * (t.val / 16) + (128 * h.val + e.val)
    omega

/-- The array after the run. -/
theorem final_at (a : Fin 16) (j : Fin 3) (h : Fin 12) (r : Fin 1024) (e : Fin 128) :
    ((dats m 0 c).arrAt 3 cfg0.N : S8x36x2048x128.Idx → EReal)
      (ix4 (⟨a.val / 2, by omega⟩ : Fin 8) (⟨12 * j.val + h.val, by omega⟩ : Fin 36)
        (⟨1024 * (a.val % 2) + r.val, by omega⟩ : Fin 2048) e)
      = channel m c (⟨a.val / 2, by omega⟩ : Fin 8) (⟨12 * j.val + h.val, by omega⟩ : Fin 36)
        (⟨1024 * (a.val % 2) + r.val, by omega⟩ : Fin 2048) e := by
  obtain ⟨t, ha, hj, hf⟩ := point_of a j
  have k := congrFun (Cert.HeadsIdeal.Value.blocks3 m c t hf) (ix4 (0 : Fin 1) h r e)
  rw [Cert.HeadsIdeal.Value.flushed3] at k
  have k' : (dats m 0 c).arrAt 3 cfg0.N (((cfg0.win 3).blk t).view.emb (ix4 (0 : Fin 1) h r e))
    = (outsAt0 m c t.val t.isLt).1 (ix4 (0 : Fin 1) h r e) := k
  obtain ⟨-, -, e0, e1, e2, e3⟩ := idx_facts t
  rw [show ((cfg0.win 3).blk t).view.emb (ix4 (0 : Fin 1) h r e)
      = (ix4 (⟨a.val / 2, by omega⟩ : Fin 8) (⟨12 * j.val + h.val, by omega⟩ : Fin 36)
        (⟨1024 * (a.val % 2) + r.val, by omega⟩ : Fin 2048) e : S8x36x2048x128.Idx) from by
    funext a'
    apply Fin.ext
    match a' with
    | ⟨0, _⟩ => show win0_3.index t (0 : Fin 4) * 1 + 1 * 0 = a.val / 2; omega
    | ⟨1, _⟩ => show win0_3.index t (1 : Fin 4) * 12 + 1 * h.val = 12 * j.val + h.val; omega
    | ⟨2, _⟩ => show win0_3.index t (2 : Fin 4) * 1024 + 1 * r.val = 1024 * (a.val % 2) + r.val; omega
    | ⟨3, _⟩ => show win0_3.index t (3 : Fin 4) * 128 + 1 * e.val = e.val; omega] at k'
  refine k'.trans ((point_at m c t h r e).trans ?_)
  have p0 : (⟨t.val % 16 / 2, by omega⟩ : Fin 8) = (⟨a.val / 2, by omega⟩ : Fin 8) := Fin.ext (by dsimp only; omega)
  have p1 : (⟨12 * (t.val / 16) + h.val, by have := points t.val t.isLt; omega⟩ : Fin 36)
      = (⟨12 * j.val + h.val, by omega⟩ : Fin 36) := Fin.ext (by dsimp only; omega)
  have p2 : (⟨1024 * (t.val % 2) + r.val, by omega⟩ : Fin 2048)
      = (⟨1024 * (a.val % 2) + r.val, by omega⟩ : Fin 2048) := Fin.ext (by dsimp only; omega)
  rw [p0, p1, p2]

/-- At any batch, head, row and channel. -/
theorem final_apply (b : Fin 8) (h : Fin 36) (u : Fin 2048) (e : Fin 128) :
    ((dats m 0 c).arrAt 3 cfg0.N : S8x36x2048x128.Idx → EReal) (ix4 b h u e) = channel m c b h u e := by
  have k := final_at m c (⟨2 * b.val + u.val / 1024, by omega⟩ : Fin 16) (⟨h.val / 12, by omega⟩ : Fin 3)
    (⟨h.val % 12, by omega⟩ : Fin 12) (⟨u.val % 1024, by omega⟩ : Fin 1024) e
  have p0 : (⟨(2 * b.val + u.val / 1024) / 2, by omega⟩ : Fin 8) = b := Fin.ext (by dsimp only; omega)
  have p1 : (⟨12 * (h.val / 12) + h.val % 12, by omega⟩ : Fin 36) = h := Fin.ext (by dsimp only; omega)
  have p2 : (⟨1024 * ((2 * b.val + u.val / 1024) % 2) + u.val % 1024, by omega⟩ : Fin 2048) = u := Fin.ext (by dsimp only; omega)
  rw [p0, p1, p2] at k
  exact k

end Cert.Head
-- ==== Proof.Both.lean ====
/-  The references of the two projections at an index, and their agreement with the kernel's arrays. -/
module

public import proofs.«01_k».proof.Proof.Gate
public import proofs.«01_k».proof.Proof.Head
public import proofs.«01_k».proof.Proof.Gen.GatesReferenceIdeal.Run
public import proofs.«01_k».proof.Proof.Gen.HeadsReferenceIdeal.Run

@[expose] public section

namespace Cert.Proj

open Idealize.ShloMosaic Idealize.ShloMosaic.ValueIdx
open Idealize.ShloMosaic.TcCoe
open scoped BigOperators

section Gates
open Cert.GatesReferenceIdeal Cert.GatesReferenceIdeal.Gen

/-- The gates, written plainly. -/
noncomputable def gatesRef (h : S16384x2048.Idx → EReal) (w : S1x2048x16896.Idx → EReal) : S16384x4096.Idx → EReal :=
  truncf (F := Ideal) (φ := .f32) .bf16 (Host.divf (F := Ideal) (φ := .f32)
    (broadcastInDim S16384x4096 ![] bcast_S_S16384x4096 (constant (F := Ideal) S_ .f32 0x3F800000#32))
    (addf (F := Ideal) (φ := .f32)
      (broadcastInDim S16384x4096 ![] bcast_S_S16384x4096 (constant (F := Ideal) S_ .f32 0x3F800000#32))
      (Host.exp (F := Ideal) (φ := .f32) (Host.negf (F := Ideal) (φ := .f32)
        (Host.dotGeneral (F := Ideal) (φ₁ := .f32) (φ₂ := .f32) dot_S16384x2048_S2048x4096_S16384x4096_1_0_0_1_n_n none
          (extf (F := Ideal) (φ := .bf16) .f32 h bitsLt_bf16_f32)
          (shapeCast _ (extractStridedSlice S1x2048x4096 ![0, 0, 12800] w slices_S1x2048x16896_S1x2048x4096_0_0_12800)
            shapeCasts_S1x2048x4096_S2048x4096)))))) bitsLt_bf16_f32

/-- The constant one spread over the array. -/
theorem one_at (i : S16384x4096.Idx) :
    broadcastInDim S16384x4096 ![] bcast_S_S16384x4096 (constant (F := Ideal) S_ .f32 0x3F800000#32) i = (1 : EReal) :=
  (broadcastInDim_scalar_apply _ _ _).trans one_word

/-- The plain gates at an index. -/
theorem gatesRef_apply (h : S16384x2048.Idx → EReal) (w : S1x2048x16896.Idx → EReal) (r : Fin 16384) (n : Fin 4096) :
    gatesRef h w (ix2 r n) = Ideal.logistic (entry h w r (⟨12800 + n.val, by omega⟩ : Fin 16896)) := by
  unfold gatesRef
  rw [narrow_at, logistic_at _ _ _ _ (one_at _) (one_at _)]
  refine congrArg Ideal.logistic ((dot_at dot_S16384x2048_S2048x4096_S16384x4096_1_0_0_1_n_n rfl _ _ r n).trans ?_)
  unfold entry
  exact Finset.sum_congr rfl fun k _ => congrArg₂ (· * ·) (widen_at h _ _) (columns_of w _ _ k n _)

end Gates

section Heads
open Cert.HeadsReferenceIdeal Cert.HeadsReferenceIdeal.Gen

/-- The heads, written plainly. -/
noncomputable def headsRef (h : S16384x2048.Idx → EReal) (w : S1x2048x16896.Idx → EReal) : S8x36x2048x128.Idx → EReal :=
  truncf (F := Ideal) (φ := .f32) .bf16 (transpose S8x36x2048x128 [0, 2, 1, 3] (shapeCast S8x2048x36x128
    (Host.dotGeneral (F := Ideal) (φ₁ := .f32) (φ₂ := .f32) dot_S16384x2048_S2048x4608_S16384x4608_1_0_0_1_n_n none
      (extf (F := Ideal) (φ := .bf16) .f32 h bitsLt_bf16_f32)
      (shapeCast _ (extractStridedSlice S1x2048x4608 ![0, 0, 8192] w slices_S1x2048x16896_S1x2048x4608_0_0_8192)
        shapeCasts_S1x2048x4608_S2048x4608)) shapeCasts_S16384x4608_S8x2048x36x128)
    transposes_S8x2048x36x128_S8x36x2048x128_0_2_1_3) bitsLt_bf16_f32

/-- The plain heads at an index. -/
theorem headsRef_apply (h : S16384x2048.Idx → EReal) (w : S1x2048x16896.Idx → EReal) (b : Fin 8) (a : Fin 36) (u : Fin 2048)
    (e : Fin 128) : headsRef h w (ix4 b a u e)
      = entry h w (⟨2048 * b.val + u.val, by omega⟩ : Fin 16384) (⟨8192 + (128 * a.val + e.val), by omega⟩ : Fin 16896) := by
  unfold headsRef
  rw [narrow_at, transpose_apply _ _ _ _ (ix4 b u a e) (by
    intro q
    match q with
    | ⟨0, _⟩ => rfl
    | ⟨1, _⟩ => rfl
    | ⟨2, _⟩ => rfl
    | ⟨3, _⟩ => rfl)]
  rw [shapeCast_apply _ _ _ (ix2 (⟨2048 * b.val + u.val, by omega⟩ : Fin 16384) (⟨128 * a.val + e.val, by omega⟩ : Fin 4608)) (by
    rw [Shape.rowMajor_val_two, Shape.rowMajor_val_four]
    show (2048 * b.val + u.val) * 4608 + (128 * a.val + e.val) = ((b.val * 2048 + u.val) * 36 + a.val) * 128 + e.val
    omega)]
  refine (dot_at dot_S16384x2048_S2048x4608_S16384x4608_1_0_0_1_n_n rfl _ _ _ _).trans ?_
  unfold entry
  exact Finset.sum_congr rfl fun k _ => congrArg₂ (· * ·) (widen_at h _ _) (columns_of w _ _ k _ _)

end Heads

/-- The kernel's array of gates is the reference's result of its arguments. -/
theorem gates_whole (m : (ℓ : Loc Cert.GatesIdeal.nD Cert.GatesIdeal.τ Cert.GatesIdeal.sig) → Buf (Elt Ideal) ℓ)
    (c : Dev Cert.GatesIdeal.nD) :
    gatesRef (m ((c.tc : Thread Cert.GatesIdeal.nD Cert.GatesIdeal.τ).loc Cert.GatesIdeal.main_arg0))
        (m ((c.tc : Thread Cert.GatesIdeal.nD Cert.GatesIdeal.τ).loc Cert.GatesIdeal.main_arg1))
      = (Cert.GatesIdeal.Gen.dats m 0 c).arrAt 3 Cert.GatesIdeal.cfg0.N := by
  funext j
  rw [eq_ix2 j]
  exact (gatesRef_apply _ _ (j 0) (j 1)).trans (Cert.Gate.final_apply m c (j 0) (j 1)).symm

/-- The kernel's array of heads is the reference's result of its arguments. -/
theorem heads_whole (m : (ℓ : Loc Cert.HeadsIdeal.nD Cert.HeadsIdeal.τ Cert.HeadsIdeal.sig) → Buf (Elt Ideal) ℓ)
    (c : Dev Cert.HeadsIdeal.nD) :
    headsRef (m ((c.tc : Thread Cert.HeadsIdeal.nD Cert.HeadsIdeal.τ).loc Cert.HeadsIdeal.main_arg0))
        (m ((c.tc : Thread Cert.HeadsIdeal.nD Cert.HeadsIdeal.τ).loc Cert.HeadsIdeal.main_arg1))
      = (Cert.HeadsIdeal.Gen.dats m 0 c).arrAt 3 Cert.HeadsIdeal.cfg0.N := by
  funext j
  rw [eq_ix4 j]
  exact (headsRef_apply _ _ (j 0) (j 1) (j 2) (j 3)).trans (Cert.Head.final_apply m c (j 0) (j 1) (j 2) (j 3)).symm

/-- A run of the plain gates ends with the kernel's array when the arguments agree. -/
theorem gates_agree (m : (ℓ : Loc Cert.GatesIdeal.nD Cert.GatesIdeal.τ Cert.GatesIdeal.sig) → Buf (Elt Ideal) ℓ)
    (m' : (ℓ : Loc Cert.GatesReferenceIdeal.nD Cert.GatesReferenceIdeal.τ Cert.GatesReferenceIdeal.sig) → Buf (Elt Ideal) ℓ) (c : Dev Cert.GatesIdeal.nD)
    (h0 : m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0))
    (h1 : m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)) :
    gatesRef (m' ((c.tc : Thread Cert.GatesReferenceIdeal.nD Cert.GatesReferenceIdeal.τ).loc Cert.GatesReferenceIdeal.main_arg0)) (m' ((c.tc : Thread Cert.GatesReferenceIdeal.nD Cert.GatesReferenceIdeal.τ).loc Cert.GatesReferenceIdeal.main_arg1))
      = (Cert.GatesIdeal.Gen.dats m 0 c).arrAt 3 Cert.GatesIdeal.cfg0.N :=
  (congrArg₂ gatesRef h0 h1).trans (gates_whole m c)

/-- A run of the plain heads ends with the kernel's array when the arguments agree. -/
theorem heads_agree (m : (ℓ : Loc Cert.HeadsIdeal.nD Cert.HeadsIdeal.τ Cert.HeadsIdeal.sig) → Buf (Elt Ideal) ℓ)
    (m' : (ℓ : Loc Cert.HeadsReferenceIdeal.nD Cert.HeadsReferenceIdeal.τ Cert.HeadsReferenceIdeal.sig) → Buf (Elt Ideal) ℓ) (c : Dev Cert.HeadsIdeal.nD)
    (h0 : m' ((c.tc : Thread Cert.HeadsReferenceIdeal.nD Cert.HeadsReferenceIdeal.τ).loc Cert.HeadsReferenceIdeal.main_arg0) = m ((c.tc : Thread Cert.HeadsIdeal.nD Cert.HeadsIdeal.τ).loc Cert.HeadsIdeal.main_arg0))
    (h1 : m' ((c.tc : Thread Cert.HeadsReferenceIdeal.nD Cert.HeadsReferenceIdeal.τ).loc Cert.HeadsReferenceIdeal.main_arg1) = m ((c.tc : Thread Cert.HeadsIdeal.nD Cert.HeadsIdeal.τ).loc Cert.HeadsIdeal.main_arg1)) :
    headsRef (m' ((c.tc : Thread Cert.HeadsReferenceIdeal.nD Cert.HeadsReferenceIdeal.τ).loc Cert.HeadsReferenceIdeal.main_arg0)) (m' ((c.tc : Thread Cert.HeadsReferenceIdeal.nD Cert.HeadsReferenceIdeal.τ).loc Cert.HeadsReferenceIdeal.main_arg1))
      = (Cert.HeadsIdeal.Gen.dats m 0 c).arrAt 3 Cert.HeadsIdeal.cfg0.N :=
  (congrArg₂ headsRef h0 h1).trans (heads_whole m c)

end Cert.Proj
-- ==== Proof.Slab.lean ====
/-  What the calls of the projections share: weights carried from the first of sixteen grid points, and heads stored side
    by side. -/
module

public import proofs.«01_k».proof.Proof.Proj

@[expose] public section

namespace Cert.Proj

open Idealize.ShloMosaic Idealize.ShloMosaic.ValueIdx
open scoped BigOperators

/-- What every `p`-th point sets, and the points between keep, is at each point what is set for its `p`. -/
theorem carried {N p : ℕ} {β : Type} (S W : (n : ℕ) → n < N → β)
    (hA : ∀ n h, n % p = 0 → S n h = W n h)
    (hB : ∀ n h, ¬n % p = 0 → S n h = S (n - 1) (Nat.lt_of_le_of_lt (Nat.sub_le _ _) h))
    (hW : ∀ n h, ¬n % p = 0 → W n h = W (n - 1) (Nat.lt_of_le_of_lt (Nat.sub_le _ _) h)) :
    ∀ n h, S n h = W n h := by
  intro n
  induction n with
  | zero => exact fun h => hA 0 h (Nat.zero_mod p)
  | succ n ih =>
    intro h
    by_cases h0 : (n + 1) % p = 0
    · exact hA _ h h0
    · rw [hB _ h h0, hW _ h h0]
      exact ih _

/-- The offsets of a whole block. -/
theorem hz2 : (![0, 0] : Fin 2 → Nat) = fun _ => 0 := funext fun a => by fin_cases a <;> rfl

/-- The same on three axes. -/
theorem hz3 : (![0, 0, 0] : Fin 3 → Nat) = fun _ => 0 := funext fun a => by fin_cases a <;> rfl

/-- A row of a block of the input against a column of a block of the weights. -/
noncomputable def rowdot (x : (⟨2, ![1024, 2048]⟩ : Shape).Idx → EReal) (w : (⟨2, ![2048, 1024]⟩ : Shape).Idx → EReal)
    (r n : Fin 1024) : EReal :=
  ∑ k : Fin 2048, x (ix2 r k) * w (ix2 k n)

/-- A block's columns, 128 to each head. -/
noncomputable def placed {R H C : ℕ} (hC : 128 * H ≤ C) (M : (⟨2, ![R, C]⟩ : Shape).Idx → EReal)
    (y : (⟨4, ![1, H, R, 128]⟩ : Shape).Idx) : EReal :=
  M (ix2 (y 2 : Fin R) (⟨128 * (y 1).val + (y 3).val, by
    have h1 : (y 1).val < H := (y 1).isLt
    have h3 : (y 3).val < 128 := (y 3).isLt
    omega⟩ : Fin C))

/-- A product's columns, 128 to each of eight heads. -/
noncomputable def placed8 (M : (⟨2, ![1024, 1024]⟩ : Shape).Idx → EReal) (y : (⟨4, ![1, 8, 1024, 128]⟩ : Shape).Idx) : EReal :=
  placed (R := 1024) (H := 8) (C := 1024) (by decide) M y

/-- One head's piece, of numbers of any format. -/
theorem slab_at {R H C : ℕ} (hC : 128 * H ≤ C) (M : (⟨2, ![R, C]⟩ : Shape).Idx → EReal) (L : (⟨2, ![R, 128]⟩ : Shape).Idx → EReal)
    (h : Fin H) (hv o : ℕ) (hh : hv = h.val) (ho : o = 128 * h.val)
    (inb : ∀ a, (![0, hv, 0, 0] : Fin 4 → ℕ) a + (![1, 1, R, 128] : Fin 4 → ℕ) a ≤ (⟨4, ![1, H, R, 128]⟩ : Shape).size a)
    (hs : (⟨2, ![R, C]⟩ : Shape).Slices ![0, o] ⟨2, ![R, 128]⟩)
    (hL : L = extractStridedSlice ⟨2, ![R, 128]⟩ ![0, o] M hs)
    (hc : (⟨2, ![R, 128]⟩ : Shape).ShapeCasts ⟨4, ![1, 1, R, 128]⟩) (x : (⟨4, ![1, 1, R, 128]⟩ : Shape).Idx) :
    shapeCast ⟨4, ![1, 1, R, 128]⟩ L hc x
      = placed hC M ((Rect.unit (s := ⟨4, ![1, H, R, 128]⟩) ![0, hv, 0, 0] ![1, 1, R, 128] inb).emb x) := by
  subst hh ho hL
  obtain ⟨z, z', r, e, rfl⟩ : ∃ (z z' : Fin 1) (r : Fin R) (e : Fin 128), x = ix4 z z' r e := ⟨_, _, _, _, eq_ix4 x⟩
  obtain rfl : z = 0 := Fin.ext (by omega)
  obtain rfl : z' = 0 := Fin.ext (by omega)
  rw [shapeCast_apply _ _ _ (ix2 r e) (by
    rw [Shape.rowMajor_val_two, Shape.rowMajor_val_four]
    show r.val * 128 + e.val = ((0 * 1 + 0) * R + r.val) * 128 + e.val
    rw [Nat.zero_mul, Nat.zero_add])]
  unfold placed
  refine extractStridedSlice_apply _ _ _ _ _ fun a => ?_
  match a with
  | ⟨0, _⟩ => show 0 + 1 * r.val = 0 + r.val; omega
  | ⟨1, _⟩ => show 128 * (h.val + 1 * 0) + (0 + 1 * e.val) = 128 * h.val + e.val; omega

/-- A head's place is within the block. -/
theorem slab8_inb : ∀ (h : Fin 8) (a : Fin 4), (![0, h.val, 0, 0] : Fin 4 → ℕ) a + (![1, 1, 1024, 128] : Fin 4 → ℕ) a
    ≤ (⟨4, ![1, 8, 1024, 128]⟩ : Shape).size a := by decide

/-- A head's columns are within the product. -/
theorem slab8_slices : ∀ h : Fin 8, (⟨2, ![1024, 1024]⟩ : Shape).Slices ![0, 128 * h.val] ⟨2, ![1024, 128]⟩ := by decide

/-- The piece of one head. -/
noncomputable def slab8 (M : (⟨2, ![1024, 1024]⟩ : Shape).Idx → EReal) (h : Fin 8) :
    (R : Rect (⟨4, ![1, 8, 1024, 128]⟩ : Shape)) × (R.shape.Idx → EReal) :=
  ⟨Rect.unit ![0, h.val, 0, 0] ![1, 1, 1024, 128] (slab8_inb h),
    shapeCast ⟨4, ![1, 1, 1024, 128]⟩ (extractStridedSlice ⟨2, ![1024, 128]⟩ ![0, 128 * h.val] M (slab8_slices h)) (by decide)⟩

/-- The eight pieces of a block, the last first. -/
noncomputable def slabs8 (M : (⟨2, ![1024, 1024]⟩ : Shape).Idx → EReal) :
    List ((R : Rect (⟨4, ![1, 8, 1024, 128]⟩ : Shape)) × (R.shape.Idx → EReal)) :=
  [slab8 M 7, slab8 M 6, slab8 M 5, slab8 M 4, slab8 M 3, slab8 M 2, slab8 M 1, slab8 M 0]

/-- Each holds its head's columns. -/
theorem slabs8_placed (M : (⟨2, ![1024, 1024]⟩ : Shape).Idx → EReal) :
    ∀ p ∈ slabs8 M, ∀ x : p.1.shape.Idx, p.2 x = placed8 M (p.1.emb x) := by
  intro p hp
  obtain ⟨h, -, rfl⟩ : ∃ h ∈ ([7, 6, 5, 4, 3, 2, 1, 0] : List (Fin 8)), slab8 M h = p := List.mem_map.1 hp
  exact slab_at (H := 8) (by decide) M (extractStridedSlice ⟨2, ![1024, 128]⟩ ![0, 128 * h.val] M (slab8_slices h)) h h.val (128 * h.val) rfl rfl
    (slab8_inb h) (slab8_slices h) rfl (by decide)

/-- Points of which each leaves an output and what it keeps: every sixteenth keeps its own, the others what they find. -/
theorem carried_pair {N : ℕ} {β γ : Type} (P : (n : ℕ) → n < N → γ × β) (g : (n : ℕ) → n < N → β → γ) (W : (n : ℕ) → n < N → β)
    (hA : ∀ n h, n % 16 = 0 → P n h = (g n h (W n h), W n h))
    (hB : ∀ n h, ¬n % 16 = 0 → P n h = (g n h (P (n - 1) (Nat.lt_of_le_of_lt (Nat.sub_le _ _) h)).2,
      (P (n - 1) (Nat.lt_of_le_of_lt (Nat.sub_le _ _) h)).2))
    (hW : ∀ n h, ¬n % 16 = 0 → W n h = W (n - 1) (Nat.lt_of_le_of_lt (Nat.sub_le _ _) h)) (n : ℕ) (h : n < N) :
    P n h = (g n h (W n h), W n h) := by
  have k := carried (fun n h => (P n h).2) W (fun n h h0 => by rw [hA n h h0]) (fun n h h0 => by rw [hB n h h0]) hW
  by_cases h0 : n % 16 = 0
  · exact hA n h h0
  · have k' : (P (n - 1) (Nat.lt_of_le_of_lt (Nat.sub_le _ _) h)).2 = W (n - 1) _ := k _ _
    rw [hB n h h0, k', ← hW n h h0]

/-- Blocks of the weights that agree at each row and column. -/
theorem same_block (X Y : (⟨3, ![1, 2048, 1024]⟩ : Shape).Idx → EReal)
    (h : ∀ (k : Fin 2048) (n : Fin 1024), X (ix3 (0 : Fin 1) k n) = Y (ix3 (0 : Fin 1) k n)) : X = Y := by
  refine funext fun y => ?_
  obtain ⟨z, k, n, rfl⟩ : ∃ (z : Fin 1) (k : Fin 2048) (n : Fin 1024), y = ix3 z k n := ⟨_, _, _, eq_ix3 y⟩
  obtain rfl : z = 0 := Fin.ext (by omega)
  exact h k n

/-- A block's row against a block's column is an entry of the projection. -/
theorem rowdot_entry (X : (⟨2, ![1024, 2048]⟩ : Shape).Idx → EReal) (W : (⟨2, ![2048, 1024]⟩ : Shape).Idx → EReal)
    (h : (⟨2, ![16384, 2048]⟩ : Shape).Idx → EReal) (w : (⟨3, ![1, 2048, 16896]⟩ : Shape).Idx → EReal) (r n : Fin 1024)
    (R : Fin 16384) (C : Fin 16896) (hX : ∀ k, X (ix2 r k) = h (ix2 R k)) (hW : ∀ k, W (ix2 k n) = w (ix3 (0 : Fin 1) k C)) :
    rowdot X W r n = entry h w R C :=
  Finset.sum_congr rfl fun k _ => congrArg₂ (fun u v : EReal => u * v) (hX k) (hW k)

/-- An array of heads that is, block by block, a block's columns, is so at any batch, head, row and channel. -/
theorem heads_of_blocks (A : (⟨4, ![8, 16, 2048, 128]⟩ : Shape).Idx → EReal) (f : Fin 16384 → Fin 2048 → EReal)
    (H : ∀ (a : Fin 16) (j : Fin 2), ∃ M : (⟨2, ![1024, 1024]⟩ : Shape).Idx → EReal,
      (∀ (r n : Fin 1024), M (ix2 r n)
        = f (⟨1024 * a.val + r.val, by omega⟩ : Fin 16384) (⟨1024 * j.val + n.val, by omega⟩ : Fin 2048))
      ∧ ∀ (h : Fin 8) (r : Fin 1024) (e : Fin 128), A (ix4 (⟨a.val / 2, by omega⟩ : Fin 8) (⟨8 * j.val + h.val, by omega⟩ : Fin 16)
        (⟨1024 * (a.val % 2) + r.val, by omega⟩ : Fin 2048) e) = placed8 M (ix4 (0 : Fin 1) h r e))
    (b : Fin 8) (h : Fin 16) (u : Fin 2048) (e : Fin 128) :
    A (ix4 b h u e) = f (⟨2048 * b.val + u.val, by omega⟩ : Fin 16384) (⟨128 * h.val + e.val, by omega⟩ : Fin 2048) := by
  obtain ⟨M, hM, hA⟩ := H (⟨2 * b.val + u.val / 1024, by omega⟩ : Fin 16) (⟨h.val / 8, by omega⟩ : Fin 2)
  have k := (hA (⟨h.val % 8, by omega⟩ : Fin 8) (⟨u.val % 1024, by omega⟩ : Fin 1024) e).trans
    (hM (⟨u.val % 1024, by omega⟩ : Fin 1024) (⟨128 * (h.val % 8) + e.val, by omega⟩ : Fin 1024))
  have p0 : (⟨(2 * b.val + u.val / 1024) / 2, by omega⟩ : Fin 8) = b := Fin.ext (by dsimp only; omega)
  have p1 : (⟨8 * (h.val / 8) + h.val % 8, by omega⟩ : Fin 16) = h := Fin.ext (by dsimp only; omega)
  have p2 : (⟨1024 * ((2 * b.val + u.val / 1024) % 2) + u.val % 1024, by omega⟩ : Fin 2048) = u := Fin.ext (by dsimp only; omega)
  have p3 : (⟨1024 * (2 * b.val + u.val / 1024) + u.val % 1024, by omega⟩ : Fin 16384)
      = (⟨2048 * b.val + u.val, by omega⟩ : Fin 16384) := Fin.ext (by dsimp only; omega)
  have p4 : (⟨1024 * (h.val / 8) + (128 * (h.val % 8) + e.val), by omega⟩ : Fin 2048)
      = (⟨128 * h.val + e.val, by omega⟩ : Fin 2048) := Fin.ext (by dsimp only; omega)
  rw [p0, p1, p2, p3, p4] at k
  exact k

/-- The weights of a block cast, at an index. -/
theorem cast8_at (x : (⟨3, ![1, 2048, 1024]⟩ : Shape).Idx → EReal)
    (h1 : (⟨3, ![1, 2048, 1024]⟩ : Shape).ShapeCasts ⟨2, ![2048, 1024]⟩)
    (h2 : (⟨2, ![2048, 1024]⟩ : Shape).ShapeCasts ⟨2, ![2048, 1024]⟩) (hb) (k : Fin 2048) (n : Fin 1024) :
    shapeCast ⟨2, ![2048, 1024]⟩ (truncf (F := Ideal) (φ := .f32) .bf16 (shapeCast ⟨2, ![2048, 1024]⟩ x h1) hb) h2 (ix2 k n)
      = x (ix3 (0 : Fin 1) k n) := by
  rw [shapeCast_apply _ _ _ (ix2 k n) rfl, narrow_at, shapeCast_apply _ _ _ (ix3 (0 : Fin 1) k n) (by
    rw [Shape.rowMajor_val_two, Shape.rowMajor_val_three]
    show (0 * 2048 + k.val) * 1024 + n.val = k.val * 1024 + n.val
    omega)]

end Cert.Proj
-- ==== Proof.Input.lean ====
/-  The call of the recurrence's values: a product, its columns stored head by head. -/
module

public import proofs.«01_k».proof.Proof.Gen.InputIdeal.Value
public import proofs.«01_k».proof.Proof.Slab

@[expose] public section

namespace Cert.Values

open Idealize.ShloMosaic Idealize.ShloMosaic.ValueIdx Cert.InputIdeal Cert.InputIdeal.Gen
open Idealize.ShloMosaic.TcCoe Cert.Proj
open scoped BigOperators

section
variable (c : Dev nD) (i : grid0.Coords) (arg2 : Memref sig .tc .vmem S1024x2048 .bf16) (harg2 : arg2.IsWhole)
  (arg3 : Memref sig .tc .vmem S1x2048x1024 .f32) (harg3 : arg3.IsWhole) (arg4 : Memref sig .tc .vmem S1x1024 .f32) (harg4 : arg4.IsWhole)
  (arg5 : Memref sig .tc .vmem S1x8x1024x128 .bf16) (harg5 : arg5.IsWhole) (arg6 : Memref sig .tc .vmem S2048x1024 .bf16) (harg6 : arg6.IsWhole)
  (x0 : Vec Ideal S1024x2048 .bf16) (x1 : Vec Ideal S1x2048x1024 .f32) (x2 : Vec Ideal S1x1024 .f32) (xs0 : Vec Ideal S2048x1024 .bf16)

/-- The pieces of a point that casts the weights. -/
theorem pieces_A (hc0) : (kernelRun0_A (F := Ideal) c i arg2 harg2 arg3 harg3 arg4 harg4 arg5 harg5 arg6 harg6 hc0 x0 x1 x2).1
    = slabs8 (k0_pay6 x0 (k0_pay5 x1)) := by
  have e2 : View.readAt (Elt Ideal) arg2.view (Rect.unit ![0, 0] ![1024, 2048] inb_S1024x2048_S1024x2048_0_0).toLoadRect
      (harg2.unread x0) = x0 := by
    rw [View.readAt_eq_ld, harg2.read_unread]
    exact View.ld_unit_zero hz2 _ _
  have e4 : kernelRun0_A.sl.v4 (F := Ideal) c arg3 harg3 arg6 x1 = k0_pay5 x1 := by
    unfold kernelRun0_A.sl.v4 kernelRun0_A.sl.HS0_1
    rw [View.readCov_unit_zero _ hz2, View.readAt_eq_ld, harg3.read_unread, View.ld_unit_zero hz3]
  unfold kernelRun0_A
  dsimp only
  unfold kernelRun0_A.sl.r kernelRun0_A.sl.r_1
  try unfold kernelRun0_A.sl.r
  rw [e2, e4]
  rfl

/-- The pieces of a point that finds the weights cast. -/
theorem pieces_B (hc0) : (kernelRun0_B (F := Ideal) c i arg2 harg2 arg3 harg3 arg4 harg4 arg5 harg5 arg6 harg6 hc0 x0 x1 x2 xs0).1
    = slabs8 (k0_pay6 x0 xs0) := by
  have e2 : View.readAt (Elt Ideal) arg2.view (Rect.unit ![0, 0] ![1024, 2048] inb_S1024x2048_S1024x2048_0_0).toLoadRect
      (harg2.unread x0) = x0 := by
    rw [View.readAt_eq_ld, harg2.read_unread]
    exact View.ld_unit_zero hz2 _ _
  have e6 : View.readAt (Elt Ideal) arg6.view (Rect.unit ![0, 0] ![2048, 1024] inb_S2048x1024_S2048x1024_0_0).toLoadRect
      (harg6.unread xs0) = xs0 := by
    rw [View.readAt_eq_ld, harg6.read_unread]
    exact View.ld_unit_zero hz2 _ _
  unfold kernelRun0_B
  dsimp only
  unfold kernelRun0_B.sl.r kernelRun0_B.sl.r_1
  try unfold kernelRun0_B.sl.r
  rw [e2, e6]
  rfl

/-- The output block of a point that casts the weights. -/
theorem out_A (hc0) : out0_A_3 (F := Ideal) c i arg2 harg2 arg3 harg3 arg4 harg4 arg5 harg5 arg6 harg6 hc0 x0 x1 x2
    = placed8 (k0_pay6 x0 (k0_pay5 x1)) := by
  funext y
  unfold out0_A_3
  rw [View.read_writes_junk_eq_canon]
  exact View.canon_apply_of_pieces _ _ (by rw [pieces_A]; exact slabs8_placed _) y
    (cover0_A_3 c i arg2 harg2 arg3 harg3 arg4 harg4 arg5 harg5 arg6 harg6 hc0 x0 x1 x2 y)

/-- The output block of a point that finds the weights cast. -/
theorem out_B (hc0) : out0_B_3 (F := Ideal) c i arg2 harg2 arg3 harg3 arg4 harg4 arg5 harg5 arg6 harg6 hc0 x0 x1 x2 xs0
    = placed8 (k0_pay6 x0 xs0) := by
  funext y
  unfold out0_B_3
  rw [View.read_writes_junk_eq_canon]
  exact View.canon_apply_of_pieces _ _ (by rw [pieces_B]; exact slabs8_placed _) y
    (cover0_B_3 c i arg2 harg2 arg3 harg3 arg4 harg4 arg5 harg5 arg6 harg6 hc0 x0 x1 x2 xs0 y)

/-- The weights a casting point keeps. -/
theorem keep_A (hc0) : sout0_A_0 (F := Ideal) c i arg2 harg2 arg3 harg3 arg4 harg4 arg5 harg5 arg6 harg6 hc0 x0 x1 x2 = k0_pay5 x1 := by
  unfold sout0_A_0
  rw [View.read_writes_junk_eq_canon]
  unfold kernelRun0_A
  dsimp only
  unfold kernelRun0_A.sl.HS0_1
  rw [View.canon_unit_zero hz2, View.readAt_eq_ld, harg3.read_unread, View.ld_unit_zero hz3]

end

/-- The weights cast, at an index. -/
theorem cast_at (x : Vec Ideal S1x2048x1024 .f32) (k : Fin 2048) (n : Fin 1024) :
    k0_pay5 (F := Ideal) x (ix2 k n) = x (ix3 (0 : Fin 1) k n) := by
  unfold k0_pay5
  exact cast8_at x _ _ _ k n

/-- A block before it is stored, at an index. -/
theorem block_at (x : Vec Ideal S1024x2048 .bf16) (w : Vec Ideal S2048x1024 .bf16) (r n : Fin 1024) :
    k0_pay6 (F := Ideal) x w (ix2 r n) = rowdot x w r n := by
  unfold k0_pay6
  exact matmul_at dot_S1024x2048_S2048x1024_S1024x1024_1_0_0_1_n_n rfl x w r n

/-- The block of each window at a grid point. -/
theorem idx_facts : ∀ t : Fin cfg0.N,
    (win0_0.index t (0 : Fin 2) = t.val % 16 ∧ win0_0.index t (1 : Fin 2) = 0)
    ∧ (win0_1.index t (0 : Fin 3) = 0 ∧ win0_1.index t (1 : Fin 3) = 0
      ∧ win0_1.index t (2 : Fin 3) = 4096 + 1024 * (t.val / 16))
    ∧ (win0_3.index t (0 : Fin 4) = t.val % 16 / 2 ∧ win0_3.index t (1 : Fin 4) = t.val / 16
      ∧ win0_3.index t (2 : Fin 4) = t.val % 2 ∧ win0_3.index t (3 : Fin 4) = 0) :=
  (by decide +kernel : ∀ t : Fin grid0.N, _)

/-- Every block of the result has its grid point, which writes it back. -/
theorem point_of : ∀ (a : Fin 16) (j : Fin 2), ∃ t : Fin cfg0.N,
    t.val % 16 = a.val ∧ t.val / 16 = j.val ∧ (cfg0.win 3).flush t = true :=
  (by decide +kernel : ∀ (a : Fin 16) (j : Fin 2), ∃ t : Fin grid0.N,
    t.val % 16 = a.val ∧ t.val / 16 = j.val ∧ win0_3.flush t = true)

/-- There are two blocks of columns. -/
theorem points (n : ℕ) (hn : n < cfg0.N) : n / 16 < 2 := by
  have := lt_of_lt_of_eq hn (show cfg0.N = 32 from N_0)
  omega

variable (m : (ℓ : Loc nD τ sig) → Buf (Elt Ideal) ℓ) (c : Dev nD)

/-- The rows a grid point is given. -/
theorem rows_at (t : Fin cfg0.N) (r : Fin 1024) (k : Fin 2048) :
    iblk m c 0 t (ix2 r k) = m ((c.tc : Thread nD τ).loc main_arg0)
      (ix2 (⟨1024 * (t.val % 16) + r.val, by omega⟩ : Fin 16384) k) := by
  show V m c main_arg0 (((cfg0.win 0).blk t).view.emb (ix2 r k)) = _
  obtain ⟨⟨e0, e1⟩, -, -⟩ := idx_facts t
  rw [V_main_arg0]
  refine congrArg (m ((c.tc : Thread nD τ).loc main_arg0)) (funext fun a => Fin.ext ?_)
  match a with
  | ⟨0, _⟩ => show win0_0.index t (0 : Fin 2) * 1024 + 1 * r.val = 1024 * (t.val % 16) + r.val; omega
  | ⟨1, _⟩ => show win0_0.index t (1 : Fin 2) * 2048 + 1 * k.val = k.val; omega

/-- The columns it is given. -/
theorem columns_at (t : Fin cfg0.N) (k : Fin 2048) (n : Fin 1024) :
    iblk m c 1 t (ix3 (0 : Fin 1) k n) = m ((c.tc : Thread nD τ).loc main_arg1)
      (ix3 (0 : Fin 1) k (⟨4096 + 1024 * (t.val / 16) + n.val, by have := points t.val t.isLt; omega⟩ : Fin 16896)) := by
  show V m c main_arg1 (((cfg0.win 1).blk t).view.emb (ix3 (0 : Fin 1) k n)) = _
  obtain ⟨-, ⟨e0, e1, e2⟩, -⟩ := idx_facts t
  rw [V_main_arg1]
  refine congrArg (m ((c.tc : Thread nD τ).loc main_arg1)) (funext fun a => Fin.ext ?_)
  match a with
  | ⟨0, _⟩ => show win0_1.index t (0 : Fin 3) + 1 * 0 = 0; omega
  | ⟨1, _⟩ => show win0_1.index t (1 : Fin 3) + 1 * k.val = k.val; omega
  | ⟨2, _⟩ => show win0_1.index t (2 : Fin 3) + 1 * n.val = 4096 + 1024 * (t.val / 16) + n.val; omega

/-- Between casting points the columns stay. -/
theorem same_columns (t u : Fin cfg0.N) (h : t.val / 16 = u.val / 16) : iblk m c 1 t = iblk m c 1 u := by
  refine same_block _ _ fun k n => (columns_at m c t k n).trans (Eq.trans ?_ (columns_at m c u k n).symm)
  exact congrArg (fun z => m ((c.tc : Thread nD τ).loc main_arg1) (ix3 (0 : Fin 1) k z)) (Fin.ext (by dsimp only; omega))

/-- A casting point. -/
theorem left_A (t : Fin cfg0.N) (h0 : t.val % 16 = 0) : outsAt0 m c t.val t.isLt
    = (placed8 (k0_pay6 (iblk m c 0 t) (k0_pay5 (iblk m c 1 t))), k0_pay5 (iblk m c 1 t)) := by
  rw [outsAt0_A m c t h0, out_A, keep_A]

/-- Any other point. -/
theorem left_B (t : Fin cfg0.N) (h0 : ¬t.val % 16 = 0) : outsAt0 m c t.val t.isLt
    = (placed8 (k0_pay6 (iblk m c 0 t) (outsAt0 m c (t.val - 1) (Nat.lt_of_le_of_lt (Nat.sub_le _ _) t.isLt)).2),
      (outsAt0 m c (t.val - 1) (Nat.lt_of_le_of_lt (Nat.sub_le _ _) t.isLt)).2) := by
  rw [outsAt0_B m c t h0, out_B]
  rfl

attribute [local irreducible] outsAt0 iblk

/-- Every point: its output, and the weights of its columns, cast. -/
theorem left (t : Fin cfg0.N) : outsAt0 m c t.val t.isLt
    = (placed8 (k0_pay6 (iblk m c 0 t) (k0_pay5 (iblk m c 1 t))), k0_pay5 (iblk m c 1 t)) :=
  carried_pair (fun n h => outsAt0 m c n h) (fun n h s => placed8 (k0_pay6 (iblk m c 0 ⟨n, h⟩) s))
    (fun n h => k0_pay5 (iblk m c 1 ⟨n, h⟩)) (fun n h => left_A m c ⟨n, h⟩) (fun n h => left_B m c ⟨n, h⟩)
    (fun n h h0 => congrArg k0_pay5 (same_columns m c ⟨n, h⟩ ⟨n - 1, Nat.lt_of_le_of_lt (Nat.sub_le _ _) h⟩ (by dsimp only; omega)))
    t.val t.isLt

/-- A head's channel, at a row and a column of the call's part of the projection. -/
noncomputable def channel (r : Fin 16384) (n : Fin 2048) : EReal :=
  entry (m ((c.tc : Thread nD τ).loc main_arg0)) (m ((c.tc : Thread nD τ).loc main_arg1)) r (⟨4096 + n.val, by omega⟩ : Fin 16896)

/-- What a grid point leaves. -/
theorem point_at (t : Fin cfg0.N) (r n : Fin 1024) :
    k0_pay6 (F := Ideal) (iblk m c 0 t) (k0_pay5 (iblk m c 1 t)) (ix2 r n)
      = channel m c (⟨1024 * (t.val % 16) + r.val, by omega⟩ : Fin 16384)
        (⟨1024 * (t.val / 16) + n.val, by have := points t.val t.isLt; omega⟩ : Fin 2048) := by
  have p := points t.val t.isLt
  refine (block_at _ _ r n).trans ?_
  unfold channel
  have hs := rowdot_entry (iblk m c 0 t) (k0_pay5 (F := Ideal) (iblk m c 1 t)) _ _ r n _
    (⟨4096 + (1024 * (t.val / 16) + n.val), by omega⟩ : Fin 16896) (fun k => rows_at m c t r k)
    (fun k => (cast_at _ k n).trans ((columns_at m c t k n).trans
      (congrArg (fun z => m ((c.tc : Thread nD τ).loc main_arg1) (ix3 (0 : Fin 1) k z)) (Fin.ext (by dsimp only; omega)))))
  exact hs

/-- The array after the run, at any batch, head, row and channel. -/
theorem final_apply (b : Fin 8) (h : Fin 16) (u : Fin 2048) (e : Fin 128) :
    ((dats m 0 c).arrAt 3 cfg0.N : S8x16x2048x128.Idx → EReal) (ix4 b h u e)
      = channel m c (⟨2048 * b.val + u.val, by omega⟩ : Fin 16384) (⟨128 * h.val + e.val, by omega⟩ : Fin 2048) := by
  refine heads_of_blocks _ (channel m c) (fun a j => ?_) b h u e
  obtain ⟨t, ha, hj, hf⟩ := point_of a j
  refine ⟨k0_pay6 (F := Ideal) (iblk m c 0 t) (k0_pay5 (iblk m c 1 t)), fun r n => (point_at m c t r n).trans
    (congrArg₂ (channel m c) (Fin.ext (by dsimp only; omega)) (Fin.ext (by dsimp only; omega))), fun h r e => ?_⟩
  have k := congrFun (Cert.InputIdeal.Value.blocks3 m c t hf) (ix4 (0 : Fin 1) h r e)
  rw [Cert.InputIdeal.Value.flushed3, left] at k
  obtain ⟨-, -, e0, e1, e2, e3⟩ := idx_facts t
  refine Eq.trans (congrArg ((dats m 0 c).arrAt 3 cfg0.N : S8x16x2048x128.Idx → EReal) (funext fun a' => Fin.ext ?_)) k
  match a' with
  | ⟨0, _⟩ => show a.val / 2 = win0_3.index t (0 : Fin 4) * 1 + 1 * 0; omega
  | ⟨1, _⟩ => show 8 * j.val + h.val = win0_3.index t (1 : Fin 4) * 8 + 1 * h.val; omega
  | ⟨2, _⟩ => show 1024 * (a.val % 2) + r.val = win0_3.index t (2 : Fin 4) * 1024 + 1 * r.val; omega
  | ⟨3, _⟩ => show e.val = win0_3.index t (3 : Fin 4) * 128 + 1 * e.val; omega

end Cert.Values
-- ==== Proof.Output.lean ====
/-  The call of the recurrence's output gates: the logistic function of a product, stored head by head. -/
module

public import proofs.«01_k».proof.Proof.Gen.OutputIdeal.Value
public import proofs.«01_k».proof.Proof.Slab

@[expose] public section

namespace Cert.OutGate

open Idealize.ShloMosaic Idealize.ShloMosaic.ValueIdx Cert.OutputIdeal Cert.OutputIdeal.Gen
open Idealize.ShloMosaic.TcCoe Cert.Proj
open scoped BigOperators

section
variable (c : Dev nD) (i : grid0.Coords) (arg2 : Memref sig .tc .vmem S1024x2048 .bf16) (harg2 : arg2.IsWhole)
  (arg3 : Memref sig .tc .vmem S1x2048x1024 .f32) (harg3 : arg3.IsWhole) (arg4 : Memref sig .tc .vmem S1x1024 .f32) (harg4 : arg4.IsWhole)
  (arg5 : Memref sig .tc .vmem S1x8x1024x128 .bf16) (harg5 : arg5.IsWhole) (arg6 : Memref sig .tc .vmem S2048x1024 .bf16) (harg6 : arg6.IsWhole)
  (x0 : Vec Ideal S1024x2048 .bf16) (x1 : Vec Ideal S1x2048x1024 .f32) (x2 : Vec Ideal S1x1024 .f32) (xs0 : Vec Ideal S2048x1024 .bf16)

/-- The pieces of a point that casts the weights. -/
theorem pieces_A (hc0) : (kernelRun0_A (F := Ideal) c i arg2 harg2 arg3 harg3 arg4 harg4 arg5 harg5 arg6 harg6 hc0 x0 x1 x2).1
    = slabs8 (k0_pay7 x0 (k0_pay6 x1)) := by
  have e2 : View.readAt (Elt Ideal) arg2.view (Rect.unit ![0, 0] ![1024, 2048] inb_S1024x2048_S1024x2048_0_0).toLoadRect
      (harg2.unread x0) = x0 := by
    rw [View.readAt_eq_ld, harg2.read_unread]
    exact View.ld_unit_zero hz2 _ _
  have e4 : kernelRun0_A.sl.v4 (F := Ideal) c arg3 harg3 arg6 x1 = k0_pay6 x1 := by
    unfold kernelRun0_A.sl.v4 kernelRun0_A.sl.HS0_1
    rw [View.readCov_unit_zero _ hz2, View.readAt_eq_ld, harg3.read_unread, View.ld_unit_zero hz3]
  unfold kernelRun0_A
  dsimp only
  unfold kernelRun0_A.sl.r kernelRun0_A.sl.r_1
  try unfold kernelRun0_A.sl.r
  rw [e2, e4]
  rfl

/-- The pieces of a point that finds the weights cast. -/
theorem pieces_B (hc0) : (kernelRun0_B (F := Ideal) c i arg2 harg2 arg3 harg3 arg4 harg4 arg5 harg5 arg6 harg6 hc0 x0 x1 x2 xs0).1
    = slabs8 (k0_pay7 x0 xs0) := by
  have e2 : View.readAt (Elt Ideal) arg2.view (Rect.unit ![0, 0] ![1024, 2048] inb_S1024x2048_S1024x2048_0_0).toLoadRect
      (harg2.unread x0) = x0 := by
    rw [View.readAt_eq_ld, harg2.read_unread]
    exact View.ld_unit_zero hz2 _ _
  have e6 : View.readAt (Elt Ideal) arg6.view (Rect.unit ![0, 0] ![2048, 1024] inb_S2048x1024_S2048x1024_0_0).toLoadRect
      (harg6.unread xs0) = xs0 := by
    rw [View.readAt_eq_ld, harg6.read_unread]
    exact View.ld_unit_zero hz2 _ _
  unfold kernelRun0_B
  dsimp only
  unfold kernelRun0_B.sl.r kernelRun0_B.sl.r_1
  try unfold kernelRun0_B.sl.r
  rw [e2, e6]
  rfl

/-- The output block of a point that casts the weights. -/
theorem out_A (hc0) : out0_A_3 (F := Ideal) c i arg2 harg2 arg3 harg3 arg4 harg4 arg5 harg5 arg6 harg6 hc0 x0 x1 x2
    = placed8 (k0_pay7 x0 (k0_pay6 x1)) := by
  funext y
  unfold out0_A_3
  rw [View.read_writes_junk_eq_canon]
  exact View.canon_apply_of_pieces _ _ (by rw [pieces_A]; exact slabs8_placed _) y
    (cover0_A_3 c i arg2 harg2 arg3 harg3 arg4 harg4 arg5 harg5 arg6 harg6 hc0 x0 x1 x2 y)

/-- The output block of a point that finds the weights cast. -/
theorem out_B (hc0) : out0_B_3 (F := Ideal) c i arg2 harg2 arg3 harg3 arg4 harg4 arg5 harg5 arg6 harg6 hc0 x0 x1 x2 xs0
    = placed8 (k0_pay7 x0 xs0) := by
  funext y
  unfold out0_B_3
  rw [View.read_writes_junk_eq_canon]
  exact View.canon_apply_of_pieces _ _ (by rw [pieces_B]; exact slabs8_placed _) y
    (cover0_B_3 c i arg2 harg2 arg3 harg3 arg4 harg4 arg5 harg5 arg6 harg6 hc0 x0 x1 x2 xs0 y)

/-- The weights a casting point keeps. -/
theorem keep_A (hc0) : sout0_A_0 (F := Ideal) c i arg2 harg2 arg3 harg3 arg4 harg4 arg5 harg5 arg6 harg6 hc0 x0 x1 x2 = k0_pay6 x1 := by
  unfold sout0_A_0
  rw [View.read_writes_junk_eq_canon]
  unfold kernelRun0_A
  dsimp only
  unfold kernelRun0_A.sl.HS0_1
  rw [View.canon_unit_zero hz2, View.readAt_eq_ld, harg3.read_unread, View.ld_unit_zero hz3]

end

/-- The weights cast, at an index. -/
theorem cast_at (x : Vec Ideal S1x2048x1024 .f32) (k : Fin 2048) (n : Fin 1024) :
    k0_pay6 (F := Ideal) x (ix2 k n) = x (ix3 (0 : Fin 1) k n) := by
  unfold k0_pay6
  exact cast8_at x _ _ _ k n

/-- A block before it is stored, at an index. -/
theorem block_at (x : Vec Ideal S1024x2048 .bf16) (w : Vec Ideal S2048x1024 .bf16) (r n : Fin 1024) :
    k0_pay7 (F := Ideal) x w (ix2 r n) = Ideal.logistic (rowdot x w r n) := by
  unfold k0_pay7
  rw [gate_at]
  exact congrArg Ideal.logistic (matmul_at dot_S1024x2048_S2048x1024_S1024x1024_1_0_0_1_n_n rfl x w r n)

/-- The block of each window at a grid point. -/
theorem idx_facts : ∀ t : Fin cfg0.N,
    (win0_0.index t (0 : Fin 2) = t.val % 16 ∧ win0_0.index t (1 : Fin 2) = 0)
    ∧ (win0_1.index t (0 : Fin 3) = 0 ∧ win0_1.index t (1 : Fin 3) = 0
      ∧ win0_1.index t (2 : Fin 3) = 6144 + 1024 * (t.val / 16))
    ∧ (win0_3.index t (0 : Fin 4) = t.val % 16 / 2 ∧ win0_3.index t (1 : Fin 4) = t.val / 16
      ∧ win0_3.index t (2 : Fin 4) = t.val % 2 ∧ win0_3.index t (3 : Fin 4) = 0) :=
  (by decide +kernel : ∀ t : Fin grid0.N, _)

/-- Every block of the result has its grid point, which writes it back. -/
theorem point_of : ∀ (a : Fin 16) (j : Fin 2), ∃ t : Fin cfg0.N,
    t.val % 16 = a.val ∧ t.val / 16 = j.val ∧ (cfg0.win 3).flush t = true :=
  (by decide +kernel : ∀ (a : Fin 16) (j : Fin 2), ∃ t : Fin grid0.N,
    t.val % 16 = a.val ∧ t.val / 16 = j.val ∧ win0_3.flush t = true)

/-- There are two blocks of columns. -/
theorem points (n : ℕ) (hn : n < cfg0.N) : n / 16 < 2 := by
  have := lt_of_lt_of_eq hn (show cfg0.N = 32 from N_0)
  omega

variable (m : (ℓ : Loc nD τ sig) → Buf (Elt Ideal) ℓ) (c : Dev nD)

/-- The rows a grid point is given. -/
theorem rows_at (t : Fin cfg0.N) (r : Fin 1024) (k : Fin 2048) :
    iblk m c 0 t (ix2 r k) = m ((c.tc : Thread nD τ).loc main_arg0)
      (ix2 (⟨1024 * (t.val % 16) + r.val, by omega⟩ : Fin 16384) k) := by
  show V m c main_arg0 (((cfg0.win 0).blk t).view.emb (ix2 r k)) = _
  obtain ⟨⟨e0, e1⟩, -, -⟩ := idx_facts t
  rw [V_main_arg0]
  refine congrArg (m ((c.tc : Thread nD τ).loc main_arg0)) (funext fun a => Fin.ext ?_)
  match a with
  | ⟨0, _⟩ => show win0_0.index t (0 : Fin 2) * 1024 + 1 * r.val = 1024 * (t.val % 16) + r.val; omega
  | ⟨1, _⟩ => show win0_0.index t (1 : Fin 2) * 2048 + 1 * k.val = k.val; omega

/-- The columns it is given. -/
theorem columns_at (t : Fin cfg0.N) (k : Fin 2048) (n : Fin 1024) :
    iblk m c 1 t (ix3 (0 : Fin 1) k n) = m ((c.tc : Thread nD τ).loc main_arg1)
      (ix3 (0 : Fin 1) k (⟨6144 + 1024 * (t.val / 16) + n.val, by have := points t.val t.isLt; omega⟩ : Fin 16896)) := by
  show V m c main_arg1 (((cfg0.win 1).blk t).view.emb (ix3 (0 : Fin 1) k n)) = _
  obtain ⟨-, ⟨e0, e1, e2⟩, -⟩ := idx_facts t
  rw [V_main_arg1]
  refine congrArg (m ((c.tc : Thread nD τ).loc main_arg1)) (funext fun a => Fin.ext ?_)
  match a with
  | ⟨0, _⟩ => show win0_1.index t (0 : Fin 3) + 1 * 0 = 0; omega
  | ⟨1, _⟩ => show win0_1.index t (1 : Fin 3) + 1 * k.val = k.val; omega
  | ⟨2, _⟩ => show win0_1.index t (2 : Fin 3) + 1 * n.val = 6144 + 1024 * (t.val / 16) + n.val; omega

/-- Between casting points the columns stay. -/
theorem same_columns (t u : Fin cfg0.N) (h : t.val / 16 = u.val / 16) : iblk m c 1 t = iblk m c 1 u := by
  refine same_block _ _ fun k n => (columns_at m c t k n).trans (Eq.trans ?_ (columns_at m c u k n).symm)
  exact congrArg (fun z => m ((c.tc : Thread nD τ).loc main_arg1) (ix3 (0 : Fin 1) k z)) (Fin.ext (by dsimp only; omega))

/-- A casting point. -/
theorem left_A (t : Fin cfg0.N) (h0 : t.val % 16 = 0) : outsAt0 m c t.val t.isLt
    = (placed8 (k0_pay7 (iblk m c 0 t) (k0_pay6 (iblk m c 1 t))), k0_pay6 (iblk m c 1 t)) := by
  rw [outsAt0_A m c t h0, out_A, keep_A]

/-- Any other point. -/
theorem left_B (t : Fin cfg0.N) (h0 : ¬t.val % 16 = 0) : outsAt0 m c t.val t.isLt
    = (placed8 (k0_pay7 (iblk m c 0 t) (outsAt0 m c (t.val - 1) (Nat.lt_of_le_of_lt (Nat.sub_le _ _) t.isLt)).2),
      (outsAt0 m c (t.val - 1) (Nat.lt_of_le_of_lt (Nat.sub_le _ _) t.isLt)).2) := by
  rw [outsAt0_B m c t h0, out_B]
  rfl

attribute [local irreducible] outsAt0 iblk

/-- Every point: its output, and the weights of its columns, cast. -/
theorem left (t : Fin cfg0.N) : outsAt0 m c t.val t.isLt
    = (placed8 (k0_pay7 (iblk m c 0 t) (k0_pay6 (iblk m c 1 t))), k0_pay6 (iblk m c 1 t)) :=
  carried_pair (fun n h => outsAt0 m c n h) (fun n h s => placed8 (k0_pay7 (iblk m c 0 ⟨n, h⟩) s))
    (fun n h => k0_pay6 (iblk m c 1 ⟨n, h⟩)) (fun n h => left_A m c ⟨n, h⟩) (fun n h => left_B m c ⟨n, h⟩)
    (fun n h h0 => congrArg k0_pay6 (same_columns m c ⟨n, h⟩ ⟨n - 1, Nat.lt_of_le_of_lt (Nat.sub_le _ _) h⟩ (by dsimp only; omega)))
    t.val t.isLt

/-- A head's channel, at a row and a column of the call's part of the projection. -/
noncomputable def channel (r : Fin 16384) (n : Fin 2048) : EReal :=
  Ideal.logistic (entry (m ((c.tc : Thread nD τ).loc main_arg0)) (m ((c.tc : Thread nD τ).loc main_arg1)) r (⟨6144 + n.val, by omega⟩ : Fin 16896))

/-- What a grid point leaves. -/
theorem point_at (t : Fin cfg0.N) (r n : Fin 1024) :
    k0_pay7 (F := Ideal) (iblk m c 0 t) (k0_pay6 (iblk m c 1 t)) (ix2 r n)
      = channel m c (⟨1024 * (t.val % 16) + r.val, by omega⟩ : Fin 16384)
        (⟨1024 * (t.val / 16) + n.val, by have := points t.val t.isLt; omega⟩ : Fin 2048) := by
  have p := points t.val t.isLt
  refine (block_at _ _ r n).trans ?_
  unfold channel
  have hs := rowdot_entry (iblk m c 0 t) (k0_pay6 (F := Ideal) (iblk m c 1 t)) _ _ r n _
    (⟨6144 + (1024 * (t.val / 16) + n.val), by omega⟩ : Fin 16896) (fun k => rows_at m c t r k)
    (fun k => (cast_at _ k n).trans ((columns_at m c t k n).trans
      (congrArg (fun z => m ((c.tc : Thread nD τ).loc main_arg1) (ix3 (0 : Fin 1) k z)) (Fin.ext (by dsimp only; omega)))))
  exact congrArg Ideal.logistic hs

/-- The array after the run, at any batch, head, row and channel. -/
theorem final_apply (b : Fin 8) (h : Fin 16) (u : Fin 2048) (e : Fin 128) :
    ((dats m 0 c).arrAt 3 cfg0.N : S8x16x2048x128.Idx → EReal) (ix4 b h u e)
      = channel m c (⟨2048 * b.val + u.val, by omega⟩ : Fin 16384) (⟨128 * h.val + e.val, by omega⟩ : Fin 2048) := by
  refine heads_of_blocks _ (channel m c) (fun a j => ?_) b h u e
  obtain ⟨t, ha, hj, hf⟩ := point_of a j
  refine ⟨k0_pay7 (F := Ideal) (iblk m c 0 t) (k0_pay6 (iblk m c 1 t)), fun r n => (point_at m c t r n).trans
    (congrArg₂ (channel m c) (Fin.ext (by dsimp only; omega)) (Fin.ext (by dsimp only; omega))), fun h r e => ?_⟩
  have k := congrFun (Cert.OutputIdeal.Value.blocks3 m c t hf) (ix4 (0 : Fin 1) h r e)
  rw [Cert.OutputIdeal.Value.flushed3, left] at k
  obtain ⟨-, -, e0, e1, e2, e3⟩ := idx_facts t
  refine Eq.trans (congrArg ((dats m 0 c).arrAt 3 cfg0.N : S8x16x2048x128.Idx → EReal) (funext fun a' => Fin.ext ?_)) k
  match a' with
  | ⟨0, _⟩ => show a.val / 2 = win0_3.index t (0 : Fin 4) * 1 + 1 * 0; omega
  | ⟨1, _⟩ => show 8 * j.val + h.val = win0_3.index t (1 : Fin 4) * 8 + 1 * h.val; omega
  | ⟨2, _⟩ => show 1024 * (a.val % 2) + r.val = win0_3.index t (2 : Fin 4) * 1024 + 1 * r.val; omega
  | ⟨3, _⟩ => show e.val = win0_3.index t (3 : Fin 4) * 128 + 1 * e.val; omega

end Cert.OutGate
-- ==== Proof.Forget.lean ====
/-  The call of the recurrence's forget gates: the logistic function of a product, raised to a bound, stored head by head. -/
module

public import proofs.«01_k».proof.Proof.Gen.ForgetIdeal.Value
public import proofs.«01_k».proof.Proof.Slab

@[expose] public section

namespace Cert.ForgetGate

open Idealize.ShloMosaic Idealize.ShloMosaic.ValueIdx Cert.ForgetIdeal Cert.ForgetIdeal.Gen
open Idealize.ShloMosaic.TcCoe Cert.Proj
open scoped BigOperators

section
variable (c : Dev nD) (i : grid0.Coords) (arg2 : Memref sig .tc .vmem S1024x2048 .bf16) (harg2 : arg2.IsWhole)
  (arg3 : Memref sig .tc .vmem S1x2048x1024 .f32) (harg3 : arg3.IsWhole) (arg4 : Memref sig .tc .vmem S1x1024 .f32) (harg4 : arg4.IsWhole)
  (arg5 : Memref sig .tc .vmem S1x8x1024x128 .f32) (harg5 : arg5.IsWhole) (arg6 : Memref sig .tc .vmem S2048x1024 .bf16) (harg6 : arg6.IsWhole)
  (x0 : Vec Ideal S1024x2048 .bf16) (x1 : Vec Ideal S1x2048x1024 .f32) (x2 : Vec Ideal S1x1024 .f32) (xs0 : Vec Ideal S2048x1024 .bf16)

/-- The pieces of a point that casts the weights. -/
theorem pieces_A (hc0) : (kernelRun0_A (F := Ideal) c i arg2 harg2 arg3 harg3 arg4 harg4 arg5 harg5 arg6 harg6 hc0 x0 x1 x2).1
    = slabs8 (k0_pay7 x0 (k0_pay6 x1) x2) := by
  have e2 : View.readAt (Elt Ideal) arg2.view (Rect.unit ![0, 0] ![1024, 2048] inb_S1024x2048_S1024x2048_0_0).toLoadRect
      (harg2.unread x0) = x0 := by
    rw [View.readAt_eq_ld, harg2.read_unread]
    exact View.ld_unit_zero hz2 _ _
  have e4 : kernelRun0_A.sl.v4 (F := Ideal) c arg3 harg3 arg6 x1 = k0_pay6 x1 := by
    unfold kernelRun0_A.sl.v4 kernelRun0_A.sl.HS0_1
    rw [View.readCov_unit_zero _ hz2, View.readAt_eq_ld, harg3.read_unread, View.ld_unit_zero hz3]
  have e5 : View.readAt (Elt Ideal) arg4.view (Rect.unit ![0, 0] ![1, 1024] inb_S1x1024_S1x1024_0_0).toLoadRect
      (harg4.unread x2) = x2 := by
    rw [View.readAt_eq_ld, harg4.read_unread]
    exact View.ld_unit_zero hz2 _ _
  unfold kernelRun0_A
  dsimp only
  unfold kernelRun0_A.sl.r kernelRun0_A.sl.r_1
  try unfold kernelRun0_A.sl.r
  rw [e2, e4, e5]
  rfl

/-- The pieces of a point that finds the weights cast. -/
theorem pieces_B (hc0) : (kernelRun0_B (F := Ideal) c i arg2 harg2 arg3 harg3 arg4 harg4 arg5 harg5 arg6 harg6 hc0 x0 x1 x2 xs0).1
    = slabs8 (k0_pay7 x0 xs0 x2) := by
  have e2 : View.readAt (Elt Ideal) arg2.view (Rect.unit ![0, 0] ![1024, 2048] inb_S1024x2048_S1024x2048_0_0).toLoadRect
      (harg2.unread x0) = x0 := by
    rw [View.readAt_eq_ld, harg2.read_unread]
    exact View.ld_unit_zero hz2 _ _
  have e6 : View.readAt (Elt Ideal) arg6.view (Rect.unit ![0, 0] ![2048, 1024] inb_S2048x1024_S2048x1024_0_0).toLoadRect
      (harg6.unread xs0) = xs0 := by
    rw [View.readAt_eq_ld, harg6.read_unread]
    exact View.ld_unit_zero hz2 _ _
  have e5 : View.readAt (Elt Ideal) arg4.view (Rect.unit ![0, 0] ![1, 1024] inb_S1x1024_S1x1024_0_0).toLoadRect
      (harg4.unread x2) = x2 := by
    rw [View.readAt_eq_ld, harg4.read_unread]
    exact View.ld_unit_zero hz2 _ _
  unfold kernelRun0_B
  dsimp only
  unfold kernelRun0_B.sl.r kernelRun0_B.sl.r_1
  try unfold kernelRun0_B.sl.r
  rw [e2, e6, e5]
  rfl

/-- The output block of a point that casts the weights. -/
theorem out_A (hc0) : out0_A_3 (F := Ideal) c i arg2 harg2 arg3 harg3 arg4 harg4 arg5 harg5 arg6 harg6 hc0 x0 x1 x2
    = placed8 (k0_pay7 x0 (k0_pay6 x1) x2) := by
  funext y
  unfold out0_A_3
  rw [View.read_writes_junk_eq_canon]
  exact View.canon_apply_of_pieces _ _ (by rw [pieces_A]; exact slabs8_placed _) y
    (cover0_A_3 c i arg2 harg2 arg3 harg3 arg4 harg4 arg5 harg5 arg6 harg6 hc0 x0 x1 x2 y)

/-- The output block of a point that finds the weights cast. -/
theorem out_B (hc0) : out0_B_3 (F := Ideal) c i arg2 harg2 arg3 harg3 arg4 harg4 arg5 harg5 arg6 harg6 hc0 x0 x1 x2 xs0
    = placed8 (k0_pay7 x0 xs0 x2) := by
  funext y
  unfold out0_B_3
  rw [View.read_writes_junk_eq_canon]
  exact View.canon_apply_of_pieces _ _ (by rw [pieces_B]; exact slabs8_placed _) y
    (cover0_B_3 c i arg2 harg2 arg3 harg3 arg4 harg4 arg5 harg5 arg6 harg6 hc0 x0 x1 x2 xs0 y)

/-- The weights a casting point keeps. -/
theorem keep_A (hc0) : sout0_A_0 (F := Ideal) c i arg2 harg2 arg3 harg3 arg4 harg4 arg5 harg5 arg6 harg6 hc0 x0 x1 x2 = k0_pay6 x1 := by
  unfold sout0_A_0
  rw [View.read_writes_junk_eq_canon]
  unfold kernelRun0_A
  dsimp only
  unfold kernelRun0_A.sl.HS0_1
  rw [View.canon_unit_zero hz2, View.readAt_eq_ld, harg3.read_unread, View.ld_unit_zero hz3]

end

/-- The weights cast, at an index. -/
theorem cast_at (x : Vec Ideal S1x2048x1024 .f32) (k : Fin 2048) (n : Fin 1024) :
    k0_pay6 (F := Ideal) x (ix2 k n) = x (ix3 (0 : Fin 1) k n) := by
  unfold k0_pay6
  exact cast8_at x _ _ _ k n

/-- The bound and the logistic function, at an index. -/
theorem bound_at (x : FVec Ideal S1024x1024 .f32) (b : Vec Ideal S1x1024 .f32) (h1 h2 : S1x1024.Broadcasts S1024x1024) (r n : Fin 1024) :
    addf (broadcastTo S1024x1024 b h1) (mulf (broadcastTo S1024x1024
      (subf (broadcast S1x1024 (Scalar.ofBits (F := Ideal) .f32 0x3F800000#32)) b) h2) (logistic x)) (ix2 r n)
      = b (ix2 (0 : Fin 1) n) + (1 - b (ix2 (0 : Fin 1) n)) * Ideal.logistic (x (ix2 r n)) := by
  have e : ∀ (z : Vec Ideal S1x1024 .f32) (h : S1x1024.Broadcasts S1024x1024),
      broadcastTo S1024x1024 z h (ix2 r n) = z (ix2 (0 : Fin 1) n) := fun z h => broadcastTo_apply _ _ _ _ (fun a => by
    match a with
    | ⟨0, _⟩ => rfl
    | ⟨1, _⟩ => rfl)
  rw [addf_apply, mulf_apply, e, e, subf_apply]
  exact congrArg (fun o : EReal => b (ix2 (0 : Fin 1) n) + (o - b (ix2 (0 : Fin 1) n)) * Ideal.logistic (x (ix2 r n))) one_word

/-- A block before it is stored, at an index. -/
theorem block_at (x : Vec Ideal S1024x2048 .bf16) (w : Vec Ideal S2048x1024 .bf16) (b : Vec Ideal S1x1024 .f32) (r n : Fin 1024) :
    k0_pay7 (F := Ideal) x w b (ix2 r n)
      = b (ix2 (0 : Fin 1) n) + (1 - b (ix2 (0 : Fin 1) n)) * Ideal.logistic (rowdot x w r n) := by
  have e : shapeCast S1x1024 b shapeCasts_S1x1024_S1x1024 = b := funext fun y => shapeCast_apply _ _ _ y rfl
  unfold k0_pay7
  rw [e, bound_at]
  exact congrArg (fun z : EReal => b (ix2 (0 : Fin 1) n) + (1 - b (ix2 (0 : Fin 1) n)) * Ideal.logistic z)
    (matmul_at dot_S1024x2048_S2048x1024_S1024x1024_1_0_0_1_n_n rfl x w r n)

/-- The block of each window at a grid point. -/
theorem idx_facts : ∀ t : Fin cfg0.N,
    (win0_0.index t (0 : Fin 2) = t.val % 16 ∧ win0_0.index t (1 : Fin 2) = 0)
    ∧ (win0_1.index t (0 : Fin 3) = 0 ∧ win0_1.index t (1 : Fin 3) = 0
      ∧ win0_1.index t (2 : Fin 3) = 2048 + 1024 * (t.val / 16))
    ∧ (win0_3.index t (0 : Fin 4) = t.val % 16 / 2 ∧ win0_3.index t (1 : Fin 4) = t.val / 16
      ∧ win0_3.index t (2 : Fin 4) = t.val % 2 ∧ win0_3.index t (3 : Fin 4) = 0) :=
  (by decide +kernel : ∀ t : Fin grid0.N, _)

/-- Every block of the result has its grid point, which writes it back. -/
theorem point_of : ∀ (a : Fin 16) (j : Fin 2), ∃ t : Fin cfg0.N,
    t.val % 16 = a.val ∧ t.val / 16 = j.val ∧ (cfg0.win 3).flush t = true :=
  (by decide +kernel : ∀ (a : Fin 16) (j : Fin 2), ∃ t : Fin grid0.N,
    t.val % 16 = a.val ∧ t.val / 16 = j.val ∧ win0_3.flush t = true)

/-- There are two blocks of columns. -/
theorem points (n : ℕ) (hn : n < cfg0.N) : n / 16 < 2 := by
  have := lt_of_lt_of_eq hn (show cfg0.N = 32 from N_0)
  omega

variable (m : (ℓ : Loc nD τ sig) → Buf (Elt Ideal) ℓ) (c : Dev nD)

/-- The rows a grid point is given. -/
theorem rows_at (t : Fin cfg0.N) (r : Fin 1024) (k : Fin 2048) :
    iblk m c 0 t (ix2 r k) = m ((c.tc : Thread nD τ).loc main_arg0)
      (ix2 (⟨1024 * (t.val % 16) + r.val, by omega⟩ : Fin 16384) k) := by
  show V m c main_arg0 (((cfg0.win 0).blk t).view.emb (ix2 r k)) = _
  obtain ⟨⟨e0, e1⟩, -, -⟩ := idx_facts t
  rw [V_main_arg0]
  refine congrArg (m ((c.tc : Thread nD τ).loc main_arg0)) (funext fun a => Fin.ext ?_)
  match a with
  | ⟨0, _⟩ => show win0_0.index t (0 : Fin 2) * 1024 + 1 * r.val = 1024 * (t.val % 16) + r.val; omega
  | ⟨1, _⟩ => show win0_0.index t (1 : Fin 2) * 2048 + 1 * k.val = k.val; omega

/-- The columns it is given. -/
theorem columns_at (t : Fin cfg0.N) (k : Fin 2048) (n : Fin 1024) :
    iblk m c 1 t (ix3 (0 : Fin 1) k n) = m ((c.tc : Thread nD τ).loc main_arg1)
      (ix3 (0 : Fin 1) k (⟨2048 + 1024 * (t.val / 16) + n.val, by have := points t.val t.isLt; omega⟩ : Fin 16896)) := by
  show V m c main_arg1 (((cfg0.win 1).blk t).view.emb (ix3 (0 : Fin 1) k n)) = _
  obtain ⟨-, ⟨e0, e1, e2⟩, -⟩ := idx_facts t
  rw [V_main_arg1]
  refine congrArg (m ((c.tc : Thread nD τ).loc main_arg1)) (funext fun a => Fin.ext ?_)
  match a with
  | ⟨0, _⟩ => show win0_1.index t (0 : Fin 3) + 1 * 0 = 0; omega
  | ⟨1, _⟩ => show win0_1.index t (1 : Fin 3) + 1 * k.val = k.val; omega
  | ⟨2, _⟩ => show win0_1.index t (2 : Fin 3) + 1 * n.val = 2048 + 1024 * (t.val / 16) + n.val; omega

/-- Between casting points the columns stay. -/
theorem same_columns (t u : Fin cfg0.N) (h : t.val / 16 = u.val / 16) : iblk m c 1 t = iblk m c 1 u := by
  refine same_block _ _ fun k n => (columns_at m c t k n).trans (Eq.trans ?_ (columns_at m c u k n).symm)
  exact congrArg (fun z => m ((c.tc : Thread nD τ).loc main_arg1) (ix3 (0 : Fin 1) k z)) (Fin.ext (by dsimp only; omega))

/-- A casting point. -/
theorem left_A (t : Fin cfg0.N) (h0 : t.val % 16 = 0) : outsAt0 m c t.val t.isLt
    = (placed8 (k0_pay7 (iblk m c 0 t) (k0_pay6 (iblk m c 1 t)) (iblk m c 2 t)), k0_pay6 (iblk m c 1 t)) := by
  rw [outsAt0_A m c t h0, out_A, keep_A]

/-- Any other point. -/
theorem left_B (t : Fin cfg0.N) (h0 : ¬t.val % 16 = 0) : outsAt0 m c t.val t.isLt
    = (placed8 (k0_pay7 (iblk m c 0 t) (outsAt0 m c (t.val - 1) (Nat.lt_of_le_of_lt (Nat.sub_le _ _) t.isLt)).2 (iblk m c 2 t)),
      (outsAt0 m c (t.val - 1) (Nat.lt_of_le_of_lt (Nat.sub_le _ _) t.isLt)).2) := by
  rw [outsAt0_B m c t h0, out_B]
  rfl

attribute [local irreducible] outsAt0 iblk

/-- Every point: its output, and the weights of its columns, cast. -/
theorem left (t : Fin cfg0.N) : outsAt0 m c t.val t.isLt
    = (placed8 (k0_pay7 (iblk m c 0 t) (k0_pay6 (iblk m c 1 t)) (iblk m c 2 t)), k0_pay6 (iblk m c 1 t)) :=
  carried_pair (fun n h => outsAt0 m c n h) (fun n h s => placed8 (k0_pay7 (iblk m c 0 ⟨n, h⟩) s (iblk m c 2 ⟨n, h⟩)))
    (fun n h => k0_pay6 (iblk m c 1 ⟨n, h⟩)) (fun n h => left_A m c ⟨n, h⟩) (fun n h => left_B m c ⟨n, h⟩)
    (fun n h h0 => congrArg k0_pay6 (same_columns m c ⟨n, h⟩ ⟨n - 1, Nat.lt_of_le_of_lt (Nat.sub_le _ _) h⟩ (by dsimp only; omega)))
    t.val t.isLt

/-- The bound of a column. -/
noncomputable def bound (n : Fin 2048) : EReal := m ((c.tc : Thread nD τ).loc main_arg2) (ix1 n)

/-- The host lays the bounds out as a row. -/
theorem bounds_entry : (V m c main_v0 : S1x2048.Idx → EReal)
    = shapeCast S1x2048 (m ((c.tc : Thread nD τ).loc main_arg2) : S2048.Idx → EReal) shapeCasts_S2048_S1x2048 := by
  show StableHlo.after hostOps0 (fun b => m (c, b)) (Proc.devRef .tc main_v0) = _
  simp only [hostOps0]
  after_results_simp
  rfl

/-- The block of the bounds' window. -/
theorem bound_facts : ∀ t : Fin cfg0.N, win0_2.index t (0 : Fin 2) = 0 ∧ win0_2.index t (1 : Fin 2) = t.val / 16 :=
  (by decide +kernel : ∀ t : Fin grid0.N, _)

attribute [local semireducible] iblk in
/-- The bounds a grid point is given. -/
theorem bounds_at (t : Fin cfg0.N) (n : Fin 1024) :
    iblk m c 2 t (ix2 (0 : Fin 1) n) = m ((c.tc : Thread nD τ).loc main_arg2)
      (ix1 (⟨1024 * (t.val / 16) + n.val, by have := points t.val t.isLt; omega⟩ : Fin 2048)) := by
  show (V m c main_v0 : S1x2048.Idx → EReal) (((cfg0.win 2).blk t).view.emb (ix2 (0 : Fin 1) n)) = _
  obtain ⟨e0, e1⟩ := bound_facts t
  have p := points t.val t.isLt
  rw [bounds_entry, show ((cfg0.win 2).blk t).view.emb (ix2 (0 : Fin 1) n)
      = (ix2 (0 : Fin 1) (⟨1024 * (t.val / 16) + n.val, by omega⟩ : Fin 2048) : S1x2048.Idx) from by
    funext a'
    apply Fin.ext
    match a' with
    | ⟨0, _⟩ => show win0_2.index t (0 : Fin 2) * 1 + 1 * 0 = 0; omega
    | ⟨1, _⟩ => show win0_2.index t (1 : Fin 2) * 1024 + 1 * n.val = 1024 * (t.val / 16) + n.val; omega]
  refine shapeCast_apply _ _ _ _ ?_
  show (S2048.rowMajor (ix1 (⟨1024 * (t.val / 16) + n.val, by omega⟩ : Fin 2048))).val = _
  rw [Shape.rowMajor_val_one, Shape.rowMajor_val_two]
  show 1024 * (t.val / 16) + n.val = 0 * 2048 + (1024 * (t.val / 16) + n.val)
  omega

/-- A head's channel, at a row and a column of the call's part of the projection. -/
noncomputable def channel (r : Fin 16384) (n : Fin 2048) : EReal :=
  bound m c n + (1 - bound m c n) * Ideal.logistic (entry (m ((c.tc : Thread nD τ).loc main_arg0)) (m ((c.tc : Thread nD τ).loc main_arg1)) r (⟨2048 + n.val, by omega⟩ : Fin 16896))

/-- What a grid point leaves. -/
theorem point_at (t : Fin cfg0.N) (r n : Fin 1024) :
    k0_pay7 (F := Ideal) (iblk m c 0 t) (k0_pay6 (iblk m c 1 t)) (iblk m c 2 t) (ix2 r n)
      = channel m c (⟨1024 * (t.val % 16) + r.val, by omega⟩ : Fin 16384)
        (⟨1024 * (t.val / 16) + n.val, by have := points t.val t.isLt; omega⟩ : Fin 2048) := by
  have p := points t.val t.isLt
  refine (block_at _ _ _ r n).trans ?_
  unfold channel
  have hs := rowdot_entry (iblk m c 0 t) (k0_pay6 (F := Ideal) (iblk m c 1 t)) _ _ r n _
    (⟨2048 + (1024 * (t.val / 16) + n.val), by omega⟩ : Fin 16896) (fun k => rows_at m c t r k)
    (fun k => (cast_at _ k n).trans ((columns_at m c t k n).trans
      (congrArg (fun z => m ((c.tc : Thread nD τ).loc main_arg1) (ix3 (0 : Fin 1) k z)) (Fin.ext (by dsimp only; omega)))))
  exact congrArg₂ (fun (o z : EReal) => o + (1 - o) * Ideal.logistic z) (bounds_at m c t n) hs

/-- The array after the run, at any batch, head, row and channel. -/
theorem final_apply (b : Fin 8) (h : Fin 16) (u : Fin 2048) (e : Fin 128) :
    ((dats m 0 c).arrAt 3 cfg0.N : S8x16x2048x128.Idx → EReal) (ix4 b h u e)
      = channel m c (⟨2048 * b.val + u.val, by omega⟩ : Fin 16384) (⟨128 * h.val + e.val, by omega⟩ : Fin 2048) := by
  refine heads_of_blocks _ (channel m c) (fun a j => ?_) b h u e
  obtain ⟨t, ha, hj, hf⟩ := point_of a j
  refine ⟨k0_pay7 (F := Ideal) (iblk m c 0 t) (k0_pay6 (iblk m c 1 t)) (iblk m c 2 t), fun r n => (point_at m c t r n).trans
    (congrArg₂ (channel m c) (Fin.ext (by dsimp only; omega)) (Fin.ext (by dsimp only; omega))), fun h r e => ?_⟩
  have k := congrFun (Cert.ForgetIdeal.Value.blocks3 m c t hf) (ix4 (0 : Fin 1) h r e)
  rw [Cert.ForgetIdeal.Value.flushed3, left] at k
  obtain ⟨-, -, e0, e1, e2, e3⟩ := idx_facts t
  refine Eq.trans (congrArg ((dats m 0 c).arrAt 3 cfg0.N : S8x16x2048x128.Idx → EReal) (funext fun a' => Fin.ext ?_)) k
  match a' with
  | ⟨0, _⟩ => show a.val / 2 = win0_3.index t (0 : Fin 4) * 1 + 1 * 0; omega
  | ⟨1, _⟩ => show 8 * j.val + h.val = win0_3.index t (1 : Fin 4) * 8 + 1 * h.val; omega
  | ⟨2, _⟩ => show 1024 * (a.val % 2) + r.val = win0_3.index t (2 : Fin 4) * 1024 + 1 * r.val; omega
  | ⟨3, _⟩ => show e.val = win0_3.index t (3 : Fin 4) * 128 + 1 * e.val; omega

end Cert.ForgetGate
-- ==== Proof.Recur.lean ====
/-  The plain references of the recurrence's three calls at an index, and their agreement with the kernel's arrays. -/
module

public import proofs.«01_k».proof.Proof.Input
public import proofs.«01_k».proof.Proof.Output
public import proofs.«01_k».proof.Proof.Forget
public import proofs.«01_k».proof.Proof.Gen.InputReferenceIdeal.Run
public import proofs.«01_k».proof.Proof.Gen.OutputReferenceIdeal.Run
public import proofs.«01_k».proof.Proof.Gen.ForgetReferenceIdeal.Run

@[expose] public section

namespace Cert.Recur

open Idealize.ShloMosaic Idealize.ShloMosaic.ValueIdx
open Idealize.ShloMosaic.TcCoe Cert.Proj
open scoped BigOperators

/-- Columns split into heads, head by head. -/
theorem heads_at (z : (⟨2, ![16384, 2048]⟩ : Shape).Idx → EReal)
    (hS : (⟨2, ![16384, 2048]⟩ : Shape).ShapeCasts ⟨4, ![8, 2048, 16, 128]⟩)
    (hT : (⟨4, ![8, 2048, 16, 128]⟩ : Shape).Transposes [0, 2, 1, 3] ⟨4, ![8, 16, 2048, 128]⟩)
    (b : Fin 8) (a : Fin 16) (u : Fin 2048) (e : Fin 128) :
    transpose ⟨4, ![8, 16, 2048, 128]⟩ [0, 2, 1, 3] (shapeCast ⟨4, ![8, 2048, 16, 128]⟩ z hS) hT (ix4 b a u e)
      = z (ix2 (⟨2048 * b.val + u.val, by omega⟩ : Fin 16384) (⟨128 * a.val + e.val, by omega⟩ : Fin 2048)) := by
  rw [transpose_apply _ _ _ _ (ix4 b u a e) (by
    intro q
    match q with
    | ⟨0, _⟩ => rfl
    | ⟨1, _⟩ => rfl
    | ⟨2, _⟩ => rfl
    | ⟨3, _⟩ => rfl)]
  rw [shapeCast_apply _ _ _ (ix2 (⟨2048 * b.val + u.val, by omega⟩ : Fin 16384) (⟨128 * a.val + e.val, by omega⟩ : Fin 2048)) (by
    rw [Shape.rowMajor_val_two, Shape.rowMajor_val_four]
    show (2048 * b.val + u.val) * 2048 + (128 * a.val + e.val) = ((b.val * 2048 + u.val) * 16 + a.val) * 128 + e.val
    omega)]

/-- The constant one spread over an array. -/
theorem ones_at {T : Shape} (hb : (⟨0, ![]⟩ : Shape).BroadcastsInDim T ![]) (i : T.Idx) :
    broadcastInDim T ![] hb (constant (F := Ideal) ⟨0, ![]⟩ .f32 0x3F800000#32) i = (1 : EReal) :=
  (broadcastInDim_scalar_apply _ _ _).trans one_word

/-- A sum with a product, at an index. -/
theorem raise_at {s : Shape} (x y z : s.Idx → EReal) (i : s.Idx) :
    addf (F := Ideal) (φ := .f32) x (mulf (F := Ideal) (φ := .f32) y z) i = x i + y i * z i := rfl

/-- One less a number, at an index. -/
theorem less_at {s : Shape} (o x : s.Idx → EReal) (i : s.Idx) (ho : o i = 1) : subf (F := Ideal) (φ := .f32) o x i = 1 - x i :=
  (show _ = o i - x i from rfl).trans (by rw [ho])

/-- A row of numbers spread over the rows. -/
theorem spread_at (z : (⟨1, ![2048]⟩ : Shape).Idx → EReal) (h1 : (⟨1, ![2048]⟩ : Shape).BroadcastsInDim ⟨2, ![1, 2048]⟩ ![1])
    (h2 : (⟨2, ![1, 2048]⟩ : Shape).BroadcastsInDim ⟨2, ![16384, 2048]⟩ ![0, 1]) (r : Fin 16384) (n : Fin 2048) :
    broadcastInDim ⟨2, ![16384, 2048]⟩ ![0, 1] h2 (broadcastInDim ⟨2, ![1, 2048]⟩ ![1] h1 z) (ix2 r n) = z (ix1 n) := by
  rw [broadcastInDim_apply _ _ _ _ (ix2 (0 : Fin 1) n) (fun a => by
    match a with
    | ⟨0, _⟩ => rfl
    | ⟨1, _⟩ => rfl)]
  exact broadcastInDim_apply _ _ _ _ (ix1 n) (fun a => by
    match a with
    | ⟨0, _⟩ => rfl)

section Input
open Cert.InputReferenceIdeal Cert.InputReferenceIdeal.Gen

/-- The values, written plainly. -/
noncomputable def inputRef (h : S16384x2048.Idx → EReal) (w : S1x2048x16896.Idx → EReal) : S8x16x2048x128.Idx → EReal :=
  truncf (F := Ideal) (φ := .f32) .bf16 (transpose S8x16x2048x128 [0, 2, 1, 3] (shapeCast S8x2048x16x128 (Host.dotGeneral (F := Ideal) (φ₁ := .f32) (φ₂ := .f32) dot_S16384x2048_S2048x2048_S16384x2048_1_0_0_1_n_n none
      (extf (F := Ideal) (φ := .bf16) .f32 h bitsLt_bf16_f32)
      (shapeCast _ (extractStridedSlice S1x2048x2048 ![0, 0, 4096] w slices_S1x2048x16896_S1x2048x2048_0_0_4096)
        shapeCasts_S1x2048x2048_S2048x2048))
    shapeCasts_S16384x2048_S8x2048x16x128) transposes_S8x2048x16x128_S8x16x2048x128_0_2_1_3) bitsLt_bf16_f32

/-- At an index. -/
theorem inputRef_apply (h : S16384x2048.Idx → EReal) (w : S1x2048x16896.Idx → EReal) (b' : Fin 8) (a : Fin 16) (u : Fin 2048)
    (e : Fin 128) : inputRef h w (ix4 b' a u e)
      = entry h w (⟨2048 * b'.val + u.val, by omega⟩ : Fin 16384) (⟨4096 + (128 * a.val + e.val), by omega⟩ : Fin 16896) := by
  unfold inputRef
  rw [narrow_at, heads_at]
  unfold entry
  exact (dot_at dot_S16384x2048_S2048x2048_S16384x2048_1_0_0_1_n_n rfl _ _ _ _).trans
      (Finset.sum_congr rfl fun k _ => congrArg₂ (fun p q : EReal => p * q) (widen_at h _ _) (columns_of w _ _ k _ _))

end Input

/-- A run of the plain values ends with the kernel's array when the arguments agree. -/
theorem input_agree (m : (ℓ : Loc Cert.InputIdeal.nD Cert.InputIdeal.τ Cert.InputIdeal.sig) → Buf (Elt Ideal) ℓ)
    (m' : (ℓ : Loc Cert.InputReferenceIdeal.nD Cert.InputReferenceIdeal.τ Cert.InputReferenceIdeal.sig) → Buf (Elt Ideal) ℓ) (c : Dev Cert.InputIdeal.nD)
    (h0 : m' ((c.tc : Thread Cert.InputReferenceIdeal.nD Cert.InputReferenceIdeal.τ).loc Cert.InputReferenceIdeal.main_arg0) = m ((c.tc : Thread Cert.InputIdeal.nD Cert.InputIdeal.τ).loc Cert.InputIdeal.main_arg0))
    (h1 : m' ((c.tc : Thread Cert.InputReferenceIdeal.nD Cert.InputReferenceIdeal.τ).loc Cert.InputReferenceIdeal.main_arg1) = m ((c.tc : Thread Cert.InputIdeal.nD Cert.InputIdeal.τ).loc Cert.InputIdeal.main_arg1)) :
    inputRef (m' ((c.tc : Thread Cert.InputReferenceIdeal.nD Cert.InputReferenceIdeal.τ).loc Cert.InputReferenceIdeal.main_arg0)) (m' ((c.tc : Thread Cert.InputReferenceIdeal.nD Cert.InputReferenceIdeal.τ).loc Cert.InputReferenceIdeal.main_arg1))
      = (Cert.InputIdeal.Gen.dats m 0 c).arrAt 3 Cert.InputIdeal.cfg0.N := by
  rw [h0, h1]
  funext j
  rw [eq_ix4 j]
  exact (inputRef_apply _ _ (j 0) (j 1) (j 2) (j 3)).trans (Cert.Values.final_apply m c (j 0) (j 1) (j 2) (j 3)).symm

section Output
open Cert.OutputReferenceIdeal Cert.OutputReferenceIdeal.Gen

/-- The output gates, written plainly. -/
noncomputable def outputRef (h : S16384x2048.Idx → EReal) (w : S1x2048x16896.Idx → EReal) : S8x16x2048x128.Idx → EReal :=
  truncf (F := Ideal) (φ := .f32) .bf16 (transpose S8x16x2048x128 [0, 2, 1, 3] (shapeCast S8x2048x16x128 (Host.divf (F := Ideal) (φ := .f32) (broadcastInDim S16384x2048 ![] bcast_S_S16384x2048 (constant (F := Ideal) S_ .f32 0x3F800000#32))
    (addf (F := Ideal) (φ := .f32) (broadcastInDim S16384x2048 ![] bcast_S_S16384x2048 (constant (F := Ideal) S_ .f32 0x3F800000#32))
    (Host.exp (F := Ideal) (φ := .f32) (Host.negf (F := Ideal) (φ := .f32) (Host.dotGeneral (F := Ideal) (φ₁ := .f32) (φ₂ := .f32) dot_S16384x2048_S2048x2048_S16384x2048_1_0_0_1_n_n none
      (extf (F := Ideal) (φ := .bf16) .f32 h bitsLt_bf16_f32)
      (shapeCast _ (extractStridedSlice S1x2048x2048 ![0, 0, 6144] w slices_S1x2048x16896_S1x2048x2048_0_0_6144)
        shapeCasts_S1x2048x2048_S2048x2048))))))
    shapeCasts_S16384x2048_S8x2048x16x128) transposes_S8x2048x16x128_S8x16x2048x128_0_2_1_3) bitsLt_bf16_f32

/-- At an index. -/
theorem outputRef_apply (h : S16384x2048.Idx → EReal) (w : S1x2048x16896.Idx → EReal) (b' : Fin 8) (a : Fin 16) (u : Fin 2048)
    (e : Fin 128) : outputRef h w (ix4 b' a u e)
      = Ideal.logistic (entry h w (⟨2048 * b'.val + u.val, by omega⟩ : Fin 16384) (⟨6144 + (128 * a.val + e.val), by omega⟩ : Fin 16896)) := by
  unfold outputRef
  rw [narrow_at, heads_at, logistic_at _ _ _ _ (ones_at _ _) (ones_at _ _)]
  unfold entry
  exact congrArg Ideal.logistic ((dot_at dot_S16384x2048_S2048x2048_S16384x2048_1_0_0_1_n_n rfl _ _ _ _).trans
      (Finset.sum_congr rfl fun k _ => congrArg₂ (fun p q : EReal => p * q) (widen_at h _ _) (columns_of w _ _ k _ _)))

end Output

/-- A run of the plain output gates ends with the kernel's array when the arguments agree. -/
theorem output_agree (m : (ℓ : Loc Cert.OutputIdeal.nD Cert.OutputIdeal.τ Cert.OutputIdeal.sig) → Buf (Elt Ideal) ℓ)
    (m' : (ℓ : Loc Cert.OutputReferenceIdeal.nD Cert.OutputReferenceIdeal.τ Cert.OutputReferenceIdeal.sig) → Buf (Elt Ideal) ℓ) (c : Dev Cert.OutputIdeal.nD)
    (h0 : m' ((c.tc : Thread Cert.OutputReferenceIdeal.nD Cert.OutputReferenceIdeal.τ).loc Cert.OutputReferenceIdeal.main_arg0) = m ((c.tc : Thread Cert.OutputIdeal.nD Cert.OutputIdeal.τ).loc Cert.OutputIdeal.main_arg0))
    (h1 : m' ((c.tc : Thread Cert.OutputReferenceIdeal.nD Cert.OutputReferenceIdeal.τ).loc Cert.OutputReferenceIdeal.main_arg1) = m ((c.tc : Thread Cert.OutputIdeal.nD Cert.OutputIdeal.τ).loc Cert.OutputIdeal.main_arg1)) :
    outputRef (m' ((c.tc : Thread Cert.OutputReferenceIdeal.nD Cert.OutputReferenceIdeal.τ).loc Cert.OutputReferenceIdeal.main_arg0)) (m' ((c.tc : Thread Cert.OutputReferenceIdeal.nD Cert.OutputReferenceIdeal.τ).loc Cert.OutputReferenceIdeal.main_arg1))
      = (Cert.OutputIdeal.Gen.dats m 0 c).arrAt 3 Cert.OutputIdeal.cfg0.N := by
  rw [h0, h1]
  funext j
  rw [eq_ix4 j]
  exact (outputRef_apply _ _ (j 0) (j 1) (j 2) (j 3)).trans (Cert.OutGate.final_apply m c (j 0) (j 1) (j 2) (j 3)).symm

section Forget
open Cert.ForgetReferenceIdeal Cert.ForgetReferenceIdeal.Gen

/-- The forget gates, written plainly. -/
noncomputable def forgetRef (h : S16384x2048.Idx → EReal) (w : S1x2048x16896.Idx → EReal) (b : S2048.Idx → EReal) : S8x16x2048x128.Idx → EReal :=
  transpose S8x16x2048x128 [0, 2, 1, 3] (shapeCast S8x2048x16x128 (addf (F := Ideal) (φ := .f32) (broadcastInDim S16384x2048 ![0, 1] bcast_S1x2048_S16384x2048_0_1 (broadcastInDim S1x2048 ![1] bcast_S2048_S1x2048_1 b))
    (mulf (F := Ideal) (φ := .f32) (broadcastInDim S16384x2048 ![0, 1] bcast_S1x2048_S16384x2048_0_1 (broadcastInDim S1x2048 ![1] bcast_S2048_S1x2048_1
      (subf (F := Ideal) (φ := .f32) (broadcastInDim S2048 ![] bcast_S_S2048 (constant (F := Ideal) S_ .f32 0x3F800000#32)) b)))
    (Host.divf (F := Ideal) (φ := .f32) (broadcastInDim S16384x2048 ![] bcast_S_S16384x2048 (constant (F := Ideal) S_ .f32 0x3F800000#32))
    (addf (F := Ideal) (φ := .f32) (broadcastInDim S16384x2048 ![] bcast_S_S16384x2048 (constant (F := Ideal) S_ .f32 0x3F800000#32))
    (Host.exp (F := Ideal) (φ := .f32) (Host.negf (F := Ideal) (φ := .f32) (Host.dotGeneral (F := Ideal) (φ₁ := .f32) (φ₂ := .f32) dot_S16384x2048_S2048x2048_S16384x2048_1_0_0_1_n_n none
      (extf (F := Ideal) (φ := .bf16) .f32 h bitsLt_bf16_f32)
      (shapeCast _ (extractStridedSlice S1x2048x2048 ![0, 0, 2048] w slices_S1x2048x16896_S1x2048x2048_0_0_2048)
        shapeCasts_S1x2048x2048_S2048x2048))))))))
    shapeCasts_S16384x2048_S8x2048x16x128) transposes_S8x2048x16x128_S8x16x2048x128_0_2_1_3

/-- At an index. -/
theorem forgetRef_apply (h : S16384x2048.Idx → EReal) (w : S1x2048x16896.Idx → EReal) (b : S2048.Idx → EReal) (b' : Fin 8) (a : Fin 16) (u : Fin 2048)
    (e : Fin 128) : forgetRef h w b (ix4 b' a u e)
      = b (ix1 (⟨128 * a.val + e.val, by omega⟩ : Fin 2048)) + (1 - b (ix1 (⟨128 * a.val + e.val, by omega⟩ : Fin 2048))) * Ideal.logistic (entry h w (⟨2048 * b'.val + u.val, by omega⟩ : Fin 16384) (⟨2048 + (128 * a.val + e.val), by omega⟩ : Fin 16896)) := by
  unfold forgetRef
  rw [heads_at, raise_at, spread_at, spread_at, less_at _ _ _ (ones_at _ _), logistic_at _ _ _ _ (ones_at _ _) (ones_at _ _)]
  unfold entry
  exact congrArg (fun z : EReal => b (ix1 (⟨128 * a.val + e.val, by omega⟩ : Fin 2048)) + (1 - b (ix1 (⟨128 * a.val + e.val, by omega⟩ : Fin 2048))) * Ideal.logistic z)
    ((dot_at dot_S16384x2048_S2048x2048_S16384x2048_1_0_0_1_n_n rfl _ _ _ _).trans
      (Finset.sum_congr rfl fun k _ => congrArg₂ (fun p q : EReal => p * q) (widen_at h _ _) (columns_of w _ _ k _ _)))

end Forget

/-- A run of the plain forget gates ends with the kernel's array when the arguments agree. -/
theorem forget_agree (m : (ℓ : Loc Cert.ForgetIdeal.nD Cert.ForgetIdeal.τ Cert.ForgetIdeal.sig) → Buf (Elt Ideal) ℓ)
    (m' : (ℓ : Loc Cert.ForgetReferenceIdeal.nD Cert.ForgetReferenceIdeal.τ Cert.ForgetReferenceIdeal.sig) → Buf (Elt Ideal) ℓ) (c : Dev Cert.ForgetIdeal.nD)
    (h0 : m' ((c.tc : Thread Cert.ForgetReferenceIdeal.nD Cert.ForgetReferenceIdeal.τ).loc Cert.ForgetReferenceIdeal.main_arg0) = m ((c.tc : Thread Cert.ForgetIdeal.nD Cert.ForgetIdeal.τ).loc Cert.ForgetIdeal.main_arg0))
    (h1 : m' ((c.tc : Thread Cert.ForgetReferenceIdeal.nD Cert.ForgetReferenceIdeal.τ).loc Cert.ForgetReferenceIdeal.main_arg1) = m ((c.tc : Thread Cert.ForgetIdeal.nD Cert.ForgetIdeal.τ).loc Cert.ForgetIdeal.main_arg1))
    (h2 : m' ((c.tc : Thread Cert.ForgetReferenceIdeal.nD Cert.ForgetReferenceIdeal.τ).loc Cert.ForgetReferenceIdeal.main_arg2) = m ((c.tc : Thread Cert.ForgetIdeal.nD Cert.ForgetIdeal.τ).loc Cert.ForgetIdeal.main_arg2)) :
    forgetRef (m' ((c.tc : Thread Cert.ForgetReferenceIdeal.nD Cert.ForgetReferenceIdeal.τ).loc Cert.ForgetReferenceIdeal.main_arg0)) (m' ((c.tc : Thread Cert.ForgetReferenceIdeal.nD Cert.ForgetReferenceIdeal.τ).loc Cert.ForgetReferenceIdeal.main_arg1)) (m' ((c.tc : Thread Cert.ForgetReferenceIdeal.nD Cert.ForgetReferenceIdeal.τ).loc Cert.ForgetReferenceIdeal.main_arg2))
      = (Cert.ForgetIdeal.Gen.dats m 0 c).arrAt 3 Cert.ForgetIdeal.cfg0.N := by
  rw [h0, h1, h2]
  funext j
  rw [eq_ix4 j]
  exact (forgetRef_apply _ _ _ (j 0) (j 1) (j 2) (j 3)).trans (Cert.ForgetGate.final_apply m c (j 0) (j 1) (j 2) (j 3)).symm

end Cert.Recur
-- ==== Proof.Merge.lean ====
/-  The merge of the two branches: two products, weighted by the gates and added. -/
module

public import proofs.«01_k».proof.Proof.Gen.MergeIdeal.Value
public import proofs.«01_k».proof.Proof.Slab

@[expose] public section

namespace Cert.Merged

open Idealize.ShloMosaic Idealize.ShloMosaic.ValueIdx Cert.MergeIdeal Cert.MergeIdeal.Gen
open Idealize.ShloMosaic.TcCoe Cert.Proj
open scoped BigOperators

section
variable (c : Dev nD) (i : grid0.Coords) (arg2 : Memref sig .tc .vmem S1024x2048 .bf16) (harg2 : arg2.IsWhole)
  (arg3 : Memref sig .tc .vmem S1024x512 .bf16) (harg3 : arg3.IsWhole) (arg4 : Memref sig .tc .vmem S2048x1024 .f32) (harg4 : arg4.IsWhole)
  (arg5 : Memref sig .tc .vmem S512x1024 .f32) (harg5 : arg5.IsWhole) (arg6 : Memref sig .tc .vmem S1024x1024 .bf16) (harg6 : arg6.IsWhole)
  (arg7 : Memref sig .tc .vmem S1024x1024 .bf16) (harg7 : arg7.IsWhole) (arg8 : Memref sig .tc .vmem S1024x1024 .bf16) (harg8 : arg8.IsWhole)
  (arg9 : Memref sig .tc .vmem S2048x1024 .bf16) (harg9 : arg9.IsWhole) (arg10 : Memref sig .tc .vmem S512x1024 .bf16) (harg10 : arg10.IsWhole)
  (x0 : Vec Ideal S1024x2048 .bf16) (x1 : Vec Ideal S1024x512 .bf16) (x2 : Vec Ideal S2048x1024 .f32) (x3 : Vec Ideal S512x1024 .f32)
  (x4 x5 : Vec Ideal S1024x1024 .bf16) (xs0 : Vec Ideal S2048x1024 .bf16) (xs1 : Vec Ideal S512x1024 .bf16)

/-- The output block of a point that casts the weights. -/
theorem out_A (hc0) : out0_A_6 (F := Ideal) c i arg2 harg2 arg3 harg3 arg4 harg4 arg5 harg5 arg6 harg6 arg7 harg7 arg8 harg8
    arg9 harg9 arg10 harg10 hc0 x0 x1 x2 x3 x4 x5 = k0_pay3 x0 (k0_pay1 x2) x1 (k0_pay2 x3) x4 x5 := by
  unfold out0_A_6
  rw [View.read_writes_junk_eq_canon]
  unfold kernelRun0_A
  dsimp only
  simp only [View.readAt_eq_ld, harg2.read_unread, harg3.read_unread, harg6.read_unread, harg7.read_unread]
  rw [View.canon_unit_zero hz2, View.ld_unit_zero hz2, View.ld_unit_zero hz2, View.ld_unit_zero hz2, View.ld_unit_zero hz2]
  unfold kernelRun0_A.sl.v4 kernelRun0_A.sl.v7 kernelRun0_A.sl.HS0_1 kernelRun0_A.sl.HS1_1
  rw [View.readCov_unit_zero _ hz2, View.readCov_unit_zero _ hz2, View.readAt_eq_ld, View.readAt_eq_ld, harg4.read_unread,
    harg5.read_unread, View.ld_unit_zero hz2, View.ld_unit_zero hz2]

/-- The weights of the first branch it keeps. -/
theorem keep_A (hc0) : sout0_A_0 (F := Ideal) c i arg2 harg2 arg3 harg3 arg4 harg4 arg5 harg5 arg6 harg6 arg7 harg7 arg8 harg8
    arg9 harg9 arg10 harg10 hc0 x0 x1 x2 x3 x4 x5 = k0_pay1 x2 := by
  unfold sout0_A_0
  rw [View.read_writes_junk_eq_canon]
  unfold kernelRun0_A
  dsimp only
  unfold kernelRun0_A.sl.HS0_1
  rw [View.canon_unit_zero hz2, View.readAt_eq_ld, harg4.read_unread, View.ld_unit_zero hz2]

/-- The weights of the second branch it keeps. -/
theorem keep_A' (hc0) : sout0_A_1 (F := Ideal) c i arg2 harg2 arg3 harg3 arg4 harg4 arg5 harg5 arg6 harg6 arg7 harg7 arg8 harg8
    arg9 harg9 arg10 harg10 hc0 x0 x1 x2 x3 x4 x5 = k0_pay2 x3 := by
  unfold sout0_A_1
  rw [View.read_writes_junk_eq_canon]
  unfold kernelRun0_A
  dsimp only
  unfold kernelRun0_A.sl.HS1_1
  rw [View.canon_unit_zero hz2, View.readAt_eq_ld, harg5.read_unread, View.ld_unit_zero hz2]

/-- The output block of a point that finds the weights cast. -/
theorem out_B (hc0) : out0_B_6 (F := Ideal) c i arg2 harg2 arg3 harg3 arg4 harg4 arg5 harg5 arg6 harg6 arg7 harg7 arg8 harg8
    arg9 harg9 arg10 harg10 hc0 x0 x1 x2 x3 x4 x5 xs0 xs1 = k0_pay3 x0 xs0 x1 xs1 x4 x5 := by
  unfold out0_B_6
  rw [View.read_writes_junk_eq_canon]
  unfold kernelRun0_B
  dsimp only
  simp only [View.readAt_eq_ld, harg2.read_unread, harg3.read_unread, harg6.read_unread, harg7.read_unread, harg9.read_unread,
    harg10.read_unread]
  rw [View.canon_unit_zero hz2, View.ld_unit_zero hz2, View.ld_unit_zero hz2, View.ld_unit_zero hz2, View.ld_unit_zero hz2, View.ld_unit_zero hz2,
    View.ld_unit_zero hz2]

end

/-- The block of each window at a grid point. -/
theorem idx_facts : ∀ t : Fin cfg0.N,
    (win0_0.index t (0 : Fin 2) = t.val % 16 ∧ win0_0.index t (1 : Fin 2) = 0)
    ∧ (win0_1.index t (0 : Fin 2) = t.val % 16 ∧ win0_1.index t (1 : Fin 2) = 0)
    ∧ (win0_2.index t (0 : Fin 2) = 0 ∧ win0_2.index t (1 : Fin 2) = t.val / 16)
    ∧ (win0_3.index t (0 : Fin 2) = 0 ∧ win0_3.index t (1 : Fin 2) = t.val / 16)
    ∧ (win0_4.index t (0 : Fin 2) = t.val % 16 ∧ win0_4.index t (1 : Fin 2) = t.val / 16)
    ∧ (win0_5.index t (0 : Fin 2) = t.val % 16 ∧ win0_5.index t (1 : Fin 2) = t.val / 16 + 2)
    ∧ (win0_6.index t (0 : Fin 2) = t.val % 16 ∧ win0_6.index t (1 : Fin 2) = t.val / 16) :=
  (by decide +kernel : ∀ t : Fin grid0.N, _)

/-- Every block of the result has its grid point, which writes it back. -/
theorem point_of : ∀ (a : Fin 16) (j : Fin 2), ∃ t : Fin cfg0.N,
    t.val % 16 = a.val ∧ t.val / 16 = j.val ∧ (cfg0.win 6).flush t = true :=
  (by decide +kernel : ∀ (a : Fin 16) (j : Fin 2), ∃ t : Fin grid0.N,
    t.val % 16 = a.val ∧ t.val / 16 = j.val ∧ win0_6.flush t = true)

/-- There are two blocks of columns. -/
theorem points (n : ℕ) (hn : n < cfg0.N) : n / 16 < 2 := by
  have := lt_of_lt_of_eq hn (show cfg0.N = 32 from N_0)
  omega

variable (m : (ℓ : Loc nD τ sig) → Buf (Elt Ideal) ℓ) (c : Dev nD)

/-- The first branch's rows a grid point is given. -/
theorem rows_a (t : Fin cfg0.N) (r : Fin 1024) (k : Fin 2048) :
    iblk m c 0 t (ix2 r k) = m ((c.tc : Thread nD τ).loc main_arg0)
      (ix2 (⟨1024 * (t.val % 16) + r.val, by omega⟩ : Fin 16384) k) := by
  show V m c main_arg0 (((cfg0.win 0).blk t).view.emb (ix2 r k)) = _
  obtain ⟨⟨e0, e1⟩, -⟩ := idx_facts t
  rw [V_main_arg0]
  refine congrArg (m ((c.tc : Thread nD τ).loc main_arg0)) (funext fun a => Fin.ext ?_)
  match a with
  | ⟨0, _⟩ => show win0_0.index t (0 : Fin 2) * 1024 + 1 * r.val = 1024 * (t.val % 16) + r.val; omega
  | ⟨1, _⟩ => show win0_0.index t (1 : Fin 2) * 2048 + 1 * k.val = k.val; omega

/-- The second branch's rows. -/
theorem rows_b (t : Fin cfg0.N) (r : Fin 1024) (k : Fin 512) :
    iblk m c 1 t (ix2 r k) = m ((c.tc : Thread nD τ).loc main_arg1)
      (ix2 (⟨1024 * (t.val % 16) + r.val, by omega⟩ : Fin 16384) k) := by
  show V m c main_arg1 (((cfg0.win 1).blk t).view.emb (ix2 r k)) = _
  obtain ⟨-, ⟨e0, e1⟩, -⟩ := idx_facts t
  rw [V_main_arg1]
  refine congrArg (m ((c.tc : Thread nD τ).loc main_arg1)) (funext fun a => Fin.ext ?_)
  match a with
  | ⟨0, _⟩ => show win0_1.index t (0 : Fin 2) * 1024 + 1 * r.val = 1024 * (t.val % 16) + r.val; omega
  | ⟨1, _⟩ => show win0_1.index t (1 : Fin 2) * 512 + 1 * k.val = k.val; omega

/-- The columns of the first branch's weights. -/
theorem columns_a (t : Fin cfg0.N) (k : Fin 2048) (n : Fin 1024) :
    iblk m c 2 t (ix2 k n) = m ((c.tc : Thread nD τ).loc main_arg2)
      (ix2 k (⟨1024 * (t.val / 16) + n.val, by have := points t.val t.isLt; omega⟩ : Fin 2048)) := by
  show V m c main_arg2 (((cfg0.win 2).blk t).view.emb (ix2 k n)) = _
  obtain ⟨-, -, ⟨e0, e1⟩, -⟩ := idx_facts t
  rw [V_main_arg2]
  refine congrArg (m ((c.tc : Thread nD τ).loc main_arg2)) (funext fun a => Fin.ext ?_)
  match a with
  | ⟨0, _⟩ => show win0_2.index t (0 : Fin 2) * 2048 + 1 * k.val = k.val; omega
  | ⟨1, _⟩ => show win0_2.index t (1 : Fin 2) * 1024 + 1 * n.val = 1024 * (t.val / 16) + n.val; omega

/-- The columns of the second branch's weights. -/
theorem columns_b (t : Fin cfg0.N) (k : Fin 512) (n : Fin 1024) :
    iblk m c 3 t (ix2 k n) = m ((c.tc : Thread nD τ).loc main_arg3)
      (ix2 k (⟨1024 * (t.val / 16) + n.val, by have := points t.val t.isLt; omega⟩ : Fin 2048)) := by
  show V m c main_arg3 (((cfg0.win 3).blk t).view.emb (ix2 k n)) = _
  obtain ⟨-, -, -, ⟨e0, e1⟩, -⟩ := idx_facts t
  rw [V_main_arg3]
  refine congrArg (m ((c.tc : Thread nD τ).loc main_arg3)) (funext fun a => Fin.ext ?_)
  match a with
  | ⟨0, _⟩ => show win0_3.index t (0 : Fin 2) * 512 + 1 * k.val = k.val; omega
  | ⟨1, _⟩ => show win0_3.index t (1 : Fin 2) * 1024 + 1 * n.val = 1024 * (t.val / 16) + n.val; omega

/-- The first branch's gates. -/
theorem gates_a (t : Fin cfg0.N) (r n : Fin 1024) :
    iblk m c 4 t (ix2 r n) = m ((c.tc : Thread nD τ).loc main_arg4)
      (ix2 (⟨1024 * (t.val % 16) + r.val, by omega⟩ : Fin 16384)
        (⟨1024 * (t.val / 16) + n.val, by have := points t.val t.isLt; omega⟩ : Fin 4096)) := by
  show V m c main_arg4 (((cfg0.win 4).blk t).view.emb (ix2 r n)) = _
  obtain ⟨-, -, -, -, ⟨e0, e1⟩, -⟩ := idx_facts t
  rw [V_main_arg4]
  refine congrArg (m ((c.tc : Thread nD τ).loc main_arg4)) (funext fun a => Fin.ext ?_)
  match a with
  | ⟨0, _⟩ => show win0_4.index t (0 : Fin 2) * 1024 + 1 * r.val = 1024 * (t.val % 16) + r.val; omega
  | ⟨1, _⟩ => show win0_4.index t (1 : Fin 2) * 1024 + 1 * n.val = 1024 * (t.val / 16) + n.val; omega

/-- The second branch's gates. -/
theorem gates_b (t : Fin cfg0.N) (r n : Fin 1024) :
    iblk m c 5 t (ix2 r n) = m ((c.tc : Thread nD τ).loc main_arg4)
      (ix2 (⟨1024 * (t.val % 16) + r.val, by omega⟩ : Fin 16384)
        (⟨2048 + (1024 * (t.val / 16) + n.val), by have := points t.val t.isLt; omega⟩ : Fin 4096)) := by
  show V m c main_arg4 (((cfg0.win 5).blk t).view.emb (ix2 r n)) = _
  obtain ⟨-, -, -, -, -, ⟨e0, e1⟩, -⟩ := idx_facts t
  rw [V_main_arg4]
  refine congrArg (m ((c.tc : Thread nD τ).loc main_arg4)) (funext fun a => Fin.ext ?_)
  match a with
  | ⟨0, _⟩ => show win0_5.index t (0 : Fin 2) * 1024 + 1 * r.val = 1024 * (t.val % 16) + r.val; omega
  | ⟨1, _⟩ => show win0_5.index t (1 : Fin 2) * 1024 + 1 * n.val = 2048 + (1024 * (t.val / 16) + n.val); omega

/-- Between casting points the columns stay. -/
theorem same_a (t u : Fin cfg0.N) (h : t.val / 16 = u.val / 16) : iblk m c 2 t = iblk m c 2 u := by
  refine funext fun y => ?_
  obtain ⟨k, n, rfl⟩ : ∃ (k : Fin 2048) (n : Fin 1024), y = ix2 k n := ⟨_, _, eq_ix2 y⟩
  refine (columns_a m c t k n).trans (Eq.trans ?_ (columns_a m c u k n).symm)
  exact congrArg (fun z => m ((c.tc : Thread nD τ).loc main_arg2) (ix2 k z)) (Fin.ext (by dsimp only; omega))

/-- The second branch's too. -/
theorem same_b (t u : Fin cfg0.N) (h : t.val / 16 = u.val / 16) : iblk m c 3 t = iblk m c 3 u := by
  refine funext fun y => ?_
  obtain ⟨k, n, rfl⟩ : ∃ (k : Fin 512) (n : Fin 1024), y = ix2 k n := ⟨_, _, eq_ix2 y⟩
  refine (columns_b m c t k n).trans (Eq.trans ?_ (columns_b m c u k n).symm)
  exact congrArg (fun z => m ((c.tc : Thread nD τ).loc main_arg3) (ix2 k z)) (Fin.ext (by dsimp only; omega))

/-- The weights a casting point keeps. -/
theorem kept_A (t : Fin cfg0.N) (h0 : t.val % 16 = 0) :
    (outsAt0 m c t.val t.isLt).2 = (k0_pay1 (iblk m c 2 t), k0_pay2 (iblk m c 3 t)) := by
  rw [outsAt0_A m c t h0]
  dsimp only
  rw [keep_A, keep_A']

/-- Any other point keeps what it found. -/
theorem kept_B (t : Fin cfg0.N) (h0 : ¬t.val % 16 = 0) : (outsAt0 m c t.val t.isLt).2
    = (outsAt0 m c (t.val - 1) (Nat.lt_of_le_of_lt (Nat.sub_le _ _) t.isLt)).2 := by
  rw [outsAt0_B m c t h0]
  dsimp only
  unfold sout0_B_0 sout0_B_1
  rfl

/-- The output of a casting point. -/
theorem left_A (t : Fin cfg0.N) (h0 : t.val % 16 = 0) :
    (outsAt0 m c t.val t.isLt).1 = k0_pay3 (iblk m c 0 t) (k0_pay1 (iblk m c 2 t)) (iblk m c 1 t) (k0_pay2 (iblk m c 3 t))
      (iblk m c 4 t) (iblk m c 5 t) := by
  rw [outsAt0_A m c t h0]
  dsimp only
  rw [out_A]

/-- The output of any other point. -/
theorem left_B (t : Fin cfg0.N) (h0 : ¬t.val % 16 = 0) :
    (outsAt0 m c t.val t.isLt).1 = k0_pay3 (iblk m c 0 t)
      (outsAt0 m c (t.val - 1) (Nat.lt_of_le_of_lt (Nat.sub_le _ _) t.isLt)).2.1 (iblk m c 1 t)
      (outsAt0 m c (t.val - 1) (Nat.lt_of_le_of_lt (Nat.sub_le _ _) t.isLt)).2.2 (iblk m c 4 t) (iblk m c 5 t) := by
  rw [outsAt0_B m c t h0]
  dsimp only
  rw [out_B]

attribute [local irreducible] outsAt0 iblk

/-- Every point holds the weights of its columns, cast. -/
theorem kept (n : ℕ) (hn : n < cfg0.N) :
    (outsAt0 m c n hn).2 = (k0_pay1 (iblk m c 2 ⟨n, hn⟩), k0_pay2 (iblk m c 3 ⟨n, hn⟩)) :=
  carried (fun n hn => (outsAt0 m c n hn).2) (fun n hn => (k0_pay1 (iblk m c 2 ⟨n, hn⟩), k0_pay2 (iblk m c 3 ⟨n, hn⟩)))
    (fun n hn h0 => kept_A m c ⟨n, hn⟩ h0) (fun n hn h0 => kept_B m c ⟨n, hn⟩ h0)
    (fun n hn h0 => by
      have e : n / 16 = (n - 1) / 16 := by omega
      rw [same_a m c ⟨n, hn⟩ ⟨n - 1, Nat.lt_of_le_of_lt (Nat.sub_le _ _) hn⟩ e,
        same_b m c ⟨n, hn⟩ ⟨n - 1, Nat.lt_of_le_of_lt (Nat.sub_le _ _) hn⟩ e]) n hn

/-- The output of every point. -/
theorem left (t : Fin cfg0.N) :
    (outsAt0 m c t.val t.isLt).1 = k0_pay3 (iblk m c 0 t) (k0_pay1 (iblk m c 2 t)) (iblk m c 1 t) (k0_pay2 (iblk m c 3 t))
      (iblk m c 4 t) (iblk m c 5 t) := by
  by_cases h0 : t.val % 16 = 0
  · exact left_A m c t h0
  · have e : t.val / 16 = (t.val - 1) / 16 := by omega
    rw [left_B m c t h0, kept, same_a m c t ⟨t.val - 1, Nat.lt_of_le_of_lt (Nat.sub_le _ _) t.isLt⟩ e,
      same_b m c t ⟨t.val - 1, Nat.lt_of_le_of_lt (Nat.sub_le _ _) t.isLt⟩ e]

/-- The merged branches at a row and a column. -/
noncomputable def merged (y : S16384x2048.Idx → EReal) (y' : S16384x512.Idx → EReal) (w : S2048x2048.Idx → EReal)
    (w' : S512x2048.Idx → EReal) (g : S16384x4096.Idx → EReal) (r : Fin 16384) (n : Fin 2048) : EReal :=
  g (ix2 r (⟨n.val, by omega⟩ : Fin 4096)) * (∑ k : Fin 2048, y (ix2 r k) * w (ix2 k n))
    + g (ix2 r (⟨2048 + n.val, by omega⟩ : Fin 4096)) * (∑ k : Fin 512, y' (ix2 r k) * w' (ix2 k n))

/-- The kernel's last steps. -/
theorem weigh_at {s : Shape} (g a g' b : s.Idx → EReal) (i : s.Idx) (h1 h2 : FTy.bf16.bits < FTy.f32.bits) (h3 : FTy.bf16.bits < FTy.f32.bits) :
    truncf (F := Ideal) (φ := .f32) .bf16 (addf (F := Ideal) (φ := .f32)
      (mulf (F := Ideal) (φ := .f32) (extf (F := Ideal) (φ := .bf16) .f32 g h1) a)
      (mulf (F := Ideal) (φ := .f32) (extf (F := Ideal) (φ := .bf16) .f32 g' h2) b)) h3 i = g i * a i + g' i * b i := rfl

/-- A block at an index. -/
theorem pay_at (v : Vec Ideal S1024x2048 .bf16) (w : Vec Ideal S2048x1024 .f32) (v' : Vec Ideal S1024x512 .bf16)
    (w' : Vec Ideal S512x1024 .f32) (g g' : Vec Ideal S1024x1024 .bf16) (r n : Fin 1024) :
    k0_pay3 (F := Ideal) v (k0_pay1 w) v' (k0_pay2 w') g g' (ix2 r n)
      = g (ix2 r n) * (∑ k : Fin 2048, v (ix2 r k) * w (ix2 k n)) + g' (ix2 r n) * (∑ k : Fin 512, v' (ix2 r k) * w' (ix2 k n)) := by
  have e1 : k0_pay1 (F := Ideal) w = w := by
    unfold k0_pay1
    funext y
    rw [shapeCast_apply _ _ _ y rfl, narrow_at]
  have e2 : k0_pay2 (F := Ideal) w' = w' := by
    unfold k0_pay2
    funext y
    rw [shapeCast_apply _ _ _ y rfl, narrow_at]
  rw [e1, e2]
  unfold k0_pay3
  rw [weigh_at]
  exact congrArg₂ (fun a b => g (ix2 r n) * a + g' (ix2 r n) * b)
    (matmul_at dot_S1024x2048_S2048x1024_S1024x1024_1_0_0_1_n_n rfl v w r n)
    (matmul_at dot_S1024x512_S512x1024_S1024x1024_1_0_0_1_n_n rfl v' w' r n)

/-- The array after the run. -/
theorem final_at (a : Fin 16) (j : Fin 2) (r n : Fin 1024) :
    ((dats m 0 c).arrAt 6 cfg0.N : S16384x2048.Idx → EReal)
      (ix2 (⟨1024 * a.val + r.val, by omega⟩ : Fin 16384) (⟨1024 * j.val + n.val, by omega⟩ : Fin 2048))
      = merged (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
        (⟨1024 * a.val + r.val, by omega⟩ : Fin 16384) (⟨1024 * j.val + n.val, by omega⟩ : Fin 2048) := by
  obtain ⟨t, ha, hj, hf⟩ := point_of a j
  have k := congrFun (Cert.MergeIdeal.Value.blocks6 m c t hf) (ix2 r n)
  rw [Cert.MergeIdeal.Value.flushed6] at k
  have k' : (dats m 0 c).arrAt 6 cfg0.N (((cfg0.win 6).blk t).view.emb (ix2 r n)) = (outsAt0 m c t.val t.isLt).1 (ix2 r n) := k
  obtain ⟨-, -, -, -, -, -, e0, e1⟩ := idx_facts t
  rw [show ((cfg0.win 6).blk t).view.emb (ix2 r n)
      = (ix2 (⟨1024 * a.val + r.val, by omega⟩ : Fin 16384) (⟨1024 * j.val + n.val, by omega⟩ : Fin 2048) : S16384x2048.Idx) from by
    funext a'
    apply Fin.ext
    match a' with
    | ⟨0, _⟩ => show win0_6.index t (0 : Fin 2) * 1024 + 1 * r.val = 1024 * a.val + r.val; omega
    | ⟨1, _⟩ => show win0_6.index t (1 : Fin 2) * 1024 + 1 * n.val = 1024 * j.val + n.val; omega] at k'
  have p := points t.val t.isLt
  have p0 : (⟨1024 * (t.val % 16) + r.val, by omega⟩ : Fin 16384) = (⟨1024 * a.val + r.val, by omega⟩ : Fin 16384) :=
    Fin.ext (by dsimp only; omega)
  have p1 : (⟨1024 * (t.val / 16) + n.val, by omega⟩ : Fin 2048) = (⟨1024 * j.val + n.val, by omega⟩ : Fin 2048) :=
    Fin.ext (by dsimp only; omega)
  have p2 : (⟨1024 * (t.val / 16) + n.val, by omega⟩ : Fin 4096) = (⟨1024 * j.val + n.val, by omega⟩ : Fin 4096) :=
    Fin.ext (by dsimp only; omega)
  have p3 : (⟨2048 + (1024 * (t.val / 16) + n.val), by omega⟩ : Fin 4096) = (⟨2048 + (1024 * j.val + n.val), by omega⟩ : Fin 4096) :=
    Fin.ext (by dsimp only; omega)
  refine k'.trans ?_
  rw [left]
  refine (pay_at _ _ _ _ _ _ r n).trans ?_
  unfold merged
  refine congrArg₂ (fun u v : EReal => u + v) (congrArg₂ (fun u v : EReal => u * v) ?_ (Finset.sum_congr rfl fun k _ => ?_))
    (congrArg₂ (fun u v : EReal => u * v) ?_ (Finset.sum_congr rfl fun k _ => ?_))
  · rw [gates_a, p0, p2]
  · rw [rows_a, columns_a, p0, p1]
  · rw [gates_b, p0, p3]
  · rw [rows_b, columns_b, p0, p1]

/-- At any row and column. -/
theorem final_apply (r : Fin 16384) (n : Fin 2048) :
    ((dats m 0 c).arrAt 6 cfg0.N : S16384x2048.Idx → EReal) (ix2 r n)
      = merged (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4)) r n := by
  have k := final_at m c (⟨r.val / 1024, by omega⟩ : Fin 16) (⟨n.val / 1024, by omega⟩ : Fin 2)
    (⟨r.val % 1024, by omega⟩ : Fin 1024) (⟨n.val % 1024, by omega⟩ : Fin 1024)
  have p0 : (⟨1024 * (r.val / 1024) + r.val % 1024, by omega⟩ : Fin 16384) = r := Fin.ext (by dsimp only; omega)
  have p1 : (⟨1024 * (n.val / 1024) + n.val % 1024, by omega⟩ : Fin 2048) = n := Fin.ext (by dsimp only; omega)
  rw [p0, p1] at k
  exact k

end Cert.Merged
-- ==== Proof.MergeRef.lean ====
/-  The plain merge of the two branches at an index, and its agreement with the kernel's array. -/
module

public import proofs.«01_k».proof.Proof.Gen.MergeReferenceIdeal.Run
public import proofs.«01_k».proof.Proof.Merge

@[expose] public section

namespace Cert.Merged

open Idealize.ShloMosaic Idealize.ShloMosaic.ValueIdx
open Idealize.ShloMosaic.TcCoe Cert.Proj
open scoped BigOperators

section
open Cert.MergeReferenceIdeal Cert.MergeReferenceIdeal.Gen

/-- The merge, written plainly. -/
noncomputable def mergeRef (y : S16384x2048.Idx → EReal) (y' : S16384x512.Idx → EReal) (w : S2048x2048.Idx → EReal)
    (w' : S512x2048.Idx → EReal) (g : S16384x4096.Idx → EReal) : S16384x2048.Idx → EReal :=
  truncf (F := Ideal) (φ := .f32) .bf16 (addf (F := Ideal) (φ := .f32)
    (mulf (F := Ideal) (φ := .f32)
      (extractStridedSlice S16384x2048 ![0, 0] (extf (F := Ideal) (φ := .bf16) .f32 g bitsLt_bf16_f32) slices_S16384x4096_S16384x2048_0_0)
      (Host.dotGeneral (F := Ideal) (φ₁ := .f32) (φ₂ := .f32) dot_S16384x2048_S2048x2048_S16384x2048_1_0_0_1_n_n none
        (extf (F := Ideal) (φ := .bf16) .f32 y bitsLt_bf16_f32) w))
    (mulf (F := Ideal) (φ := .f32)
      (extractStridedSlice S16384x2048 ![0, 2048] (extf (F := Ideal) (φ := .bf16) .f32 g bitsLt_bf16_f32) slices_S16384x4096_S16384x2048_0_2048)
      (Host.dotGeneral (F := Ideal) (φ₁ := .f32) (φ₂ := .f32) dot_S16384x512_S512x2048_S16384x2048_1_0_0_1_n_n none
        (extf (F := Ideal) (φ := .bf16) .f32 y' bitsLt_bf16_f32) w'))) bitsLt_bf16_f32

/-- The reference's last steps. -/
theorem mix_at {s : Shape} (g a g' b : s.Idx → EReal) (i : s.Idx) (h3 : FTy.bf16.bits < FTy.f32.bits) :
    truncf (F := Ideal) (φ := .f32) .bf16 (addf (F := Ideal) (φ := .f32)
      (mulf (F := Ideal) (φ := .f32) g a) (mulf (F := Ideal) (φ := .f32) g' b)) h3 i = g i * a i + g' i * b i := rfl

/-- The plain merge at an index. -/
theorem mergeRef_apply (y : S16384x2048.Idx → EReal) (y' : S16384x512.Idx → EReal) (w : S2048x2048.Idx → EReal)
    (w' : S512x2048.Idx → EReal) (g : S16384x4096.Idx → EReal) (r : Fin 16384) (n : Fin 2048) :
    mergeRef y y' w w' g (ix2 r n) = merged y y' w w' g r n := by
  unfold mergeRef
  rw [mix_at]
  unfold merged
  refine congrArg₂ (· + ·) (congrArg₂ (· * ·) ?_ ?_) (congrArg₂ (· * ·) ?_ ?_)
  · rw [extractStridedSlice_apply _ _ _ _ (ix2 r (⟨n.val, by omega⟩ : Fin 4096)) (fun a => by
      match a with
      | ⟨0, _⟩ => exact (Nat.zero_add _).symm
      | ⟨1, _⟩ => exact (Nat.zero_add _).symm), widen_at]
  · exact (dot_at dot_S16384x2048_S2048x2048_S16384x2048_1_0_0_1_n_n rfl _ w r n).trans
      (Finset.sum_congr rfl fun k _ => congrArg (· * w (ix2 k n)) (widen_at y _ _))
  · rw [extractStridedSlice_apply _ _ _ _ (ix2 r (⟨2048 + n.val, by omega⟩ : Fin 4096)) (fun a => by
      match a with
      | ⟨0, _⟩ => exact (Nat.zero_add _).symm
      | ⟨1, _⟩ => rfl), widen_at]
  · exact (dot_at dot_S16384x512_S512x2048_S16384x2048_1_0_0_1_n_n rfl _ w' r n).trans
      (Finset.sum_congr rfl fun k _ => congrArg (· * w' (ix2 k n)) (widen_at y' _ _))

end

/-- A run of the plain merge ends with the kernel's array when the arguments agree. -/
theorem agree (m : (ℓ : Loc Cert.MergeIdeal.nD Cert.MergeIdeal.τ Cert.MergeIdeal.sig) → Buf (Elt Ideal) ℓ) (c : Dev Cert.MergeIdeal.nD)
    (m' : (ℓ : Loc Cert.MergeReferenceIdeal.nD Cert.MergeReferenceIdeal.τ Cert.MergeReferenceIdeal.sig) → Buf (Elt Ideal) ℓ)
    (h0 : m' ((c.tc : Thread Cert.MergeReferenceIdeal.nD Cert.MergeReferenceIdeal.τ).loc Cert.MergeReferenceIdeal.main_arg0)
      = m ((c.tc : Thread Cert.MergeIdeal.nD Cert.MergeIdeal.τ).loc Cert.MergeIdeal.main_arg0))
    (h1 : m' ((c.tc : Thread Cert.MergeReferenceIdeal.nD Cert.MergeReferenceIdeal.τ).loc Cert.MergeReferenceIdeal.main_arg1)
      = m ((c.tc : Thread Cert.MergeIdeal.nD Cert.MergeIdeal.τ).loc Cert.MergeIdeal.main_arg1))
    (h2 : m' ((c.tc : Thread Cert.MergeReferenceIdeal.nD Cert.MergeReferenceIdeal.τ).loc Cert.MergeReferenceIdeal.main_arg2)
      = m ((c.tc : Thread Cert.MergeIdeal.nD Cert.MergeIdeal.τ).loc Cert.MergeIdeal.main_arg2))
    (h3 : m' ((c.tc : Thread Cert.MergeReferenceIdeal.nD Cert.MergeReferenceIdeal.τ).loc Cert.MergeReferenceIdeal.main_arg3)
      = m ((c.tc : Thread Cert.MergeIdeal.nD Cert.MergeIdeal.τ).loc Cert.MergeIdeal.main_arg3))
    (h4 : m' ((c.tc : Thread Cert.MergeReferenceIdeal.nD Cert.MergeReferenceIdeal.τ).loc Cert.MergeReferenceIdeal.main_arg4)
      = m ((c.tc : Thread Cert.MergeIdeal.nD Cert.MergeIdeal.τ).loc Cert.MergeIdeal.main_arg4)) :
    mergeRef (m' ((c.tc : Thread Cert.MergeReferenceIdeal.nD Cert.MergeReferenceIdeal.τ).loc Cert.MergeReferenceIdeal.main_arg0))
      (m' ((c.tc : Thread Cert.MergeReferenceIdeal.nD Cert.MergeReferenceIdeal.τ).loc Cert.MergeReferenceIdeal.main_arg1))
      (m' ((c.tc : Thread Cert.MergeReferenceIdeal.nD Cert.MergeReferenceIdeal.τ).loc Cert.MergeReferenceIdeal.main_arg2))
      (m' ((c.tc : Thread Cert.MergeReferenceIdeal.nD Cert.MergeReferenceIdeal.τ).loc Cert.MergeReferenceIdeal.main_arg3))
      (m' ((c.tc : Thread Cert.MergeReferenceIdeal.nD Cert.MergeReferenceIdeal.τ).loc Cert.MergeReferenceIdeal.main_arg4))
      = (Cert.MergeIdeal.Gen.dats m 0 c).arrAt 6 Cert.MergeIdeal.cfg0.N := by
  rw [h0, h1, h2, h3, h4]
  funext j
  rw [eq_ix2 j]
  exact (mergeRef_apply _ _ _ _ _ (j 0) (j 1)).trans (final_apply m c (j 0) (j 1)).symm

end Cert.Merged
-- ==== Proof.Norm.lean ====
/-  The call of the norm with the projection to the recurrence's queries: a row over the root of its mean square, times the
    gain, and its product with the weights, stored head by head. -/
module

public import proofs.«01_k».proof.Proof.Gen.NormIdeal.Value
public import proofs.«01_k».proof.Proof.Slab

@[expose] public section

namespace Cert.Normed

open Idealize.ShloMosaic Idealize.ShloMosaic.ValueIdx Cert.NormIdeal Cert.NormIdeal.Gen
open Idealize.ShloMosaic.TcCoe Cert.Proj
open scoped BigOperators

/-- A row over the root of its mean square with the small constant, times the gain. -/
noncomputable def normed {R : ℕ} (x : (⟨2, ![R, 2048]⟩ : Shape).Idx → EReal) (g : Fin 2048 → EReal) (r : Fin R) (k : Fin 2048) : EReal :=
  x (ix2 r k) * Ideal.rsqrt (Ideal.div (∑ j : Fin 2048, x (ix2 r j) * x (ix2 r j)) (Ideal.ofBits .f32 0x45000000#32)
    + Ideal.ofBits .f32 0x358637BD#32) * g k

/-- A head's place is within the block. -/
theorem slab16_inb : ∀ (h : Fin 16) (a : Fin 4), (![0, h.val, 0, 0] : Fin 4 → ℕ) a + (![1, 1, 512, 128] : Fin 4 → ℕ) a
    ≤ (⟨4, ![1, 16, 512, 128]⟩ : Shape).size a := by decide

/-- A head's columns are within the product. -/
theorem slab16_slices : ∀ h : Fin 16, (⟨2, ![512, 2048]⟩ : Shape).Slices ![0, 128 * h.val] ⟨2, ![512, 128]⟩ := by decide

/-- The piece of one head. -/
noncomputable def slab16 (M : S512x2048.Idx → EReal) (h : Fin 16) : (R : Rect S1x16x512x128) × (R.shape.Idx → EReal) :=
  ⟨Rect.unit ![0, h.val, 0, 0] ![1, 1, 512, 128] (slab16_inb h),
    shapeCast ⟨4, ![1, 1, 512, 128]⟩ (extractStridedSlice ⟨2, ![512, 128]⟩ ![0, 128 * h.val] M (slab16_slices h)) (by decide)⟩

/-- The heads of a block, the last first. -/
def heads16 : List (Fin 16) := [15, 14, 13, 12, 11, 10, 9, 8, 7, 6, 5, 4, 3, 2, 1, 0]

/-- A product's columns, 128 to each of sixteen heads. -/
noncomputable def placed16 (M : S512x2048.Idx → EReal) (y : S1x16x512x128.Idx) : EReal :=
  placed (R := 512) (H := 16) (C := 2048) (by decide) M y

/-- Each piece holds its head's columns. -/
theorem slabs16_placed (M : S512x2048.Idx → EReal) :
    ∀ p ∈ heads16.map (slab16 M), ∀ x : p.1.shape.Idx, p.2 x = placed16 M (p.1.emb x) := by
  intro p hp
  obtain ⟨h, -, rfl⟩ : ∃ h ∈ heads16, slab16 M h = p := List.mem_map.1 hp
  exact slab_at (H := 16) (by decide) M (extractStridedSlice ⟨2, ![512, 128]⟩ ![0, 128 * h.val] M (slab16_slices h)) h h.val
    (128 * h.val) rfl rfl (slab16_inb h) (slab16_slices h) rfl (by decide)

section
variable (c : Dev nD) (i : grid0.Coords) (arg1 : Memref sig .tc .vmem S512x2048 .f32) (harg1 : arg1.IsWhole)
  (arg2 : Memref sig .tc .vmem S1x2048 .f32) (harg2 : arg2.IsWhole) (arg3 : Memref sig .tc .vmem S1x2048x2048 .f32) (harg3 : arg3.IsWhole)
  (arg4 : Memref sig .tc .vmem S512x2048 .bf16) (harg4 : arg4.IsWhole) (arg5 : Memref sig .tc .vmem S1x16x512x128 .bf16) (harg5 : arg5.IsWhole)
  (arg6 : Memref sig .tc .vmem S2048x2048 .bf16) (harg6 : arg6.IsWhole)
  (x0 : Vec Ideal S512x2048 .f32) (x1 : Vec Ideal S1x2048 .f32) (x2 : Vec Ideal S1x2048x2048 .f32) (xs0 : Vec Ideal S2048x2048 .bf16)

/-- The rows as the body reads them. -/
theorem read_rows : View.readAt (Elt Ideal) arg1.view (Rect.unit ![0, 0] ![512, 2048] inb_S512x2048_S512x2048_0_0).toLoadRect
    (harg1.unread x0) = x0 := by
  rw [View.readAt_eq_ld, harg1.read_unread]
  exact View.ld_unit_zero hz2 _ _

/-- The gain as the body reads it. -/
theorem read_gain : View.readAt (Elt Ideal) arg2.view (Rect.unit ![0, 0] ![1, 2048] inb_S1x2048_S1x2048_0_0).toLoadRect
    (harg2.unread x1) = x1 := by
  rw [View.readAt_eq_ld, harg2.read_unread]
  exact View.ld_unit_zero hz2 _ _

/-- The pieces of the heads at a point that casts the weights. -/
theorem pieces_A (hc0) : (kernelRun0_A (F := Ideal) c i arg1 harg1 arg2 harg2 arg3 harg3 arg4 harg4 arg5 harg5 arg6 harg6 hc0 x0 x1 x2).2.1
    = heads16.map (slab16 (k0_pay5 x0 x1 (k0_pay3 x2))) := by
  have e4 : kernelRun0_A.sl.v20 (F := Ideal) c arg3 harg3 arg6 x2 = k0_pay3 x2 := by
    unfold kernelRun0_A.sl.v20 kernelRun0_A.sl.HS0_1
    rw [View.readCov_unit_zero _ hz2, View.readAt_eq_ld, harg3.read_unread, View.ld_unit_zero hz3]
  unfold kernelRun0_A
  dsimp only
  unfold kernelRun0_A.sl.r kernelRun0_A.sl.r_1 kernelRun0_A.sl.r_2 kernelRun0_A.sl.r_3
  try unfold kernelRun0_A.sl.r
  rw [read_rows, read_gain, e4]
  rfl

/-- The pieces of the heads at a point that finds the weights cast. -/
theorem pieces_B (hc0) : (kernelRun0_B (F := Ideal) c i arg1 harg1 arg2 harg2 arg3 harg3 arg4 harg4 arg5 harg5 arg6 harg6 hc0 x0 x1 x2 xs0).2.1
    = heads16.map (slab16 (k0_pay5 x0 x1 xs0)) := by
  have e6 : View.readAt (Elt Ideal) arg6.view (Rect.unit ![0, 0] ![2048, 2048] inb_S2048x2048_S2048x2048_0_0).toLoadRect
      (harg6.unread xs0) = xs0 := by
    rw [View.readAt_eq_ld, harg6.read_unread]
    exact View.ld_unit_zero hz2 _ _
  unfold kernelRun0_B
  dsimp only
  unfold kernelRun0_B.sl.r kernelRun0_B.sl.r_1 kernelRun0_B.sl.r_2 kernelRun0_B.sl.r_3
  try unfold kernelRun0_B.sl.r
  rw [read_rows, read_gain, e6]
  rfl

/-- The normed rows of a point that casts the weights. -/
theorem rows_A (hc0) : out0_A_3 (F := Ideal) c i arg1 harg1 arg2 harg2 arg3 harg3 arg4 harg4 arg5 harg5 arg6 harg6 hc0 x0 x1 x2
    = k0_pay4 x0 x1 := by
  unfold out0_A_3
  rw [View.read_writes_junk_eq_canon]
  unfold kernelRun0_A
  dsimp only
  rw [View.canon_unit_zero hz2, read_rows, read_gain]

/-- The normed rows of a point that finds the weights cast. -/
theorem rows_B (hc0) : out0_B_3 (F := Ideal) c i arg1 harg1 arg2 harg2 arg3 harg3 arg4 harg4 arg5 harg5 arg6 harg6 hc0 x0 x1 x2 xs0
    = k0_pay4 x0 x1 := by
  unfold out0_B_3
  rw [View.read_writes_junk_eq_canon]
  unfold kernelRun0_B
  dsimp only
  rw [View.canon_unit_zero hz2, read_rows, read_gain]

/-- The heads of a point that casts the weights. -/
theorem out_A (hc0) : out0_A_4 (F := Ideal) c i arg1 harg1 arg2 harg2 arg3 harg3 arg4 harg4 arg5 harg5 arg6 harg6 hc0 x0 x1 x2
    = placed16 (k0_pay5 x0 x1 (k0_pay3 x2)) := by
  funext y
  unfold out0_A_4
  rw [View.read_writes_junk_eq_canon]
  exact View.canon_apply_of_pieces _ _ (by rw [pieces_A]; exact slabs16_placed _) y
    (cover0_A_4 c i arg1 harg1 arg2 harg2 arg3 harg3 arg4 harg4 arg5 harg5 arg6 harg6 hc0 x0 x1 x2 y)

/-- The heads of a point that finds the weights cast. -/
theorem out_B (hc0) : out0_B_4 (F := Ideal) c i arg1 harg1 arg2 harg2 arg3 harg3 arg4 harg4 arg5 harg5 arg6 harg6 hc0 x0 x1 x2 xs0
    = placed16 (k0_pay5 x0 x1 xs0) := by
  funext y
  unfold out0_B_4
  rw [View.read_writes_junk_eq_canon]
  exact View.canon_apply_of_pieces _ _ (by rw [pieces_B]; exact slabs16_placed _) y
    (cover0_B_4 c i arg1 harg1 arg2 harg2 arg3 harg3 arg4 harg4 arg5 harg5 arg6 harg6 hc0 x0 x1 x2 xs0 y)

/-- The weights a casting point keeps. -/
theorem keep_A (hc0) : sout0_A_0 (F := Ideal) c i arg1 harg1 arg2 harg2 arg3 harg3 arg4 harg4 arg5 harg5 arg6 harg6 hc0 x0 x1 x2
    = k0_pay3 x2 := by
  unfold sout0_A_0
  rw [View.read_writes_junk_eq_canon]
  unfold kernelRun0_A
  dsimp only
  unfold kernelRun0_A.sl.HS0_1
  rw [View.canon_unit_zero hz2, View.readAt_eq_ld, harg3.read_unread, View.ld_unit_zero hz3]

end

/-- The weights cast, at an index. -/
theorem cast_at (x : Vec Ideal S1x2048x2048 .f32) (k n : Fin 2048) : k0_pay3 (F := Ideal) x (ix2 k n) = x (ix3 (0 : Fin 1) k n) := by
  unfold k0_pay3
  rw [shapeCast_apply _ _ _ (ix2 k n) rfl, narrow_at, shapeCast_apply _ _ _ (ix3 (0 : Fin 1) k n) (by
    rw [Shape.rowMajor_val_two, Shape.rowMajor_val_three]
    show (0 * 2048 + k.val) * 2048 + n.val = k.val * 2048 + n.val
    omega)]

/-- A block of normed rows, at an index. -/
theorem norm_at (x : Vec Ideal S512x2048 .f32) (g : Vec Ideal S1x2048 .f32) (r : Fin 512) (k : Fin 2048) :
    k0_pay4 (F := Ideal) x g (ix2 r k) = normed x (fun k => g (ix2 (0 : Fin 1) k)) r k := by
  unfold k0_pay4 normed
  dsimp only
  rw [narrow_at, mulf_apply, mulf_apply, Cert.Att.spread_apply, broadcastTo_apply _ _ _ (ix2 (0 : Fin 1) k) (fun a => by
    match a with
    | ⟨0, _⟩ => rfl
    | ⟨1, _⟩ => rfl), shapeCast_apply _ _ _ (ix2 (0 : Fin 1) k) rfl]
  exact congrArg (fun z : EReal => x (ix2 r k) * Ideal.rsqrt (Ideal.div z (Ideal.ofBits .f32 0x45000000#32)
    + Ideal.ofBits .f32 0x358637BD#32) * g (ix2 (0 : Fin 1) k)) (Cert.Att.sum_apply _ _ _ _ _ r 0)

/-- A block of the product, at an index. -/
theorem block_at (x : Vec Ideal S512x2048 .f32) (g : Vec Ideal S1x2048 .f32) (w : Vec Ideal S2048x2048 .bf16) (r : Fin 512) (n : Fin 2048) :
    k0_pay5 (F := Ideal) x g w (ix2 r n) = ∑ k : Fin 2048, normed x (fun k => g (ix2 (0 : Fin 1) k)) r k * w (ix2 k n) := by
  unfold k0_pay5
  exact (matmul_at dot_S512x2048_S2048x2048_S512x2048_1_0_0_1_n_n rfl (k0_pay4 (F := Ideal) x g) w r n).trans
    (Finset.sum_congr rfl fun k _ => congrArg (fun z : EReal => z * w (ix2 k n)) (norm_at x g r k))

/-- The block of each window at a grid point. -/
theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 2) = t.val ∧ win0_3.index t (1 : Fin 2) = 0)
    ∧ (win0_4.index t (0 : Fin 4) = t.val / 4 ∧ win0_4.index t (1 : Fin 4) = 0
      ∧ win0_4.index t (2 : Fin 4) = t.val % 4 ∧ win0_4.index t (3 : Fin 4) = 0) :=
  (by decide +kernel : ∀ t : Fin grid0.N, _)

/-- Every block of the results has its grid point, which writes both back. -/
theorem point_of : ∀ a : Fin 32, ∃ t : Fin cfg0.N, t.val = a.val ∧ (cfg0.win 3).flush t = true ∧ (cfg0.win 4).flush t = true :=
  (by decide +kernel : ∀ a : Fin 32, ∃ t : Fin grid0.N, t.val = a.val ∧ win0_3.flush t = true ∧ win0_4.flush t = true)

/-- There are 32 grid points. -/
theorem points (n : ℕ) (hn : n < cfg0.N) : n < 32 := lt_of_lt_of_eq hn (show cfg0.N = 32 from N_0)

variable (m : (ℓ : Loc nD τ sig) → Buf (Elt Ideal) ℓ) (c : Dev nD)

/-- The rows a grid point is given. -/
theorem rows_at (t : Fin cfg0.N) (r : Fin 512) (k : Fin 2048) :
    iblk m c 0 t (ix2 r k) = m ((c.tc : Thread nD τ).loc main_arg0)
      (ix2 (⟨512 * t.val + r.val, by have := points t.val t.isLt; omega⟩ : Fin 16384) k) := by
  show V m c main_arg0 (((cfg0.win 0).blk t).view.emb (ix2 r k)) = _
  obtain ⟨⟨e0, e1⟩, -, -⟩ := idx_facts t
  rw [V_main_arg0]
  refine congrArg (m ((c.tc : Thread nD τ).loc main_arg0)) (funext fun a => Fin.ext ?_)
  match a with
  | ⟨0, _⟩ => show win0_0.index t (0 : Fin 2) * 512 + 1 * r.val = 512 * t.val + r.val; omega
  | ⟨1, _⟩ => show win0_0.index t (1 : Fin 2) * 2048 + 1 * k.val = k.val; omega

/-- The host lays the gain out as a row. -/
theorem gain_entry : (V m c main_v0 : S1x2048.Idx → EReal)
    = shapeCast S1x2048 (m ((c.tc : Thread nD τ).loc main_arg1) : S2048.Idx → EReal) shapeCasts_S2048_S1x2048 := by
  show StableHlo.after hostOps0 (fun b => m (c, b)) (Proc.devRef .tc main_v0) = _
  simp only [hostOps0]
  after_results_simp
  rfl

/-- The gain a grid point is given. -/
theorem gain_at (t : Fin cfg0.N) (k : Fin 2048) :
    iblk m c 1 t (ix2 (0 : Fin 1) k) = m ((c.tc : Thread nD τ).loc main_arg1) (ix1 k) := by
  show (V m c main_v0 : S1x2048.Idx → EReal) (((cfg0.win 1).blk t).view.emb (ix2 (0 : Fin 1) k)) = _
  obtain ⟨-, ⟨e0, e1⟩, -⟩ := idx_facts t
  rw [gain_entry, show ((cfg0.win 1).blk t).view.emb (ix2 (0 : Fin 1) k) = (ix2 (0 : Fin 1) k : S1x2048.Idx) from by
    funext a'
    apply Fin.ext
    match a' with
    | ⟨0, _⟩ => show win0_1.index t (0 : Fin 2) * 1 + 1 * 0 = 0; omega
    | ⟨1, _⟩ => show win0_1.index t (1 : Fin 2) * 2048 + 1 * k.val = k.val; omega]
  refine shapeCast_apply _ _ _ _ ?_
  show (S2048.rowMajor (ix1 k)).val = _
  rw [Shape.rowMajor_val_one, Shape.rowMajor_val_two]
  show k.val = 0 * 2048 + k.val
  omega

/-- The columns it is given. -/
theorem columns_at (t : Fin cfg0.N) (k n : Fin 2048) :
    X0_2 m c t (ix3 (0 : Fin 1) k n) = m ((c.tc : Thread nD τ).loc main_arg2) (ix3 (0 : Fin 1) k (⟨n.val, by omega⟩ : Fin 16896)) := by
  unfold X0_2 Pipeline.Window.fill
  rw [dif_pos (moved0_2 t _)]
  show V m c main_arg2 (((cfg0.win 2).blk t).view.emb _) = _
  obtain ⟨-, -, ⟨e0, e1, e2⟩, -⟩ := idx_facts t
  rw [V_main_arg2]
  refine congrArg (m ((c.tc : Thread nD τ).loc main_arg2)) (funext fun a => Fin.ext ?_)
  match a with
  | ⟨0, _⟩ => show win0_2.index t (0 : Fin 3) + 1 * 0 = 0; omega
  | ⟨1, _⟩ => show win0_2.index t (1 : Fin 3) + 1 * k.val = k.val; omega
  | ⟨2, _⟩ => show win0_2.index t (2 : Fin 3) + 1 * n.val = n.val; omega

/-- All points are given the same columns. -/
theorem same_cast (t u : Fin cfg0.N) : k0_pay3 (F := Ideal) (X0_2 m c t) = k0_pay3 (F := Ideal) (X0_2 m c u) := by
  refine funext fun y => ?_
  obtain ⟨k, n, rfl⟩ : ∃ k n : Fin 2048, y = ix2 k n := ⟨_, _, eq_ix2 y⟩
  exact ((cast_at _ k n).trans (columns_at m c t k n)).trans ((cast_at _ k n).trans (columns_at m c u k n)).symm

/-- The casting point. -/
theorem left_A (t : Fin cfg0.N) (h0 : t.val % 32 = 0) : outsAt0 m c t.val t.isLt
    = (k0_pay4 (iblk m c 0 t) (iblk m c 1 t), placed16 (k0_pay5 (iblk m c 0 t) (iblk m c 1 t) (k0_pay3 (X0_2 m c t))), k0_pay3 (X0_2 m c t)) := by
  rw [outsAt0_A m c t h0, rows_A, out_A, keep_A]

/-- Any other point. -/
theorem left_B (t : Fin cfg0.N) (h0 : ¬t.val % 32 = 0) : outsAt0 m c t.val t.isLt
    = (k0_pay4 (iblk m c 0 t) (iblk m c 1 t), placed16 (k0_pay5 (iblk m c 0 t) (iblk m c 1 t)
        (outsAt0 m c (t.val - 1) (Nat.lt_of_le_of_lt (Nat.sub_le _ _) t.isLt)).2.2),
      (outsAt0 m c (t.val - 1) (Nat.lt_of_le_of_lt (Nat.sub_le _ _) t.isLt)).2.2) := by
  rw [outsAt0_B m c t h0, rows_B, out_B]
  rfl

attribute [local irreducible] outsAt0 iblk X0_2

/-- The weights kept at every point. -/
theorem kept (t : Fin cfg0.N) : (outsAt0 m c t.val t.isLt).2.2 = k0_pay3 (X0_2 m c t) :=
  carried (p := 32) (fun n h => (outsAt0 m c n h).2.2) (fun n h => k0_pay3 (X0_2 m c ⟨n, h⟩))
    (fun n h h0 => by rw [left_A m c ⟨n, h⟩ h0]) (fun n h h0 => congrArg (fun z => z.2.2) (left_B m c ⟨n, h⟩ h0))
    (fun n h _ => same_cast m c ⟨n, h⟩ ⟨n - 1, Nat.lt_of_le_of_lt (Nat.sub_le _ _) h⟩) t.val t.isLt

/-- Every point: its normed rows, its heads, and the weights, cast. -/
theorem left (t : Fin cfg0.N) : outsAt0 m c t.val t.isLt
    = (k0_pay4 (iblk m c 0 t) (iblk m c 1 t), placed16 (k0_pay5 (iblk m c 0 t) (iblk m c 1 t) (k0_pay3 (X0_2 m c t))), k0_pay3 (X0_2 m c t)) := by
  by_cases h0 : t.val % 32 = 0
  · exact left_A m c t h0
  · have k : (outsAt0 m c (t.val - 1) (Nat.lt_of_le_of_lt (Nat.sub_le _ _) t.isLt)).2.2 = k0_pay3 (X0_2 m c t) :=
      (kept m c ⟨t.val - 1, Nat.lt_of_le_of_lt (Nat.sub_le _ _) t.isLt⟩).trans (same_cast m c _ t)
    rw [left_B m c t h0, k]

/-- A normed row, of all the rows. -/
noncomputable def row (r : Fin 16384) (k : Fin 2048) : EReal :=
  normed (m ((c.tc : Thread nD τ).loc main_arg0)) (fun k => m ((c.tc : Thread nD τ).loc main_arg1) (ix1 k)) r k

/-- A query's channel, at a row and a column of the call's part of the projection. -/
noncomputable def channel (r : Fin 16384) (n : Fin 2048) : EReal :=
  ∑ k : Fin 2048, row m c r k * m ((c.tc : Thread nD τ).loc main_arg2) (ix3 (0 : Fin 1) k (⟨n.val, by omega⟩ : Fin 16896))

/-- A point's row, normed. -/
theorem row_at (t : Fin cfg0.N) (r : Fin 512) (k : Fin 2048) :
    normed (iblk m c 0 t) (fun k => iblk m c 1 t (ix2 (0 : Fin 1) k)) r k
      = row m c (⟨512 * t.val + r.val, by have := points t.val t.isLt; omega⟩ : Fin 16384) k := by
  have e0 := rows_at m c t r
  have e1 := gain_at m c t k
  unfold row normed
  simp only [e0, e1]

/-- What a grid point leaves of the heads. -/
theorem point_at (t : Fin cfg0.N) (r : Fin 512) (n : Fin 2048) :
    k0_pay5 (F := Ideal) (iblk m c 0 t) (iblk m c 1 t) (k0_pay3 (X0_2 m c t)) (ix2 r n)
      = channel m c (⟨512 * t.val + r.val, by have := points t.val t.isLt; omega⟩ : Fin 16384) n :=
  (block_at _ _ _ r n).trans (Finset.sum_congr rfl fun k _ => congrArg₂ (fun u v : EReal => u * v) (row_at m c t r k)
    ((cast_at _ k n).trans (columns_at m c t k n)))

/-- The normed array after the run, at any row and column. -/
theorem rows_apply (r : Fin 16384) (k : Fin 2048) :
    ((dats m 0 c).arrAt 3 cfg0.N : S16384x2048.Idx → EReal) (ix2 r k) = row m c r k := by
  obtain ⟨t, ht, hf, -⟩ := point_of (⟨r.val / 512, by omega⟩ : Fin 32)
  have k' := congrFun (Cert.NormIdeal.Value.blocks3 m c t hf) (ix2 (⟨r.val % 512, by omega⟩ : Fin 512) k)
  rw [Cert.NormIdeal.Value.flushed3, left] at k'
  obtain ⟨-, -, -, ⟨e0, e1⟩, -⟩ := idx_facts t
  have hr : r.val / 512 = t.val := ht.symm
  refine (Eq.trans (congrArg ((dats m 0 c).arrAt 3 cfg0.N : S16384x2048.Idx → EReal) (funext fun a' => Fin.ext ?_)) k').trans
    (((norm_at _ _ (⟨r.val % 512, by omega⟩ : Fin 512) k).trans (row_at m c t _ k)).trans
      (congrArg (fun z => row m c z k) (Fin.ext (by dsimp only; omega))))
  match a' with
  | ⟨0, _⟩ => show r.val = win0_3.index t (0 : Fin 2) * 512 + 1 * (r.val % 512); omega
  | ⟨1, _⟩ => show k.val = win0_3.index t (1 : Fin 2) * 2048 + 1 * k.val; omega

/-- The queries after the run, at any batch, head, row and channel. -/
theorem final_apply (b : Fin 8) (h : Fin 16) (u : Fin 2048) (e : Fin 128) :
    ((dats m 0 c).arrAt 4 cfg0.N : S8x16x2048x128.Idx → EReal) (ix4 b h u e)
      = channel m c (⟨2048 * b.val + u.val, by omega⟩ : Fin 16384) (⟨128 * h.val + e.val, by omega⟩ : Fin 2048) := by
  obtain ⟨t, ht, -, hf⟩ := point_of (⟨4 * b.val + u.val / 512, by omega⟩ : Fin 32)
  have k' := congrFun (Cert.NormIdeal.Value.blocks4 m c t hf) (ix4 (0 : Fin 1) h (⟨u.val % 512, by omega⟩ : Fin 512) e)
  rw [Cert.NormIdeal.Value.flushed4, left] at k'
  obtain ⟨-, -, -, -, e0, e1, e2, e3⟩ := idx_facts t
  have hr : t.val = 4 * b.val + u.val / 512 := ht
  refine (Eq.trans (congrArg ((dats m 0 c).arrAt 4 cfg0.N : S8x16x2048x128.Idx → EReal) (funext fun a' => Fin.ext ?_)) k').trans
    ((point_at m c t (⟨u.val % 512, by omega⟩ : Fin 512) (⟨128 * h.val + e.val, by omega⟩ : Fin 2048)).trans
      (congrArg (fun z => channel m c z (⟨128 * h.val + e.val, by omega⟩ : Fin 2048)) (Fin.ext (by dsimp only; omega))))
  match a' with
  | ⟨0, _⟩ => show b.val = win0_4.index t (0 : Fin 4) * 1 + 1 * 0; omega
  | ⟨1, _⟩ => show h.val = win0_4.index t (1 : Fin 4) * 16 + 1 * h.val; omega
  | ⟨2, _⟩ => show u.val = win0_4.index t (2 : Fin 4) * 512 + 1 * (u.val % 512); omega
  | ⟨3, _⟩ => show e.val = win0_4.index t (3 : Fin 4) * 128 + 1 * e.val; omega

end Cert.Normed
-- ==== Proof.NormRef.lean ====
/-  The plain reference of the norm with the projection at an index, and its agreement with the kernel's arrays. -/
module

public import proofs.«01_k».proof.Proof.Norm
public import proofs.«01_k».proof.Proof.Recur
public import proofs.«01_k».proof.Proof.Gen.NormReferenceIdeal.Run

@[expose] public section

namespace Cert.Normed

open Idealize.ShloMosaic Idealize.ShloMosaic.ValueIdx
open Idealize.ShloMosaic.TcCoe Cert.Proj
open scoped BigOperators

section Reference
open Cert.NormReferenceIdeal Cert.NormReferenceIdeal.Gen

/-- The sum of a row's squares. -/
noncomputable def squares (x : S16384x2048.Idx → EReal) : S16384.Idx → EReal :=
  Host.reduceAdd (F := Ideal) (φ := .f32) (mulf (F := Ideal) (φ := .f32) x x) (constant (F := Ideal) S_ .f32 0x00000000#32)
    reducesTo_S16384x2048_S16384_d1 h_S_

/-- One over the root of a row's mean square with the small constant. -/
noncomputable def scale (x : S16384x2048.Idx → EReal) : S16384x1.Idx → EReal :=
  Host.rsqrt (F := Ideal) (φ := .f32) (addf (F := Ideal) (φ := .f32) (Host.divf (F := Ideal) (φ := .f32)
    (broadcastInDim S16384x1 ![0] bcast_S16384_S16384x1_0 (squares x))
    (broadcastInDim S16384x1 ![] bcast_S_S16384x1 (constant (F := Ideal) S_ .f32 0x45000000#32)))
    (broadcastInDim S16384x1 ![] bcast_S_S16384x1 (constant (F := Ideal) S_ .f32 0x358637BD#32)))

/-- The normed rows, written plainly. -/
noncomputable def normRef (x : S16384x2048.Idx → EReal) (g : S2048.Idx → EReal) : S16384x2048.Idx → EReal :=
  mulf (F := Ideal) (φ := .f32) (mulf (F := Ideal) (φ := .f32) x
    (broadcastInDim S16384x2048 ![0, 1] bcast_S16384x1_S16384x2048_0_1 (scale x)))
    (broadcastInDim S16384x2048 ![0, 1] bcast_S1x2048_S16384x2048_0_1 (broadcastInDim S1x2048 ![1] bcast_S2048_S1x2048_1 g))

/-- The queries, written plainly. -/
noncomputable def queryRef (x : S16384x2048.Idx → EReal) (g : S2048.Idx → EReal) (w : S1x2048x16896.Idx → EReal) :
    S8x16x2048x128.Idx → EReal :=
  truncf (F := Ideal) (φ := .f32) .bf16 (transpose S8x16x2048x128 [0, 2, 1, 3] (shapeCast S8x2048x16x128 (Host.dotGeneral (F := Ideal) (φ₁ := .f32) (φ₂ := .f32) dot_S16384x2048_S2048x2048_S16384x2048_1_0_0_1_n_n none
      (normRef x g)
      (shapeCast _ (extractStridedSlice S1x2048x2048 ![0, 0, 0] w slices_S1x2048x16896_S1x2048x2048_0_0_0)
        shapeCasts_S1x2048x2048_S2048x2048))
    shapeCasts_S16384x2048_S8x2048x16x128) transposes_S8x2048x16x128_S8x16x2048x128_0_2_1_3) bitsLt_bf16_f32

theorem reduces_rows : S16384x2048.Reduces [1] S16384 := by decide

/-- The sum of a row's squares, at a row. -/
theorem squares_apply (x : S16384x2048.Idx → EReal) (r : Fin 16384) :
    squares x (ix1 r) = ∑ j : Fin 2048, x (ix2 r j) * x (ix2 r j) := by
  unfold squares
  rw [hostReduceAdd_apply, show (constant (F := Ideal) S_ .f32 0x00000000#32) (Shape.Idx.first h_S_) = (0 : EReal)
    from Ideal.ofBits_zero_f32, Ideal.hostReduceAdd_single _ reduces_rows, zero_add]
  exact Finset.sum_congr rfl fun k _ => congrArg (fun i => x i * x i) (Cert.Att.lift_axis1 reduces_rows (ix1 r) k)

/-- A number per row as a column, at a row. -/
theorem column_at (z : S16384.Idx → EReal) (r : Fin 16384) :
    broadcastInDim S16384x1 ![0] bcast_S16384_S16384x1_0 z (ix2 r (0 : Fin 1)) = z (ix1 r) :=
  broadcastInDim_apply _ _ _ _ (ix1 r) (fun a => by
    match a with
    | ⟨0, _⟩ => rfl)

/-- A column spread over the rows' entries. -/
theorem across_at (z : S16384x1.Idx → EReal) (r : Fin 16384) (k : Fin 2048) :
    broadcastInDim S16384x2048 ![0, 1] bcast_S16384x1_S16384x2048_0_1 z (ix2 r k) = z (ix2 r (0 : Fin 1)) :=
  broadcastInDim_apply _ _ _ _ (ix2 r (0 : Fin 1)) (fun a => by
    match a with
    | ⟨0, _⟩ => rfl
    | ⟨1, _⟩ => rfl)

/-- The scale of a row. -/
theorem scale_apply (x : S16384x2048.Idx → EReal) (r : Fin 16384) : scale x (ix2 r (0 : Fin 1))
    = Ideal.rsqrt (Ideal.div (∑ j : Fin 2048, x (ix2 r j) * x (ix2 r j)) (Ideal.ofBits .f32 0x45000000#32)
      + Ideal.ofBits .f32 0x358637BD#32) := by
  unfold scale
  show Ideal.rsqrt (Ideal.div (broadcastInDim S16384x1 ![0] bcast_S16384_S16384x1_0 (squares x) (ix2 r (0 : Fin 1)))
    (broadcastInDim S16384x1 ![] bcast_S_S16384x1 (constant (F := Ideal) S_ .f32 0x45000000#32) (ix2 r (0 : Fin 1)))
    + broadcastInDim S16384x1 ![] bcast_S_S16384x1 (constant (F := Ideal) S_ .f32 0x358637BD#32) (ix2 r (0 : Fin 1))) = _
  rw [column_at, squares_apply, broadcastInDim_scalar_apply, broadcastInDim_scalar_apply]
  rfl

/-- The normed rows at an index. -/
theorem normRef_apply (x : S16384x2048.Idx → EReal) (g : S2048.Idx → EReal) (r : Fin 16384) (k : Fin 2048) :
    normRef x g (ix2 r k) = normed x (fun k => g (ix1 k)) r k := by
  unfold normRef normed
  rw [mulf_apply, mulf_apply, across_at, scale_apply, Cert.Recur.spread_at]

/-- The queries at an index. -/
theorem queryRef_apply (x : S16384x2048.Idx → EReal) (g : S2048.Idx → EReal) (w : S1x2048x16896.Idx → EReal) (b' : Fin 8)
    (a : Fin 16) (u : Fin 2048) (e : Fin 128) : queryRef x g w (ix4 b' a u e)
      = ∑ k : Fin 2048, normed x (fun k => g (ix1 k)) (⟨2048 * b'.val + u.val, by omega⟩ : Fin 16384) k
        * w (ix3 (0 : Fin 1) k (⟨128 * a.val + e.val, by omega⟩ : Fin 16896)) := by
  unfold queryRef
  rw [narrow_at, Cert.Recur.heads_at]
  exact (dot_at dot_S16384x2048_S2048x2048_S16384x2048_1_0_0_1_n_n rfl _ _ _ _).trans
      (Finset.sum_congr rfl fun k _ => congrArg₂ (fun p q : EReal => p * q) (normRef_apply x g _ k)
        ((columns_of w _ _ k _ (by dsimp only; omega)).trans (congrArg (fun z => w (ix3 (0 : Fin 1) k z)) (Fin.ext (by dsimp only; omega)))))

end Reference

variable (m : (ℓ : Loc Cert.NormIdeal.nD Cert.NormIdeal.τ Cert.NormIdeal.sig) → Buf (Elt Ideal) ℓ)
    (m' : (ℓ : Loc Cert.NormReferenceIdeal.nD Cert.NormReferenceIdeal.τ Cert.NormReferenceIdeal.sig) → Buf (Elt Ideal) ℓ) (c : Dev Cert.NormIdeal.nD)
    (h0 : m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0))
    (h1 : m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1))

include h0 h1

/-- A run of the plain norm ends with the kernel's array when the arguments agree. -/
theorem norm_agree :
    truncf (F := Ideal) (φ := .f32) .bf16 (normRef (m' ((c.tc : Thread Cert.NormReferenceIdeal.nD Cert.NormReferenceIdeal.τ).loc Cert.NormReferenceIdeal.main_arg0)) (m' ((c.tc : Thread Cert.NormReferenceIdeal.nD Cert.NormReferenceIdeal.τ).loc Cert.NormReferenceIdeal.main_arg1))) Cert.NormReferenceIdeal.Gen.bitsLt_bf16_f32
      = (Cert.NormIdeal.Gen.dats m 0 c).arrAt 3 Cert.NormIdeal.cfg0.N := by
  rw [h0, h1]
  funext j
  rw [eq_ix2 j]
  exact (normRef_apply _ _ (j 0) (j 1)).trans (rows_apply m c (j 0) (j 1)).symm

/-- A run of the plain queries ends with the kernel's array when the arguments agree. -/
theorem query_agree
    (h2 : m' ((c.tc : Thread Cert.NormReferenceIdeal.nD Cert.NormReferenceIdeal.τ).loc Cert.NormReferenceIdeal.main_arg2) = m ((c.tc : Thread Cert.NormIdeal.nD Cert.NormIdeal.τ).loc Cert.NormIdeal.main_arg2)) :
    queryRef (m' ((c.tc : Thread Cert.NormReferenceIdeal.nD Cert.NormReferenceIdeal.τ).loc Cert.NormReferenceIdeal.main_arg0)) (m' ((c.tc : Thread Cert.NormReferenceIdeal.nD Cert.NormReferenceIdeal.τ).loc Cert.NormReferenceIdeal.main_arg1)) (m' ((c.tc : Thread Cert.NormReferenceIdeal.nD Cert.NormReferenceIdeal.τ).loc Cert.NormReferenceIdeal.main_arg2))
      = (Cert.NormIdeal.Gen.dats m 0 c).arrAt 4 Cert.NormIdeal.cfg0.N := by
  rw [h0, h1, h2]
  funext j
  rw [eq_ix4 j]
  exact (queryRef_apply _ _ _ (j 0) (j 1) (j 2) (j 3)).trans (final_apply m c (j 0) (j 1) (j 2) (j 3)).symm

end Cert.Normed
-- ==== Proof.RefStages.lean ====
/-  The reference's result, cut into its steps: the heads' parts, the mask, the biases, the masked scores, their softmax, and the mix. -/
module

public import proofs.«01_k».proof.Proof.Gen.ReferenceIdeal.Run
public import Idealize.ShloMosaic.Lib.ValueIdx

@[expose] public section

namespace Cert.Att.Ref

open Idealize.ShloMosaic Cert.ReferenceIdeal Cert.ReferenceIdeal.Gen

/-- The queries, keys or values (`n` is 0, 1 or 2) by batch, group, head, position and channel. -/
noncomputable def part (n : ℕ) (hs : S8x3x3x4x2048x128.Slices ![0, n, 0, 0, 0, 0] S8x1x3x4x2048x128)
    (x : S8x36x2048x128.Idx → EReal) : S8x3x4x2048x128.Idx → EReal :=
  shapeCast S8x3x4x2048x128
    (extractStridedSlice S8x1x3x4x2048x128 ![0, n, 0, 0, 0, 0]
      (shapeCast S8x3x3x4x2048x128 (extf (F := Ideal) (φ := .bf16) .f32 x bitsLt_bf16_f32)
        shapeCasts_S8x36x2048x128_S8x3x3x4x2048x128) hs)
    shapeCasts_S8x1x3x4x2048x128_S8x3x4x2048x128

/-- The distance of a query back to a key. -/
noncomputable def dist : S2048x2048.Idx → BitVec 32 :=
  subi
    (broadcastInDim S2048x2048 ![0, 1] bcast_S2048x1_S2048x2048_0_1
      (broadcastInDim S2048x1 ![0] bcast_S2048_S2048x1_0 (iotaInDim S2048 32 0)))
    (broadcastInDim S2048x2048 ![0, 1] bcast_S1x2048_S2048x2048_0_1
      (broadcastInDim S1x2048 ![1] bcast_S2048_S1x2048_1 (iotaInDim S2048 32 0)))

/-- Which keys a query of a group attends. -/
noncomputable def valid : S3x2048x2048.Idx → BitVec 1 :=
  andi
    (andi
      (broadcastInDim S3x2048x2048 ![0, 1, 2] bcast_S1x2048x2048_S3x2048x2048_0_1_2
        (broadcastInDim S1x2048x2048 ![1, 2] bcast_S2048x2048_S1x2048x2048_1_2
          (cmpi .sge dist (broadcastInDim S2048x2048 ![] bcast_S_S2048x2048 (constantI S_ 32 0#32)))))
      (cmpi .sle
        (broadcastInDim S3x2048x2048 ![0, 1, 2] bcast_S1x2048x2048_S3x2048x2048_0_1_2
          (broadcastInDim S1x2048x2048 ![1, 2] bcast_S2048x2048_S1x2048x2048_1_2 dist))
        (broadcastInDim S3x2048x2048 ![0, 1, 2] bcast_S3x1x1_S3x2048x2048_0_1_2
          (shapeCast S3x1x1 (fun i => lit0 (S3.rowMajor i)) shapeCasts_S3_S3x1x1))))
    (cmpi .eq
      (Host.remsi
        (broadcastInDim S3x2048x2048 ![1, 2] bcast_S2048x2048_S3x2048x2048_1_2 dist)
        (broadcastInDim S3x2048x2048 ![0, 1, 2] bcast_S3x1x1_S3x2048x2048_0_1_2
          (shapeCast S3x1x1 (fun i => lit1 (S3.rowMajor i)) shapeCasts_S3_S3x1x1)))
      (broadcastInDim S3x2048x2048 ![] bcast_S_S3x2048x2048 (constantI S_ 32 0#32)))

/-- The learned bias of a group's head for a query and a key. -/
noncomputable def bias (y : S32x12.Idx → EReal) : S3x4x2048x2048.Idx → EReal :=
  shapeCast S3x4x2048x2048
    (transpose S12x2048x2048 [2, 0, 1]
      (Host.gather gather_S2048x12_S2048x2048x1_S2048x2048x12_2_0_n_n_0_2_112
        (Host.gather gather_S32x12_S2048x1_S2048x12_1_0_n_n_0_1_112 y
          (broadcastInDim S2048x1 ![0] bcast_S2048_S2048x1_0 (fun i => lit2 (S2048.rowMajor i))))
        (broadcastInDim S2048x2048x1 ![0, 1] bcast_S2048x2048_S2048x2048x1_0_1
          (maxsi dist (broadcastInDim S2048x2048 ![] bcast_S_S2048x2048 (constantI S_ 32 0#32)))))
      transposes_S2048x2048x12_S12x2048x2048_2_0_1)
    shapeCasts_S12x2048x2048_S3x4x2048x2048

/-- The masked scores. -/
noncomputable def masked (q k : S8x3x4x2048x128.Idx → EReal) (b : S3x4x2048x2048.Idx → EReal)
    (v : S3x2048x2048.Idx → BitVec 1) : S8x3x4x2048x2048.Idx → EReal :=
  select
    (broadcastInDim S8x3x4x2048x2048 ![0, 1, 2, 3, 4] bcast_S1x3x1x2048x2048_S8x3x4x2048x2048_0_1_2_3_4
      (broadcastInDim S1x3x1x2048x2048 ![1, 3, 4] bcast_S3x2048x2048_S1x3x1x2048x2048_1_3_4 v))
    (addf (F := Ideal) (φ := .f32)
      (Host.divf (F := Ideal) (φ := .f32)
        (Host.dotGeneral (F := Ideal) (φ₁ := .f32) (φ₂ := .f32)
          dot_S8x3x4x2048x128_S8x3x4x2048x128_S8x3x4x2048x2048_4_4_3_3_012_012 none q k)
        (broadcastInDim S8x3x4x2048x2048 ![] bcast_S_S8x3x4x2048x2048
          (Host.sqrt (constant (F := Ideal) S_ .f32 0x43000000#32))))
      (broadcastInDim S8x3x4x2048x2048 ![0, 1, 2, 3, 4] bcast_S1x3x4x2048x2048_S8x3x4x2048x2048_0_1_2_3_4
        (broadcastInDim S1x3x4x2048x2048 ![1, 2, 3, 4] bcast_S3x4x2048x2048_S1x3x4x2048x2048_1_2_3_4 b)))
    (broadcastInDim S8x3x4x2048x2048 ![] bcast_S_S8x3x4x2048x2048
      (id (constant (F := Ideal) S_ .f32 0xFF800000#32)))

/-- The row maxima, each kept as a column of one. -/
noncomputable def peak (s : S8x3x4x2048x2048.Idx → EReal) : S8x3x4x2048x1.Idx → EReal :=
  broadcastInDim S8x3x4x2048x1 ![0, 1, 2, 3] bcast_S8x3x4x2048_S8x3x4x2048x1_0_1_2_3
    (Host.reduce (FloatOps.maximumf (F := Ideal) (φ := .f32)) s (constant (F := Ideal) S_ .f32 0xFF800000#32)
      reducesTo_S8x3x4x2048x2048_S8x3x4x2048_d4 h_S_)

/-- The scores' exponentials below their row's maximum. -/
noncomputable def expo (s : S8x3x4x2048x2048.Idx → EReal) : S8x3x4x2048x2048.Idx → EReal :=
  Host.exp (F := Ideal) (φ := .f32) (subf (F := Ideal) (φ := .f32) s
    (broadcastInDim S8x3x4x2048x2048 ![0, 1, 2, 3, 4] bcast_S8x3x4x2048x1_S8x3x4x2048x2048_0_1_2_3_4 (peak s)))

/-- Their row sums. -/
noncomputable def total (p : S8x3x4x2048x2048.Idx → EReal) : S8x3x4x2048.Idx → EReal :=
  Host.reduceAdd (F := Ideal) (φ := .f32) p (constant (F := Ideal) S_ .f32 0x00000000#32)
    reducesTo_S8x3x4x2048x2048_S8x3x4x2048_d4 h_S_

/-- A number per row, spread over the channels. -/
noncomputable def wide (d : S8x3x4x2048.Idx → EReal) : S8x3x4x2048x128.Idx → EReal :=
  broadcastInDim S8x3x4x2048x128 ![0, 1, 2, 3, 4] bcast_S8x3x4x2048x1_S8x3x4x2048x128_0_1_2_3_4
    (broadcastInDim S8x3x4x2048x1 ![0, 1, 2, 3] bcast_S8x3x4x2048_S8x3x4x2048x1_0_1_2_3 d)

/-- A group's output. -/
noncomputable def attn (p : S8x3x4x2048x2048.Idx → EReal) (v : S8x3x4x2048x128.Idx → EReal) :
    S8x3x4x2048x128.Idx → EReal :=
  Host.divf (F := Ideal) (φ := .f32)
    (Host.dotGeneral (F := Ideal) (φ₁ := .f32) (φ₂ := .f32)
      dot_S8x3x4x2048x2048_S8x3x4x2048x128_S8x3x4x2048x128_4_3_3_4_012_012 none p v) (wide (total p))

/-- The logarithm of a row's denominator. -/
noncomputable def logden (s : S8x3x4x2048x2048.Idx → EReal) : S8x3x4x2048.Idx → EReal :=
  addf (F := Ideal) (φ := .f32) (shapeCast S8x3x4x2048 (peak s) shapeCasts_S8x3x4x2048x1_S8x3x4x2048)
    (Host.log (F := Ideal) (φ := .f32) (total (expo s)))

/-- The groups' weights. -/
noncomputable def weight (l : S8x3x4x2048.Idx → EReal) : S8x3x4x2048.Idx → EReal :=
  Host.exp (F := Ideal) (φ := .f32) (subf (F := Ideal) (φ := .f32) l
    (broadcastInDim S8x3x4x2048 ![0, 1, 2, 3] bcast_S8x1x4x2048_S8x3x4x2048_0_1_2_3
      (broadcastInDim S8x1x4x2048 ![0, 2, 3] bcast_S8x4x2048_S8x1x4x2048_0_2_3
        (Host.reduce (FloatOps.maximumf (F := Ideal) (φ := .f32)) l (constant (F := Ideal) S_ .f32 0xFF800000#32)
          reducesTo_S8x3x4x2048_S8x4x2048_d1 h_S_))))

/-- The groups' outputs mixed by their weights. -/
noncomputable def mixed (a : S8x3x4x2048.Idx → EReal) (o : S8x3x4x2048x128.Idx → EReal) : S8x4x2048x128.Idx → EReal :=
  Host.divf (F := Ideal) (φ := .f32)
    (Host.reduceAdd (F := Ideal) (φ := .f32) (mulf (F := Ideal) (φ := .f32) (wide a) o)
      (constant (F := Ideal) S_ .f32 0x00000000#32) reducesTo_S8x3x4x2048x128_S8x4x2048x128_d1 h_S_)
    (broadcastInDim S8x4x2048x128 ![0, 1, 2, 3] bcast_S8x4x2048x1_S8x4x2048x128_0_1_2_3
      (broadcastInDim S8x4x2048x1 ![0, 1, 2] bcast_S8x4x2048_S8x4x2048x1_0_1_2
        (Host.reduceAdd (F := Ideal) (φ := .f32) a (constant (F := Ideal) S_ .f32 0x00000000#32)
          reducesTo_S8x3x4x2048_S8x4x2048_d1 h_S_)))

/-- The heads side by side. -/
noncomputable def sideways (o : S8x4x2048x128.Idx → EReal) : S8x2048x512.Idx → EReal :=
  truncf (F := Ideal) (φ := .f32) .bf16
    (shapeCast S8x2048x512 (transpose S8x2048x4x128 [0, 2, 1, 3] o transposes_S8x4x2048x128_S8x2048x4x128_0_2_1_3)
      shapeCasts_S8x2048x4x128_S8x2048x512) bitsLt_bf16_f32

/-- The masked scores of the arguments. -/
noncomputable def scores (x : S8x36x2048x128.Idx → EReal) (y : S32x12.Idx → EReal) : S8x3x4x2048x2048.Idx → EReal :=
  masked (part 0 slices_S8x3x3x4x2048x128_S8x1x3x4x2048x128_0_0_0_0_0_0 x)
    (part 1 slices_S8x3x3x4x2048x128_S8x1x3x4x2048x128_0_1_0_0_0_0 x) (bias y) valid

/-- The reference's result of its arguments. -/
noncomputable def result (x : S8x36x2048x128.Idx → EReal) (y : S32x12.Idx → EReal) : S8x2048x512.Idx → EReal :=
  sideways (mixed (weight (logden (scores x y)))
    (attn (expo (scores x y)) (part 2 slices_S8x3x3x4x2048x128_S8x1x3x4x2048x128_0_2_0_0_0_0 x)))

end Cert.Att.Ref
-- ==== Proof.Dense.lean ====
/-  A window of 128 (or fewer) keys before a query, d apart, against the whole row of 2048 keys, in which every key
    outside the window has the logit −∞: a block of 128 queries d apart, read from its own 256 (or 128) keys, has the
    same output and the same logarithm of its denominator as the whole row. -/
module

public import proofs.«01_k».proof.Proof.Row

@[expose] public section

namespace Cert.Att

open Idealize.ShloMosaic Idealize.ShloMosaic.ValueIdx
open scoped BigOperators

/-- Key `u` is in the window of query `t`: at most 128 steps of `d` before it. -/
def Seen (d t u : ℕ) : Prop := u ≤ t ∧ t - u ≤ 128 * d ∧ d ∣ t - u

instance (d t u : ℕ) : Decidable (Seen d t u) := by unfold Seen; infer_instance

/-- The whole row of logits of query `t`: scaled product plus the bias of the distance in the window, −∞ outside. -/
noncomputable def dense (q k : ℕ → Fin 128 → EReal) (w : EReal) (β : ℕ → EReal) (d t : ℕ) (u : Fin 2048) : EReal :=
  if Seen d t u.val then (∑ e, q t e * k u.val e) * w + β ((t - u.val) / d) else ⊥

/-- A block's logits: queries `qo, qo + d, …` against keys `ko, ko + d, …`, scaled, plus a block of biases. -/
noncomputable def blk {C : ℕ} (q k : ℕ → Fin 128 → EReal) (w : EReal) (B : Fin 128 → Fin C → EReal) (qo ko d : ℕ)
    (i : Fin 128) (c : Fin C) : EReal :=
  (∑ e, q (qo + d * i.val) e * k (ko + d * c.val) e) * w + B i c

/-- The bias block of a group: the bias of the distance `i + 128 - c` where that is in the window, −∞ elsewhere. -/
def IsBias (B : Fin 128 → Fin 256 → EReal) (β : ℕ → EReal) : Prop :=
  ∀ i c, B i c = if i.val ≤ c.val ∧ c.val ≤ i.val + 128 then β (i.val + 128 - c.val) else ⊥

/-- The right half of a bias block. -/
def half (B : Fin 128 → Fin 256 → EReal) (i c : Fin 128) : EReal := B i ⟨128 + c.val, by omega⟩

section

variable (q k v : ℕ → Fin 128 → EReal) (w : EReal) (β : ℕ → EReal)

/-- The facts that place a block of 256 keys in the row. -/
theorem wide_facts {B : Fin 128 → Fin 256 → EReal} (hB : IsBias B β) {d qo ko : ℕ} (hd : 0 < d) (hq : qo = ko + 128 * d)
    (hlt : ko + d * 255 < 2048) (i : Fin 128) :
    ∃ κ : Fin 256 → Fin 2048, Function.Injective κ ∧ (∀ c, (κ c).val = ko + d * c.val)
      ∧ (∀ c, blk q k w B qo ko d i c = dense q k w β d (qo + d * i.val) (κ c))
      ∧ (∀ u, (∀ c, κ c ≠ u) → dense q k w β d (qo + d * i.val) u = ⊥) := by
  have hb : ∀ c : Fin 256, ko + d * c.val < 2048 := fun c => by
    have : d * c.val ≤ d * 255 := Nat.mul_le_mul_left d (by omega)
    omega
  refine ⟨fun c => ⟨ko + d * c.val, hb c⟩, fun a b h => ?_, fun c => rfl, fun c => ?_, fun u hu => ?_⟩
  · have h' : ko + d * a.val = ko + d * b.val := congrArg Fin.val h
    exact Fin.ext (Nat.eq_of_mul_eq_mul_left hd (by omega))
  · unfold blk dense
    rw [hB]
    have e1 : qo + d * i.val = ko + d * (i.val + 128) := by rw [hq, Nat.mul_add]; ring
    show _ = if Seen d (qo + d * i.val) (ko + d * c.val) then _ else _
    by_cases h : i.val ≤ c.val ∧ c.val ≤ i.val + 128
    · have e2 : qo + d * i.val - (ko + d * c.val) = d * (i.val + 128 - c.val) := by
        rw [e1, Nat.mul_sub, Nat.add_sub_add_left]
      have hs : Seen d (qo + d * i.val) (ko + d * c.val) := by
        refine ⟨?_, ?_, ?_⟩
        · rw [e1]; exact Nat.add_le_add_left (Nat.mul_le_mul_left d h.2) ko
        · rw [e2, mul_comm 128 d]; exact Nat.mul_le_mul_left d (by omega)
        · rw [e2]; exact Nat.dvd_mul_right d _
      rw [if_pos h, if_pos hs, e2, Nat.mul_div_cancel_left _ hd]
    · have hs : ¬ Seen d (qo + d * i.val) (ko + d * c.val) := by
        rintro ⟨h1, h2, -⟩
        refine h ⟨?_, ?_⟩
        · have : d * (i.val + 128) ≤ d * (128 + c.val) := by rw [Nat.mul_add d 128 c.val]; omega
          have := Nat.le_of_mul_le_mul_left this hd
          omega
        · have : d * c.val ≤ d * (i.val + 128) := by omega
          exact Nat.le_of_mul_le_mul_left this hd
      rw [if_neg h, if_neg hs, EReal.add_bot]
  · unfold dense
    refine if_neg ?_
    rintro ⟨h1, h2, δ, h3⟩
    have e1 : qo + d * i.val = ko + d * (i.val + 128) := by rw [hq, Nat.mul_add]; ring
    have hδ : δ ≤ 128 := by
      have : d * δ ≤ d * 128 := by omega
      exact Nat.le_of_mul_le_mul_left this hd
    refine hu ⟨i.val + 128 - δ, by omega⟩ (Fin.ext ?_)
    show ko + d * (i.val + 128 - δ) = u.val
    rw [Nat.mul_sub]
    have : d * δ ≤ d * (i.val + 128) := Nat.mul_le_mul_left d (by omega)
    omega

/-- The facts that place a first block, of 128 keys with the queries' own offset, in the row. -/
theorem first_facts {B : Fin 128 → Fin 256 → EReal} (hB : IsBias B β) {d r : ℕ} (hr : r < d)
    (hlt : r + d * 127 < 2048) (i : Fin 128) :
    ∃ κ : Fin 128 → Fin 2048, Function.Injective κ ∧ (∀ c, (κ c).val = r + d * c.val)
      ∧ (∀ c, blk q k w (half B) r r d i c = dense q k w β d (r + d * i.val) (κ c))
      ∧ (∀ u, (∀ c, κ c ≠ u) → dense q k w β d (r + d * i.val) u = ⊥) := by
  have hd : 0 < d := by omega
  have hb : ∀ c : Fin 128, r + d * c.val < 2048 := fun c => by
    have : d * c.val ≤ d * 127 := Nat.mul_le_mul_left d (by omega)
    omega
  refine ⟨fun c => ⟨r + d * c.val, hb c⟩, fun a b h => ?_, fun c => rfl, fun c => ?_, fun u hu => ?_⟩
  · have h' : r + d * a.val = r + d * b.val := congrArg Fin.val h
    exact Fin.ext (Nat.eq_of_mul_eq_mul_left hd (by omega))
  · unfold blk dense half
    rw [hB]
    show _ = if Seen d (r + d * i.val) (r + d * c.val) then _ else _
    show _ + (if i.val ≤ 128 + c.val ∧ 128 + c.val ≤ i.val + 128 then β (i.val + 128 - (128 + c.val)) else ⊥) = _
    by_cases h : c.val ≤ i.val
    · have e2 : r + d * i.val - (r + d * c.val) = d * (i.val - c.val) := by
        rw [Nat.mul_sub, Nat.add_sub_add_left]
      have hs : Seen d (r + d * i.val) (r + d * c.val) := by
        refine ⟨Nat.add_le_add_left (Nat.mul_le_mul_left d h) r, ?_, ?_⟩
        · rw [e2, mul_comm 128 d]; exact Nat.mul_le_mul_left d (by omega)
        · rw [e2]; exact Nat.dvd_mul_right d _
      rw [if_pos (by omega), if_pos hs, e2, Nat.mul_div_cancel_left _ hd]
      congr 2; omega
    · have hs : ¬ Seen d (r + d * i.val) (r + d * c.val) := by
        rintro ⟨h1, -, -⟩
        exact h (Nat.le_of_mul_le_mul_left (by omega : d * c.val ≤ d * i.val) hd)
      rw [if_neg (by omega), if_neg hs, EReal.add_bot]
  · unfold dense
    refine if_neg ?_
    rintro ⟨h1, h2, δ, h3⟩
    have hδ : δ ≤ i.val := by
      by_contra hc
      have : d * (i.val + 1) ≤ d * δ := Nat.mul_le_mul_left d (by omega)
      rw [Nat.mul_add] at this
      omega
    refine hu ⟨i.val - δ, by omega⟩ (Fin.ext ?_)
    show r + d * (i.val - δ) = u.val
    rw [Nat.mul_sub]
    have : d * δ ≤ d * i.val := Nat.mul_le_mul_left d hδ
    omega

/-- What the whole row of query `t` puts out at a feature. -/
noncomputable def outD (d t : ℕ) (e : Fin 128) : EReal := outv (dense q k w β d t) (fun u => v u.val e)

/-- The logarithm of the whole row's denominator. -/
noncomputable def lseD (d t : ℕ) : EReal := lse (dense q k w β d t)

variable {B : Fin 128 → Fin 256 → EReal} (hB : IsBias B β)
include hB

theorem out_wide {d qo ko : ℕ} (hd : 0 < d) (hq : qo = ko + 128 * d) (hlt : ko + d * 255 < 2048) (i e : Fin 128)
    (x : Fin 256 → EReal) (hx : ∀ c, x c = v (ko + d * c.val) e) :
    outv (blk q k w B qo ko d i) x = outD q k v w β d (qo + d * i.val) e := by
  obtain ⟨κ, h1, h2, h3, h4⟩ := wide_facts q k w β hB hd hq hlt i
  exact outv_embed κ h1 _ _ _ _ h3 (fun c => by rw [hx, h2]) h4

theorem lse_wide {d qo ko : ℕ} (hd : 0 < d) (hq : qo = ko + 128 * d) (hlt : ko + d * 255 < 2048) (i : Fin 128) :
    lse (blk q k w B qo ko d i) = lseD q k w β d (qo + d * i.val) := by
  obtain ⟨κ, h1, h2, h3, h4⟩ := wide_facts q k w β hB hd hq hlt i
  exact lse_embed κ h1 _ _ h3 h4

theorem out_first {d r : ℕ} (hr : r < d) (hlt : r + d * 127 < 2048) (i e : Fin 128)
    (x : Fin 128 → EReal) (hx : ∀ c, x c = v (r + d * c.val) e) :
    outv (blk q k w (half B) r r d i) x = outD q k v w β d (r + d * i.val) e := by
  obtain ⟨κ, h1, h2, h3, h4⟩ := first_facts q k w β hB hr hlt i
  exact outv_embed κ h1 _ _ _ _ h3 (fun c => by rw [hx, h2]) h4

theorem lse_first {d r : ℕ} (hr : r < d) (hlt : r + d * 127 < 2048) (i : Fin 128) :
    lse (blk q k w (half B) r r d i) = lseD q k w β d (r + d * i.val) := by
  obtain ⟨κ, h1, h2, h3, h4⟩ := first_facts q k w β hB hr hlt i
  exact lse_embed κ h1 _ _ h3 h4

end

end Cert.Att
-- ==== Proof.Bias.lean ====
/-  The table of biases that the kernel's host code lays out: for every group `g`, head `h`, row `i` of a block and
    column `c` of its double block, the learned bias of the distance `i + 128 - c` where that lies in `0 … 128`, and
    minus infinity elsewhere. The host takes the 129 biases of a head out of the learned table by the distance's
    bucket, writes them backwards into a row of 384 minus infinities, repeats that row and cuts the repetition one
    column shorter, so that each next row is shifted by one. -/
module

public import proofs.«01_k».proof.Proof.Dense
public import proofs.«01_k».proof.Proof.Gen.KernelIdeal.Value
public import Idealize.ShloMosaic.Lib.Routing.Ops
public import Idealize.ShloMosaic.Lib.Routing.OpsPair
public import Idealize.ShloMosaic.Lib.Routing.OpsSet

@[expose] public section

namespace Cert.Att

open Idealize.ShloMosaic Idealize.ShloMosaic.ValueIdx Cert.KernelIdeal Cert.KernelIdeal.Gen
open Idealize.ShloMosaic.Routing

/-- A word of a table of buckets as a row of the learned table. -/
def bkt (lit : Fin 129 → BitVec 32) (p : Fin 129) : Fin 32 := ⟨(lit p).toNat % 32, Nat.mod_lt _ (by omega)⟩

/-- The words of a table of buckets all name rows of the learned table. -/
def Small (lit : Fin 129 → BitVec 32) : Prop := ∀ p, lit p = BitVec.ofNat 32 (bkt lit p).val

instance (lit : Fin 129 → BitVec 32) : Decidable (Small lit) := by unfold Small; infer_instance

/-- The index column of the gather: the printed select keeps the table itself. -/
theorem column_apply (lit : Fin 129 → BitVec 32) (a : IVec S129 32) (p : Fin 129) :
    broadcastInDim S129x1 ![0] bcast_S129_S129x1_0
      (select (constantI S129 1 0#1) a (fun i => lit (S129.rowMajor i))) (ix2 p (0 : Fin 1)) = lit p := by
  rw [broadcastInDim_apply _ _ _ _ (ix1 p) (fun a => by
    obtain rfl : a = 0 := Subsingleton.elim _ _
    rfl)]
  show lit (S129.rowMajor (ix1 p)) = lit p
  refine congrArg lit (Fin.ext ?_)
  exact Shape.rowMajor_val_one _

/-- One head's update of the row of minus infinities, read at a column. -/
theorem written_apply (x : S4x384.Idx → EReal) (u : S4x129.Idx → EReal) (h : Fin 4) (e : Fin 384) :
    Host.scatter scatter_S4x384_S1_S4x129_01_n_1_0 (fun _ b => b) x
        (broadcastInDim S1 ![] bcast_S_S1 (constantI S_ 32 127#32)) u (ix2 h e)
      = if hp : 127 ≤ e.val ∧ e.val ≤ 255 then u (ix2 h ⟨e.val - 127, by omega⟩) else x (ix2 h e) := by
  have lands : ∀ (h' : Fin 4) (p : Fin 129),
      (scatter_S4x384_S1_S4x129_01_n_1_0.resultIdx? (ix2 h' p)
        (broadcastInDim S1 ![] bcast_S_S1 (constantI S_ 32 127#32)) = some (ix2 h e)) ↔ h' = h ∧ 127 + p.val = e.val := by
    intro h' p
    rw [resultIdx?_ix2]
    show (0 : Int) + (h'.val : Int) = (h.val : Int) ∧ (127 : Int) + (p.val : Int) = (e.val : Int) ↔ _
    rw [Fin.ext_iff]
    omega
  by_cases hp : 127 ≤ e.val ∧ e.val ≤ 255
  · rw [dif_pos hp]
    refine scatter_set_hit _ x _ u (ix2 h e) _ ?_ (ix2 h ⟨e.val - 127, by omega⟩) ((lands _ _).2 ⟨rfl, ?_⟩)
    · intro k hk
      rw [eq_ix2 k] at hk ⊢
      have hl := (lands _ _).1 hk
      rw [hl.1]
      refine congrArg (fun t => u (ix2 h t)) (Fin.ext ?_)
      show (k 1).val = e.val - 127
      have := hl.2
      omega
    · show 127 + (e.val - 127) = e.val
      omega
  · rw [dif_neg hp]
    refine scatter_set_miss _ x _ u (ix2 h e) fun k hk => hp ?_
    rw [eq_ix2 k] at hk
    have hl := (lands _ _).1 hk
    have := (k 1).isLt
    change (k 1).val < 129 at this
    omega

/-- The row repeated 128 times and cut one column shorter: row `i` is the row moved by `i`. -/
theorem shifted_apply (u : S4x384.Idx → EReal) (h : Fin 4) (i : Fin 128) (c : Fin 256) :
    extractStridedSlice S4x128x256 ![0, 0, 127]
      (shapeCast S4x128x383 (extractStridedSlice S4x49024 ![0, 0]
        (shapeCast S4x49152 (broadcastInDim S1x4x128x384 ![0, 1, 2, 3] bcast_S1x4x1x384_S1x4x128x384_0_1_2_3
          (shapeCast S1x4x1x384 u shapeCasts_S4x384_S1x4x1x384)) shapeCasts_S1x4x128x384_S4x49152)
        slices_S4x49152_S4x49024_0_0) shapeCasts_S4x49024_S4x128x383) slices_S4x128x383_S4x128x256_0_0_127 (ix3 h i c)
      = u (ix2 h ⟨c.val + 127 - i.val, by omega⟩) := by
  have hh := h.isLt
  have hi := i.isLt
  have hc := c.isLt
  rw [extractStridedSlice_apply _ _ _ _ (ix3 h i (⟨c.val + 127, by omega⟩ : Fin 383)) (by
    intro a
    match a with
    | ⟨0, _⟩ => exact (Nat.zero_add _).symm
    | ⟨1, _⟩ => exact (Nat.zero_add _).symm
    | ⟨2, _⟩ => exact Nat.add_comm _ _)]
  rw [shapeCast_apply _ _ _ (ix2 h (⟨i.val * 383 + (c.val + 127), by omega⟩ : Fin 49024)) (by
    rw [Shape.rowMajor_val_two, Shape.rowMajor_val_three]
    show h.val * 49024 + (i.val * 383 + (c.val + 127)) = (h.val * 128 + i.val) * 383 + (c.val + 127)
    omega)]
  rw [extractStridedSlice_apply _ _ _ _ (ix2 h (⟨i.val * 383 + (c.val + 127), by omega⟩ : Fin 49152)) (by
    intro a
    match a with
    | ⟨0, _⟩ => exact (Nat.zero_add _).symm
    | ⟨1, _⟩ => exact (Nat.zero_add _).symm)]
  rw [shapeCast_apply _ _ _ (ix4 (0 : Fin 1) h i (⟨c.val + 127 - i.val, by omega⟩ : Fin 384)) (by
    rw [Shape.rowMajor_val_two, Shape.rowMajor_val_four]
    show ((0 * 4 + h.val) * 128 + i.val) * 384 + (c.val + 127 - i.val) = h.val * 49152 + (i.val * 383 + (c.val + 127))
    omega)]
  rw [broadcastInDim_apply _ _ _ _ (ix4 (0 : Fin 1) h (0 : Fin 1) (⟨c.val + 127 - i.val, by omega⟩ : Fin 384)) (by
    intro a
    match a with
    | ⟨0, _⟩ => rfl
    | ⟨1, _⟩ => rfl
    | ⟨2, _⟩ => rfl
    | ⟨3, _⟩ => rfl)]
  exact shapeCast_apply _ _ _ _ (by
    rw [Shape.rowMajor_val_two, Shape.rowMajor_val_four]
    show h.val * 384 + (c.val + 127 - i.val) = ((0 * 4 + h.val) * 1 + 0) * 384 + (c.val + 127 - i.val)
    omega)

/-- One group's table of biases as the host code computes it from the learned table's four columns. -/
noncomputable def laid (lit : Fin 129 → BitVec 32) (x : S32x4.Idx → EReal) : S4x128x256.Idx → EReal :=
  extractStridedSlice S4x128x256 ![0, 0, 127]
    (shapeCast S4x128x383 (extractStridedSlice S4x49024 ![0, 0]
      (shapeCast S4x49152 (broadcastInDim S1x4x128x384 ![0, 1, 2, 3] bcast_S1x4x1x384_S1x4x128x384_0_1_2_3
        (shapeCast S1x4x1x384
          (Host.scatter scatter_S4x384_S1_S4x129_01_n_1_0 (fun _ b => b)
            (broadcastInDim S4x384 ![] bcast_S_S4x384 (constant (F := Ideal) S_ .f32 0xFF800000#32))
            (broadcastInDim S1 ![] bcast_S_S1 (constantI S_ 32 127#32))
            (Host.reverse [1] (transpose S4x129 [1, 0]
              (Host.gather gather_S32x4_S129x1_S129x4_1_0_n_n_0_1_14 x
                (broadcastInDim S129x1 ![0] bcast_S129_S129x1_0
                  (select (constantI S129 1 0#1)
                    (addi (fun i => lit (S129.rowMajor i)) (broadcastInDim S129 ![] bcast_S_S129 (constantI S_ 32 32#32)))
                    (fun i => lit (S129.rowMajor i))))) transposes_S129x4_S4x129_1_0)))
          shapeCasts_S4x384_S1x4x1x384)) shapeCasts_S1x4x128x384_S4x49152)
      slices_S4x49152_S4x49024_0_0) shapeCasts_S4x49024_S4x128x383) slices_S4x128x383_S4x128x256_0_0_127

/-- One group's table at a head, a row and a column. -/
theorem laid_apply (lit : Fin 129 → BitVec 32) (hl : Small lit) (x : S32x4.Idx → EReal) (h : Fin 4) (i : Fin 128)
    (c : Fin 256) :
    laid lit x (ix3 h i c) = if hp : i.val ≤ c.val ∧ c.val ≤ i.val + 128 then
      x (ix2 (bkt lit ⟨i.val + 128 - c.val, by omega⟩) h) else ⊥ := by
  unfold laid
  rw [shifted_apply, written_apply]
  have hi := i.isLt
  have hc := c.isLt
  by_cases hp : i.val ≤ c.val ∧ c.val ≤ i.val + 128
  · rw [dif_pos hp, dif_pos (by show 127 ≤ c.val + 127 - i.val ∧ c.val + 127 - i.val ≤ 255; omega)]
    have hr : ∀ y : S4x129.Idx → EReal, ∀ p : Fin 129, Host.reverse [1] y (ix2 h p) = y (ix2 h p.rev) := by
      intro y p
      refine congrArg y (funext fun a => ?_)
      match a with
      | ⟨0, _⟩ => rfl
      | ⟨1, _⟩ => rfl
    rw [hr, transpose_apply _ _ _ _ (ix2 (⟨i.val + 128 - c.val, by omega⟩ : Fin 129) h) (by
      intro b
      match b with
      | ⟨0, _⟩ => rfl
      | ⟨1, _⟩ =>
        show i.val + 128 - c.val = 129 - (c.val + 127 - i.val - 127 + 1)
        omega)]
    exact gather_row _ rfl rfl rfl rfl rfl x _ _ h _ ((column_apply lit _ _).trans (hl _)) (by omega)
  · rw [dif_neg hp, dif_neg (by show ¬ (127 ≤ c.val + 127 - i.val ∧ c.val + 127 - i.val ≤ 255); omega)]
    exact negInf

/-- The words of the three tables of buckets are rows of the learned table. -/
theorem small0 : Small lit0 := by decide +kernel
theorem small1 : Small lit1 := by decide +kernel
theorem small2 : Small lit2 := by decide +kernel

/-- The table of buckets of a group. -/
noncomputable def lits : Fin 3 → Fin 129 → BitVec 32
  | 0 => lit0
  | 1 => lit1
  | 2 => lit2

theorem small (g : Fin 3) : Small (lits g) :=
  match g with
  | 0 => small0
  | 1 => small1
  | 2 => small2

/-- The bias of a distance in blocks, group `g` and head `h`, from the learned table. -/
noncomputable def learned (x : S32x12.Idx → EReal) (g : Fin 3) (h : Fin 4) (n : ℕ) : EReal :=
  if hn : n < 129 then x (ix2 (bkt (lits g) ⟨n, hn⟩) ⟨4 * g.val + h.val, by omega⟩) else 0

/-- The three groups' tables, stacked. -/
noncomputable def table (x : S32x12.Idx → EReal) : S3x4x128x256.Idx → EReal :=
  concatenate S3x4x128x256 0
    [⟨S1x4x128x256, broadcastInDim S1x4x128x256 ![1, 2, 3] bcast_S4x128x256_S1x4x128x256_1_2_3
      (laid (lits 0) (extractStridedSlice S32x4 ![0, 0] x slices_S32x12_S32x4_0_0))⟩,
     ⟨S1x4x128x256, broadcastInDim S1x4x128x256 ![1, 2, 3] bcast_S4x128x256_S1x4x128x256_1_2_3
      (laid (lits 1) (extractStridedSlice S32x4 ![0, 4] x slices_S32x12_S32x4_0_4))⟩,
     ⟨S1x4x128x256, broadcastInDim S1x4x128x256 ![1, 2, 3] bcast_S4x128x256_S1x4x128x256_1_2_3
      (laid (lits 2) (extractStridedSlice S32x4 ![0, 8] x slices_S32x12_S32x4_0_8))⟩]
    concatenates_S1x4x128x256_S1x4x128x256_S1x4x128x256_S3x4x128x256_d0

/-- One group's table among the three, for the group's four columns of the learned table. -/
theorem grouped (x : S32x12.Idx → EReal) (g : Fin 3) (n : ℕ) (hn : n = 4 * g.val)
    (hs : S32x12.Slices ![0, n] S32x4) (h : Fin 4) (i : Fin 128) (c : Fin 256) :
    broadcastInDim S1x4x128x256 ![1, 2, 3] bcast_S4x128x256_S1x4x128x256_1_2_3
      (laid (lits g) (extractStridedSlice S32x4 ![0, n] x hs)) (ix4 (0 : Fin 1) h i c)
      = if i.val ≤ c.val ∧ c.val ≤ i.val + 128 then learned x g h (i.val + 128 - c.val) else ⊥ := by
  rw [broadcastInDim_apply _ _ _ _ (ix3 h i c) (by
    intro a
    match a with
    | ⟨0, _⟩ => rfl
    | ⟨1, _⟩ => rfl
    | ⟨2, _⟩ => rfl), laid_apply _ (small g)]
  by_cases hp : i.val ≤ c.val ∧ c.val ≤ i.val + 128
  · rw [dif_pos hp, if_pos hp]
    unfold learned
    rw [dif_pos (by omega)]
    exact extractStridedSlice_apply _ _ _ _ _ (by
      intro a
      match a with
      | ⟨0, _⟩ => exact (Nat.zero_add _).symm
      | ⟨1, _⟩ =>
        show 4 * g.val + h.val = n + h.val
        omega)
  · rw [dif_neg hp, if_neg hp]

/-- Only the stacked axis tells a group's table from the stack. -/
theorem stack_side (g : Fin 3) (h : Fin 4) (i : Fin 128) (c : Fin 256) (b : Fin 4) (hb : b ≠ 0) :
    (ix4 (0 : Fin 1) h i c b).val = (ix4 g h i c b).val := by
  match b with
  | ⟨0, _⟩ => exact absurd rfl hb
  | ⟨1, _⟩ => rfl
  | ⟨2, _⟩ => rfl
  | ⟨3, _⟩ => rfl

section Stack

variable (p0 p1 p2 : S1x4x128x256.Idx → EReal)

theorem stack0 (h : Fin 4) (i : Fin 128) (c : Fin 256) :
    concatenate S3x4x128x256 0 [⟨S1x4x128x256, p0⟩, ⟨S1x4x128x256, p1⟩, ⟨S1x4x128x256, p2⟩]
      concatenates_S1x4x128x256_S1x4x128x256_S1x4x128x256_S3x4x128x256_d0 (ix4 (0 : Fin 3) h i c)
      = p0 (ix4 (0 : Fin 1) h i c) :=
  concatenate_apply_piece (t := S3x4x128x256) (0 : Fin 4) _ _ (ix4 (0 : Fin 3) h i c) 0 (by show (0 : ℕ) < 3; decide) S1x4x128x256
    p0 rfl rfl 0 rfl (ix4 (0 : Fin 1) h i c) (fun b hb => stack_side 0 h i c b hb) rfl

theorem stack1 (h : Fin 4) (i : Fin 128) (c : Fin 256) :
    concatenate S3x4x128x256 0 [⟨S1x4x128x256, p0⟩, ⟨S1x4x128x256, p1⟩, ⟨S1x4x128x256, p2⟩]
      concatenates_S1x4x128x256_S1x4x128x256_S1x4x128x256_S3x4x128x256_d0 (ix4 (1 : Fin 3) h i c)
      = p1 (ix4 (0 : Fin 1) h i c) :=
  concatenate_apply_piece (t := S3x4x128x256) (0 : Fin 4) _ _ (ix4 (1 : Fin 3) h i c) 1 (by show (1 : ℕ) < 3; decide) S1x4x128x256
    p1 rfl rfl 1 rfl (ix4 (0 : Fin 1) h i c) (fun b hb => stack_side 1 h i c b hb) rfl

theorem stack2 (h : Fin 4) (i : Fin 128) (c : Fin 256) :
    concatenate S3x4x128x256 0 [⟨S1x4x128x256, p0⟩, ⟨S1x4x128x256, p1⟩, ⟨S1x4x128x256, p2⟩]
      concatenates_S1x4x128x256_S1x4x128x256_S1x4x128x256_S3x4x128x256_d0 (ix4 (2 : Fin 3) h i c)
      = p2 (ix4 (0 : Fin 1) h i c) :=
  concatenate_apply_piece (t := S3x4x128x256) (0 : Fin 4) _ _ (ix4 (2 : Fin 3) h i c) 2 (by show (2 : ℕ) < 3; decide) S1x4x128x256
    p2 rfl rfl 2 rfl (ix4 (0 : Fin 1) h i c) (fun b hb => stack_side 2 h i c b hb) rfl

end Stack

/-- The host's table at a group, a head, a row and a column. -/
theorem table_apply (x : S32x12.Idx → EReal) (g : Fin 3) (h : Fin 4) (i : Fin 128) (c : Fin 256) :
    table x (ix4 g h i c)
      = if i.val ≤ c.val ∧ c.val ≤ i.val + 128 then learned x g h (i.val + 128 - c.val) else ⊥ := by
  have hg : g = 0 ∨ g = 1 ∨ g = 2 := by omega
  rcases hg with rfl | rfl | rfl
  · exact (stack0 _ _ _ h i c).trans <| grouped x 0 0 rfl _ h i c
  · exact (stack1 _ _ _ h i c).trans <| grouped x 1 4 rfl _ h i c
  · exact (stack2 _ _ _ h i c).trans <| grouped x 2 8 rfl _ h i c

end Cert.Att
-- ==== Proof.Entry.lean ====
/-  What the region finds in its input arrays: the table of biases that the host laid out, and the projected heads. -/
module

public import proofs.«01_k».proof.Proof.Bias

@[expose] public section

namespace Cert.Att

open Idealize.ShloMosaic Idealize.ShloMosaic.ValueIdx Cert.KernelIdeal Cert.KernelIdeal.Gen

/-- Three tables that agree part by part are stacked alike. -/
theorem stacked_congr (p0 p1 p2 q0 q1 q2 : S1x4x128x256.Idx → EReal) (h0 : p0 = q0) (h1 : p1 = q1) (h2 : p2 = q2) :
    concatenate S3x4x128x256 0 [⟨S1x4x128x256, p0⟩, ⟨S1x4x128x256, p1⟩, ⟨S1x4x128x256, p2⟩]
      concatenates_S1x4x128x256_S1x4x128x256_S1x4x128x256_S3x4x128x256_d0
      = concatenate S3x4x128x256 0 [⟨S1x4x128x256, q0⟩, ⟨S1x4x128x256, q1⟩, ⟨S1x4x128x256, q2⟩]
        concatenates_S1x4x128x256_S1x4x128x256_S1x4x128x256_S3x4x128x256_d0 := by
  rw [h0, h1, h2]

set_option maxHeartbeats 4000000 in
/-- The region finds the host's table in the bias window's array. -/
theorem bias_entry (m : (ℓ : Loc nD τ sig) → Buf (Elt Ideal) ℓ) (c : Dev nD) :
    (V m c main_v54 : S3x4x128x256.Idx → EReal) = table (m ((c.tc : Thread nD τ).loc main_arg1)) := by
  show StableHlo.after hostOps0 (fun b => m (c, b)) (Proc.devRef .tc main_v54) = _
  simp only [hostOps0]
  after_results_simp
  unfold table
  refine stacked_congr _ _ _ _ _ _ ?_ ?_ ?_
  · simp only [Matrix.cons_val_zero]
    after_results_simp
    unfold laid
    rfl
  · simp only [Matrix.cons_val_one, Matrix.cons_val_zero]
    after_results_simp
    unfold laid
    rfl
  · simp only [Matrix.cons_val]
    after_results_simp
    unfold laid
    rfl

set_option maxHeartbeats 4000000 in
/-- … and the projected heads, split by kind, group and head, in the other windows' array. -/
theorem qkv_entry (m : (ℓ : Loc nD τ sig) → Buf (Elt Ideal) ℓ) (c : Dev nD) :
    (V m c main_v55 : S8x3x3x4x2048x128.Idx → EReal)
      = shapeCast S8x3x3x4x2048x128 (m ((c.tc : Thread nD τ).loc main_arg0) : S8x36x2048x128.Idx → EReal)
          shapeCasts_S8x36x2048x128_S8x3x3x4x2048x128 := by
  show StableHlo.after hostOps0 (fun b => m (c, b)) (Proc.devRef .tc main_v55) = _
  simp only [hostOps0]
  after_results_simp
  rfl

end Cert.Att
-- ==== Proof.Blocks.lean ====
/-  The vector operations of one attention block, read at an index: the logits of a block of 128 queries, the softmax
    of a stack of rows, the block's normalized output and the logarithms of its denominators. Everything is stated
    for any number of rows and keys, so that each of the kernel's stacks and blocks is one application. -/
module

public import proofs.«01_k».proof.Proof.Row

@[expose] public section

namespace Cert.Att

open Idealize.ShloMosaic Idealize.ShloMosaic.ValueIdx
open scoped BigOperators

/-- The rows of `Q` are the rows `o, o + d, o + 2 d, …` of the table `f`. -/
def IsMat {R : ℕ} {φ : FTy} (Q : FVec Ideal ⟨2, ![R, 128]⟩ φ) (f : ℕ → Fin 128 → EReal) (o d : ℕ) : Prop :=
  ∀ i e, Q (ix2 i e) = f (o + d * i.val) e

/-- The logits of a block: the product of a query and a key, scaled, plus the bias. -/
theorem logit_apply {C : ℕ} (Q : FVec Ideal ⟨2, ![128, 128]⟩ .bf16) (K : FVec Ideal ⟨2, ![C, 128]⟩ .bf16)
    (D : DotDims ⟨2, ![128, 128]⟩ ⟨2, ![C, 128]⟩ ⟨2, ![128, C]⟩) (hD : D = DotDims.transposedRhs 128 128 C)
    (w : Ideal .f32) (B : FVec Ideal ⟨4, ![1, 1, 128, C]⟩ .f32)
    (hs : (⟨4, ![1, 1, 128, C]⟩ : Shape).ShapeCasts ⟨2, ![128, C]⟩) (i : Fin 128) (c : Fin C) :
    addf (mulf (matmul D none Q K (constant ⟨2, ![128, C]⟩ .f32 0x00000000#32)) (broadcast ⟨2, ![128, C]⟩ w))
        (shapeCast ⟨2, ![128, C]⟩ B hs) (ix2 i c)
      = (∑ e, Q (ix2 i e) * K (ix2 c e)) * w + B (ix4 0 0 i c) := by
  subst hD
  rw [addf_apply, mulf_apply, broadcast_apply, shapeCast_apply B hs (ix2 i c) (ix4 0 0 i c) (by
    rw [Shape.rowMajor_val_two, Shape.rowMajor_val_four]
    show ((0 * 1 + 0) * 128 + i.val) * C + c.val = i.val * C + c.val
    simp)]
  refine congrArg (fun a => a * w + B (ix4 0 0 i c)) ?_
  refine (Ideal.matmul_transposedRhs_apply none Q K _ i c).trans ?_
  rw [constant_apply, Ideal.ofBits_zero_f32, zero_add]

/-- A stack of rows of logits, with what the softmax keeps of it: the denominators, the exponentials (rounded to a
    format, which is exact here), and the logarithms. -/
structure Soft {R C : ℕ} (L : FVec Ideal ⟨2, ![R, C]⟩ .f32) (S : FVec Ideal ⟨2, ![R, 1]⟩ .f32)
    (P : FVec Ideal ⟨2, ![R, C]⟩ .bf16) (E : FVec Ideal ⟨2, ![R, 128]⟩ .f32) : Prop where
  sum : ∀ i z, S (ix2 i z) = den (rowOf L i)
  prob : ∀ i c, P (ix2 i c) = ex (rowOf L i) c
  log : ∀ i e, E (ix2 i e) = lse (rowOf L i)

/-- The kernel's softmax of a stack. -/
theorem soft_intro {R C : ℕ} (L : FVec Ideal ⟨2, ![R, C]⟩ .f32) (h : Shape.Reduces ⟨2, ![R, C]⟩ [1] ⟨1, ![R]⟩)
    (hφ : FKind.Formats .f32) (hφ' : FKind.Formats .f32)
    (hm : (0xFF800000#32 : BitVec 32) = FKind.maximumf.neutral .f32 hφ)
    (ha : (0x00000000#32 : BitVec 32) = FKind.add.neutral .f32 hφ')
    (hs : (⟨1, ![R]⟩ : Shape).ShapeCasts ⟨2, ![R, 1]⟩) (hb : (⟨2, ![R, 1]⟩ : Shape).Broadcasts ⟨2, ![R, C]⟩)
    (hss : (⟨2, ![R, 1]⟩ : Shape).ShapeCasts ⟨2, ![R, 1]⟩)
    (hl : (⟨2, ![R, 1]⟩ : Shape).Broadcasts ⟨2, ![R, 128]⟩) (ht : FTy.bf16.bits < FTy.f32.bits)
    (M : FVec Ideal ⟨2, ![R, 1]⟩ .f32)
    (hM : M = shapeCast ⟨2, ![R, 1]⟩ (multiReduction .maximumf [1] ⟨1, ![R]⟩ L 0xFF800000#32 h hφ hm) hs)
    (X : FVec Ideal ⟨2, ![R, C]⟩ .f32) (hX : X = exp (subf L (broadcastTo ⟨2, ![R, C]⟩ M hb)))
    (S : FVec Ideal ⟨2, ![R, 1]⟩ .f32)
    (hS : S = shapeCast ⟨2, ![R, 1]⟩ (multiReduction .add [1] ⟨1, ![R]⟩ X 0x00000000#32 h hφ' ha) hs)
    (P : FVec Ideal ⟨2, ![R, C]⟩ .bf16) (hP : P = truncf .bf16 X ht)
    (E : FVec Ideal ⟨2, ![R, 128]⟩ .f32)
    (hE : E = broadcastTo ⟨2, ![R, 128]⟩ (shapeCast ⟨2, ![R, 1]⟩ (addf M (log S)) hss) hl) :
    Soft L S P E := by
  have eM : ∀ i z, M (ix2 i z) = top (rowOf L i) := fun i z => by rw [hM]; exact max_apply L h hφ hm hs i z
  have eX : ∀ i c, X (ix2 i c) = ex (rowOf L i) c := fun i c => by
    rw [hX]
    show Ideal.exp (L (ix2 i c) - broadcastTo ⟨2, ![R, C]⟩ M hb (ix2 i c)) = _
    rw [spread_apply, eM]; rfl
  have eS : ∀ i z, S (ix2 i z) = den (rowOf L i) := fun i z => by
    rw [hS, sum_apply]
    exact Finset.sum_congr rfl fun c _ => eX i c
  refine ⟨eS, fun i c => by rw [hP, truncf_apply]; exact eX i c, fun i e => ?_⟩
  rw [hE, spread_apply, shapeCast_apply _ hss (ix2 i 0) (ix2 i 0) rfl, addf_apply, eM]
  show top (rowOf L i) + Ideal.log (S (ix2 i 0)) = _
  rw [eS]; rfl

/-- One piece of a stack: rows `128 k ..` of a concatenation of blocks of 128 rows. -/
theorem cat_apply {R C : ℕ} (xs : List ((s : Shape) × (s.Idx → Ideal .f32)))
    (h : Shape.Concatenates (xs.map (·.1)) ⟨2, ![R, C]⟩ 0) (k : ℕ) (hk : k < xs.length)
    (x : FVec Ideal ⟨2, ![128, C]⟩ .f32) (hx : xs[k] = ⟨⟨2, ![128, C]⟩, x⟩) (pre : ℕ)
    (hpre : (((xs.take k).map (·.1)).map fun s => if h : s.rank = 2 then s.size ((0 : Fin 2).cast h.symm) else 0).sum = pre)
    (n : Fin R) (i : Fin 128) (hn : n.val = pre + i.val) (c : Fin C) :
    concatenate ⟨2, ![R, C]⟩ 0 xs h (ix2 n c) = x (ix2 i c) := by
  refine concatenate_apply_piece (t := ⟨2, ![R, C]⟩) 0 xs h (ix2 n c) k hk ⟨2, ![128, C]⟩ x hx rfl pre hpre (ix2 i c) (fun b hb => ?_) ?_
  · match b with
    | ⟨0, _⟩ => exact absurd rfl hb
    | ⟨1, _⟩ => rfl
  · exact hn.symm

/-- What one piece stores of the output: the exponentials of rows `o ..` of the stack against the block's values, over
    the rows' denominators. -/
theorem og_apply {R C : ℕ} {L : FVec Ideal ⟨2, ![R, C]⟩ .f32} {S : FVec Ideal ⟨2, ![R, 1]⟩ .f32}
    {P : FVec Ideal ⟨2, ![R, C]⟩ .bf16} {E : FVec Ideal ⟨2, ![R, 128]⟩ .f32} (hS : Soft L S P E)
    (V : FVec Ideal ⟨2, ![C, 128]⟩ .bf16)
    (D : DotDims ⟨2, ![128, C]⟩ ⟨2, ![C, 128]⟩ ⟨2, ![128, 128]⟩) (hD : D = DotDims.plain 128 C 128) (o : ℕ)
    (h1 : (⟨2, ![R, C]⟩ : Shape).Slices ![o, 0] ⟨2, ![128, C]⟩)
    (h2 : (⟨2, ![R, 1]⟩ : Shape).Slices ![o, 0] ⟨2, ![128, 1]⟩)
    (hb : (⟨2, ![128, 1]⟩ : Shape).Broadcasts ⟨2, ![128, 128]⟩)
    (i : Fin 128) (e : Fin 128) (n : Fin R) (hn : n.val = o + i.val) :
    divf (matmul D none (extractStridedSlice ⟨2, ![128, C]⟩ ![o, 0] P h1) V
          (constant ⟨2, ![128, 128]⟩ .f32 0x00000000#32))
        (broadcastTo ⟨2, ![128, 128]⟩ (extractStridedSlice ⟨2, ![128, 1]⟩ ![o, 0] S h2) hb) (ix2 i e)
      = outv (rowOf L n) (fun c => V (ix2 c e)) := by
  subst hD
  rw [divf_apply, spread_apply, slice2_axis0_apply o S h2 i 0 n hn, hS.sum]
  unfold outv
  refine congrArg (fun a => Ideal.div a (den (rowOf L n))) ?_
  refine (Ideal.matmul_plain_apply none (extractStridedSlice ⟨2, ![128, C]⟩ ![o, 0] P h1) V _ i e).trans ?_
  rw [constant_apply, Ideal.ofBits_zero_f32, zero_add]
  unfold num
  exact Finset.sum_congr rfl fun c _ => by rw [slice2_axis0_apply o P h1 i c n hn, hS.prob]

/-- The same where the stack is the one block. -/
theorem og_apply_whole {C : ℕ} {L : FVec Ideal ⟨2, ![128, C]⟩ .f32} {S : FVec Ideal ⟨2, ![128, 1]⟩ .f32}
    {P : FVec Ideal ⟨2, ![128, C]⟩ .bf16} {E : FVec Ideal ⟨2, ![128, 128]⟩ .f32} (hS : Soft L S P E)
    (V : FVec Ideal ⟨2, ![C, 128]⟩ .bf16)
    (D : DotDims ⟨2, ![128, C]⟩ ⟨2, ![C, 128]⟩ ⟨2, ![128, 128]⟩) (hD : D = DotDims.plain 128 C 128)
    (hb : (⟨2, ![128, 1]⟩ : Shape).Broadcasts ⟨2, ![128, 128]⟩) (i : Fin 128) (e : Fin 128) :
    divf (matmul D none P V (constant ⟨2, ![128, 128]⟩ .f32 0x00000000#32)) (broadcastTo ⟨2, ![128, 128]⟩ S hb) (ix2 i e)
      = outv (rowOf L i) (fun c => V (ix2 c e)) := by
  subst hD
  rw [divf_apply, spread_apply, hS.sum]
  unfold outv
  refine congrArg (fun a => Ideal.div a (den (rowOf L i))) ?_
  refine (Ideal.matmul_plain_apply none P V _ i e).trans ?_
  rw [constant_apply, Ideal.ofBits_zero_f32, zero_add]
  unfold num
  exact Finset.sum_congr rfl fun c _ => by rw [hS.prob]

/-- A block stored under a unit axis, at an index. -/
theorem stored_apply {N : ℕ} {φ : FTy} (x : FVec Ideal ⟨2, ![N, 128]⟩ φ)
    (hs : (⟨2, ![N, 128]⟩ : Shape).ShapeCasts ⟨3, ![1, N, 128]⟩) (z : Fin 1) (i : Fin N) (e : Fin 128) :
    shapeCast ⟨3, ![1, N, 128]⟩ x hs (ix3 z i e) = x (ix2 i e) := by
  refine shapeCast_apply x hs _ _ ?_
  have hz : z.val = 0 := by omega
  rw [Shape.rowMajor_val_two, Shape.rowMajor_val_three]
  show i.val * 128 + e.val = (z.val * N + i.val) * 128 + e.val
  rw [hz]; simp

/-- A block read from under a unit axis, at an index. -/
theorem taken_apply {N : ℕ} {φ : FTy} (x : FVec Ideal ⟨3, ![1, N, 128]⟩ φ)
    (hs : (⟨3, ![1, N, 128]⟩ : Shape).ShapeCasts ⟨2, ![N, 128]⟩) (i : Fin N) (e : Fin 128) :
    shapeCast ⟨2, ![N, 128]⟩ x hs (ix2 i e) = x (ix3 0 i e) := by
  refine shapeCast_apply x hs _ _ ?_
  rw [Shape.rowMajor_val_two, Shape.rowMajor_val_three]
  show (0 * N + i.val) * 128 + e.val = i.val * 128 + e.val
  simp

/-- A block of rows read from under four unit axes, at an index. -/
theorem taken6_apply {N : ℕ} {φ : FTy} (x : FVec Ideal ⟨6, ![1, 1, 1, 1, N, 128]⟩ φ)
    (hs : (⟨6, ![1, 1, 1, 1, N, 128]⟩ : Shape).ShapeCasts ⟨2, ![N, 128]⟩) (i : Fin N) (e : Fin 128) :
    shapeCast ⟨2, ![N, 128]⟩ x hs (ix2 i e) = x (ix6 0 0 0 0 i e) := by
  refine shapeCast_apply x hs _ _ ?_
  rw [Shape.rowMajor_val_two, Shape.rowMajor_val_six]
  show ((((0 * 1 + 0) * 1 + 0) * 1 + 0) * N + i.val) * 128 + e.val = i.val * 128 + e.val
  simp

end Cert.Att
-- ==== Proof.Loads.lean ====
/-  The kernel's loads and the pieces it stores, at an index: rows loaded from a window, rows loaded d apart from a
    scratch copy of one group, a block of the biases, and one piece of the scratch arrays of outputs and logarithms. -/
module

public import proofs.«01_k».proof.Proof.Blocks
public import proofs.«01_k».proof.Proof.Dense
public import proofs.«01_k».proof.Proof.Gen.KernelIdeal.Frame

@[expose] public section

namespace Cert.Att

open Idealize.ShloMosaic Idealize.ShloMosaic.ValueIdx Cert.KernelIdeal
open scoped BigOperators

/-- Group `g` of a window of queries, keys or values, as a table of rows. -/
noncomputable def tg (x : FVec Ideal ⟨6, ![1, 1, 3, 1, 2048, 128]⟩ .bf16) (g : Fin 3) (t : ℕ) (e : Fin 128) : EReal :=
  if h : t < 2048 then x (ix6 0 0 g 0 ⟨t, h⟩ e) else 0

section Direct

variable (M : Memref sig Kind.tc Space.vmem ⟨6, ![1, 1, 3, 1, 2048, 128]⟩ EltTy.bf16) (hM : M.IsWhole)
  (x : FVec Ideal ⟨6, ![1, 1, 3, 1, 2048, 128]⟩ .bf16)

/-- `R` rows from row `o` of group `g` of a window. -/
theorem load_mat {R : ℕ} (g : Fin 3) (gn : ℕ) (hg : gn = g.val) (o : ℕ)
    (inb : ∀ a, (![0, 0, gn, 0, o, 0] : Fin 6 → ℕ) a + (![1, 1, 1, 1, R, 128] : Fin 6 → ℕ) a
      ≤ (⟨6, ![1, 1, 3, 1, 2048, 128]⟩ : Shape).size a)
    (hs : (⟨6, ![1, 1, 1, 1, R, 128]⟩ : Shape).ShapeCasts ⟨2, ![R, 128]⟩) :
    IsMat (φ := .bf16) (shapeCast ⟨2, ![R, 128]⟩
      (View.readAt (Elt Ideal) M.view (Rect.unit (s := ⟨6, ![1, 1, 3, 1, 2048, 128]⟩) ![0, 0, gn, 0, o, 0] ![1, 1, 1, 1, R, 128] inb).toLoadRect
        (hM.unread x)) hs) (tg x g) o 1 := by
  intro i e
  subst hg
  refine (taken6_apply (φ := .bf16) _ hs i e).trans ?_
  rw [View.readAt_apply, Memref.IsWhole.read_unread]
  have hb : o + R ≤ 2048 := inb 4
  unfold tg
  rw [dif_pos (by have := i.isLt; omega)]
  refine congrArg x (funext fun a => Fin.ext ?_)
  match a with
  | ⟨0, _⟩ => rfl
  | ⟨1, _⟩ => rfl
  | ⟨2, _⟩ => rfl
  | ⟨3, _⟩ => rfl
  | ⟨4, _⟩ => rfl
  | ⟨5, _⟩ => show 0 + 1 * e.val = e.val; omega

/-- The rows of a scratch copy of a group: a table's entries. -/
def IsTab (w : FVec Ideal ⟨2, ![2048, 128]⟩ .f32) (f : ℕ → Fin 128 → EReal) : Prop := ∀ i e, w (ix2 i e) = f i.val e

/-- The copy of a group that the kernel keeps in scratch. -/
theorem copy_tab (g : Fin 3) (gn : ℕ) (hg : gn = g.val)
    (inb : ∀ a, (![0, 0, gn, 0, 0, 0] : Fin 6 → ℕ) a + (![1, 1, 1, 1, 2048, 128] : Fin 6 → ℕ) a
      ≤ (⟨6, ![1, 1, 3, 1, 2048, 128]⟩ : Shape).size a)
    (hs : (⟨6, ![1, 1, 1, 1, 2048, 128]⟩ : Shape).ShapeCasts ⟨2, ![2048, 128]⟩)
    (hs' : (⟨2, ![2048, 128]⟩ : Shape).ShapeCasts ⟨2, ![2048, 128]⟩) (hb : FTy.bf16.bits < FTy.f32.bits) :
    IsTab (shapeCast ⟨2, ![2048, 128]⟩ (extf .f32 (shapeCast ⟨2, ![2048, 128]⟩
      (View.readAt (Elt Ideal) M.view (Rect.unit (s := ⟨6, ![1, 1, 3, 1, 2048, 128]⟩) ![0, 0, gn, 0, 0, 0] ![1, 1, 1, 1, 2048, 128] inb).toLoadRect
        (hM.unread x)) hs : FVec Ideal ⟨2, ![2048, 128]⟩ .bf16) hb) hs') (tg x g) := by
  intro i e
  rw [shapeCast_apply _ hs' (ix2 i e) (ix2 i e) rfl, extf_apply]
  exact (load_mat M hM x g gn hg 0 inb hs i e).trans (by rw [show 0 + 1 * i.val = i.val by omega])

end Direct

/-- Rows `o, o + d, …` loaded from a scratch copy of a group. -/
theorem strided_mat {R : ℕ} (M : Memref sig Kind.tc Space.vmem ⟨2, ![2048, 128]⟩ EltTy.f32)
    (w : FVec Ideal ⟨2, ![2048, 128]⟩ .f32) (f : ℕ → Fin 128 → EReal) (hw : IsTab w f)
    (inb0 : ∀ a, (![0, 0] : Fin 2 → ℕ) a + (⟨2, ![2048, 128]⟩ : Shape).size a ≤ (⟨2, ![2048, 128]⟩ : Shape).size a)
    (L : List (View.Piece (Elt Ideal) ⟨2, ![2048, 128]⟩ EltTy.f32)) (o d : ℕ)
    (inb : ∀ a, (⟨2, ![R, 128]⟩ : Shape).size a = 0 ∨ (![o, 0] : Fin 2 → ℕ) a + (![d, 1] : Fin 2 → ℕ) a * ((⟨2, ![R, 128]⟩ : Shape).size a - 1)
      < (⟨2, ![2048, 128]⟩ : Shape).size a)
    (ht : FTy.bf16.bits < FTy.f32.bits) :
    IsMat (φ := .bf16) (truncf (F := Ideal) (s := ⟨2, ![R, 128]⟩) .bf16 (M.view.readCov (Val := Elt Ideal)
      (⟨Rect.unit (s := ⟨2, ![2048, 128]⟩) ![0, 0] (⟨2, ![2048, 128]⟩ : Shape).size inb0, w⟩ :: L)
      ({ off := ![o, 0], size := (⟨2, ![R, 128]⟩ : Shape).size, stride := ![d, 1], inb := inb } : LoadRect ⟨2, ![2048, 128]⟩)) ht) f o d := by
  intro i e
  rw [truncf_apply, View.readCov_eq_canon']
  have h0 : (![0, 0] : Fin 2 → ℕ) = fun _ => 0 := by
    funext a; match a with | ⟨0, _⟩ => rfl | ⟨1, _⟩ => rfl
  rw [View.canon_cons_unit_zero h0]
  have hlt : o + d * i.val < 2048 := by
    have hi := i.isLt
    have h := (inb 0).resolve_left (by show ¬ R = 0; omega)
    have h' : o + d * (R - 1) < 2048 := h
    have : d * i.val ≤ d * (R - 1) := Nat.mul_le_mul_left d (by omega)
    omega
  refine Eq.trans (congrArg w (funext fun a => Fin.ext ?_)) (hw ⟨o + d * i.val, hlt⟩ e)
  match a with
  | ⟨0, _⟩ => rfl
  | ⟨1, _⟩ => show 0 + 1 * e.val = e.val; omega

/-- A block of the biases: group `g`, columns from `o`. -/
theorem load_bias {C : ℕ} (M : Memref sig Kind.tc Space.vmem ⟨4, ![3, 1, 128, 256]⟩ EltTy.f32) (hM : M.IsWhole)
    (x : FVec Ideal ⟨4, ![3, 1, 128, 256]⟩ .f32) (g : Fin 3) (gn : ℕ) (hg : gn = g.val) (o : ℕ)
    (inb : ∀ a, (![gn, 0, 0, o] : Fin 4 → ℕ) a + (⟨4, ![1, 1, 128, C]⟩ : Shape).size a
      ≤ (⟨4, ![3, 1, 128, 256]⟩ : Shape).size a) (i : Fin 128) (c : Fin C) (n : Fin 256) (hn : n.val = o + c.val) :
    View.readAt (Elt Ideal) M.view (Rect.unit (s := ⟨4, ![3, 1, 128, 256]⟩) ![gn, 0, 0, o] (⟨4, ![1, 1, 128, C]⟩ : Shape).size inb).toLoadRect
      (hM.unread x) (ix4 0 0 i c) = x (ix4 g 0 i n) := by
  subst hg
  rw [View.readAt_apply, Memref.IsWhole.read_unread]
  refine congrArg x (funext fun a => Fin.ext ?_)
  match a with
  | ⟨0, _⟩ => rfl
  | ⟨1, _⟩ => rfl
  | ⟨2, _⟩ => show 0 + 1 * i.val = i.val; omega
  | ⟨3, _⟩ => show o + 1 * c.val = n.val; omega

/-- A block's rows of logits, from what its queries, keys and biases are. -/
theorem logit_row {C : ℕ} {Q : FVec Ideal ⟨2, ![128, 128]⟩ .bf16} {K : FVec Ideal ⟨2, ![C, 128]⟩ .bf16}
    {D : DotDims ⟨2, ![128, 128]⟩ ⟨2, ![C, 128]⟩ ⟨2, ![128, C]⟩} (hD : D = DotDims.transposedRhs 128 128 C)
    {w : Ideal .f32} {X : FVec Ideal ⟨4, ![1, 1, 128, C]⟩ .f32}
    {hs : (⟨4, ![1, 1, 128, C]⟩ : Shape).ShapeCasts ⟨2, ![128, C]⟩} {q k : ℕ → Fin 128 → EReal} {qo ko d : ℕ}
    {B : Fin 128 → Fin C → EReal} (hQ : IsMat Q q qo d) (hK : IsMat K k ko d)
    (hB : ∀ i c, X (ix4 0 0 i c) = B i c) (i : Fin 128) :
    rowOf (addf (mulf (matmul D none Q K (constant ⟨2, ![128, C]⟩ .f32 0x00000000#32)) (broadcast ⟨2, ![128, C]⟩ w))
        (shapeCast ⟨2, ![128, C]⟩ X hs)) i = blk q k w B qo ko d i := by
  funext c
  refine (logit_apply Q K D hD w X hs i c).trans ?_
  unfold blk
  rw [hB]
  refine congrArg (fun a => a * w + B i c) (Finset.sum_congr rfl fun e _ => ?_)
  rw [hQ, hK]

/-- Rows `128 b ..` of a stack. -/
def IsRows {R C : ℕ} (L : FVec Ideal ⟨2, ![R, C]⟩ .f32) (b : ℕ) (f : Fin 128 → Fin C → EReal) : Prop :=
  ∀ (i : Fin 128) (n : Fin R), n.val = 128 * b + i.val → rowOf L n = f i

/-- A stack's rows are those of its blocks. -/
theorem cat_rows {R C : ℕ} {xs : List ((s : Shape) × (s.Idx → Ideal .f32))}
    {h : Shape.Concatenates (xs.map (·.1)) ⟨2, ![R, C]⟩ 0} (k N : ℕ)
    (hN : xs.map (·.1) = List.replicate N ⟨2, ![128, C]⟩)
    {x : FVec Ideal ⟨2, ![128, C]⟩ .f32} (hx : xs[k]? = some ⟨⟨2, ![128, C]⟩, x⟩)
    {f : Fin 128 → Fin C → EReal} (hf : ∀ i, rowOf x i = f i) : IsRows (concatenate ⟨2, ![R, C]⟩ 0 xs h) k f := by
  intro i n hn
  obtain ⟨hk, hx'⟩ := List.getElem?_eq_some_iff.1 hx
  have hlen : xs.length = N := by have := congrArg List.length hN; simpa using this
  have hpre : (((xs.take k).map (·.1)).map fun s => if h : s.rank = 2 then s.size ((0 : Fin 2).cast h.symm) else 0).sum = 128 * k := by
    rw [List.map_take, hN, List.take_replicate, List.map_replicate, List.sum_replicate, min_eq_left (by omega)]
    simp [mul_comm]
  rw [← hf i]
  funext c
  exact cat_apply xs h k hk x hx' (128 * k) hpre n i hn c

/-- The entries of one piece of a scratch array, stored d apart. -/
theorem piece_strided (G : Fin 3 → ℕ → Fin 128 → EReal) (g : Fin 3) (gn : ℕ) (hg : gn = g.val) (o d : ℕ)
    (inb : ∀ a, (⟨3, ![1, 128, 128]⟩ : Shape).size a = 0 ∨ (![gn, o, 0] : Fin 3 → ℕ) a
      + (![1, d, 1] : Fin 3 → ℕ) a * ((⟨3, ![1, 128, 128]⟩ : Shape).size a - 1) < (⟨3, ![3, 2048, 128]⟩ : Shape).size a)
    (spos : ∀ a, 0 < (![1, d, 1] : Fin 3 → ℕ) a) (pay : FVec Ideal ⟨3, ![1, 128, 128]⟩ .f32)
    (h : ∀ (z : Fin 1) (i e : Fin 128), pay (ix3 z i e) = G g (o + d * i.val) e) :
    ∀ x : ({ off := ![gn, o, 0], size := (⟨3, ![1, 128, 128]⟩ : Shape).size, stride := ![1, d, 1], inb := inb, stride_pos := spos } :
        Rect ⟨3, ![3, 2048, 128]⟩).shape.Idx,
      pay x = (fun y : (⟨3, ![3, 2048, 128]⟩ : Shape).Idx => G (y 0) (y 1).val (y 2))
        (({ off := ![gn, o, 0], size := (⟨3, ![1, 128, 128]⟩ : Shape).size, stride := ![1, d, 1], inb := inb, stride_pos := spos } :
          Rect ⟨3, ![3, 2048, 128]⟩).emb x) := by
  intro x
  subst hg
  have hx : x = ix3 (x 0 : Fin 1) (x 1 : Fin 128) (x 2 : Fin 128) := eq_ix3 x
  refine (congrArg pay hx).trans ((h (x 0) (x 1) (x 2)).trans ?_)
  have h0 : (x 0 : Fin 1).val = 0 := Nat.lt_one_iff.mp (show (x 0).val < 1 from (x 0).isLt)
  refine congr (congr (congrArg G (Fin.ext ?_)) rfl) (Fin.ext ?_)
  · show g.val = g.val + 1 * (x 0 : Fin 1).val
    omega
  · show (x 2 : Fin 128).val = 0 + 1 * (x 2 : Fin 128).val
    omega

/-- The entries of one piece of a scratch array, stored one after the other. -/
theorem piece_unit (G : Fin 3 → ℕ → Fin 128 → EReal) (g : Fin 3) (gn : ℕ) (hg : gn = g.val) (o : ℕ)
    (inb : ∀ a, (![gn, o, 0] : Fin 3 → ℕ) a + (⟨3, ![1, 128, 128]⟩ : Shape).size a ≤ (⟨3, ![3, 2048, 128]⟩ : Shape).size a)
    (pay : FVec Ideal ⟨3, ![1, 128, 128]⟩ .f32)
    (h : ∀ (z : Fin 1) (i e : Fin 128), pay (ix3 z i e) = G g (o + 1 * i.val) e) :
    ∀ x : (Rect.unit (s := ⟨3, ![3, 2048, 128]⟩) ![gn, o, 0] (⟨3, ![1, 128, 128]⟩ : Shape).size inb).shape.Idx,
      pay x = (fun y : (⟨3, ![3, 2048, 128]⟩ : Shape).Idx => G (y 0) (y 1).val (y 2))
        ((Rect.unit (s := ⟨3, ![3, 2048, 128]⟩) ![gn, o, 0] (⟨3, ![1, 128, 128]⟩ : Shape).size inb).emb x) := by
  intro x
  subst hg
  have hx : x = ix3 (x 0 : Fin 1) (x 1 : Fin 128) (x 2 : Fin 128) := eq_ix3 x
  refine (congrArg pay hx).trans ((h (x 0) (x 1) (x 2)).trans ?_)
  have h0 : (x 0 : Fin 1).val = 0 := Nat.lt_one_iff.mp (show (x 0).val < 1 from (x 0).isLt)
  refine congr (congr (congrArg G (Fin.ext ?_)) rfl) (Fin.ext ?_)
  · show g.val = g.val + 1 * (x 0 : Fin 1).val
    omega
  · show (x 2 : Fin 128).val = 0 + 1 * (x 2 : Fin 128).val
    omega

/-- A piece stores rows `o, o + d, …` of group `g` of the array `G`; the place is (g, o, d). -/
structure PieceOk (G : Fin 3 → ℕ → Fin 128 → EReal) (p : View.Piece (Elt Ideal) ⟨3, ![3, 2048, 128]⟩ EltTy.f32)
    (l : Fin 3 × ℕ × ℕ) : Prop where
  val : ∀ x : p.1.shape.Idx, p.2 x = (fun y : (⟨3, ![3, 2048, 128]⟩ : Shape).Idx => G (y 0) (y 1).val (y 2)) (p.1.emb x)
  mem : ∀ (t : Fin 2048) (i e : Fin 128), t.val = l.2.1 + l.2.2 * i.val → (ix3 l.1 t e : (⟨3, ![3, 2048, 128]⟩ : Shape).Idx) ∈ p.1.set

/-- A piece stored d apart. -/
theorem ok_strided {G : Fin 3 → ℕ → Fin 128 → EReal} (g : Fin 3) (gn : ℕ) (hg : gn = g.val) (o d : ℕ)
    {inb : ∀ a, (⟨3, ![1, 128, 128]⟩ : Shape).size a = 0 ∨ (![gn, o, 0] : Fin 3 → ℕ) a
      + (![1, d, 1] : Fin 3 → ℕ) a * ((⟨3, ![1, 128, 128]⟩ : Shape).size a - 1) < (⟨3, ![3, 2048, 128]⟩ : Shape).size a}
    {spos : ∀ a, 0 < (![1, d, 1] : Fin 3 → ℕ) a} {pay : FVec Ideal ⟨3, ![1, 128, 128]⟩ .f32}
    (h : ∀ (z : Fin 1) (i e : Fin 128), pay (ix3 z i e) = G g (o + d * i.val) e) :
    PieceOk G ⟨{ off := ![gn, o, 0], size := (⟨3, ![1, 128, 128]⟩ : Shape).size, stride := ![1, d, 1], inb := inb, stride_pos := spos }, pay⟩
      (g, o, d) where
  val := piece_strided G g gn hg o d inb spos pay h
  mem t i e ht := by
    subst hg
    refine (LoadRect.mem_set _).2 fun a => ?_
    match a with
    | ⟨0, _⟩ => exact ⟨0, Nat.zero_lt_one, by show g.val = g.val + 1 * 0; omega⟩
    | ⟨1, _⟩ => exact ⟨i.val, i.isLt, ht⟩
    | ⟨2, _⟩ => exact ⟨e.val, e.isLt, by show e.val = 0 + 1 * e.val; omega⟩

/-- A piece stored one row after the other. -/
theorem ok_unit {G : Fin 3 → ℕ → Fin 128 → EReal} (g : Fin 3) (gn : ℕ) (hg : gn = g.val) (o : ℕ)
    {inb : ∀ a, (![gn, o, 0] : Fin 3 → ℕ) a + (⟨3, ![1, 128, 128]⟩ : Shape).size a ≤ (⟨3, ![3, 2048, 128]⟩ : Shape).size a}
    {pay : FVec Ideal ⟨3, ![1, 128, 128]⟩ .f32}
    (h : ∀ (z : Fin 1) (i e : Fin 128), pay (ix3 z i e) = G g (o + 1 * i.val) e) :
    PieceOk G ⟨Rect.unit (s := ⟨3, ![3, 2048, 128]⟩) ![gn, o, 0] (⟨3, ![1, 128, 128]⟩ : Shape).size inb, pay⟩ (g, o, 1) where
  val := piece_unit G g gn hg o inb pay h
  mem t i e ht := by
    subst hg
    refine (LoadRect.mem_set _).2 fun a => ?_
    match a with
    | ⟨0, _⟩ => exact ⟨0, Nat.zero_lt_one, by show g.val = g.val + 1 * 0; omega⟩
    | ⟨1, _⟩ => exact ⟨i.val, i.isLt, ht⟩
    | ⟨2, _⟩ => exact ⟨e.val, e.isLt, by show e.val = 0 + 1 * e.val; omega⟩

/-- The places of all pieces: sixteen blocks of group 0, four by four of group 1, sixteen of group 2. -/
def AllPlaces (T : List (Fin 3 × ℕ × ℕ)) : Prop :=
  (∀ b : Fin 16, (0, 128 * b.val, 1) ∈ T) ∧ (∀ r n : Fin 4, (1, 512 * n.val + r.val, 4) ∈ T) ∧ (∀ r : Fin 16, (2, r.val, 16) ∈ T)

instance (T : List (Fin 3 × ℕ × ℕ)) : Decidable (AllPlaces T) := by unfold AllPlaces; infer_instance

/-- A member of the left of two paired lists has a partner on the right. -/
theorem paired_left {α β : Type*} {R : α → β → Prop} {L : List α} {T : List β} (h : List.Forall₂ R L T) :
    ∀ p ∈ L, ∃ l ∈ T, R p l := by
  induction h with
  | nil => intro p hp; cases hp
  | cons hd _ ih =>
    intro p hp
    rcases List.mem_cons.1 hp with rfl | hp
    · exact ⟨_, List.mem_cons_self, hd⟩
    · obtain ⟨l, hl, hr⟩ := ih p hp
      exact ⟨l, List.mem_cons_of_mem _ hl, hr⟩

/-- A member of the right of two paired lists has a partner on the left. -/
theorem paired_right {α β : Type*} {R : α → β → Prop} {L : List α} {T : List β} (h : List.Forall₂ R L T) :
    ∀ l ∈ T, ∃ p ∈ L, R p l := by
  induction h with
  | nil => intro p hp; cases hp
  | cons hd _ ih =>
    intro l hl
    rcases List.mem_cons.1 hl with rfl | hl
    · exact ⟨_, List.mem_cons_self, hd⟩
    · obtain ⟨p, hp, hr⟩ := ih l hl
      exact ⟨p, List.mem_cons_of_mem _ hp, hr⟩

/-- A scratch array whose pieces are right and lie at all places holds `G`. -/
theorem canon_places (G : Fin 3 → ℕ → Fin 128 → EReal) (L : List (View.Piece (Elt Ideal) ⟨3, ![3, 2048, 128]⟩ EltTy.f32))
    (T : List (Fin 3 × ℕ × ℕ)) (h : List.Forall₂ (PieceOk G) L T) (hT : AllPlaces T) (g : Fin 3) (t : Fin 2048) (e : Fin 128) :
    View.canon L (ix3 g t e) = G g t.val e := by
  refine View.canon_apply_of_pieces (fun y : (⟨3, ![3, 2048, 128]⟩ : Shape).Idx => G (y 0) (y 1).val (y 2)) L ?_ (ix3 g t e) ?_
  · intro p hp
    obtain ⟨l, -, hl⟩ := paired_left h p hp
    exact hl.val
  · have key : ∀ l ∈ T, ∀ i : Fin 128, l.1 = g → t.val = l.2.1 + l.2.2 * i.val →
        ∃ p ∈ L, (ix3 g t e : (⟨3, ![3, 2048, 128]⟩ : Shape).Idx) ∈ p.1.set := by
      intro l hl i hg ht
      obtain ⟨p, hp, hpl⟩ := paired_right h l hl
      subst hg
      exact ⟨p, hp, hpl.mem t i e ht⟩
    have htl := t.isLt
    match g with
    | ⟨0, _⟩ => exact key _ (hT.1 ⟨t.val / 128, by omega⟩) ⟨t.val % 128, by omega⟩ rfl (by dsimp only; omega)
    | ⟨1, _⟩ => exact key _ (hT.2.1 ⟨t.val % 4, by omega⟩ ⟨t.val / 512, by omega⟩) ⟨t.val % 512 / 4, by omega⟩ rfl (by dsimp only; omega)
    | ⟨2, _⟩ => exact key _ (hT.2.2 ⟨t.val % 16, by omega⟩) ⟨t.val / 16, by omega⟩ rfl (by dsimp only; omega)

section Pieces

variable {q k v : ℕ → Fin 128 → EReal} {w : EReal} {β : ℕ → EReal} {B : Fin 128 → Fin 256 → EReal} (hB : IsBias B β)
include hB

/-- A later block's piece of the output. -/
theorem og_wide {R : ℕ} {L : FVec Ideal ⟨2, ![R, 256]⟩ .f32} {S : FVec Ideal ⟨2, ![R, 1]⟩ .f32}
    {P : FVec Ideal ⟨2, ![R, 256]⟩ .bf16} {E : FVec Ideal ⟨2, ![R, 128]⟩ .f32} (hS : Soft L S P E)
    {b qo ko d : ℕ} (hL : IsRows L b (blk q k w B qo ko d)) (hd : 0 < d) (hq : qo = ko + 128 * d)
    (hlt : ko + d * 255 < 2048) {V : FVec Ideal ⟨2, ![256, 128]⟩ .bf16} (hV : IsMat V v ko d)
    {D : DotDims ⟨2, ![128, 256]⟩ ⟨2, ![256, 128]⟩ ⟨2, ![128, 128]⟩} (hD : D = DotDims.plain 128 256 128) {o : ℕ}
    (ho : o = 128 * b) {h1 : (⟨2, ![R, 256]⟩ : Shape).Slices ![o, 0] ⟨2, ![128, 256]⟩}
    {h2 : (⟨2, ![R, 1]⟩ : Shape).Slices ![o, 0] ⟨2, ![128, 1]⟩}
    {hb : (⟨2, ![128, 1]⟩ : Shape).Broadcasts ⟨2, ![128, 128]⟩}
    {hs : (⟨2, ![128, 128]⟩ : Shape).ShapeCasts ⟨3, ![1, 128, 128]⟩} (hR : o + 128 ≤ R) (z : Fin 1) (i e : Fin 128) :
    shapeCast ⟨3, ![1, 128, 128]⟩ (divf (matmul D none (extractStridedSlice ⟨2, ![128, 256]⟩ ![o, 0] P h1) V
          (constant ⟨2, ![128, 128]⟩ .f32 0x00000000#32))
        (broadcastTo ⟨2, ![128, 128]⟩ (extractStridedSlice ⟨2, ![128, 1]⟩ ![o, 0] S h2) hb)) hs (ix3 z i e)
      = outD q k v w β d (qo + d * i.val) e := by
  have hi := i.isLt
  refine (stored_apply (φ := .f32) _ hs z i e).trans ?_
  refine (og_apply hS V D hD o h1 h2 hb i e ⟨o + i.val, by omega⟩ rfl).trans ?_
  rw [hL i ⟨o + i.val, by omega⟩ (by show o + i.val = _; rw [ho])]
  exact out_wide q k v w β hB hd hq hlt i e _ fun c => hV c e

/-- A first block's piece of the output. -/
theorem og_first {R : ℕ} {L : FVec Ideal ⟨2, ![R, 128]⟩ .f32} {S : FVec Ideal ⟨2, ![R, 1]⟩ .f32}
    {P : FVec Ideal ⟨2, ![R, 128]⟩ .bf16} {E : FVec Ideal ⟨2, ![R, 128]⟩ .f32} (hS : Soft L S P E)
    {b r d : ℕ} (hL : IsRows L b (blk q k w (half B) r r d)) (hr : r < d)
    (hlt : r + d * 127 < 2048) {V : FVec Ideal ⟨2, ![128, 128]⟩ .bf16} (hV : IsMat V v r d)
    {D : DotDims ⟨2, ![128, 128]⟩ ⟨2, ![128, 128]⟩ ⟨2, ![128, 128]⟩} (hD : D = DotDims.plain 128 128 128) {o : ℕ}
    (ho : o = 128 * b) {h1 : (⟨2, ![R, 128]⟩ : Shape).Slices ![o, 0] ⟨2, ![128, 128]⟩}
    {h2 : (⟨2, ![R, 1]⟩ : Shape).Slices ![o, 0] ⟨2, ![128, 1]⟩}
    {hb : (⟨2, ![128, 1]⟩ : Shape).Broadcasts ⟨2, ![128, 128]⟩}
    {hs : (⟨2, ![128, 128]⟩ : Shape).ShapeCasts ⟨3, ![1, 128, 128]⟩} (hR : o + 128 ≤ R) (z : Fin 1) (i e : Fin 128) :
    shapeCast ⟨3, ![1, 128, 128]⟩ (divf (matmul D none (extractStridedSlice ⟨2, ![128, 128]⟩ ![o, 0] P h1) V
          (constant ⟨2, ![128, 128]⟩ .f32 0x00000000#32))
        (broadcastTo ⟨2, ![128, 128]⟩ (extractStridedSlice ⟨2, ![128, 1]⟩ ![o, 0] S h2) hb)) hs (ix3 z i e)
      = outD q k v w β d (r + d * i.val) e := by
  have hi := i.isLt
  refine (stored_apply (φ := .f32) _ hs z i e).trans ?_
  refine (og_apply hS V D hD o h1 h2 hb i e ⟨o + i.val, by omega⟩ rfl).trans ?_
  rw [hL i ⟨o + i.val, by omega⟩ (by show o + i.val = _; rw [ho])]
  exact out_first q k v w β hB hr hlt i e _ fun c => hV c e

/-- The piece of the output of a first block that is a stack by itself. -/
theorem og_single {L : FVec Ideal ⟨2, ![128, 128]⟩ .f32} {S : FVec Ideal ⟨2, ![128, 1]⟩ .f32}
    {P : FVec Ideal ⟨2, ![128, 128]⟩ .bf16} {E : FVec Ideal ⟨2, ![128, 128]⟩ .f32} (hS : Soft L S P E)
    {r d : ℕ} (hL : ∀ i, rowOf L i = blk q k w (half B) r r d i) (hr : r < d)
    (hlt : r + d * 127 < 2048) {V : FVec Ideal ⟨2, ![128, 128]⟩ .bf16} (hV : IsMat V v r d)
    {D : DotDims ⟨2, ![128, 128]⟩ ⟨2, ![128, 128]⟩ ⟨2, ![128, 128]⟩} (hD : D = DotDims.plain 128 128 128)
    {hb : (⟨2, ![128, 1]⟩ : Shape).Broadcasts ⟨2, ![128, 128]⟩}
    {hs : (⟨2, ![128, 128]⟩ : Shape).ShapeCasts ⟨3, ![1, 128, 128]⟩} (z : Fin 1) (i e : Fin 128) :
    shapeCast ⟨3, ![1, 128, 128]⟩ (divf (matmul D none P V (constant ⟨2, ![128, 128]⟩ .f32 0x00000000#32))
        (broadcastTo ⟨2, ![128, 128]⟩ S hb)) hs (ix3 z i e)
      = outD q k v w β d (r + d * i.val) e := by
  refine (stored_apply (φ := .f32) _ hs z i e).trans ?_
  refine (og_apply_whole hS V D hD hb i e).trans ?_
  rw [hL i]
  exact out_first q k v w β hB hr hlt i e _ fun c => hV c e

/-- A later block's piece of the logarithms. -/
theorem lg_wide {R : ℕ} {L : FVec Ideal ⟨2, ![R, 256]⟩ .f32} {S : FVec Ideal ⟨2, ![R, 1]⟩ .f32}
    {P : FVec Ideal ⟨2, ![R, 256]⟩ .bf16} {E : FVec Ideal ⟨2, ![R, 128]⟩ .f32} (hS : Soft L S P E)
    {b qo ko d : ℕ} (hL : IsRows L b (blk q k w B qo ko d)) (hd : 0 < d) (hq : qo = ko + 128 * d)
    (hlt : ko + d * 255 < 2048) {o : ℕ} (ho : o = 128 * b)
    {h1 : (⟨2, ![R, 128]⟩ : Shape).Slices ![o, 0] ⟨2, ![128, 128]⟩}
    {hs : (⟨2, ![128, 128]⟩ : Shape).ShapeCasts ⟨3, ![1, 128, 128]⟩} (hR : o + 128 ≤ R) (z : Fin 1) (i e : Fin 128) :
    shapeCast ⟨3, ![1, 128, 128]⟩ (extractStridedSlice ⟨2, ![128, 128]⟩ ![o, 0] E h1) hs (ix3 z i e)
      = lseD q k w β d (qo + d * i.val) := by
  have hi := i.isLt
  refine (stored_apply (φ := .f32) _ hs z i e).trans ?_
  rw [slice2_axis0_apply o E h1 i e ⟨o + i.val, by omega⟩ rfl, hS.log,
    hL i ⟨o + i.val, by omega⟩ (by show o + i.val = _; rw [ho])]
  exact lse_wide q k w β hB hd hq hlt i

/-- A first block's piece of the logarithms. -/
theorem lg_first {R : ℕ} {L : FVec Ideal ⟨2, ![R, 128]⟩ .f32} {S : FVec Ideal ⟨2, ![R, 1]⟩ .f32}
    {P : FVec Ideal ⟨2, ![R, 128]⟩ .bf16} {E : FVec Ideal ⟨2, ![R, 128]⟩ .f32} (hS : Soft L S P E)
    {b r d : ℕ} (hL : IsRows L b (blk q k w (half B) r r d)) (hr : r < d)
    (hlt : r + d * 127 < 2048) {o : ℕ} (ho : o = 128 * b)
    {h1 : (⟨2, ![R, 128]⟩ : Shape).Slices ![o, 0] ⟨2, ![128, 128]⟩}
    {hs : (⟨2, ![128, 128]⟩ : Shape).ShapeCasts ⟨3, ![1, 128, 128]⟩} (hR : o + 128 ≤ R) (z : Fin 1) (i e : Fin 128) :
    shapeCast ⟨3, ![1, 128, 128]⟩ (extractStridedSlice ⟨2, ![128, 128]⟩ ![o, 0] E h1) hs (ix3 z i e)
      = lseD q k w β d (r + d * i.val) := by
  have hi := i.isLt
  refine (stored_apply (φ := .f32) _ hs z i e).trans ?_
  rw [slice2_axis0_apply o E h1 i e ⟨o + i.val, by omega⟩ rfl, hS.log,
    hL i ⟨o + i.val, by omega⟩ (by show o + i.val = _; rw [ho])]
  exact lse_first q k w β hB hr hlt i

/-- The piece of the logarithms of a first block that is a stack by itself. -/
theorem lg_single {L : FVec Ideal ⟨2, ![128, 128]⟩ .f32} {S : FVec Ideal ⟨2, ![128, 1]⟩ .f32}
    {P : FVec Ideal ⟨2, ![128, 128]⟩ .bf16} {E : FVec Ideal ⟨2, ![128, 128]⟩ .f32} (hS : Soft L S P E)
    {r d : ℕ} (hL : ∀ i, rowOf L i = blk q k w (half B) r r d i) (hr : r < d) (hlt : r + d * 127 < 2048)
    {hs : (⟨2, ![128, 128]⟩ : Shape).ShapeCasts ⟨3, ![1, 128, 128]⟩} (z : Fin 1) (i e : Fin 128) :
    shapeCast ⟨3, ![1, 128, 128]⟩ E hs (ix3 z i e) = lseD q k w β d (r + d * i.val) := by
  refine (stored_apply (φ := .f32) _ hs z i e).trans ?_
  rw [hS.log, hL i]
  exact lse_first q k w β hB hr hlt i

end Pieces

end Cert.Att
-- ==== Proof.Loop.lean ====
/-  The kernel's last loop: eight trips, each mixing 256 rows of the three groups' outputs by their logarithms. What a
    grid point's output block holds at an index is the mix of the two scratch arrays at that row. -/
module

public import proofs.«01_k».proof.Proof.Loads

@[expose] public section

namespace Cert.Att

open Idealize.ShloMosaic Idealize.ShloMosaic.ValueIdx Cert.KernelIdeal Cert.KernelIdeal.Gen
open Idealize.ShloMosaic.TcCoe
open scoped BigOperators

/-- The exponential of a group's logarithm less the largest of the three. -/
noncomputable def wt (l : Fin 3 → EReal) (g : Fin 3) : EReal := Ideal.exp (l g - max (max (l 0) (l 1)) (l 2))

/-- The three groups' outputs weighted by `wt`, over the sum of the weights. -/
noncomputable def mix (o l : Fin 3 → EReal) : EReal :=
  Ideal.div ((wt l 0 * o 0 + wt l 1 * o 1) + wt l 2 * o 2) ((wt l 0 + wt l 1) + wt l 2)

/-- The loop's stored value at an index. -/
theorem pay264_apply (l0 l1 l2 o0 o1 o2 : Vec Ideal S1x256x128 EltTy.f32) (o l : Fin 3 → EReal) (z : Fin 1) (i : Fin 256) (e : Fin 128)
    (h0 : l0 (ix3 0 i e) = l 0) (h1 : l1 (ix3 0 i e) = l 1) (h2 : l2 (ix3 0 i e) = l 2)
    (k0 : o0 (ix3 0 i e) = o 0) (k1 : o1 (ix3 0 i e) = o 1) (k2 : o2 (ix3 0 i e) = o 2) :
    k0_pay264 l0 l1 l2 o0 o1 o2 (ix3 z i e) = mix o l := by
  unfold k0_pay264
  refine (stored_apply (φ := .bf16) _ _ z i e).trans ?_
  have T : ∀ x : Vec Ideal S1x256x128 EltTy.f32, shapeCast S256x128 x shapeCasts_S1x256x128_S256x128 (ix2 i e) = x (ix3 0 i e) :=
    fun x => taken_apply (φ := .f32) x _ i e
  have e0 := (T l0).trans h0
  have e1 := (T l1).trans h1
  have e2 := (T l2).trans h2
  have f0 := (T o0).trans k0
  have f1 := (T o1).trans k1
  have f2 := (T o2).trans k2
  unfold mix wt
  rw [← e0, ← e1, ← e2, ← f0, ← f1, ← f2]
  rfl

section

variable (c : Dev nD) (i : grid0.Coords) (arg2 : Memref sig .tc .vmem S1x1x3x1x2048x128 .bf16) (harg2 : arg2.IsWhole) (arg3 : Memref sig .tc .vmem S1x1x3x1x2048x128 .bf16) (harg3 : arg3.IsWhole) (arg4 : Memref sig .tc .vmem S1x1x3x1x2048x128 .bf16) (harg4 : arg4.IsWhole) (arg5 : Memref sig .tc .vmem S3x1x128x256 .f32) (harg5 : arg5.IsWhole) (arg6 : Memref sig .tc .vmem S1x2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S3x2048x128 .f32) (harg10 : arg10.IsWhole) (arg11 : Memref sig .tc .vmem S3x2048x128 .f32) (harg11 : arg11.IsWhole)
  (w0 w1 : FVec Ideal S128x128 .bf16) (w2 : FVec Ideal S2048x1 .f32) (w3 : FVec Ideal S2048x128 .bf16)
  (w4 : FVec Ideal S2048x128 .f32) (w5 : FVec Ideal S128x128 .f32)

/-- One trip stores one piece. -/
theorem trip_piece (X10 : BufTy.Contents (Elt Ideal) arg10.view.ty) (X11 : BufTy.Contents (Elt Ideal) arg11.view.ty) (k : Fin k0_t1_loop.trips) :
    tripL_k0_t1 (F := Ideal) Variants.none c none i arg2 harg2 arg3 harg3 arg4 harg4 arg5 harg5 arg6 harg6 arg7 harg7 arg8 harg8 arg9 harg9 arg10 harg10 arg11 harg11 w0 w1 w2 w3 w4 w5 X10 X11 k
      = [⟨Rect.unit (s := S1x2048x128) (k0_off4 k) S1x256x128.size (k0_off4_inb k),
          k0_pay264 (View.readAt (Elt Ideal) arg11.view (Rect.unit (s := S3x2048x128) (k0_off1 k) S1x256x128.size (k0_off1_inb k)).toLoadRect X11)
            (View.readAt (Elt Ideal) arg11.view (Rect.unit (s := S3x2048x128) (k0_off2 k) S1x256x128.size (k0_off2_inb k)).toLoadRect X11)
            (View.readAt (Elt Ideal) arg11.view (Rect.unit (s := S3x2048x128) (k0_off3 k) S1x256x128.size (k0_off3_inb k)).toLoadRect X11)
            (View.readAt (Elt Ideal) arg10.view (Rect.unit (s := S3x2048x128) (k0_off1 k) S1x256x128.size (k0_off1_inb k)).toLoadRect X10)
            (View.readAt (Elt Ideal) arg10.view (Rect.unit (s := S3x2048x128) (k0_off2 k) S1x256x128.size (k0_off2_inb k)).toLoadRect X10)
            (View.readAt (Elt Ideal) arg10.view (Rect.unit (s := S3x2048x128) (k0_off3 k) S1x256x128.size (k0_off3_inb k)).toLoadRect X10)⟩] := by
  unfold tripL_k0_t1 trip_k0_t1
  rfl

/-- A load of 256 rows of one group of a scratch array, at an index. -/
theorem load_rows {M : Memref sig Kind.tc Space.vmem S3x2048x128 EltTy.f32} (L : List (View.Piece (Elt Ideal) S3x2048x128 EltTy.f32))
    (off : Fin 3 → ℕ) (g : Fin 3) (b : ℕ) (hoff : off = ![g.val, b, 0])
    (inb : ∀ a, off a + S1x256x128.size a ≤ S3x2048x128.size a) (i : Fin 256) (e : Fin 128) (t : Fin 2048) (ht : t.val = b + i.val) :
    View.readAt (Elt Ideal) M.view (Rect.unit (s := S3x2048x128) off S1x256x128.size inb).toLoadRect
      (M.view.writes (Elt Ideal) M.view.junk L) (ix3 0 i e) = View.canon L (ix3 g t e) := by
  subst hoff
  rw [View.readAt_writes_junk_eq_canon]
  refine congrArg (View.canon L) ?_
  refine funext fun a => Fin.ext ?_
  match a with
  | ⟨0, _⟩ => show g.val + 1 * 0 = g.val; omega
  | ⟨1, _⟩ => show b + 1 * i.val = t.val; omega
  | ⟨2, _⟩ => show 0 + 1 * e.val = e.val; omega

variable (L10 L11 : List (View.Piece (Elt Ideal) S3x2048x128 EltTy.f32))

/-- What the loop leaves at an index of the output block. -/
noncomputable def mixed (y : S1x2048x128.Idx) : EReal :=
  mix (fun g => View.canon L10 (ix3 g (y 1) (y 2))) (fun g => View.canon L11 (ix3 g (y 1) (y 2)))

/-- Every piece of the trips before `n` is the mix's. -/
theorem loop_pieces (n : ℕ) (hn : n ≤ 8) :
    ∀ p ∈ pb_k0_t1 (F := Ideal) Variants.none c none i arg2 harg2 arg3 harg3 arg4 harg4 arg5 harg5 arg6 harg6 arg7 harg7 arg8 harg8 arg9 harg9 arg10 harg10 arg11 harg11 w0 w1 w2 w3 w4 w5
        (arg10.view.writes (Elt Ideal) arg10.view.junk L10) (arg11.view.writes (Elt Ideal) arg11.view.junk L11) n,
      ∀ x : p.1.shape.Idx, p.2 x = mixed L10 L11 (p.1.emb x) := by
  induction n with
  | zero => intro p hp; exact absurd hp (List.not_mem_nil)
  | succ n ih =>
    have htr : k0_t1_loop.trips = 8 := rfl
    intro p hp
    rw [show n + 1 = (⟨n, by omega⟩ : Fin k0_t1_loop.trips).val + 1 from rfl, pb_k0_t1_succ, trip_piece] at hp
    rcases List.mem_append.1 hp with hp | hp
    · obtain rfl := List.mem_singleton.1 hp
      intro x
      obtain ⟨z, a, e, rfl⟩ : ∃ (z : Fin 1) (a : Fin 256) (e : Fin 128), x = ix3 z a e := ⟨_, _, _, eq_ix3 x⟩
      have hlt : 256 * n + a.val < 2048 := by omega
      have hy : (Rect.unit (s := S1x2048x128) (k0_off4 ⟨n, by omega⟩) S1x256x128.size (k0_off4_inb _)).emb (ix3 z a e)
          = ix3 0 ⟨256 * n + a.val, hlt⟩ e := by
        refine funext fun q => Fin.ext ?_
        show (k0_off4 ⟨n, by omega⟩) q + 1 * ((ix3 z a e : S1x256x128.Idx) q).val = _
        rw [k0_off4_eq]
        match q with
        | ⟨0, _⟩ => show 0 + 1 * z.val = 0; omega
        | ⟨1, _⟩ => show 256 * n + 1 * a.val = 256 * n + a.val; omega
        | ⟨2, _⟩ => show 0 + 1 * e.val = e.val; omega
      rw [hy]
      exact pay264_apply _ _ _ _ _ _ _ _ z a e
        (load_rows L11 _ 0 (256 * n) (k0_off1_eq _) _ a e _ rfl) (load_rows L11 _ 1 (256 * n) (k0_off2_eq _) _ a e _ rfl)
        (load_rows L11 _ 2 (256 * n) (k0_off3_eq _) _ a e _ rfl) (load_rows L10 _ 0 (256 * n) (k0_off1_eq _) _ a e _ rfl)
        (load_rows L10 _ 1 (256 * n) (k0_off2_eq _) _ a e _ rfl) (load_rows L10 _ 2 (256 * n) (k0_off3_eq _) _ a e _ rfl)
    · exact ih (by omega) p hp

end

end Cert.Att
-- ==== Proof.Stacks.lean ====
/-  The kernel's five stacks of logits at a grid point: the first block of group 0, its fifteen later blocks, the four
    first blocks of group 1, its twelve later blocks, and the sixteen blocks of group 2. Each stack's softmax is that
    of its rows of logits, and its rows are those of its blocks. -/
module

public import proofs.«01_k».proof.Proof.Loads

@[expose] public section

namespace Cert.Att

open Idealize.ShloMosaic Idealize.ShloMosaic.ValueIdx Cert.KernelIdeal Cert.KernelIdeal.Gen
open Cert.KernelIdeal.Gen.kernelRun0_A
open scoped BigOperators

/-- The scale of the logits, 1/√128, as the kernel names it. -/
noncomputable def scale : Ideal .f32 := Named.named κ "scale" 0x3DB504F3#32

/-- Group `g`'s bias block of a grid point. -/
def biasOf (x : FVec Ideal ⟨4, ![3, 1, 128, 256]⟩ .f32) (g : Fin 3) (i : Fin 128) (c : Fin 256) : EReal := x (ix4 g 0 i c)

/-- A copied group's rows, `d` apart, where the piece that copies it is the newest. -/
theorem half_bias {M : Memref sig Kind.tc Space.vmem ⟨4, ![3, 1, 128, 256]⟩ EltTy.f32} {hM : M.IsWhole}
    {x : FVec Ideal ⟨4, ![3, 1, 128, 256]⟩ .f32} (g : Fin 3) (gn : ℕ) (hg : gn = g.val)
    {inb : ∀ a, (![gn, 0, 0, 128] : Fin 4 → ℕ) a + (⟨4, ![1, 1, 128, 128]⟩ : Shape).size a
      ≤ (⟨4, ![3, 1, 128, 256]⟩ : Shape).size a} (i c : Fin 128) :
    View.readAt (Elt Ideal) M.view (Rect.unit (s := ⟨4, ![3, 1, 128, 256]⟩) ![gn, 0, 0, 128] (⟨4, ![1, 1, 128, 128]⟩ : Shape).size inb).toLoadRect
      (hM.unread x) (ix4 0 0 i c) = half (biasOf x g) i c :=
  load_bias M hM x g gn hg 128 inb i c ⟨128 + c.val, by omega⟩ rfl

theorem full_bias {M : Memref sig Kind.tc Space.vmem ⟨4, ![3, 1, 128, 256]⟩ EltTy.f32} {hM : M.IsWhole}
    {x : FVec Ideal ⟨4, ![3, 1, 128, 256]⟩ .f32} (g : Fin 3) (gn : ℕ) (hg : gn = g.val)
    {inb : ∀ a, (![gn, 0, 0, 0] : Fin 4 → ℕ) a + (⟨4, ![1, 1, 128, 256]⟩ : Shape).size a
      ≤ (⟨4, ![3, 1, 128, 256]⟩ : Shape).size a} (i : Fin 128) (c : Fin 256) :
    View.readAt (Elt Ideal) M.view (Rect.unit (s := ⟨4, ![3, 1, 128, 256]⟩) ![gn, 0, 0, 0] (⟨4, ![1, 1, 128, 256]⟩ : Shape).size inb).toLoadRect
      (hM.unread x) (ix4 0 0 i c) = biasOf x g i c :=
  load_bias M hM x g gn hg 0 inb i c c (by omega)

section

variable (c : Dev nD)
  (arg2 : Memref sig Kind.tc Space.vmem S1x1x3x1x2048x128 EltTy.bf16) (harg2 : arg2.IsWhole)
  (arg3 : Memref sig Kind.tc Space.vmem S1x1x3x1x2048x128 EltTy.bf16) (harg3 : arg3.IsWhole)
  (arg5 : Memref sig Kind.tc Space.vmem S3x1x128x256 EltTy.f32) (harg5 : arg5.IsWhole)
  (arg7 arg8 : Memref sig Kind.tc Space.vmem S2048x128 EltTy.f32)
  (x0 x1 : Vec Ideal S1x1x3x1x2048x128 EltTy.bf16) (x3 : Vec Ideal S3x1x128x256 EltTy.f32)

/-- The softmax of the stack of fifteen later blocks of group 0. -/
theorem later0_soft (v44 : FVec Ideal S128x256 .f32) (v56 : FVec Ideal S128x256 .f32) (v68 : FVec Ideal S128x256 .f32) (v80 : FVec Ideal S128x256 .f32) (v92 : FVec Ideal S128x256 .f32) (v104 : FVec Ideal S128x256 .f32) (v116 : FVec Ideal S128x256 .f32) (v128 : FVec Ideal S128x256 .f32) (v140 : FVec Ideal S128x256 .f32) (v152 : FVec Ideal S128x256 .f32) (v164 : FVec Ideal S128x256 .f32) (v176 : FVec Ideal S128x256 .f32) (v188 : FVec Ideal S128x256 .f32) (v200 : FVec Ideal S128x256 .f32) (v207 : FVec Ideal S128x256 .f32) (v210 : Vec Ideal S1x1x128x256 .f32) :
    Soft (k0_pay44 v44 v56 v68 v80 v92 v104 v116 v128 v140 v152 v164 v176 v188 v200 v207 v210) (k0_pay47 v44 v56 v68 v80 v92 v104 v116 v128 v140 v152 v164 v176 v188 v200 v207 v210) (k0_pay48 v44 v56 v68 v80 v92 v104 v116 v128 v140 v152 v164 v176 v188 v200 v207 v210)
      (k0_pay49 v44 v56 v68 v80 v92 v104 v116 v128 v140 v152 v164 v176 v188 v200 v207 v210) :=
  soft_intro _ _ _ _ _ _ _ _ _ (by decide) _ (k0_pay45 v44 v56 v68 v80 v92 v104 v116 v128 v140 v152 v164 v176 v188 v200 v207 v210) rfl
    (k0_pay46 v44 v56 v68 v80 v92 v104 v116 v128 v140 v152 v164 v176 v188 v200 v207 v210) rfl _ rfl _ rfl _ rfl

set_option maxHeartbeats 4000000 in
/-- The fifteen later blocks of group 0. -/
theorem later0 : ∃ L : FVec Ideal ⟨2, ![1920, 256]⟩ .f32,
    Soft L (sl.r_38 (F := Ideal) c arg2 harg2 arg3 harg3 arg5 harg5 x0 x1 x3)
        (sl.r_39 (F := Ideal) c arg2 harg2 arg3 harg3 arg5 harg5 x0 x1 x3)
        (sl.r_40 (F := Ideal) c arg2 harg2 arg3 harg3 arg5 harg5 x0 x1 x3)
    ∧ IsRows L 0 (blk (tg x0 0) (tg x1 0) scale (biasOf x3 0) 128 0 1)
    ∧ IsRows L 1 (blk (tg x0 0) (tg x1 0) scale (biasOf x3 0) 256 128 1)
    ∧ IsRows L 2 (blk (tg x0 0) (tg x1 0) scale (biasOf x3 0) 384 256 1)
    ∧ IsRows L 3 (blk (tg x0 0) (tg x1 0) scale (biasOf x3 0) 512 384 1)
    ∧ IsRows L 4 (blk (tg x0 0) (tg x1 0) scale (biasOf x3 0) 640 512 1)
    ∧ IsRows L 5 (blk (tg x0 0) (tg x1 0) scale (biasOf x3 0) 768 640 1)
    ∧ IsRows L 6 (blk (tg x0 0) (tg x1 0) scale (biasOf x3 0) 896 768 1)
    ∧ IsRows L 7 (blk (tg x0 0) (tg x1 0) scale (biasOf x3 0) 1024 896 1)
    ∧ IsRows L 8 (blk (tg x0 0) (tg x1 0) scale (biasOf x3 0) 1152 1024 1)
    ∧ IsRows L 9 (blk (tg x0 0) (tg x1 0) scale (biasOf x3 0) 1280 1152 1)
    ∧ IsRows L 10 (blk (tg x0 0) (tg x1 0) scale (biasOf x3 0) 1408 1280 1)
    ∧ IsRows L 11 (blk (tg x0 0) (tg x1 0) scale (biasOf x3 0) 1536 1408 1)
    ∧ IsRows L 12 (blk (tg x0 0) (tg x1 0) scale (biasOf x3 0) 1664 1536 1)
    ∧ IsRows L 13 (blk (tg x0 0) (tg x1 0) scale (biasOf x3 0) 1792 1664 1)
    ∧ IsRows L 14 (blk (tg x0 0) (tg x1 0) scale (biasOf x3 0) 1920 1792 1) := by
  refine ⟨_, later0_soft .., ?_, ?_, ?_, ?_, ?_, ?_, ?_, ?_, ?_, ?_, ?_, ?_, ?_, ?_, ?_⟩ <;>
    refine cat_rows (h := by exact concatenates_S128x256_S128x256_S128x256_S128x256_S128x256_S128x256_S128x256_S128x256_S128x256_S128x256_S128x256_S128x256_S128x256_S128x256_S128x256_S1920x256_d0) _ 15 rfl rfl ?_ <;>
    exact logit_row rfl (load_mat arg2 harg2 x0 0 0 rfl _ _ _) (load_mat arg3 harg3 x1 0 0 rfl _ _ _) (full_bias 0 0 rfl)

/-- The softmax of the stack of four first blocks of group 1. -/
theorem first1_soft (v435 : FVec Ideal S128x128 .f32) (v447 : FVec Ideal S128x128 .f32) (v459 : FVec Ideal S128x128 .f32) (v468 : FVec Ideal S128x128 .f32) (v470 : FVec Ideal S128x128 .f32) :
    Soft (k0_pay100 v435 v447 v459 v468 v470) (k0_pay103 v435 v447 v459 v468 v470) (k0_pay104 v435 v447 v459 v468 v470)
      (k0_pay105 v435 v447 v459 v468 v470) :=
  soft_intro _ _ _ _ _ _ _ _ _ (by decide) _ (k0_pay101 v435 v447 v459 v468 v470) rfl
    (k0_pay102 v435 v447 v459 v468 v470) rfl _ rfl _ rfl _ rfl

set_option maxHeartbeats 4000000 in
/-- The four first blocks of group 1. -/
theorem first1 : ∃ L : FVec Ideal ⟨2, ![512, 128]⟩ .f32,
    Soft L (sl.r_58 (F := Ideal) c arg2 harg2 arg3 harg3 arg5 harg5 arg7 arg8 x0 x1 x3)
        (sl.r_59 (F := Ideal) c arg2 harg2 arg3 harg3 arg5 harg5 arg7 arg8 x0 x1 x3)
        (sl.r_60 (F := Ideal) c arg2 harg2 arg3 harg3 arg5 harg5 arg7 arg8 x0 x1 x3)
    ∧ IsRows L 0 (blk (tg x0 1) (tg x1 1) scale (half (biasOf x3 1)) 0 0 4)
    ∧ IsRows L 1 (blk (tg x0 1) (tg x1 1) scale (half (biasOf x3 1)) 1 1 4)
    ∧ IsRows L 2 (blk (tg x0 1) (tg x1 1) scale (half (biasOf x3 1)) 2 2 4)
    ∧ IsRows L 3 (blk (tg x0 1) (tg x1 1) scale (half (biasOf x3 1)) 3 3 4) := by
  refine ⟨_, first1_soft .., ?_, ?_, ?_, ?_⟩ <;>
    refine cat_rows (h := by exact concatenates_S128x128_S128x128_S128x128_S128x128_S512x128_d0) _ 4 rfl rfl ?_ <;>
    exact logit_row rfl (strided_mat _ _ _ (copy_tab arg2 harg2 x0 1 1 rfl _ _ _ _) _ _ _ _ _ _) (strided_mat _ _ _ (copy_tab arg3 harg3 x1 1 1 rfl _ _ _ _) _ _ _ _ _ _) (half_bias 1 1 rfl)

/-- The softmax of the stack of twelve later blocks of group 1. -/
theorem later1_soft (v544 : FVec Ideal S128x256 .f32) (v556 : FVec Ideal S128x256 .f32) (v568 : FVec Ideal S128x256 .f32) (v580 : FVec Ideal S128x256 .f32) (v592 : FVec Ideal S128x256 .f32) (v604 : FVec Ideal S128x256 .f32) (v616 : FVec Ideal S128x256 .f32) (v628 : FVec Ideal S128x256 .f32) (v640 : FVec Ideal S128x256 .f32) (v652 : FVec Ideal S128x256 .f32) (v661 : FVec Ideal S128x256 .f32) (v662 : Vec Ideal S1x1x128x256 .f32) (v665 : Vec Ideal S128x128 .f32) (v667 : Vec Ideal S256x128 .f32) (v674 : Vec Ideal S1x1x128x256 .f32) :
    Soft (k0_pay144 v544 v556 v568 v580 v592 v604 v616 v628 v640 v652 v661 v662 v665 v667 v674) (k0_pay147 v544 v556 v568 v580 v592 v604 v616 v628 v640 v652 v661 v662 v665 v667 v674) (k0_pay148 v544 v556 v568 v580 v592 v604 v616 v628 v640 v652 v661 v662 v665 v667 v674)
      (k0_pay149 v544 v556 v568 v580 v592 v604 v616 v628 v640 v652 v661 v662 v665 v667 v674) :=
  soft_intro _ _ _ _ _ _ _ _ _ (by decide) _ (k0_pay145 v544 v556 v568 v580 v592 v604 v616 v628 v640 v652 v661 v662 v665 v667 v674) rfl
    (k0_pay146 v544 v556 v568 v580 v592 v604 v616 v628 v640 v652 v661 v662 v665 v667 v674) rfl _ rfl _ rfl _ rfl

set_option maxHeartbeats 4000000 in
/-- The twelve later blocks of group 1. -/
theorem later1 : ∃ L : FVec Ideal ⟨2, ![1536, 256]⟩ .f32,
    Soft L (sl.r_91 (F := Ideal) c arg2 harg2 arg3 harg3 arg5 harg5 arg7 arg8 x0 x1 x3)
        (sl.r_92 (F := Ideal) c arg2 harg2 arg3 harg3 arg5 harg5 arg7 arg8 x0 x1 x3)
        (sl.r_93 (F := Ideal) c arg2 harg2 arg3 harg3 arg5 harg5 arg7 arg8 x0 x1 x3)
    ∧ IsRows L 0 (blk (tg x0 1) (tg x1 1) scale (biasOf x3 1) 512 0 4)
    ∧ IsRows L 1 (blk (tg x0 1) (tg x1 1) scale (biasOf x3 1) 1024 512 4)
    ∧ IsRows L 2 (blk (tg x0 1) (tg x1 1) scale (biasOf x3 1) 1536 1024 4)
    ∧ IsRows L 3 (blk (tg x0 1) (tg x1 1) scale (biasOf x3 1) 513 1 4)
    ∧ IsRows L 4 (blk (tg x0 1) (tg x1 1) scale (biasOf x3 1) 1025 513 4)
    ∧ IsRows L 5 (blk (tg x0 1) (tg x1 1) scale (biasOf x3 1) 1537 1025 4)
    ∧ IsRows L 6 (blk (tg x0 1) (tg x1 1) scale (biasOf x3 1) 514 2 4)
    ∧ IsRows L 7 (blk (tg x0 1) (tg x1 1) scale (biasOf x3 1) 1026 514 4)
    ∧ IsRows L 8 (blk (tg x0 1) (tg x1 1) scale (biasOf x3 1) 1538 1026 4)
    ∧ IsRows L 9 (blk (tg x0 1) (tg x1 1) scale (biasOf x3 1) 515 3 4)
    ∧ IsRows L 10 (blk (tg x0 1) (tg x1 1) scale (biasOf x3 1) 1027 515 4)
    ∧ IsRows L 11 (blk (tg x0 1) (tg x1 1) scale (biasOf x3 1) 1539 1027 4) := by
  refine ⟨_, later1_soft .., ?_, ?_, ?_, ?_, ?_, ?_, ?_, ?_, ?_, ?_, ?_, ?_⟩ <;>
    refine cat_rows (h := by exact concatenates_S128x256_S128x256_S128x256_S128x256_S128x256_S128x256_S128x256_S128x256_S128x256_S128x256_S128x256_S128x256_S1536x256_d0) _ 12 rfl rfl ?_ <;>
    exact logit_row rfl (strided_mat _ _ _ (copy_tab arg2 harg2 x0 1 1 rfl _ _ _ _) _ _ _ _ _ _) (strided_mat _ _ _ (copy_tab arg3 harg3 x1 1 1 rfl _ _ _ _) _ _ _ _ _ _) (full_bias 1 1 rfl)

/-- The softmax of the stack of sixteen blocks of group 2. -/
theorem first2_soft (v863 : FVec Ideal S128x128 .f32) (v875 : FVec Ideal S128x128 .f32) (v887 : FVec Ideal S128x128 .f32) (v899 : FVec Ideal S128x128 .f32) (v911 : FVec Ideal S128x128 .f32) (v923 : FVec Ideal S128x128 .f32) (v935 : FVec Ideal S128x128 .f32) (v947 : FVec Ideal S128x128 .f32) (v959 : FVec Ideal S128x128 .f32) (v971 : FVec Ideal S128x128 .f32) (v983 : FVec Ideal S128x128 .f32) (v995 : FVec Ideal S128x128 .f32) (v1007 : FVec Ideal S128x128 .f32) (v1019 : FVec Ideal S128x128 .f32) (v1031 : FVec Ideal S128x128 .f32) (v1040 : FVec Ideal S128x128 .f32) (v1041 : Vec Ideal S1x1x128x128 .f32) :
    Soft (k0_pay222 v863 v875 v887 v899 v911 v923 v935 v947 v959 v971 v983 v995 v1007 v1019 v1031 v1040 v1041) (k0_pay225 v863 v875 v887 v899 v911 v923 v935 v947 v959 v971 v983 v995 v1007 v1019 v1031 v1040 v1041) (k0_pay226 v863 v875 v887 v899 v911 v923 v935 v947 v959 v971 v983 v995 v1007 v1019 v1031 v1040 v1041)
      (k0_pay227 v863 v875 v887 v899 v911 v923 v935 v947 v959 v971 v983 v995 v1007 v1019 v1031 v1040 v1041) :=
  soft_intro _ _ _ _ _ _ _ _ _ (by decide) _ (k0_pay223 v863 v875 v887 v899 v911 v923 v935 v947 v959 v971 v983 v995 v1007 v1019 v1031 v1040 v1041) rfl
    (k0_pay224 v863 v875 v887 v899 v911 v923 v935 v947 v959 v971 v983 v995 v1007 v1019 v1031 v1040 v1041) rfl _ rfl _ rfl _ rfl

set_option maxHeartbeats 4000000 in
/-- The sixteen blocks of group 2. -/
theorem first2 : ∃ L : FVec Ideal ⟨2, ![2048, 128]⟩ .f32,
    Soft L (sl.r_139 (F := Ideal) c arg2 harg2 arg3 harg3 arg5 harg5 arg7 arg8 x0 x1 x3)
        (sl.r_140 (F := Ideal) c arg2 harg2 arg3 harg3 arg5 harg5 arg7 arg8 x0 x1 x3)
        (sl.r_141 (F := Ideal) c arg2 harg2 arg3 harg3 arg5 harg5 arg7 arg8 x0 x1 x3)
    ∧ IsRows L 0 (blk (tg x0 2) (tg x1 2) scale (half (biasOf x3 2)) 0 0 16)
    ∧ IsRows L 1 (blk (tg x0 2) (tg x1 2) scale (half (biasOf x3 2)) 1 1 16)
    ∧ IsRows L 2 (blk (tg x0 2) (tg x1 2) scale (half (biasOf x3 2)) 2 2 16)
    ∧ IsRows L 3 (blk (tg x0 2) (tg x1 2) scale (half (biasOf x3 2)) 3 3 16)
    ∧ IsRows L 4 (blk (tg x0 2) (tg x1 2) scale (half (biasOf x3 2)) 4 4 16)
    ∧ IsRows L 5 (blk (tg x0 2) (tg x1 2) scale (half (biasOf x3 2)) 5 5 16)
    ∧ IsRows L 6 (blk (tg x0 2) (tg x1 2) scale (half (biasOf x3 2)) 6 6 16)
    ∧ IsRows L 7 (blk (tg x0 2) (tg x1 2) scale (half (biasOf x3 2)) 7 7 16)
    ∧ IsRows L 8 (blk (tg x0 2) (tg x1 2) scale (half (biasOf x3 2)) 8 8 16)
    ∧ IsRows L 9 (blk (tg x0 2) (tg x1 2) scale (half (biasOf x3 2)) 9 9 16)
    ∧ IsRows L 10 (blk (tg x0 2) (tg x1 2) scale (half (biasOf x3 2)) 10 10 16)
    ∧ IsRows L 11 (blk (tg x0 2) (tg x1 2) scale (half (biasOf x3 2)) 11 11 16)
    ∧ IsRows L 12 (blk (tg x0 2) (tg x1 2) scale (half (biasOf x3 2)) 12 12 16)
    ∧ IsRows L 13 (blk (tg x0 2) (tg x1 2) scale (half (biasOf x3 2)) 13 13 16)
    ∧ IsRows L 14 (blk (tg x0 2) (tg x1 2) scale (half (biasOf x3 2)) 14 14 16)
    ∧ IsRows L 15 (blk (tg x0 2) (tg x1 2) scale (half (biasOf x3 2)) 15 15 16) := by
  refine ⟨_, first2_soft .., ?_, ?_, ?_, ?_, ?_, ?_, ?_, ?_, ?_, ?_, ?_, ?_, ?_, ?_, ?_, ?_⟩ <;>
    refine cat_rows (h := by exact concatenates_S128x128_S128x128_S128x128_S128x128_S128x128_S128x128_S128x128_S128x128_S128x128_S128x128_S128x128_S128x128_S128x128_S128x128_S128x128_S128x128_S2048x128_d0) _ 16 rfl rfl ?_ <;>
    exact logit_row rfl (strided_mat _ _ _ (copy_tab arg2 harg2 x0 2 2 rfl _ _ _ _) _ _ _ _ _ _) (strided_mat _ _ _ (copy_tab arg3 harg3 x1 2 2 rfl _ _ _ _) _ _ _ _ _ _) (half_bias 2 2 rfl)

end

end Cert.Att
-- ==== Proof.Groups.lean ====
/-  The three groups' outputs and logarithms as functions of (group, row), the places of the pieces that hold them,
    and the softmax of the one stack that is a block by itself. -/
module

public import proofs.«01_k».proof.Proof.Stacks

@[expose] public section

namespace Cert.Att

open Idealize.ShloMosaic Idealize.ShloMosaic.ValueIdx Cert.KernelIdeal Cert.KernelIdeal.Gen
open Cert.KernelIdeal.Gen.kernelRun0_A
open scoped BigOperators

/-- The three groups' dilations. -/
def dil (g : Fin 3) : ℕ := (![1, 4, 16] : Fin 3 → ℕ) g

/-- Group `g`'s attention output at row `t`. -/
noncomputable def outG (x0 x1 x2 : FVec Ideal ⟨6, ![1, 1, 3, 1, 2048, 128]⟩ .bf16) (β : Fin 3 → ℕ → EReal) (g : Fin 3) (t : ℕ)
    (e : Fin 128) : EReal := outD (tg x0 g) (tg x1 g) (tg x2 g) scale (β g) (dil g) t e

/-- Group `g`'s logarithm of the softmax's sum at row `t`. -/
noncomputable def lseG (x0 x1 : FVec Ideal ⟨6, ![1, 1, 3, 1, 2048, 128]⟩ .bf16) (β : Fin 3 → ℕ → EReal) (g : Fin 3) (t : ℕ)
    (_ : Fin 128) : EReal := lseD (tg x0 g) (tg x1 g) scale (β g) (dil g) t

/-- The places of the pieces, the newest first. -/
def places : List (Fin 3 × ℕ × ℕ) :=
  [(2, 15, 16), (2, 14, 16), (2, 13, 16), (2, 12, 16), (2, 11, 16), (2, 10, 16), (2, 9, 16), (2, 8, 16),
   (2, 7, 16), (2, 6, 16), (2, 5, 16), (2, 4, 16), (2, 3, 16), (2, 2, 16), (2, 1, 16), (2, 0, 16),
   (1, 1539, 4), (1, 1027, 4), (1, 515, 4), (1, 1538, 4), (1, 1026, 4), (1, 514, 4), (1, 1537, 4), (1, 1025, 4),
   (1, 513, 4), (1, 1536, 4), (1, 1024, 4), (1, 512, 4), (1, 3, 4), (1, 2, 4), (1, 1, 4), (1, 0, 4),
   (0, 1920, 1), (0, 1792, 1), (0, 1664, 1), (0, 1536, 1), (0, 1408, 1), (0, 1280, 1), (0, 1152, 1), (0, 1024, 1),
   (0, 896, 1), (0, 768, 1), (0, 640, 1), (0, 512, 1), (0, 384, 1), (0, 256, 1), (0, 128, 1), (0, 0, 1)]

theorem places_all : AllPlaces places := by decide

/-- The softmax of the first block of group 0. -/
theorem first0_soft (v0 : FVec Ideal S1x1x1x1x128x128 .bf16) (v2 : FVec Ideal S1x1x1x1x128x128 .bf16) (v9 : FVec Ideal S1x1x128x128 .f32) :
    Soft (k0_pay1 v0 v2 v9) (k0_pay4 v0 v2 v9) (truncf .bf16 (k0_pay3 v0 v2 v9) bitsLt_bf16_f32) (k0_pay5 v0 v2 v9) :=
  soft_intro _ _ _ _ _ _ _ _ _ (by decide) _ (k0_pay2 v0 v2 v9) rfl (k0_pay3 v0 v2 v9) rfl _ rfl _ rfl _ rfl

end Cert.Att
-- ==== Proof.Block.lean ====
/-  A grid point's output block at an index: the mix of the three groups' outputs. -/
module

public import proofs.«01_k».proof.Proof.Loop
public import proofs.«01_k».proof.Proof.Groups

@[expose] public section

namespace Cert.Att

open Idealize.ShloMosaic Idealize.ShloMosaic.ValueIdx Cert.KernelIdeal Cert.KernelIdeal.Gen
open Cert.KernelIdeal.Gen.kernelRun0_A
open Idealize.ShloMosaic.TcCoe
open scoped BigOperators

section

variable (c : Dev nD) (i : grid0.Coords) (arg2 : Memref sig .tc .vmem S1x1x3x1x2048x128 .bf16) (harg2 : arg2.IsWhole) (arg3 : Memref sig .tc .vmem S1x1x3x1x2048x128 .bf16) (harg3 : arg3.IsWhole) (arg4 : Memref sig .tc .vmem S1x1x3x1x2048x128 .bf16) (harg4 : arg4.IsWhole) (arg5 : Memref sig .tc .vmem S3x1x128x256 .f32) (harg5 : arg5.IsWhole) (arg6 : Memref sig .tc .vmem S1x2048x128 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .f32) (harg9 : arg9.IsWhole) (arg10 : Memref sig .tc .vmem S3x2048x128 .f32) (harg10 : arg10.IsWhole) (arg11 : Memref sig .tc .vmem S3x2048x128 .f32) (harg11 : arg11.IsWhole)
  (x0 x1 x2 : Vec Ideal S1x1x3x1x2048x128 EltTy.bf16) (x3 : Vec Ideal S3x1x128x256 EltTy.f32)

/-- The pieces a grid point stores are those of the loop's trips, over what the scratch arrays hold by then. -/
theorem run_pieces : ∃ w0 w1 w2 w3 w4 w5, (kernelRun0_A (F := Ideal) c i arg2 harg2 arg3 harg3 arg4 harg4 arg5 harg5 arg6 harg6 arg7 harg7 arg8 harg8 arg9 harg9 arg10 harg10 arg11 harg11 x0 x1 x2 x3).1
    = pb_k0_t1 (F := Ideal) Variants.none c none i arg2 harg2 arg3 harg3 arg4 harg4 arg5 harg5 arg6 harg6 arg7 harg7 arg8 harg8 arg9 harg9 arg10 harg10 arg11 harg11 w0 w1 w2 w3 w4 w5
        (arg10.view.writes (Elt Ideal) arg10.view.junk (sl.HS3_48 (F := Ideal) c arg2 harg2 arg3 harg3 arg4 harg4 arg5 harg5 arg7 arg8 arg9 x0 x1 x2 x3))
        (arg11.view.writes (Elt Ideal) arg11.view.junk (sl.HS4_48 (F := Ideal) c arg2 harg2 arg3 harg3 arg5 harg5 arg7 arg8 x0 x1 x3)) 8 := by
  unfold kernelRun0_A
  exact ⟨_, _, _, _, _, _, rfl⟩

/-- The output block of a grid point. -/
theorem out_block (G H : Fin 3 → ℕ → Fin 128 → EReal)
    (h10 : ∀ (g : Fin 3) (t : Fin 2048) (e : Fin 128), View.canon
      (sl.HS3_48 (F := Ideal) c arg2 harg2 arg3 harg3 arg4 harg4 arg5 harg5 arg7 arg8 arg9 x0 x1 x2 x3) (ix3 g t e) = G g t.val e)
    (h11 : ∀ (g : Fin 3) (t : Fin 2048) (e : Fin 128), View.canon
      (sl.HS4_48 (F := Ideal) c arg2 harg2 arg3 harg3 arg5 harg5 arg7 arg8 x0 x1 x3) (ix3 g t e) = H g t.val e)
    (z : Fin 1) (t : Fin 2048) (e : Fin 128) :
    out0_A_4 (F := Ideal) c i arg2 harg2 arg3 harg3 arg4 harg4 arg5 harg5 arg6 harg6 arg7 harg7 arg8 harg8 arg9 harg9 arg10 harg10 arg11 harg11 x0 x1 x2 x3 (ix3 z t e) = mix (fun g => G g t.val e) (fun g => H g t.val e) := by
  unfold out0_A_4
  rw [View.read_writes_junk_eq_canon]
  obtain ⟨w0, w1, w2, w3, w4, w5, h⟩ := run_pieces c i arg2 harg2 arg3 harg3 arg4 harg4 arg5 harg5 arg6 harg6 arg7 harg7 arg8 harg8 arg9 harg9 arg10 harg10 arg11 harg11 x0 x1 x2 x3
  refine (View.canon_apply_of_pieces (mixed _ _) _ (h ▸ loop_pieces c i arg2 harg2 arg3 harg3 arg4 harg4 arg5 harg5 arg6 harg6 arg7 harg7 arg8 harg8 arg9 harg9 arg10 harg10 arg11 harg11 w0 w1 w2 w3 w4 w5 _ _ 8 le_rfl) _
    (cover0_A_4 c i arg2 harg2 arg3 harg3 arg4 harg4 arg5 harg5 arg6 harg6 arg7 harg7 arg8 harg8 arg9 harg9 arg10 harg10 arg11 harg11 x0 x1 x2 x3 _)).trans ?_
  unfold mixed
  exact congrArg₂ mix (funext fun g => h10 g t e) (funext fun g => h11 g t e)

end

end Cert.Att
-- ==== Proof.Slices.lean ====
/-  The pieces that are written from a whole stack's blocks, each as the slice of the stack's results it is. -/
module

public import proofs.«01_k».proof.Proof.Groups

@[expose] public section

namespace Cert.Att

open Idealize.ShloMosaic Idealize.ShloMosaic.ValueIdx Cert.KernelIdeal Cert.KernelIdeal.Gen

theorem pay50_eq (v38 : FVec Ideal S256x128 .bf16) (v44 v56 v68 v80 v92 v104 v116 v128 v140 v152 v164 v176 v188 v200 v207 : FVec Ideal S128x256 .f32) (v210 : Vec Ideal S1x1x128x256 .f32) :
    k0_pay50 v38 v44 v56 v68 v80 v92 v104 v116 v128 v140 v152 v164 v176 v188 v200 v207 v210
      = shapeCast S1x128x128 (divf (matmul dot_S128x256_S256x128_S128x128_1_0_0_1_n_n none (extractStridedSlice S128x256 ![0, 0] (k0_pay48 v44 v56 v68 v80 v92 v104 v116 v128 v140 v152 v164 v176 v188 v200 v207 v210) slices_S1920x256_o0_0_S128x256) v38 (constant S128x128 .f32 0x00000000#32)) (broadcastTo S128x128 (extractStridedSlice S128x1 ![0, 0] (k0_pay47 v44 v56 v68 v80 v92 v104 v116 v128 v140 v152 v164 v176 v188 v200 v207 v210) slices_S1920x1_o0_0_S128x1) broadcasts_S128x1_S128x128)) shapeCasts_S128x128_S1x128x128 := rfl

theorem pay51_eq (v44 v56 v68 v80 v92 v104 v116 v128 v140 v152 v164 v176 v188 v200 v207 : FVec Ideal S128x256 .f32) (v210 : Vec Ideal S1x1x128x256 .f32) :
    k0_pay51 v44 v56 v68 v80 v92 v104 v116 v128 v140 v152 v164 v176 v188 v200 v207 v210
      = shapeCast S1x128x128 (extractStridedSlice S128x128 ![0, 0] (k0_pay49 v44 v56 v68 v80 v92 v104 v116 v128 v140 v152 v164 v176 v188 v200 v207 v210) slices_S1920x128_o0_0_S128x128) shapeCasts_S128x128_S1x128x128 := rfl

theorem pay52_eq (v44 : FVec Ideal S128x256 .f32) (v50 : FVec Ideal S256x128 .bf16) (v56 v68 v80 v92 v104 v116 v128 v140 v152 v164 v176 v188 v200 v207 : FVec Ideal S128x256 .f32) (v210 : Vec Ideal S1x1x128x256 .f32) :
    k0_pay52 v44 v50 v56 v68 v80 v92 v104 v116 v128 v140 v152 v164 v176 v188 v200 v207 v210
      = shapeCast S1x128x128 (divf (matmul dot_S128x256_S256x128_S128x128_1_0_0_1_n_n none (extractStridedSlice S128x256 ![128, 0] (k0_pay48 v44 v56 v68 v80 v92 v104 v116 v128 v140 v152 v164 v176 v188 v200 v207 v210) slices_S1920x256_o128_0_S128x256) v50 (constant S128x128 .f32 0x00000000#32)) (broadcastTo S128x128 (extractStridedSlice S128x1 ![128, 0] (k0_pay47 v44 v56 v68 v80 v92 v104 v116 v128 v140 v152 v164 v176 v188 v200 v207 v210) slices_S1920x1_o128_0_S128x1) broadcasts_S128x1_S128x128)) shapeCasts_S128x128_S1x128x128 := rfl

theorem pay53_eq (v44 v56 v68 v80 v92 v104 v116 v128 v140 v152 v164 v176 v188 v200 v207 : FVec Ideal S128x256 .f32) (v210 : Vec Ideal S1x1x128x256 .f32) :
    k0_pay53 v44 v56 v68 v80 v92 v104 v116 v128 v140 v152 v164 v176 v188 v200 v207 v210
      = extractStridedSlice S128x128 ![128, 0] (k0_pay49 v44 v56 v68 v80 v92 v104 v116 v128 v140 v152 v164 v176 v188 v200 v207 v210) slices_S1920x128_o128_0_S128x128 := rfl

theorem pay81_eq (v221 : FVec Ideal S1920x256 .bf16) :
    k0_pay81 v221
      = extractStridedSlice S128x256 ![1664, 0] v221 slices_S1920x256_o1664_0_S128x256 := rfl

theorem pay106_eq (v429 : FVec Ideal S128x128 .bf16) (v435 v447 v459 v468 v470 : FVec Ideal S128x128 .f32) :
    k0_pay106 v429 v435 v447 v459 v468 v470
      = shapeCast S1x128x128 (divf (matmul dot_S128x128_S128x128_S128x128_1_0_0_1_n_n none (extractStridedSlice S128x128 ![0, 0] (k0_pay104 v435 v447 v459 v468 v470) slices_S512x128_o0_0_S128x128) v429 (constant S128x128 .f32 0x00000000#32)) (broadcastTo S128x128 (extractStridedSlice S128x1 ![0, 0] (k0_pay103 v435 v447 v459 v468 v470) slices_S512x1_o0_0_S128x1) broadcasts_S128x1_S128x128)) shapeCasts_S128x128_S1x128x128 := rfl

theorem pay107_eq (v435 v447 v459 v468 v470 : FVec Ideal S128x128 .f32) :
    k0_pay107 v435 v447 v459 v468 v470
      = shapeCast S1x128x128 (extractStridedSlice S128x128 ![0, 0] (k0_pay105 v435 v447 v459 v468 v470) slices_S512x128_o0_0_S128x128) shapeCasts_S128x128_S1x128x128 := rfl

theorem pay108_eq (v435 : FVec Ideal S128x128 .f32) (v441 : FVec Ideal S128x128 .bf16) (v447 v459 v468 v470 : FVec Ideal S128x128 .f32) :
    k0_pay108 v435 v441 v447 v459 v468 v470
      = shapeCast S1x128x128 (divf (matmul dot_S128x128_S128x128_S128x128_1_0_0_1_n_n none (extractStridedSlice S128x128 ![128, 0] (k0_pay104 v435 v447 v459 v468 v470) slices_S512x128_o128_0_S128x128) v441 (constant S128x128 .f32 0x00000000#32)) (broadcastTo S128x128 (extractStridedSlice S128x1 ![128, 0] (k0_pay103 v435 v447 v459 v468 v470) slices_S512x1_o128_0_S128x1) broadcasts_S128x1_S128x128)) shapeCasts_S128x128_S1x128x128 := rfl

theorem pay109_eq (v435 v447 v459 v468 v470 : FVec Ideal S128x128 .f32) :
    k0_pay109 v435 v447 v459 v468 v470
      = shapeCast S1x128x128 (extractStridedSlice S128x128 ![128, 0] (k0_pay105 v435 v447 v459 v468 v470) slices_S512x128_o128_0_S128x128) shapeCasts_S128x128_S1x128x128 := rfl

theorem pay110_eq (v435 v447 v459 v468 v470 : FVec Ideal S128x128 .f32) :
    k0_pay110 v435 v447 v459 v468 v470
      = extractStridedSlice S128x128 ![256, 0] (k0_pay104 v435 v447 v459 v468 v470) slices_S512x128_o256_0_S128x128 := rfl

theorem pay150_eq (v538 : FVec Ideal S256x128 .bf16) (v544 v556 v568 v580 v592 v604 v616 v628 v640 v652 v661 : FVec Ideal S128x256 .f32) (v662 : Vec Ideal S1x1x128x256 .f32) (v665 : Vec Ideal S128x128 .f32) (v667 : Vec Ideal S256x128 .f32) (v674 : Vec Ideal S1x1x128x256 .f32) :
    k0_pay150 v538 v544 v556 v568 v580 v592 v604 v616 v628 v640 v652 v661 v662 v665 v667 v674
      = shapeCast S1x128x128 (divf (matmul dot_S128x256_S256x128_S128x128_1_0_0_1_n_n none (extractStridedSlice S128x256 ![0, 0] (k0_pay148 v544 v556 v568 v580 v592 v604 v616 v628 v640 v652 v661 v662 v665 v667 v674) slices_S1536x256_o0_0_S128x256) v538 (constant S128x128 .f32 0x00000000#32)) (broadcastTo S128x128 (extractStridedSlice S128x1 ![0, 0] (k0_pay147 v544 v556 v568 v580 v592 v604 v616 v628 v640 v652 v661 v662 v665 v667 v674) slices_S1536x1_o0_0_S128x1) broadcasts_S128x1_S128x128)) shapeCasts_S128x128_S1x128x128 := rfl

theorem pay151_eq (v544 v556 v568 v580 v592 v604 v616 v628 v640 v652 v661 : FVec Ideal S128x256 .f32) (v662 : Vec Ideal S1x1x128x256 .f32) (v665 : Vec Ideal S128x128 .f32) (v667 : Vec Ideal S256x128 .f32) (v674 : Vec Ideal S1x1x128x256 .f32) :
    k0_pay151 v544 v556 v568 v580 v592 v604 v616 v628 v640 v652 v661 v662 v665 v667 v674
      = extractStridedSlice S128x128 ![0, 0] (k0_pay149 v544 v556 v568 v580 v592 v604 v616 v628 v640 v652 v661 v662 v665 v667 v674) slices_S1536x128_o0_0_S128x128 := rfl

theorem pay158_eq (v689 : FVec Ideal S1536x128 .f32) :
    k0_pay158 v689
      = extractStridedSlice S128x128 ![384, 0] v689 slices_S1536x128_o384_0_S128x128 := rfl

theorem pay228_eq (v857 : FVec Ideal S128x128 .bf16) (v863 v875 v887 v899 v911 v923 v935 v947 v959 v971 v983 v995 v1007 v1019 v1031 v1040 : FVec Ideal S128x128 .f32) (v1041 : Vec Ideal S1x1x128x128 .f32) :
    k0_pay228 v857 v863 v875 v887 v899 v911 v923 v935 v947 v959 v971 v983 v995 v1007 v1019 v1031 v1040 v1041
      = shapeCast S1x128x128 (divf (matmul dot_S128x128_S128x128_S128x128_1_0_0_1_n_n none (extractStridedSlice S128x128 ![0, 0] (k0_pay226 v863 v875 v887 v899 v911 v923 v935 v947 v959 v971 v983 v995 v1007 v1019 v1031 v1040 v1041) slices_S2048x128_o0_0_S128x128) v857 (constant S128x128 .f32 0x00000000#32)) (broadcastTo S128x128 (extractStridedSlice S128x1 ![0, 0] (k0_pay225 v863 v875 v887 v899 v911 v923 v935 v947 v959 v971 v983 v995 v1007 v1019 v1031 v1040 v1041) slices_S2048x1_o0_0_S128x1) broadcasts_S128x1_S128x128)) shapeCasts_S128x128_S1x128x128 := rfl

theorem pay229_eq (v863 v875 v887 v899 v911 v923 v935 v947 v959 v971 v983 v995 v1007 v1019 v1031 v1040 : FVec Ideal S128x128 .f32) (v1041 : Vec Ideal S1x1x128x128 .f32) :
    k0_pay229 v863 v875 v887 v899 v911 v923 v935 v947 v959 v971 v983 v995 v1007 v1019 v1031 v1040 v1041
      = shapeCast S1x128x128 (extractStridedSlice S128x128 ![0, 0] (k0_pay227 v863 v875 v887 v899 v911 v923 v935 v947 v959 v971 v983 v995 v1007 v1019 v1031 v1040 v1041) slices_S2048x128_o0_0_S128x128) shapeCasts_S128x128_S1x128x128 := rfl

theorem pay230_eq (v863 : FVec Ideal S128x128 .f32) (v869 : FVec Ideal S128x128 .bf16) (v875 v887 v899 v911 v923 v935 v947 v959 v971 v983 v995 v1007 v1019 v1031 v1040 : FVec Ideal S128x128 .f32) (v1041 : Vec Ideal S1x1x128x128 .f32) :
    k0_pay230 v863 v869 v875 v887 v899 v911 v923 v935 v947 v959 v971 v983 v995 v1007 v1019 v1031 v1040 v1041
      = shapeCast S1x128x128 (divf (matmul dot_S128x128_S128x128_S128x128_1_0_0_1_n_n none (extractStridedSlice S128x128 ![128, 0] (k0_pay226 v863 v875 v887 v899 v911 v923 v935 v947 v959 v971 v983 v995 v1007 v1019 v1031 v1040 v1041) slices_S2048x128_o128_0_S128x128) v869 (constant S128x128 .f32 0x00000000#32)) (broadcastTo S128x128 (extractStridedSlice S128x1 ![128, 0] (k0_pay225 v863 v875 v887 v899 v911 v923 v935 v947 v959 v971 v983 v995 v1007 v1019 v1031 v1040 v1041) slices_S2048x1_o128_0_S128x1) broadcasts_S128x1_S128x128)) shapeCasts_S128x128_S1x128x128 := rfl

theorem pay231_eq (v863 v875 v887 v899 v911 v923 v935 v947 v959 v971 v983 v995 v1007 v1019 v1031 v1040 : FVec Ideal S128x128 .f32) (v1041 : Vec Ideal S1x1x128x128 .f32) :
    k0_pay231 v863 v875 v887 v899 v911 v923 v935 v947 v959 v971 v983 v995 v1007 v1019 v1031 v1040 v1041
      = shapeCast S1x128x128 (extractStridedSlice S128x128 ![128, 0] (k0_pay227 v863 v875 v887 v899 v911 v923 v935 v947 v959 v971 v983 v995 v1007 v1019 v1031 v1040 v1041) slices_S2048x128_o128_0_S128x128) shapeCasts_S128x128_S1x128x128 := rfl

theorem pay237_eq (v1056 : FVec Ideal S2048x128 .f32) :
    k0_pay237 v1056
      = extractStridedSlice S128x128 ![512, 0] v1056 slices_S2048x128_o512_0_S128x128 := rfl

theorem pay244_eq (v1056 : FVec Ideal S2048x128 .f32) :
    k0_pay244 v1056
      = extractStridedSlice S128x128 ![896, 0] v1056 slices_S2048x128_o896_0_S128x128 := rfl

theorem pay59_eq (v86 : FVec Ideal S256x128 .bf16) (v220 : FVec Ideal S1920x1 .f32) (v221 : FVec Ideal S1920x256 .bf16) :
    k0_pay59 v86 v220 v221
      = divf (matmul dot_S128x256_S256x128_S128x128_1_0_0_1_n_n none (extractStridedSlice S128x256 ![512, 0] v221 slices_S1920x256_o512_0_S128x256) v86 (constant S128x128 .f32 0x00000000#32)) (broadcastTo S128x128 (extractStridedSlice S128x1 ![512, 0] v220 slices_S1920x1_o512_0_S128x1) broadcasts_S128x1_S128x128) := rfl

theorem pay66_eq (v122 : FVec Ideal S256x128 .bf16) (v220 : FVec Ideal S1920x1 .f32) (v221 : FVec Ideal S1920x256 .bf16) :
    k0_pay66 v122 v220 v221
      = divf (matmul dot_S128x256_S256x128_S128x128_1_0_0_1_n_n none (extractStridedSlice S128x256 ![896, 0] v221 slices_S1920x256_o896_0_S128x256) v122 (constant S128x128 .f32 0x00000000#32)) (broadcastTo S128x128 (extractStridedSlice S128x1 ![896, 0] v220 slices_S1920x1_o896_0_S128x1) broadcasts_S128x1_S128x128) := rfl

theorem pay73_eq (v158 : FVec Ideal S256x128 .bf16) (v221 : FVec Ideal S1920x256 .bf16) :
    k0_pay73 v158 v221
      = matmul dot_S128x256_S256x128_S128x128_1_0_0_1_n_n none (extractStridedSlice S128x256 ![1280, 0] v221 slices_S1920x256_o1280_0_S128x256) v158 (constant S128x128 .f32 0x00000000#32) := rfl

theorem pay74_eq (v220 : FVec Ideal S1920x1 .f32) :
    k0_pay74 v220
      = broadcastTo S128x128 (extractStridedSlice S128x1 ![1280, 0] v220 slices_S1920x1_o1280_0_S128x1) broadcasts_S128x1_S128x128 := rfl

theorem pay164_eq (v610 : FVec Ideal S256x128 .bf16) (v684 : FVec Ideal S1536x1 .f32) (v685 : FVec Ideal S1536x256 .bf16) :
    k0_pay164 v610 v684 v685
      = divf (matmul dot_S128x256_S256x128_S128x128_1_0_0_1_n_n none (extractStridedSlice S128x256 ![768, 0] v685 slices_S1536x256_o768_0_S128x256) v610 (constant S128x128 .f32 0x00000000#32)) (broadcastTo S128x128 (extractStridedSlice S128x1 ![768, 0] v684 slices_S1536x1_o768_0_S128x1) broadcasts_S128x1_S128x128) := rfl

theorem pay171_eq (v646 : FVec Ideal S256x128 .bf16) (v684 : FVec Ideal S1536x1 .f32) (v685 : FVec Ideal S1536x256 .bf16) :
    k0_pay171 v646 v684 v685
      = divf (matmul dot_S128x256_S256x128_S128x128_1_0_0_1_n_n none (extractStridedSlice S128x256 ![1152, 0] v685 slices_S1536x256_o1152_0_S128x256) v646 (constant S128x128 .f32 0x00000000#32)) (broadcastTo S128x128 (extractStridedSlice S128x1 ![1152, 0] v684 slices_S1536x1_o1152_0_S128x1) broadcasts_S128x1_S128x128) := rfl

theorem pay250_eq (v977 : FVec Ideal S128x128 .bf16) (v1051 : FVec Ideal S2048x1 .f32) (v1052 : FVec Ideal S2048x128 .bf16) :
    k0_pay250 v977 v1051 v1052
      = divf (matmul dot_S128x128_S128x128_S128x128_1_0_0_1_n_n none (extractStridedSlice S128x128 ![1280, 0] v1052 slices_S2048x128_o1280_0_S128x128) v977 (constant S128x128 .f32 0x00000000#32)) (broadcastTo S128x128 (extractStridedSlice S128x1 ![1280, 0] v1051 slices_S2048x1_o1280_0_S128x1) broadcasts_S128x1_S128x128) := rfl

theorem pay257_eq (v1013 : FVec Ideal S128x128 .bf16) (v1051 : FVec Ideal S2048x1 .f32) (v1052 : FVec Ideal S2048x128 .bf16) :
    k0_pay257 v1013 v1051 v1052
      = divf (matmul dot_S128x128_S128x128_S128x128_1_0_0_1_n_n none (extractStridedSlice S128x128 ![1664, 0] v1052 slices_S2048x128_o1664_0_S128x128) v1013 (constant S128x128 .f32 0x00000000#32)) (broadcastTo S128x128 (extractStridedSlice S128x1 ![1664, 0] v1051 slices_S2048x1_o1664_0_S128x1) broadcasts_S128x1_S128x128) := rfl

end Cert.Att
-- ==== Proof.Pieces.lean ====
/-  The first scratch array of a grid point holds at (group, row) the group's attention output of that row. -/
module

public import proofs.«01_k».proof.Proof.Slices

@[expose] public section

namespace Cert.Att

open Idealize.ShloMosaic Idealize.ShloMosaic.ValueIdx Cert.KernelIdeal Cert.KernelIdeal.Gen
open Cert.KernelIdeal.Gen.kernelRun0_A
open scoped BigOperators

attribute [local irreducible] IsRows blk

section

variable (c : Dev nD)
  (arg2 : Memref sig Kind.tc Space.vmem S1x1x3x1x2048x128 EltTy.bf16) (harg2 : arg2.IsWhole)
  (arg3 : Memref sig Kind.tc Space.vmem S1x1x3x1x2048x128 EltTy.bf16) (harg3 : arg3.IsWhole)
  (arg4 : Memref sig Kind.tc Space.vmem S1x1x3x1x2048x128 EltTy.bf16) (harg4 : arg4.IsWhole)
  (arg5 : Memref sig Kind.tc Space.vmem S3x1x128x256 EltTy.f32) (harg5 : arg5.IsWhole)
  (arg7 arg8 arg9 : Memref sig Kind.tc Space.vmem S2048x128 EltTy.f32)
  (x0 x1 x2 : Vec Ideal S1x1x3x1x2048x128 EltTy.bf16) (x3 : Vec Ideal S3x1x128x256 EltTy.f32)
  (β : Fin 3 → ℕ → EReal) (hB : ∀ g, IsBias (biasOf x3 g) (β g))

include hB

set_option maxHeartbeats 4000000 in
/-- The pieces of the output. -/
theorem out_pieces : List.Forall₂ (PieceOk (outG x0 x1 x2 β))
    (sl.HS3_48 (F := Ideal) c arg2 harg2 arg3 harg3 arg4 harg4 arg5 harg5 arg7 arg8 arg9 x0 x1 x2 x3) places := by
  obtain ⟨L0, S0, R0⟩ := later0 c arg2 harg2 arg3 harg3 arg5 harg5 x0 x1 x3
  obtain ⟨L1, S1, R1⟩ := first1 c arg2 harg2 arg3 harg3 arg5 harg5 arg7 arg8 x0 x1 x3
  obtain ⟨L2, S2, R2⟩ := later1 c arg2 harg2 arg3 harg3 arg5 harg5 arg7 arg8 x0 x1 x3
  obtain ⟨L3, S3, R3⟩ := first2 c arg2 harg2 arg3 harg3 arg5 harg5 arg7 arg8 x0 x1 x3
  have S0' := S0
  have S1' := S1
  have S2' := S2
  have S3' := S3
  unfold sl.r_38 sl.r_39 sl.r_40 at S0'
  unfold sl.r_58 sl.r_59 sl.r_60 at S1'
  unfold sl.r_91 sl.r_92 sl.r_93 at S2'
  unfold sl.r_139 sl.r_140 sl.r_141 at S3'
  casesm* _ ∧ _
  repeat' apply List.Forall₂.cons
  iterate 2
    · exact ok_strided 2 2 rfl _ _ fun z i e => og_first (d := 16) (hB 2) S3 (by assumption) (by norm_num) (by norm_num)
        (strided_mat _ _ _ (copy_tab arg4 harg4 x2 2 2 rfl _ _ _ _) _ _ _ _ _ _) rfl (by norm_num) (by norm_num) z i e
  · exact ok_strided 2 2 rfl _ _ fun z i e => (congrFun (congrArg k0_pay258 (pay257_eq ..)) _).trans
      (og_first (d := 16) (hB 2) S3 (by assumption) (by norm_num) (by norm_num)
      (strided_mat _ _ _ (copy_tab arg4 harg4 x2 2 2 rfl _ _ _ _) _ _ _ _ _ _) rfl (by norm_num) (by norm_num) z i e)
  iterate 2
    · exact ok_strided 2 2 rfl _ _ fun z i e => og_first (d := 16) (hB 2) S3 (by assumption) (by norm_num) (by norm_num)
        (strided_mat _ _ _ (copy_tab arg4 harg4 x2 2 2 rfl _ _ _ _) _ _ _ _ _ _) rfl (by norm_num) (by norm_num) z i e
  · exact ok_strided 2 2 rfl _ _ fun z i e => (congrFun (congrArg k0_pay251 (pay250_eq ..)) _).trans
      (og_first (d := 16) (hB 2) S3 (by assumption) (by norm_num) (by norm_num)
      (strided_mat _ _ _ (copy_tab arg4 harg4 x2 2 2 rfl _ _ _ _) _ _ _ _ _ _) rfl (by norm_num) (by norm_num) z i e)
  iterate 8
    · exact ok_strided 2 2 rfl _ _ fun z i e => og_first (d := 16) (hB 2) S3 (by assumption) (by norm_num) (by norm_num)
        (strided_mat _ _ _ (copy_tab arg4 harg4 x2 2 2 rfl _ _ _ _) _ _ _ _ _ _) rfl (by norm_num) (by norm_num) z i e
  · exact ok_strided 2 2 rfl _ _ fun z i e => (congrFun (pay230_eq ..) _).trans
      (og_first (d := 16) (hB 2) S3' (by assumption) (by norm_num) (by norm_num)
      (strided_mat _ _ _ (copy_tab arg4 harg4 x2 2 2 rfl _ _ _ _) _ _ _ _ _ _) rfl (by norm_num) (by norm_num) z i e)
  · exact ok_strided 2 2 rfl _ _ fun z i e => (congrFun (pay228_eq ..) _).trans
      (og_first (d := 16) (hB 2) S3' (by assumption) (by norm_num) (by norm_num)
      (strided_mat _ _ _ (copy_tab arg4 harg4 x2 2 2 rfl _ _ _ _) _ _ _ _ _ _) rfl (by norm_num) (by norm_num) z i e)
  iterate 2
    · exact ok_strided 1 1 rfl _ _ fun z i e => og_wide (d := 4) (hB 1) S2 (by assumption) (by norm_num) (by norm_num) (by norm_num)
        (strided_mat _ _ _ (copy_tab arg4 harg4 x2 1 1 rfl _ _ _ _) _ _ _ _ _ _) rfl (by norm_num) (by norm_num) z i e
  · exact ok_strided 1 1 rfl _ _ fun z i e => (congrFun (congrArg k0_pay172 (pay171_eq ..)) _).trans
      (og_wide (d := 4) (hB 1) S2 (by assumption) (by norm_num) (by norm_num) (by norm_num)
      (strided_mat _ _ _ (copy_tab arg4 harg4 x2 1 1 rfl _ _ _ _) _ _ _ _ _ _) rfl (by norm_num) (by norm_num) z i e)
  iterate 2
    · exact ok_strided 1 1 rfl _ _ fun z i e => og_wide (d := 4) (hB 1) S2 (by assumption) (by norm_num) (by norm_num) (by norm_num)
        (strided_mat _ _ _ (copy_tab arg4 harg4 x2 1 1 rfl _ _ _ _) _ _ _ _ _ _) rfl (by norm_num) (by norm_num) z i e
  · exact ok_strided 1 1 rfl _ _ fun z i e => (congrFun (congrArg k0_pay165 (pay164_eq ..)) _).trans
      (og_wide (d := 4) (hB 1) S2 (by assumption) (by norm_num) (by norm_num) (by norm_num)
      (strided_mat _ _ _ (copy_tab arg4 harg4 x2 1 1 rfl _ _ _ _) _ _ _ _ _ _) rfl (by norm_num) (by norm_num) z i e)
  iterate 5
    · exact ok_strided 1 1 rfl _ _ fun z i e => og_wide (d := 4) (hB 1) S2 (by assumption) (by norm_num) (by norm_num) (by norm_num)
        (strided_mat _ _ _ (copy_tab arg4 harg4 x2 1 1 rfl _ _ _ _) _ _ _ _ _ _) rfl (by norm_num) (by norm_num) z i e
  · exact ok_strided 1 1 rfl _ _ fun z i e => (congrFun (pay150_eq ..) _).trans
      (og_wide (d := 4) (hB 1) S2' (by assumption) (by norm_num) (by norm_num) (by norm_num)
      (strided_mat _ _ _ (copy_tab arg4 harg4 x2 1 1 rfl _ _ _ _) _ _ _ _ _ _) rfl (by norm_num) (by norm_num) z i e)
  · exact ok_strided 1 1 rfl _ _ fun z i e => og_first (d := 4) (hB 1) S1 (by assumption) (by norm_num) (by norm_num)
      (strided_mat _ _ _ (copy_tab arg4 harg4 x2 1 1 rfl _ _ _ _) _ _ _ _ _ _) rfl (by norm_num) (by norm_num) z i e
  · exact ok_strided 1 1 rfl _ _ fun z i e => (congrFun (congrArg (fun p => k0_pay111 _ _ p _) (pay110_eq ..)) _).trans
      (og_first (d := 4) (hB 1) S1' (by assumption) (by norm_num) (by norm_num)
      (strided_mat _ _ _ (copy_tab arg4 harg4 x2 1 1 rfl _ _ _ _) _ _ _ _ _ _) rfl (by norm_num) (by norm_num) z i e)
  · exact ok_strided 1 1 rfl _ _ fun z i e => (congrFun (pay108_eq ..) _).trans
      (og_first (d := 4) (hB 1) S1' (by assumption) (by norm_num) (by norm_num)
      (strided_mat _ _ _ (copy_tab arg4 harg4 x2 1 1 rfl _ _ _ _) _ _ _ _ _ _) rfl (by norm_num) (by norm_num) z i e)
  · exact ok_strided 1 1 rfl _ _ fun z i e => (congrFun (pay106_eq ..) _).trans
      (og_first (d := 4) (hB 1) S1' (by assumption) (by norm_num) (by norm_num)
      (strided_mat _ _ _ (copy_tab arg4 harg4 x2 1 1 rfl _ _ _ _) _ _ _ _ _ _) rfl (by norm_num) (by norm_num) z i e)
  · exact ok_unit 0 0 rfl _ fun z i e => og_wide (d := 1) (hB 0) S0 (by assumption) (by norm_num) (by norm_num) (by norm_num)
      (load_mat arg4 harg4 x2 0 0 rfl _ _ _) rfl (by norm_num) (by norm_num) z i e
  · exact ok_unit 0 0 rfl _ fun z i e => (congrFun (congrArg (fun p => k0_pay82 _ _ p _) (pay81_eq ..)) _).trans
      (og_wide (d := 1) (hB 0) S0 (by assumption) (by norm_num) (by norm_num) (by norm_num)
      (load_mat arg4 harg4 x2 0 0 rfl _ _ _) rfl (by norm_num) (by norm_num) z i e)
  iterate 2
    · exact ok_unit 0 0 rfl _ fun z i e => og_wide (d := 1) (hB 0) S0 (by assumption) (by norm_num) (by norm_num) (by norm_num)
        (load_mat arg4 harg4 x2 0 0 rfl _ _ _) rfl (by norm_num) (by norm_num) z i e
  · exact ok_unit 0 0 rfl _ fun z i e => (congrFun (congrArg₂ k0_pay75 (pay73_eq ..) (pay74_eq ..)) _).trans
      (og_wide (d := 1) (hB 0) S0 (by assumption) (by norm_num) (by norm_num) (by norm_num)
      (load_mat arg4 harg4 x2 0 0 rfl _ _ _) rfl (by norm_num) (by norm_num) z i e)
  iterate 2
    · exact ok_unit 0 0 rfl _ fun z i e => og_wide (d := 1) (hB 0) S0 (by assumption) (by norm_num) (by norm_num) (by norm_num)
        (load_mat arg4 harg4 x2 0 0 rfl _ _ _) rfl (by norm_num) (by norm_num) z i e
  · exact ok_unit 0 0 rfl _ fun z i e => (congrFun (congrArg k0_pay67 (pay66_eq ..)) _).trans
      (og_wide (d := 1) (hB 0) S0 (by assumption) (by norm_num) (by norm_num) (by norm_num)
      (load_mat arg4 harg4 x2 0 0 rfl _ _ _) rfl (by norm_num) (by norm_num) z i e)
  iterate 2
    · exact ok_unit 0 0 rfl _ fun z i e => og_wide (d := 1) (hB 0) S0 (by assumption) (by norm_num) (by norm_num) (by norm_num)
        (load_mat arg4 harg4 x2 0 0 rfl _ _ _) rfl (by norm_num) (by norm_num) z i e
  · exact ok_unit 0 0 rfl _ fun z i e => (congrFun (congrArg k0_pay60 (pay59_eq ..)) _).trans
      (og_wide (d := 1) (hB 0) S0 (by assumption) (by norm_num) (by norm_num) (by norm_num)
      (load_mat arg4 harg4 x2 0 0 rfl _ _ _) rfl (by norm_num) (by norm_num) z i e)
  iterate 2
    · exact ok_unit 0 0 rfl _ fun z i e => og_wide (d := 1) (hB 0) S0 (by assumption) (by norm_num) (by norm_num) (by norm_num)
        (load_mat arg4 harg4 x2 0 0 rfl _ _ _) rfl (by norm_num) (by norm_num) z i e
  · exact ok_unit 0 0 rfl _ fun z i e => (congrFun (pay52_eq ..) _).trans
      (og_wide (d := 1) (hB 0) S0' (by assumption) (by norm_num) (by norm_num) (by norm_num)
      (load_mat arg4 harg4 x2 0 0 rfl _ _ _) rfl (by norm_num) (by norm_num) z i e)
  · exact ok_unit 0 0 rfl _ fun z i e => (congrFun (pay50_eq ..) _).trans
      (og_wide (d := 1) (hB 0) S0' (by assumption) (by norm_num) (by norm_num) (by norm_num)
      (load_mat arg4 harg4 x2 0 0 rfl _ _ _) rfl (by norm_num) (by norm_num) z i e)
  · exact ok_unit 0 0 rfl _ fun z i e => og_single (d := 1) (hB 0) (first0_soft ..)
      (logit_row rfl (load_mat arg2 harg2 x0 0 0 rfl _ _ _) (load_mat arg3 harg3 x1 0 0 rfl _ _ _) (half_bias 0 0 rfl))
      (by norm_num) (by norm_num) (load_mat arg4 harg4 x2 0 0 rfl _ _ _) rfl z i e
  · exact .nil

end

end Cert.Att
-- ==== Proof.Logs.lean ====
/-  The second scratch array of a grid point holds at (group, row) the logarithm of the group's softmax's sum. -/
module

public import proofs.«01_k».proof.Proof.Slices

@[expose] public section

namespace Cert.Att

open Idealize.ShloMosaic Idealize.ShloMosaic.ValueIdx Cert.KernelIdeal Cert.KernelIdeal.Gen
open Cert.KernelIdeal.Gen.kernelRun0_A
open scoped BigOperators

attribute [local irreducible] IsRows blk

section

variable (c : Dev nD)
  (arg2 : Memref sig Kind.tc Space.vmem S1x1x3x1x2048x128 EltTy.bf16) (harg2 : arg2.IsWhole)
  (arg3 : Memref sig Kind.tc Space.vmem S1x1x3x1x2048x128 EltTy.bf16) (harg3 : arg3.IsWhole)
  (arg5 : Memref sig Kind.tc Space.vmem S3x1x128x256 EltTy.f32) (harg5 : arg5.IsWhole)
  (arg7 arg8 : Memref sig Kind.tc Space.vmem S2048x128 EltTy.f32)
  (x0 x1 : Vec Ideal S1x1x3x1x2048x128 EltTy.bf16) (x3 : Vec Ideal S3x1x128x256 EltTy.f32)
  (β : Fin 3 → ℕ → EReal) (hB : ∀ g, IsBias (biasOf x3 g) (β g))

include hB

set_option maxHeartbeats 4000000 in
/-- The pieces of the logarithms. -/
theorem lse_pieces : List.Forall₂ (PieceOk (lseG x0 x1 β))
    (sl.HS4_48 (F := Ideal) c arg2 harg2 arg3 harg3 arg5 harg5 arg7 arg8 x0 x1 x3) places := by
  obtain ⟨L0, S0, R0⟩ := later0 c arg2 harg2 arg3 harg3 arg5 harg5 x0 x1 x3
  obtain ⟨L1, S1, R1⟩ := first1 c arg2 harg2 arg3 harg3 arg5 harg5 arg7 arg8 x0 x1 x3
  obtain ⟨L2, S2, R2⟩ := later1 c arg2 harg2 arg3 harg3 arg5 harg5 arg7 arg8 x0 x1 x3
  obtain ⟨L3, S3, R3⟩ := first2 c arg2 harg2 arg3 harg3 arg5 harg5 arg7 arg8 x0 x1 x3
  have S0' := S0
  have S1' := S1
  have S2' := S2
  have S3' := S3
  unfold sl.r_38 sl.r_39 sl.r_40 at S0'
  unfold sl.r_58 sl.r_59 sl.r_60 at S1'
  unfold sl.r_91 sl.r_92 sl.r_93 at S2'
  unfold sl.r_139 sl.r_140 sl.r_141 at S3'
  casesm* _ ∧ _
  repeat' apply List.Forall₂.cons
  iterate 8
    · exact ok_strided 2 2 rfl _ _ fun z i e => lg_first (d := 16) (hB 2) S3 (by assumption) (by norm_num) (by norm_num)
        (by norm_num) (by norm_num) z i e
  · exact ok_strided 2 2 rfl _ _ fun z i e => (congrFun (congrArg k0_pay245 (pay244_eq ..)) _).trans (lg_first (d := 16) (hB 2) S3 (by assumption) (by norm_num) (by norm_num)
      (by norm_num) (by norm_num) z i e)
  iterate 2
    · exact ok_strided 2 2 rfl _ _ fun z i e => lg_first (d := 16) (hB 2) S3 (by assumption) (by norm_num) (by norm_num)
        (by norm_num) (by norm_num) z i e
  · exact ok_strided 2 2 rfl _ _ fun z i e => (congrFun (congrArg k0_pay238 (pay237_eq ..)) _).trans (lg_first (d := 16) (hB 2) S3 (by assumption) (by norm_num) (by norm_num)
      (by norm_num) (by norm_num) z i e)
  iterate 2
    · exact ok_strided 2 2 rfl _ _ fun z i e => lg_first (d := 16) (hB 2) S3 (by assumption) (by norm_num) (by norm_num)
        (by norm_num) (by norm_num) z i e
  · exact ok_strided 2 2 rfl _ _ fun z i e => (congrFun (pay231_eq ..) _).trans (lg_first (d := 16) (hB 2) S3' (by assumption) (by norm_num) (by norm_num)
      (by norm_num) (by norm_num) z i e)
  · exact ok_strided 2 2 rfl _ _ fun z i e => (congrFun (pay229_eq ..) _).trans (lg_first (d := 16) (hB 2) S3' (by assumption) (by norm_num) (by norm_num)
      (by norm_num) (by norm_num) z i e)
  iterate 8
    · exact ok_strided 1 1 rfl _ _ fun z i e => lg_wide (d := 4) (hB 1) S2 (by assumption) (by norm_num) (by norm_num) (by norm_num)
        (by norm_num) (by norm_num) z i e
  · exact ok_strided 1 1 rfl _ _ fun z i e => (congrFun (congrArg k0_pay159 (pay158_eq ..)) _).trans (lg_wide (d := 4) (hB 1) S2 (by assumption) (by norm_num) (by norm_num) (by norm_num)
      (by norm_num) (by norm_num) z i e)
  iterate 2
    · exact ok_strided 1 1 rfl _ _ fun z i e => lg_wide (d := 4) (hB 1) S2 (by assumption) (by norm_num) (by norm_num) (by norm_num)
        (by norm_num) (by norm_num) z i e
  · exact ok_strided 1 1 rfl _ _ fun z i e => (congrFun (congrArg k0_pay152 (pay151_eq ..)) _).trans (lg_wide (d := 4) (hB 1) S2' (by assumption) (by norm_num) (by norm_num) (by norm_num)
      (by norm_num) (by norm_num) z i e)
  iterate 2
    · exact ok_strided 1 1 rfl _ _ fun z i e => lg_first (d := 4) (hB 1) S1 (by assumption) (by norm_num) (by norm_num)
        (by norm_num) (by norm_num) z i e
  · exact ok_strided 1 1 rfl _ _ fun z i e => (congrFun (pay109_eq ..) _).trans (lg_first (d := 4) (hB 1) S1' (by assumption) (by norm_num) (by norm_num)
      (by norm_num) (by norm_num) z i e)
  · exact ok_strided 1 1 rfl _ _ fun z i e => (congrFun (pay107_eq ..) _).trans (lg_first (d := 4) (hB 1) S1' (by assumption) (by norm_num) (by norm_num)
      (by norm_num) (by norm_num) z i e)
  iterate 13
    · exact ok_unit 0 0 rfl _ fun z i e => lg_wide (d := 1) (hB 0) S0 (by assumption) (by norm_num) (by norm_num) (by norm_num)
        (by norm_num) (by norm_num) z i e
  · exact ok_unit 0 0 rfl _ fun z i e => (congrFun (congrArg k0_pay54 (pay53_eq ..)) _).trans (lg_wide (d := 1) (hB 0) S0' (by assumption) (by norm_num) (by norm_num) (by norm_num)
      (by norm_num) (by norm_num) z i e)
  · exact ok_unit 0 0 rfl _ fun z i e => (congrFun (pay51_eq ..) _).trans (lg_wide (d := 1) (hB 0) S0' (by assumption) (by norm_num) (by norm_num) (by norm_num)
      (by norm_num) (by norm_num) z i e)
  · exact ok_unit 0 0 rfl _ fun z i e => lg_single (d := 1) (hB 0) (first0_soft ..)
      (logit_row rfl (load_mat arg2 harg2 x0 0 0 rfl _ _ _) (load_mat arg3 harg3 x1 0 0 rfl _ _ _) (half_bias 0 0 rfl))
      (by norm_num) (by norm_num) z i e
  · exact .nil

end

end Cert.Att
-- ==== Proof.Final.lean ====
/-  The array the kernel leaves: at a batch, a row and a head's channel, the mix of the three groups' attention over the projected heads. -/
module

public import proofs.«01_k».proof.Proof.Entry
public import proofs.«01_k».proof.Proof.Block
public import proofs.«01_k».proof.Proof.Pieces
public import proofs.«01_k».proof.Proof.Logs
public import Idealize.ShloMosaic.Lib.ValueIdxRank6

@[expose] public section

namespace Cert.Att

open Idealize.ShloMosaic Idealize.ShloMosaic.ValueIdx Cert.KernelIdeal Cert.KernelIdeal.Gen
open Idealize.ShloMosaic.TcCoe

/-- Rows of a projected head: kind `n` (queries, keys, values), batch `b`, group `g`, head `h`. -/
noncomputable def headsOf (n : Fin 3) (x : S8x36x2048x128.Idx → EReal) (b : Fin 8) (g : Fin 3) (h : Fin 4) (t : ℕ)
    (e : Fin 128) : EReal :=
  if ht : t < 2048 then x (ix4 b (⟨12 * n.val + 4 * g.val + h.val, by omega⟩ : Fin 36) ⟨t, ht⟩ e) else 0

/-- The dilated attention at a batch, a head, a row and a channel. -/
noncomputable def attended (x : S8x36x2048x128.Idx → EReal) (y : S32x12.Idx → EReal) (b : Fin 8) (h : Fin 4) (t : ℕ)
    (e : Fin 128) : EReal :=
  mix (fun g => outD (headsOf 0 x b g h) (headsOf 1 x b g h) (headsOf 2 x b g h) scale (learned y g h) (dil g) t e)
    (fun g => lseD (headsOf 0 x b g h) (headsOf 1 x b g h) scale (learned y g h) (dil g) t)

/-- The block of each window at a grid point. -/
theorem idx_facts : ∀ t : Fin cfg0.N,
    (win0_0.index t (0 : Fin 6) = (grid0.coords t 0).val ∧ win0_0.index t (1 : Fin 6) = 0 ∧ win0_0.index t (2 : Fin 6) = 0
      ∧ win0_0.index t (3 : Fin 6) = (grid0.coords t 1).val ∧ win0_0.index t (4 : Fin 6) = 0 ∧ win0_0.index t (5 : Fin 6) = 0)
    ∧ (win0_1.index t (0 : Fin 6) = (grid0.coords t 0).val ∧ win0_1.index t (1 : Fin 6) = 1 ∧ win0_1.index t (2 : Fin 6) = 0
      ∧ win0_1.index t (3 : Fin 6) = (grid0.coords t 1).val ∧ win0_1.index t (4 : Fin 6) = 0 ∧ win0_1.index t (5 : Fin 6) = 0)
    ∧ (win0_2.index t (0 : Fin 6) = (grid0.coords t 0).val ∧ win0_2.index t (1 : Fin 6) = 2 ∧ win0_2.index t (2 : Fin 6) = 0
      ∧ win0_2.index t (3 : Fin 6) = (grid0.coords t 1).val ∧ win0_2.index t (4 : Fin 6) = 0 ∧ win0_2.index t (5 : Fin 6) = 0)
    ∧ (win0_3.index t (0 : Fin 4) = 0 ∧ win0_3.index t (1 : Fin 4) = (grid0.coords t 1).val ∧ win0_3.index t (2 : Fin 4) = 0
      ∧ win0_3.index t (3 : Fin 4) = 0)
    ∧ (win0_4.index t (0 : Fin 3) = (grid0.coords t 0).val ∧ win0_4.index t (1 : Fin 3) = 0
      ∧ win0_4.index t (2 : Fin 3) = (grid0.coords t 1).val) :=
  (by decide +kernel : ∀ t : Fin grid0.N, _)

/-- Every batch and head has its grid point, which writes its block back. -/
theorem point_of : ∀ (b : Fin 8) (h : Fin 4), ∃ t : Fin cfg0.N,
    (grid0.coords t 0).val = b.val ∧ (grid0.coords t 1).val = h.val ∧ (cfg0.win 4).flush t = true :=
  (by decide +kernel : ∀ (b : Fin 8) (h : Fin 4), ∃ t : Fin grid0.N,
    (grid0.coords t 0).val = b.val ∧ (grid0.coords t 1).val = h.val ∧ win0_4.flush t = true)

variable (m : (ℓ : Loc nD τ sig) → Buf (Elt Ideal) ℓ) (c : Dev nD)

/-- The projected heads, as the windows' array holds them. -/
theorem split_apply (x : S8x36x2048x128.Idx → EReal) (b : Fin 8) (n g : Fin 3) (h : Fin 4) (t : Fin 2048) (e : Fin 128) :
    shapeCast S8x3x3x4x2048x128 x shapeCasts_S8x36x2048x128_S8x3x3x4x2048x128 (ix6 b n g h t e) = headsOf n x b g h t.val e := by
  unfold headsOf
  rw [dif_pos t.isLt]
  refine shapeCast_apply _ _ _ _ ?_
  rw [Shape.rowMajor_val_four, Shape.rowMajor_val_six]
  show ((b.val * 36 + (12 * n.val + 4 * g.val + h.val)) * 2048 + t.val) * 128 + e.val
    = ((((b.val * 3 + n.val) * 3 + g.val) * 4 + h.val) * 2048 + t.val) * 128 + e.val
  omega

section Point

variable (t : Fin cfg0.N) (b : Fin 8) (h : Fin 4) (hb : (grid0.coords t 0).val = b.val) (hh : (grid0.coords t 1).val = h.val)

include hb hh

/-- The queries a grid point is given. -/
theorem tg_q (g : Fin 3) : tg (iblk m c 0 t) g = headsOf 0 (m ((c.tc : Thread nD τ).loc main_arg0)) b g h := by
  funext u e
  unfold tg
  by_cases hu : u < 2048
  · rw [dif_pos hu]
    show V m c main_v55 (((cfg0.win 0).blk t).view.emb (ix6 0 0 g 0 ⟨u, hu⟩ e)) = _
    obtain ⟨⟨e0, e1, e2, e3, e4, e5⟩, -⟩ := idx_facts t
    rw [show ((cfg0.win 0).blk t).view.emb (ix6 0 0 g 0 ⟨u, hu⟩ e) = (ix6 b 0 g h ⟨u, hu⟩ e : S8x3x3x4x2048x128.Idx) from by
      funext a
      apply Fin.ext
      match a with
      | ⟨0, _⟩ => show win0_0.index t (0 : Fin 6) * 1 + 1 * 0 = b.val; omega
      | ⟨1, _⟩ => show win0_0.index t (1 : Fin 6) * 1 + 1 * 0 = 0; omega
      | ⟨2, _⟩ => show win0_0.index t (2 : Fin 6) * 3 + 1 * g.val = g.val; omega
      | ⟨3, _⟩ => show win0_0.index t (3 : Fin 6) * 1 + 1 * 0 = h.val; omega
      | ⟨4, _⟩ => show win0_0.index t (4 : Fin 6) * 2048 + 1 * u = u; omega
      | ⟨5, _⟩ => show win0_0.index t (5 : Fin 6) * 128 + 1 * e.val = e.val; omega]
    exact (congrFun (qkv_entry m c) _).trans (split_apply _ b 0 g h ⟨u, hu⟩ e)
  · unfold headsOf
    rw [dif_neg hu, dif_neg hu]

/-- The keys. -/
theorem tg_k (g : Fin 3) : tg (iblk m c 1 t) g = headsOf 1 (m ((c.tc : Thread nD τ).loc main_arg0)) b g h := by
  funext u e
  unfold tg
  by_cases hu : u < 2048
  · rw [dif_pos hu]
    show V m c main_v55 (((cfg0.win 1).blk t).view.emb (ix6 0 0 g 0 ⟨u, hu⟩ e)) = _
    obtain ⟨-, ⟨e0, e1, e2, e3, e4, e5⟩, -⟩ := idx_facts t
    rw [show ((cfg0.win 1).blk t).view.emb (ix6 0 0 g 0 ⟨u, hu⟩ e) = (ix6 b 1 g h ⟨u, hu⟩ e : S8x3x3x4x2048x128.Idx) from by
      funext a
      apply Fin.ext
      match a with
      | ⟨0, _⟩ => show win0_1.index t (0 : Fin 6) * 1 + 1 * 0 = b.val; omega
      | ⟨1, _⟩ => show win0_1.index t (1 : Fin 6) * 1 + 1 * 0 = 1; omega
      | ⟨2, _⟩ => show win0_1.index t (2 : Fin 6) * 3 + 1 * g.val = g.val; omega
      | ⟨3, _⟩ => show win0_1.index t (3 : Fin 6) * 1 + 1 * 0 = h.val; omega
      | ⟨4, _⟩ => show win0_1.index t (4 : Fin 6) * 2048 + 1 * u = u; omega
      | ⟨5, _⟩ => show win0_1.index t (5 : Fin 6) * 128 + 1 * e.val = e.val; omega]
    exact (congrFun (qkv_entry m c) _).trans (split_apply _ b 1 g h ⟨u, hu⟩ e)
  · unfold headsOf
    rw [dif_neg hu, dif_neg hu]

/-- The values. -/
theorem tg_v (g : Fin 3) : tg (iblk m c 2 t) g = headsOf 2 (m ((c.tc : Thread nD τ).loc main_arg0)) b g h := by
  funext u e
  unfold tg
  by_cases hu : u < 2048
  · rw [dif_pos hu]
    show V m c main_v55 (((cfg0.win 2).blk t).view.emb (ix6 0 0 g 0 ⟨u, hu⟩ e)) = _
    obtain ⟨-, -, ⟨e0, e1, e2, e3, e4, e5⟩, -⟩ := idx_facts t
    rw [show ((cfg0.win 2).blk t).view.emb (ix6 0 0 g 0 ⟨u, hu⟩ e) = (ix6 b 2 g h ⟨u, hu⟩ e : S8x3x3x4x2048x128.Idx) from by
      funext a
      apply Fin.ext
      match a with
      | ⟨0, _⟩ => show win0_2.index t (0 : Fin 6) * 1 + 1 * 0 = b.val; omega
      | ⟨1, _⟩ => show win0_2.index t (1 : Fin 6) * 1 + 1 * 0 = 2; omega
      | ⟨2, _⟩ => show win0_2.index t (2 : Fin 6) * 3 + 1 * g.val = g.val; omega
      | ⟨3, _⟩ => show win0_2.index t (3 : Fin 6) * 1 + 1 * 0 = h.val; omega
      | ⟨4, _⟩ => show win0_2.index t (4 : Fin 6) * 2048 + 1 * u = u; omega
      | ⟨5, _⟩ => show win0_2.index t (5 : Fin 6) * 128 + 1 * e.val = e.val; omega]
    exact (congrFun (qkv_entry m c) _).trans (split_apply _ b 2 g h ⟨u, hu⟩ e)
  · unfold headsOf
    rw [dif_neg hu, dif_neg hu]

/-- The biases a grid point is given are those of its head. -/
theorem bias_point (g : Fin 3) : IsBias (biasOf (iblk m c 3 t) g) (learned (m ((c.tc : Thread nD τ).loc main_arg1)) g h) := by
  intro i k
  unfold biasOf
  show V m c main_v54 (((cfg0.win 3).blk t).view.emb (ix4 g 0 i k)) = _
  obtain ⟨-, -, -, ⟨e0, e1, e2, e3⟩, -⟩ := idx_facts t
  rw [show ((cfg0.win 3).blk t).view.emb (ix4 g 0 i k) = (ix4 g h i k : S3x4x128x256.Idx) from by
    funext a
    apply Fin.ext
    match a with
    | ⟨0, _⟩ => show win0_3.index t (0 : Fin 4) * 3 + 1 * g.val = g.val; omega
    | ⟨1, _⟩ => show win0_3.index t (1 : Fin 4) * 1 + 1 * 0 = h.val; omega
    | ⟨2, _⟩ => show win0_3.index t (2 : Fin 4) * 128 + 1 * i.val = i.val; omega
    | ⟨3, _⟩ => show win0_3.index t (3 : Fin 4) * 256 + 1 * k.val = k.val; omega]
  exact (congrFun (bias_entry m c) _).trans (table_apply _ g h i k)

end Point

/-- The array after the run at a batch, a row and a head's channel. -/
theorem final_apply (b : Fin 8) (h : Fin 4) (r : Fin 2048) (e : Fin 128) :
    ((dats m 0 c).arrAt 4 cfg0.N : S8x2048x512.Idx → EReal) (ix3 b r (⟨128 * h.val + e.val, by omega⟩ : Fin 512))
      = attended (m ((c.tc : Thread nD τ).loc main_arg0)) (m ((c.tc : Thread nD τ).loc main_arg1)) b h r.val e := by
  obtain ⟨t, hb, hh, hf⟩ := point_of b h
  have k := congrFun (Cert.KernelIdeal.Value.blocks4 m c t hf) (ix3 (0 : Fin 1) r e)
  rw [Cert.KernelIdeal.Value.flushed4_A] at k
  have k' : (dats m 0 c).arrAt 4 cfg0.N (((cfg0.win 4).blk t).view.emb (ix3 (0 : Fin 1) r e)) = _ := k
  obtain ⟨-, -, -, -, e0, e1, e2⟩ := idx_facts t
  rw [show ((cfg0.win 4).blk t).view.emb (ix3 (0 : Fin 1) r e)
      = (ix3 b r (⟨128 * h.val + e.val, by omega⟩ : Fin 512) : S8x2048x512.Idx) from by
    funext a
    apply Fin.ext
    match a with
    | ⟨0, _⟩ => show win0_4.index t (0 : Fin 3) * 1 + 1 * 0 = b.val; omega
    | ⟨1, _⟩ => show win0_4.index t (1 : Fin 3) * 2048 + 1 * r.val = r.val; omega
    | ⟨2, _⟩ => show win0_4.index t (2 : Fin 3) * 128 + 1 * e.val = 128 * h.val + e.val; omega] at k'
  refine k'.trans ?_
  refine (out_block c (grid0.coords t) _ _ _ _ _ _ _ _ _ _ _ _ _ _ _ _ _ _ _ _ (iblk m c 0 t) (iblk m c 1 t) (iblk m c 2 t)
    (iblk m c 3 t)
    (outG (iblk m c 0 t) (iblk m c 1 t) (iblk m c 2 t) (fun g => learned (m ((c.tc : Thread nD τ).loc main_arg1)) g h))
    (lseG (iblk m c 0 t) (iblk m c 1 t) (fun g => learned (m ((c.tc : Thread nD τ).loc main_arg1)) g h))
    (canon_places _ _ places (out_pieces c _ _ _ _ _ _ _ _ _ _ _ _ _ _ _ _ (bias_point m c t b h hb hh)) places_all)
    (canon_places _ _ places (lse_pieces c _ _ _ _ _ _ _ _ _ _ _ _ (bias_point m c t b h hb hh)) places_all) 0 r e).trans ?_
  unfold attended outG lseG
  simp only [tg_q m c t b h hb hh, tg_k m c t b h hb hh, tg_v m c t b h hb hh]

end Cert.Att
-- ==== Proof.RefMask.lean ====
/-  The reference's heads, mask and biases at an index. -/
module

public import proofs.«01_k».proof.Proof.RefStages
public import proofs.«01_k».proof.Proof.Final
public import Idealize.ShloMosaic.Lib.IdealHost

@[expose] public section

namespace Cert.Att.Ref

open Idealize.ShloMosaic Idealize.ShloMosaic.ValueIdx Cert.ReferenceIdeal Cert.ReferenceIdeal.Gen
open Idealize.ShloMosaic.Routing (gather_row)

/-- Widening changes no number. -/
theorem extf_at {s : Shape} (x : s.Idx → EReal) (i : s.Idx) : extf (F := Ideal) (φ := .bf16) .f32 x bitsLt_bf16_f32 i = x i := rfl

/-- A kind's heads at an index. -/
theorem part_apply (n : Fin 3) (hs : S8x3x3x4x2048x128.Slices ![0, n.val, 0, 0, 0, 0] S8x1x3x4x2048x128)
    (x : S8x36x2048x128.Idx → EReal) (b : Fin 8) (g : Fin 3) (h : Fin 4) (t : Fin 2048) (e : Fin 128) :
    part n.val hs x (ix5 b g h t e) = headsOf n x b g h t.val e := by
  unfold part
  rw [shapeCast_apply _ _ _ (ix6 b (0 : Fin 1) g h t e) (by
    rw [Shape.rowMajor_val_five, Shape.rowMajor_val_six]
    show ((((b.val * 1 + 0) * 3 + g.val) * 4 + h.val) * 2048 + t.val) * 128 + e.val
      = (((b.val * 3 + g.val) * 4 + h.val) * 2048 + t.val) * 128 + e.val
    omega)]
  rw [extractStridedSlice_apply _ _ _ _ (ix6 b n g h t e) (by
    intro a
    match a with
    | ⟨0, _⟩ => exact (Nat.zero_add _).symm
    | ⟨1, _⟩ => exact (Nat.add_zero _).symm
    | ⟨2, _⟩ => exact (Nat.zero_add _).symm
    | ⟨3, _⟩ => exact (Nat.zero_add _).symm
    | ⟨4, _⟩ => exact (Nat.zero_add _).symm
    | ⟨5, _⟩ => exact (Nat.zero_add _).symm)]
  rw [shapeCast_apply _ _ _ (ix4 b (⟨12 * n.val + 4 * g.val + h.val, by omega⟩ : Fin 36) t e) (by
    rw [Shape.rowMajor_val_four, Shape.rowMajor_val_six]
    show ((b.val * 36 + (12 * n.val + 4 * g.val + h.val)) * 2048 + t.val) * 128 + e.val
      = ((((b.val * 3 + n.val) * 3 + g.val) * 4 + h.val) * 2048 + t.val) * 128 + e.val
    omega)]
  unfold headsOf
  rw [dif_pos t.isLt]
  exact extf_at x _

theorem sub_at {s : Shape} {w : ℕ} (a b : IVec s w) (i : s.Idx) : subi a b i = a i - b i := rfl

/-- The distance's word. -/
theorem dist_apply (t u : Fin 2048) : dist (ix2 t u) = BitVec.ofNat 32 t.val - BitVec.ofNat 32 u.val := by
  unfold dist
  rw [sub_at]
  rw [broadcastInDim_apply _ _ _ _ (ix2 t (0 : Fin 1)) (by
      intro a
      match a with
      | ⟨0, _⟩ => rfl
      | ⟨1, _⟩ => rfl),
    broadcastInDim_apply _ _ _ _ (ix1 t) (by
      intro a
      match a with
      | ⟨0, _⟩ => rfl),
    broadcastInDim_apply _ _ _ _ (ix2 (0 : Fin 1) u) (by
      intro a
      match a with
      | ⟨0, _⟩ => rfl
      | ⟨1, _⟩ => rfl),
    broadcastInDim_apply _ _ _ _ (ix1 u) (by
      intro a
      match a with
      | ⟨0, _⟩ => rfl)]
  rfl

/-- A distance back to an earlier key is its number's word. -/
theorem dist_back (t u : Fin 2048) (h : u.val ≤ t.val) : dist (ix2 t u) = BitVec.ofNat 32 (t.val - u.val) := by
  rw [dist_apply]
  apply BitVec.eq_of_toNat_eq
  rw [BitVec.toNat_sub, BitVec.toNat_ofNat, BitVec.toNat_ofNat, BitVec.toNat_ofNat]
  omega

/-- A distance to a later key is negative. -/
theorem dist_ahead (t u : Fin 2048) (h : t.val < u.val) : dist (ix2 t u) = 0#32 - BitVec.ofNat 32 (u.val - t.val - 1 + 1) := by
  rw [dist_apply]
  apply BitVec.eq_of_toNat_eq
  rw [BitVec.toNat_sub, BitVec.toNat_sub, BitVec.toNat_ofNat, BitVec.toNat_ofNat, BitVec.toNat_ofNat]
  show _ = (2 ^ 32 - (u.val - t.val - 1 + 1) % 2 ^ 32 + 0) % 2 ^ 32
  omega

/-- The three comparisons of a group on a distance's word. -/
noncomputable def test (g : Fin 3) (x : BitVec 32) : BitVec 1 :=
  IntOp.andi (IntOp.andi (IntOp.cmpi .sge x 0#32) (IntOp.cmpi .sle x (lit0 g)))
    (IntOp.cmpi .eq (IntOp.remsi .host x (lit1 g)) 0#32)

theorem test_back : ∀ (g : Fin 3) (n : Fin 2048),
    test g (BitVec.ofNat 32 n.val) = 1#1 ↔ (n.val ≤ 128 * dil g ∧ dil g ∣ n.val) := by decide +kernel

theorem test_ahead : ∀ (g : Fin 3) (n : Fin 2048), test g (0#32 - BitVec.ofNat 32 (n.val + 1)) ≠ 1#1 := by decide +kernel

/-- A literal row of three, as a column. -/
theorem column3 (f : Fin 3 → BitVec 32) (g : Fin 3) (t u : Fin 2048) :
    broadcastInDim S3x2048x2048 ![0, 1, 2] bcast_S3x1x1_S3x2048x2048_0_1_2
      (shapeCast S3x1x1 (fun i => f (S3.rowMajor i)) shapeCasts_S3_S3x1x1) (ix3 g t u) = f g := by
  rw [broadcastInDim_apply _ _ _ _ (ix3 g (0 : Fin 1) (0 : Fin 1)) (by
      intro a
      match a with
      | ⟨0, _⟩ => rfl
      | ⟨1, _⟩ => rfl
      | ⟨2, _⟩ => rfl),
    shapeCast_apply _ _ _ (ix1 g) (by
      rw [Shape.rowMajor_val_one, Shape.rowMajor_val_three]
      show g.val = (g.val * 1 + 0) * 1 + 0
      omega)]
  exact congrArg f (Fin.ext (Shape.rowMajor_val_one _))

/-- A table over queries and keys, the same for every group. -/
theorem over_groups {α : Type} (x : S2048x2048.Idx → α) (g : Fin 3) (t u : Fin 2048) :
    broadcastInDim S3x2048x2048 ![0, 1, 2] bcast_S1x2048x2048_S3x2048x2048_0_1_2
      (broadcastInDim S1x2048x2048 ![1, 2] bcast_S2048x2048_S1x2048x2048_1_2 x) (ix3 g t u) = x (ix2 t u) := by
  rw [broadcastInDim_apply _ _ _ _ (ix3 (0 : Fin 1) t u) (by
      intro a
      match a with
      | ⟨0, _⟩ => rfl
      | ⟨1, _⟩ => rfl
      | ⟨2, _⟩ => rfl)]
  exact broadcastInDim_apply _ _ _ _ (ix2 t u) (by
      intro a
      match a with
      | ⟨0, _⟩ => rfl
      | ⟨1, _⟩ => rfl)

theorem over_groups' {α : Type} (x : S2048x2048.Idx → α) (g : Fin 3) (t u : Fin 2048) :
    broadcastInDim S3x2048x2048 ![1, 2] bcast_S2048x2048_S3x2048x2048_1_2 x (ix3 g t u) = x (ix2 t u) :=
  broadcastInDim_apply _ _ _ _ (ix2 t u) (by
      intro a
      match a with
      | ⟨0, _⟩ => rfl
      | ⟨1, _⟩ => rfl)

theorem and_at {s : Shape} {w : ℕ} (a b : IVec s w) (i : s.Idx) : andi a b i = IntOp.andi (a i) (b i) := rfl

theorem cmp_at {s : Shape} {w : ℕ} (p : CmpIPredicate) (a b : IVec s w) (i : s.Idx) : cmpi p a b i = IntOp.cmpi p (a i) (b i) := rfl

theorem rem_at {s : Shape} {w : ℕ} (a b : IVec s w) (i : s.Idx) : Host.remsi a b i = IntOp.remsi .host (a i) (b i) := rfl

theorem valid_test (g : Fin 3) (t u : Fin 2048) : valid (ix3 g t u) = test g (dist (ix2 t u)) := by
  unfold valid test
  rw [and_at, and_at, cmp_at, cmp_at, rem_at, over_groups, over_groups, over_groups', column3, column3, cmp_at,
    broadcastInDim_scalar_apply, broadcastInDim_scalar_apply]
  rfl

/-- The mask keeps the keys of the query's window. -/
theorem valid_iff (g : Fin 3) (t u : Fin 2048) : valid (ix3 g t u) = 1#1 ↔ Seen (dil g) t.val u.val := by
  rw [valid_test]
  unfold Seen
  by_cases h : u.val ≤ t.val
  · rw [dist_back t u h]
    refine (test_back g ⟨t.val - u.val, by omega⟩).trans ⟨fun k => ⟨h, k⟩, fun k => k.2⟩
  · rw [dist_ahead t u (by omega)]
    exact ⟨fun k => absurd k (test_ahead g ⟨u.val - t.val - 1, by omega⟩), fun k => absurd k.1 h⟩

/-- The reference's bucket of a distance, as the number of a row. -/
noncomputable def row (n : Fin 2048) : Fin 32 := ⟨(lit2 n).toNat % 32, Nat.mod_lt _ (by omega)⟩

theorem row_word : ∀ n : Fin 2048, lit2 n = BitVec.ofNat 32 (row n).val := by decide +kernel

theorem max_back : ∀ n : Fin 2048, IntOp.maxsi (BitVec.ofNat 32 n.val) 0#32 = BitVec.ofNat 32 n.val := by decide +kernel

/-- The reference's buckets are the kernel's, at the distances of a window. -/
theorem row_eq : ∀ (g : Fin 3) (p : Fin 129) (h : dil g * p.val < 2048), row ⟨dil g * p.val, h⟩ = bkt (lits g) p := by
  decide +kernel

/-- A row of a table per query and key. -/
theorem gather_pair (x : S2048x12.Idx → EReal) (idx : S2048x2048x1.Idx → BitVec 32) (t u : Fin 2048) (y : Fin 12) (b : Fin 2048)
    (hb : idx (ix3 t u (0 : Fin 1)) = BitVec.ofNat 32 b.val) :
    Host.gather gather_S2048x12_S2048x2048x1_S2048x2048x12_2_0_n_n_0_2_112 x idx (ix3 t u y) = x (ix2 b y) := by
  unfold Host.gather
  refine congrArg x (funext fun a => Fin.ext ?_)
  match a with
  | ⟨0, _⟩ =>
    show GatherDims.start _ (ix3 t u y) idx 0 + GatherDims.batchCoord _ (ix3 t u y) 0 + GatherDims.offCoord _ (ix3 t u y) 0 = b.val
    rw [GatherDims.batchCoord_eq_zero _ _ _ (by decide), GatherDims.offCoord_eq_zero _ _ _ (by decide)]
    unfold GatherDims.start
    rw [dif_pos (by decide)]
    have hi : ∀ p, GatherDims.siIdx gather_S2048x12_S2048x2048x1_S2048x2048x12_2_0_n_n_0_2_112 (ix3 t u y) ⟨0, p⟩
        = ix3 t u (0 : Fin 1) := by
      intro p
      funext k
      match k with
      | ⟨0, _⟩ => rfl
      | ⟨1, _⟩ => rfl
      | ⟨2, _⟩ => rfl
    have hw : (BitVec.ofNat 32 b.val).toInt = (b.val : ℤ) := StableHlo.Predicate.toInt_ofNat_small _ (by omega)
    have hs : (idx (GatherDims.siIdx gather_S2048x12_S2048x2048x1_S2048x2048x12_2_0_n_n_0_2_112 (ix3 t u y)
        ⟨0, by decide⟩)).toInt = (b.val : ℤ) := by rw [hi, hb, hw]
    show min (idx (GatherDims.siIdx gather_S2048x12_S2048x2048x1_S2048x2048x12_2_0_n_n_0_2_112 (ix3 t u y)
        ⟨0, by decide⟩)).toInt.toNat 2047 + 0 + 0 = b.val
    rw [hs]
    have := b.isLt
    omega
  | ⟨1, _⟩ =>
    show GatherDims.start _ (ix3 t u y) idx 1 + GatherDims.batchCoord _ (ix3 t u y) 1 + GatherDims.offCoord _ (ix3 t u y) 1 = y.val
    rw [GatherDims.batchCoord_eq_zero _ _ _ (by decide)]
    unfold GatherDims.start GatherDims.offCoord
    rw [dif_neg (by decide), dif_pos (by decide)]
    exact Nat.zero_add _

/-- The bias of an earlier key is the learned table's entry at its distance's bucket. -/
theorem bias_apply (y : S32x12.Idx → EReal) (g : Fin 3) (h : Fin 4) (t u : Fin 2048) (hu : u.val ≤ t.val) :
    bias y (ix4 g h t u) = y (ix2 (row ⟨t.val - u.val, by omega⟩) (⟨4 * g.val + h.val, by omega⟩ : Fin 12)) := by
  unfold bias
  rw [shapeCast_apply _ _ _ (ix3 (⟨4 * g.val + h.val, by omega⟩ : Fin 12) t u) (by
    rw [Shape.rowMajor_val_three, Shape.rowMajor_val_four]
    show ((4 * g.val + h.val) * 2048 + t.val) * 2048 + u.val = ((g.val * 4 + h.val) * 2048 + t.val) * 2048 + u.val
    omega)]
  rw [transpose_apply _ _ _ _ (ix3 t u (⟨4 * g.val + h.val, by omega⟩ : Fin 12)) (by
    intro a
    match a with
    | ⟨0, _⟩ => rfl
    | ⟨1, _⟩ => rfl
    | ⟨2, _⟩ => rfl)]
  rw [gather_pair _ _ t u _ ⟨t.val - u.val, by omega⟩ (by
    rw [broadcastInDim_apply _ _ _ _ (ix2 t u) (by
      intro a
      match a with
      | ⟨0, _⟩ => rfl
      | ⟨1, _⟩ => rfl)]
    show IntOp.maxsi (dist (ix2 t u)) 0#32 = _
    rw [dist_back t u hu]
    exact max_back ⟨t.val - u.val, by omega⟩)]
  exact gather_row _ rfl rfl rfl rfl rfl y _ _ _ _ (by
    rw [broadcastInDim_apply _ _ _ _ (ix1 (⟨t.val - u.val, by omega⟩ : Fin 2048)) (by
      intro a
      match a with
      | ⟨0, _⟩ => rfl)]
    show lit2 (S2048.rowMajor (ix1 (⟨t.val - u.val, by omega⟩ : Fin 2048))) = _
    rw [show S2048.rowMajor (ix1 (⟨t.val - u.val, by omega⟩ : Fin 2048)) = (⟨t.val - u.val, by omega⟩ : Fin 2048) from
      Fin.ext (Shape.rowMajor_val_one _)]
    exact row_word _) (by omega)

/-- In a group's window that is the kernel's bias of the distance in steps of the dilation. -/
theorem bias_seen (y : S32x12.Idx → EReal) (g : Fin 3) (h : Fin 4) (t u : Fin 2048) (hs : Seen (dil g) t.val u.val) :
    bias y (ix4 g h t u) = learned y g h ((t.val - u.val) / dil g) := by
  obtain ⟨h1, h2, h3⟩ := hs
  rw [bias_apply y g h t u h1]
  have hd : 0 < dil g := (by decide : ∀ g, 0 < dil g) g
  have hq : (t.val - u.val) / dil g ≤ 128 := Nat.div_le_of_le_mul (by rw [Nat.mul_comm]; exact h2)
  have he : dil g * ((t.val - u.val) / dil g) = t.val - u.val := Nat.mul_div_cancel' h3
  unfold learned
  rw [dif_pos (by omega)]
  have hr := row_eq g ⟨(t.val - u.val) / dil g, by omega⟩ (by
    show dil g * ((t.val - u.val) / dil g) < 2048
    omega)
  rw [← hr]
  refine congrArg (fun a => y (ix2 (row a) _)) (Fin.ext ?_)
  exact he.symm

end Cert.Att.Ref
-- ==== Proof.RefRead.lean ====
/-  The reference's steps at an index, on any scores. -/
module

public import proofs.«01_k».proof.Proof.RefStages
public import proofs.«01_k».proof.Proof.Loop
public import Idealize.ShloMosaic.Lib.IdealHost
import Idealize.ShloMosaic.Lib.Pointwise.Contract

@[expose] public section

namespace Cert.Att.Ref

open Idealize.ShloMosaic hiding ix1 ix2 ix3 ix4 ix5 ix6
open Idealize.ShloMosaic.ValueIdx Cert.ReferenceIdeal Cert.ReferenceIdeal.Gen

theorem reduces_keys : S8x3x4x2048x2048.Reduces [4] S8x3x4x2048 := by decide
theorem reduces_groups : S8x3x4x2048.Reduces [1] S8x4x2048 := by decide
theorem reduces_outs : S8x3x4x2048x128.Reduces [1] S8x4x2048x128 := by decide

theorem lift_keys (b : Fin 8) (g : Fin 3) (h : Fin 4) (t u : Fin 2048) :
    reduces_keys.lift (ix4 b g h t) u = ix5 b g h t u := by
  funext a
  match a with
  | ⟨0, _⟩ => rfl
  | ⟨1, _⟩ => rfl
  | ⟨2, _⟩ => rfl
  | ⟨3, _⟩ => rfl
  | ⟨4, _⟩ => rfl

theorem lift_groups (b : Fin 8) (g : Fin 3) (h : Fin 4) (t : Fin 2048) :
    reduces_groups.lift (ix3 b h t) g = ix4 b g h t := by
  funext a
  match a with
  | ⟨0, _⟩ => rfl
  | ⟨1, _⟩ => rfl
  | ⟨2, _⟩ => rfl
  | ⟨3, _⟩ => rfl

theorem lift_outs (b : Fin 8) (g : Fin 3) (h : Fin 4) (t : Fin 2048) (e : Fin 128) :
    reduces_outs.lift (ix4 b h t e) g = ix5 b g h t e := by
  funext a
  match a with
  | ⟨0, _⟩ => rfl
  | ⟨1, _⟩ => rfl
  | ⟨2, _⟩ => rfl
  | ⟨3, _⟩ => rfl
  | ⟨4, _⟩ => rfl

theorem zero_first : (constant (F := Ideal) S_ .f32 0x00000000#32) (Shape.Idx.first h_S_) = (0 : EReal) := Ideal.ofBits_zero_f32

theorem exp_at {s : Shape} (x : s.Idx → EReal) (i : s.Idx) : Host.exp (F := Ideal) (φ := .f32) x i = Ideal.exp (x i) := rfl

theorem log_at {s : Shape} (x : s.Idx → EReal) (i : s.Idx) : Host.log (F := Ideal) (φ := .f32) x i = Ideal.log (x i) := rfl

theorem subf_at {s : Shape} (x y : s.Idx → EReal) (i : s.Idx) : subf (F := Ideal) (φ := .f32) x y i = x i - y i := rfl

theorem addf_at {s : Shape} (x y : s.Idx → EReal) (i : s.Idx) : addf (F := Ideal) (φ := .f32) x y i = x i + y i := rfl

theorem mulf_at {s : Shape} (x y : s.Idx → EReal) (i : s.Idx) : mulf (F := Ideal) (φ := .f32) x y i = x i * y i := rfl

theorem divf_at {s : Shape} (x y : s.Idx → EReal) (i : s.Idx) :
    Host.divf (F := Ideal) (φ := .f32) x y i = Ideal.div (x i) (y i) := rfl

theorem narrow_at {s : Shape} (x : s.Idx → EReal) (i : s.Idx) : truncf (F := Ideal) (φ := .f32) .bf16 x bitsLt_bf16_f32 i = x i := rfl

section Rows

variable (s : S8x3x4x2048x2048.Idx → EReal) (b : Fin 8) (g : Fin 3) (h : Fin 4) (t : Fin 2048)

/-- A query's scores over the keys. -/
def keys : Fin 2048 → EReal := fun u => s (ix5 b g h t u)

theorem peak_apply (z : Fin 1) : peak s (ix5 b g h t z) = top (keys s b g h t) := by
  unfold peak
  rw [broadcastInDim_apply _ _ _ _ (ix4 b g h t) (by
    intro a
    match a with
    | ⟨0, _⟩ => rfl
    | ⟨1, _⟩ => rfl
    | ⟨2, _⟩ => rfl
    | ⟨3, _⟩ => rfl)]
  rw [Host.reduce_eq_fold_single (FloatOps.maximumf (F := Ideal) (φ := .f32)) s _ _ reduces_keys]
  have hc : (constant (F := Ideal) S_ .f32 0xFF800000#32) (Shape.Idx.first h_S_) = (⊥ : EReal) := negInf
  rw [hc]
  exact congrArg (fun f => (Finset.univ : Finset (Fin 2048)).fold max ⊥ f) (funext fun u => congrArg s (lift_keys b g h t u))

theorem expo_apply (u : Fin 2048) : expo s (ix5 b g h t u) = ex (keys s b g h t) u := by
  unfold expo
  rw [exp_at, subf_at, broadcastInDim_apply _ _ _ _ (ix5 b g h t (0 : Fin 1)) (by
    intro a
    match a with
    | ⟨0, _⟩ => rfl
    | ⟨1, _⟩ => rfl
    | ⟨2, _⟩ => rfl
    | ⟨3, _⟩ => rfl
    | ⟨4, _⟩ => rfl), peak_apply]
  rfl

theorem total_apply : total (expo s) (ix4 b g h t) = den (keys s b g h t) := by
  unfold total
  rw [hostReduceAdd_apply, zero_first, Ideal.hostReduceAdd_single _ reduces_keys, zero_add]
  unfold den
  refine Finset.sum_congr rfl fun u _ => ?_
  rw [lift_keys b g h t u]
  exact expo_apply s b g h t u

theorem logden_apply : logden s (ix4 b g h t) = lse (keys s b g h t) := by
  unfold logden
  rw [addf_at, log_at, total_apply, shapeCast_apply _ _ _ (ix5 b g h t (0 : Fin 1)) (by
    rw [Shape.rowMajor_val_five, Shape.rowMajor_val_four]
    show (((b.val * 3 + g.val) * 4 + h.val) * 2048 + t.val) * 1 + 0 = ((b.val * 3 + g.val) * 4 + h.val) * 2048 + t.val
    omega), peak_apply]
  rfl

end Rows

theorem wide_apply (d : S8x3x4x2048.Idx → EReal) (b : Fin 8) (g : Fin 3) (h : Fin 4) (t : Fin 2048) (e : Fin 128) :
    wide d (ix5 b g h t e) = d (ix4 b g h t) := by
  unfold wide
  rw [broadcastInDim_apply _ _ _ _ (ix5 b g h t (0 : Fin 1)) (by
    intro a
    match a with
    | ⟨0, _⟩ => rfl
    | ⟨1, _⟩ => rfl
    | ⟨2, _⟩ => rfl
    | ⟨3, _⟩ => rfl
    | ⟨4, _⟩ => rfl)]
  exact broadcastInDim_apply _ _ _ _ (ix4 b g h t) (by
    intro a
    match a with
    | ⟨0, _⟩ => rfl
    | ⟨1, _⟩ => rfl
    | ⟨2, _⟩ => rfl
    | ⟨3, _⟩ => rfl)

/-- The product of queries and keys. -/
theorem dot_keys (q k : S8x3x4x2048x128.Idx → EReal) (b : Fin 8) (g : Fin 3) (h : Fin 4) (t u : Fin 2048) :
    Host.dotGeneral (F := Ideal) (φ₁ := .f32) (φ₂ := .f32)
        dot_S8x3x4x2048x128_S8x3x4x2048x128_S8x3x4x2048x2048_4_4_3_3_012_012 none q k (ix5 b g h t u)
      = ∑ e : Fin 128, q (ix5 b g h t e) * k (ix5 b g h u e) := by
  simp only [Host.dotGeneral]
  rw [Ideal.dotGeneral_apply, DotDims.sum_contr₁ dot_S8x3x4x2048x128_S8x3x4x2048x128_S8x3x4x2048x2048_4_4_3_3_012_012 (a := 4) rfl (K := 128) rfl]
  refine Finset.sum_congr rfl fun e _ => congrArg₂ (· * ·) (congrArg q (funext fun a => ?_)) (congrArg k (funext fun a => ?_))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl

/-- The product of weights and values. -/
theorem dot_values (p : S8x3x4x2048x2048.Idx → EReal) (v : S8x3x4x2048x128.Idx → EReal) (b : Fin 8) (g : Fin 3) (h : Fin 4)
    (t : Fin 2048) (e : Fin 128) :
    Host.dotGeneral (F := Ideal) (φ₁ := .f32) (φ₂ := .f32)
        dot_S8x3x4x2048x2048_S8x3x4x2048x128_S8x3x4x2048x128_4_3_3_4_012_012 none p v (ix5 b g h t e)
      = ∑ u : Fin 2048, p (ix5 b g h t u) * v (ix5 b g h u e) := by
  simp only [Host.dotGeneral]
  rw [Ideal.dotGeneral_apply, DotDims.sum_contr₁ dot_S8x3x4x2048x2048_S8x3x4x2048x128_S8x3x4x2048x128_4_3_3_4_012_012 (a := 4) rfl (K := 2048) rfl]
  refine Finset.sum_congr rfl fun u _ => congrArg₂ (· * ·) (congrArg p (funext fun a => ?_)) (congrArg v (funext fun a => ?_))
  · match a with
    | ⟨0, _⟩ => rfl
    | ⟨1, _⟩ => rfl
    | ⟨2, _⟩ => rfl
    | ⟨3, _⟩ => rfl
    | ⟨4, _⟩ => rfl
  · match a with
    | ⟨0, _⟩ => rfl
    | ⟨1, _⟩ => rfl
    | ⟨2, _⟩ => rfl
    | ⟨3, _⟩ => rfl
    | ⟨4, _⟩ => rfl

theorem attn_apply (s : S8x3x4x2048x2048.Idx → EReal) (v : S8x3x4x2048x128.Idx → EReal) (b : Fin 8) (g : Fin 3) (h : Fin 4)
    (t : Fin 2048) (e : Fin 128) :
    attn (expo s) v (ix5 b g h t e) = outv (keys s b g h t) (fun u => v (ix5 b g h u e)) := by
  unfold attn
  rw [divf_at, wide_apply, total_apply, dot_values]
  unfold outv num
  exact congrArg (fun z => Ideal.div z _) (Finset.sum_congr rfl fun u _ => congrArg (· * _) (expo_apply s b g h t u))

/-- The maximum over the groups. -/
theorem fold_groups (l : Fin 3 → EReal) : (Finset.univ : Finset (Fin 3)).fold max ⊥ l = max (max (l 0) (l 1)) (l 2) := by
  rw [fold_max_eq_sup]
  rw [show (Finset.univ : Finset (Fin 3)) = {0, 1, 2} from by decide, Finset.sup_insert, Finset.sup_insert, Finset.sup_singleton]
  exact (sup_assoc _ _ _).symm

theorem weight_apply (l : S8x3x4x2048.Idx → EReal) (b : Fin 8) (g : Fin 3) (h : Fin 4) (t : Fin 2048) :
    weight l (ix4 b g h t) = wt (fun g => l (ix4 b g h t)) g := by
  unfold weight wt
  rw [exp_at, subf_at, broadcastInDim_apply _ _ _ _ (ix4 b (0 : Fin 1) h t) (by
    intro a
    match a with
    | ⟨0, _⟩ => rfl
    | ⟨1, _⟩ => rfl
    | ⟨2, _⟩ => rfl
    | ⟨3, _⟩ => rfl), broadcastInDim_apply _ _ _ _ (ix3 b h t) (by
    intro a
    match a with
    | ⟨0, _⟩ => rfl
    | ⟨1, _⟩ => rfl
    | ⟨2, _⟩ => rfl)]
  rw [Host.reduce_eq_fold_single (FloatOps.maximumf (F := Ideal) (φ := .f32)) l _ _ reduces_groups]
  have hc : (constant (F := Ideal) S_ .f32 0xFF800000#32) (Shape.Idx.first h_S_) = (⊥ : EReal) := negInf
  rw [hc]
  have hl : (l ∘ reduces_groups.lift (ix3 b h t)) = fun g : Fin 3 => l (ix4 b g h t) :=
    funext fun g => congrArg l (lift_groups b g h t)
  rw [hl]
  exact congrArg (fun z => Ideal.exp (l (ix4 b g h t) - z)) (fold_groups _)

theorem mixed_apply (a : S8x3x4x2048.Idx → EReal) (o : S8x3x4x2048x128.Idx → EReal) (b : Fin 8) (h : Fin 4) (t : Fin 2048)
    (e : Fin 128) :
    mixed (weight a) o (ix4 b h t e) = mix (fun g => o (ix5 b g h t e)) (fun g => a (ix4 b g h t)) := by
  unfold mixed mix
  rw [divf_at, broadcastInDim_apply _ _ _ _ (ix4 b h t (0 : Fin 1)) (by
    intro a
    match a with
    | ⟨0, _⟩ => rfl
    | ⟨1, _⟩ => rfl
    | ⟨2, _⟩ => rfl
    | ⟨3, _⟩ => rfl), broadcastInDim_apply _ _ _ _ (ix3 b h t) (by
    intro a
    match a with
    | ⟨0, _⟩ => rfl
    | ⟨1, _⟩ => rfl
    | ⟨2, _⟩ => rfl)]
  rw [hostReduceAdd_apply, zero_first, Ideal.hostReduceAdd_single _ reduces_outs, zero_add,
    hostReduceAdd_apply, zero_first, Ideal.hostReduceAdd_single _ reduces_groups, zero_add]
  have h1 : ∀ g : Fin 3, mulf (F := Ideal) (φ := .f32) (wide (weight a)) o (reduces_outs.lift (ix4 b h t e) g)
      = wt (fun g => a (ix4 b g h t)) g * o (ix5 b g h t e) := by
    intro g
    rw [lift_outs b g h t e, mulf_at, wide_apply, weight_apply]
  have h2 : ∀ g : Fin 3, weight a (reduces_groups.lift (ix3 b h t) g) = wt (fun g => a (ix4 b g h t)) g := by
    intro g
    rw [lift_groups b g h t, weight_apply]
  refine congrArg₂ Ideal.div ?_ ?_
  · exact (Finset.sum_congr rfl fun g _ => h1 g).trans (Fin.sum_univ_three _)
  · exact (Finset.sum_congr rfl fun g _ => h2 g).trans (Fin.sum_univ_three _)

/-- The heads side by side, at a head's column. -/
theorem sideways_apply (o : S8x4x2048x128.Idx → EReal) (b : Fin 8) (h : Fin 4) (t : Fin 2048) (e : Fin 128) :
    sideways o (ix3 b t (⟨128 * h.val + e.val, by omega⟩ : Fin 512)) = o (ix4 b h t e) := by
  unfold sideways
  rw [narrow_at, shapeCast_apply _ _ _ (ix4 b t h e) (by
    rw [Shape.rowMajor_val_four, Shape.rowMajor_val_three]
    show ((b.val * 2048 + t.val) * 4 + h.val) * 128 + e.val = (b.val * 2048 + t.val) * 512 + (128 * h.val + e.val)
    omega)]
  exact transpose_apply _ _ _ _ (ix4 b h t e) (by
    intro a
    match a with
    | ⟨0, _⟩ => rfl
    | ⟨1, _⟩ => rfl
    | ⟨2, _⟩ => rfl
    | ⟨3, _⟩ => rfl)

end Cert.Att.Ref
-- ==== Proof.RefScore.lean ====
/-  The reference's scores are the kernel's logits, and its result is the kernel's attention. -/
module

public import proofs.«01_k».proof.Proof.RefMask
public import proofs.«01_k».proof.Proof.RefRead

@[expose] public section

namespace Cert.Att.Ref

open Idealize.ShloMosaic Idealize.ShloMosaic.ValueIdx Cert.ReferenceIdeal Cert.ReferenceIdeal.Gen

/-- The reference's divisor. -/
theorem root_word : Ideal.sqrt (Ideal.ofBits .f32 0x43000000#32) = ((Real.sqrt 128 : ℝ) : EReal) := by
  have h : Ideal.ofBits .f32 0x43000000#32 = ((128 : ℝ) : EReal) := by
    simp [Ideal.ofBits, Ideal.ieee]
    rw [← EReal.coe_mul]
    norm_num
  rw [h]
  show (if (128 : ℝ) < 0 then ⊥ else ((Real.sqrt 128 : ℝ) : EReal)) = _
  rw [if_neg (by norm_num)]

/-- The kernel's scale. -/
theorem scale_val : scale = (((Real.sqrt 128)⁻¹ : ℝ) : EReal) := by
  unfold scale
  exact IdealRules.named_const.ideal_named_scalar _ _ _ _ rfl

/-- Dividing by the root is multiplying with the scale. -/
theorem div_root (z : EReal) : Ideal.div z (Ideal.sqrt (Ideal.ofBits .f32 0x43000000#32)) = z * scale := by
  rw [root_word, Ideal.div_coe (by positivity), scale_val, one_div]

theorem select_at {s : Shape} (c : s.Idx → BitVec 1) (x y : s.Idx → EReal) (i : s.Idx) :
    select c x y i = if c i = 1#1 then x i else y i := rfl

theorem root_at (z : S_.Idx) : Host.sqrt (F := Ideal) (φ := .f32) (constant (F := Ideal) S_ .f32 0x43000000#32) z
    = Ideal.sqrt (Ideal.ofBits .f32 0x43000000#32) := rfl

theorem bottom_at (z : S_.Idx) : id (constant (F := Ideal) S_ .f32 0xFF800000#32) z = (⊥ : EReal) := negInf

/-- A table per group, over batches and heads. -/
theorem groups_only {α : Type} (v : S3x2048x2048.Idx → α) (b : Fin 8) (g : Fin 3) (h : Fin 4) (t u : Fin 2048) :
    broadcastInDim S8x3x4x2048x2048 ![0, 1, 2, 3, 4] bcast_S1x3x1x2048x2048_S8x3x4x2048x2048_0_1_2_3_4
      (broadcastInDim S1x3x1x2048x2048 ![1, 3, 4] bcast_S3x2048x2048_S1x3x1x2048x2048_1_3_4 v) (ix5 b g h t u) = v (ix3 g t u) := by
  rw [broadcastInDim_apply _ _ _ _ (ix5 (0 : Fin 1) g (0 : Fin 1) t u) (by
    intro a
    match a with
    | ⟨0, _⟩ => rfl
    | ⟨1, _⟩ => rfl
    | ⟨2, _⟩ => rfl
    | ⟨3, _⟩ => rfl
    | ⟨4, _⟩ => rfl)]
  exact broadcastInDim_apply _ _ _ _ (ix3 g t u) (by
    intro a
    match a with
    | ⟨0, _⟩ => rfl
    | ⟨1, _⟩ => rfl
    | ⟨2, _⟩ => rfl)

/-- A table per group and head, over batches. -/
theorem heads_only {α : Type} (y : S3x4x2048x2048.Idx → α) (b : Fin 8) (g : Fin 3) (h : Fin 4) (t u : Fin 2048) :
    broadcastInDim S8x3x4x2048x2048 ![0, 1, 2, 3, 4] bcast_S1x3x4x2048x2048_S8x3x4x2048x2048_0_1_2_3_4
      (broadcastInDim S1x3x4x2048x2048 ![1, 2, 3, 4] bcast_S3x4x2048x2048_S1x3x4x2048x2048_1_2_3_4 y) (ix5 b g h t u)
      = y (ix4 g h t u) := by
  rw [broadcastInDim_apply _ _ _ _ (ix5 (0 : Fin 1) g h t u) (by
    intro a
    match a with
    | ⟨0, _⟩ => rfl
    | ⟨1, _⟩ => rfl
    | ⟨2, _⟩ => rfl
    | ⟨3, _⟩ => rfl
    | ⟨4, _⟩ => rfl)]
  exact broadcastInDim_apply _ _ _ _ (ix4 g h t u) (by
    intro a
    match a with
    | ⟨0, _⟩ => rfl
    | ⟨1, _⟩ => rfl
    | ⟨2, _⟩ => rfl
    | ⟨3, _⟩ => rfl)

/-- The masked scores at a query and a key. -/
theorem masked_apply (q k : S8x3x4x2048x128.Idx → EReal) (y : S3x4x2048x2048.Idx → EReal) (v : S3x2048x2048.Idx → BitVec 1)
    (b : Fin 8) (g : Fin 3) (h : Fin 4) (t u : Fin 2048) :
    masked q k y v (ix5 b g h t u) = if v (ix3 g t u) = 1#1 then
      (∑ e : Fin 128, q (ix5 b g h t e) * k (ix5 b g h u e)) * scale + y (ix4 g h t u) else ⊥ := by
  unfold masked
  rw [select_at, addf_at, divf_at, dot_keys, broadcastInDim_scalar_apply, broadcastInDim_scalar_apply, root_at, div_root, bottom_at]
  rw [groups_only, heads_only]

/-- The scores are the logits of the group's dilated attention. -/
theorem scores_apply (x : S8x36x2048x128.Idx → EReal) (y : S32x12.Idx → EReal) (b : Fin 8) (g : Fin 3) (h : Fin 4) (t : Fin 2048) :
    keys (scores x y) b g h t = dense (headsOf 0 x b g h) (headsOf 1 x b g h) scale (learned y g h) (dil g) t.val := by
  funext u
  unfold keys scores dense
  rw [masked_apply]
  by_cases hs : Seen (dil g) t.val u.val
  · rw [if_pos ((valid_iff g t u).2 hs), if_pos hs, bias_seen y g h t u hs]
    refine congrArg (fun z => z * scale + _) (Finset.sum_congr rfl fun e _ => ?_)
    exact congrArg₂ (· * ·) (part_apply 0 _ x b g h t e) (part_apply 1 _ x b g h u e)
  · rw [if_neg (fun k => hs ((valid_iff g t u).1 k)), if_neg hs]

/-- The reference's result at a head's column is the attention of the kernel's arguments. -/
theorem result_apply (x : S8x36x2048x128.Idx → EReal) (y : S32x12.Idx → EReal) (b : Fin 8) (h : Fin 4) (t : Fin 2048)
    (e : Fin 128) :
    result x y (ix3 b t (⟨128 * h.val + e.val, by omega⟩ : Fin 512)) = attended x y b h t.val e := by
  unfold result
  rw [sideways_apply, mixed_apply]
  unfold attended outD lseD
  refine congrArg₂ mix (funext fun g => ?_) (funext fun g => ?_)
  · rw [attn_apply, scores_apply]
    exact congrArg (outv _) (funext fun u => part_apply 2 _ x b g h u e)
  · rw [logden_apply, scores_apply]

end Cert.Att.Ref
-- ==== Proof.RefRun.lean ====
/-  The printed reference computes these steps. -/
module

public import proofs.«01_k».proof.Proof.RefStages

@[expose] public section

namespace Cert.Att.Ref

open Idealize.ShloMosaic Cert.ReferenceIdeal Cert.ReferenceIdeal.Gen
open Idealize.ShloMosaic.TcCoe

set_option maxHeartbeats 4000000 in
set_option maxRecDepth 8192 in
/-- The reference's result, step by step. -/
theorem result_eq (m : (ℓ : Loc nD τ sig) → Buf (Elt Ideal) ℓ) (c : Dev nD) :
    (Value.res_main_v76 (F := Ideal) m c : S8x2048x512.Idx → EReal)
      = result (m ((c.tc : Thread nD τ).loc main_arg0)) (m ((c.tc : Thread nD τ).loc main_arg1)) := by
  unfold Value.res_main_v76 result sideways mixed weight attn logden wide total expo peak scores masked bias valid dist part
  rfl

end Cert.Att.Ref
-- ==== Proof.Whole.lean ====
/-  The kernel's array and the reference's result are the same function of the arguments. -/
module

public import proofs.«01_k».proof.Proof.RefScore
public import proofs.«01_k».proof.Proof.RefRun

@[expose] public section

namespace Cert.Att

open Idealize.ShloMosaic Idealize.ShloMosaic.ValueIdx

/-- An index of the result, by its head and channel. -/
theorem column_split (j : Cert.ReferenceIdeal.S8x2048x512.Idx) : ∃ (b : Fin 8) (t : Fin 2048) (h : Fin 4) (e : Fin 128),
    j = ix3 b t (⟨128 * h.val + e.val, by omega⟩ : Fin 512) := by
  have h2 : (j 2).val < 512 := (j 2).isLt
  refine ⟨j 0, j 1, ⟨(j 2).val / 128, by omega⟩, ⟨(j 2).val % 128, by omega⟩, funext fun a => ?_⟩
  match a with
  | ⟨0, _⟩ => rfl
  | ⟨1, _⟩ => rfl
  | ⟨2, _⟩ => exact Fin.ext (Nat.div_add_mod _ _).symm

/-- The kernel's array is the reference's result of the kernel's arguments. -/
theorem whole (m : (ℓ : Loc Cert.KernelIdeal.nD Cert.KernelIdeal.τ Cert.KernelIdeal.sig) → Buf (Elt Ideal) ℓ)
    (c : Dev Cert.KernelIdeal.nD) :
    ((Cert.KernelIdeal.Gen.dats m 0 c).arrAt 4 Cert.KernelIdeal.cfg0.N : Cert.ReferenceIdeal.S8x2048x512.Idx → EReal)
      = Ref.result (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) := by
  funext j
  obtain ⟨b, t, h, e, rfl⟩ := column_split j
  exact (final_apply m c b h t e).trans (Ref.result_apply _ _ b h t e).symm

/-- A reference run's result is the kernel's array when the arguments agree. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1)) :
    (Cert.ReferenceIdeal.Value.res_main_v76 (F := Ideal) m' c : Cert.ReferenceIdeal.S8x2048x512.Idx → EReal)
      = (Cert.KernelIdeal.Gen.dats m 0 c).arrAt 4 Cert.KernelIdeal.cfg0.N := by
  refine (Ref.result_eq m' c).trans (Eq.trans ?_ (whole m c).symm)
  exact congrArg₂ Ref.result h0 h1

end Cert.Att
-- ==== Proof.lean ====
module

public import proofs.«01_k».proof.Proof.Both
public import proofs.«01_k».proof.Proof.Recur
public import proofs.«01_k».proof.Proof.MergeRef
public import proofs.«01_k».proof.Proof.NormRef
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Whole
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesIdeal.Value
public import proofs.«01_k».proof.Proof.Gen.GatesReferenceIdeal
public import proofs.«01_k».proof.Proof.Gen.GatesReferenceIdeal.Run
public import proofs.«01_k».proof.Proof.Gen.Heads
public import proofs.«01_k».proof.Proof.Gen.Heads.Skeleton
public import proofs.«01_k».proof.Proof.Gen.Heads.Launch
public import proofs.«01_k».proof.Proof.Gen.Heads.Points
public import proofs.«01_k».proof.Proof.Gen.Heads.Frame
public import proofs.«01_k».proof.Proof.Gen.HeadsIdeal
public import proofs.«01_k».proof.Proof.Gen.HeadsIdeal.Skeleton
public import proofs.«01_k».proof.Proof.Gen.HeadsIdeal.Launch
public import proofs.«01_k».proof.Proof.Gen.HeadsIdeal.Points
public import proofs.«01_k».proof.Proof.Gen.HeadsIdeal.Frame
public import proofs.«01_k».proof.Proof.Gen.HeadsIdeal.Value
public import proofs.«01_k».proof.Proof.Gen.HeadsReferenceIdeal
public import proofs.«01_k».proof.Proof.Gen.HeadsReferenceIdeal.Run
public import proofs.«01_k».proof.Proof.Gen.Forget
public import proofs.«01_k».proof.Proof.Gen.Forget.Skeleton
public import proofs.«01_k».proof.Proof.Gen.Forget.Launch
public import proofs.«01_k».proof.Proof.Gen.Forget.Points
public import proofs.«01_k».proof.Proof.Gen.Forget.Frame
public import proofs.«01_k».proof.Proof.Gen.ForgetIdeal
public import proofs.«01_k».proof.Proof.Gen.ForgetIdeal.Skeleton
public import proofs.«01_k».proof.Proof.Gen.ForgetIdeal.Launch
public import proofs.«01_k».proof.Proof.Gen.ForgetIdeal.Points
public import proofs.«01_k».proof.Proof.Gen.ForgetIdeal.Frame
public import proofs.«01_k».proof.Proof.Gen.ForgetIdeal.Value
public import proofs.«01_k».proof.Proof.Gen.ForgetReferenceIdeal
public import proofs.«01_k».proof.Proof.Gen.ForgetReferenceIdeal.Run
public import proofs.«01_k».proof.Proof.Gen.Input
public import proofs.«01_k».proof.Proof.Gen.Input.Skeleton
public import proofs.«01_k».proof.Proof.Gen.Input.Launch
public import proofs.«01_k».proof.Proof.Gen.Input.Points
public import proofs.«01_k».proof.Proof.Gen.Input.Frame
public import proofs.«01_k».proof.Proof.Gen.InputIdeal
public import proofs.«01_k».proof.Proof.Gen.InputIdeal.Skeleton
public import proofs.«01_k».proof.Proof.Gen.InputIdeal.Launch
public import proofs.«01_k».proof.Proof.Gen.InputIdeal.Points
public import proofs.«01_k».proof.Proof.Gen.InputIdeal.Frame
public import proofs.«01_k».proof.Proof.Gen.InputIdeal.Value
public import proofs.«01_k».proof.Proof.Gen.InputReferenceIdeal
public import proofs.«01_k».proof.Proof.Gen.InputReferenceIdeal.Run
public import proofs.«01_k».proof.Proof.Gen.Output
public import proofs.«01_k».proof.Proof.Gen.Output.Skeleton
public import proofs.«01_k».proof.Proof.Gen.Output.Launch
public import proofs.«01_k».proof.Proof.Gen.Output.Points
public import proofs.«01_k».proof.Proof.Gen.Output.Frame
public import proofs.«01_k».proof.Proof.Gen.OutputIdeal
public import proofs.«01_k».proof.Proof.Gen.OutputIdeal.Skeleton
public import proofs.«01_k».proof.Proof.Gen.OutputIdeal.Launch
public import proofs.«01_k».proof.Proof.Gen.OutputIdeal.Points
public import proofs.«01_k».proof.Proof.Gen.OutputIdeal.Frame
public import proofs.«01_k».proof.Proof.Gen.OutputIdeal.Value
public import proofs.«01_k».proof.Proof.Gen.OutputReferenceIdeal
public import proofs.«01_k».proof.Proof.Gen.OutputReferenceIdeal.Run
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.Norm
public import proofs.«01_k».proof.Proof.Gen.Norm.Skeleton
public import proofs.«01_k».proof.Proof.Gen.Norm.Launch
public import proofs.«01_k».proof.Proof.Gen.Norm.Points
public import proofs.«01_k».proof.Proof.Gen.Norm.Frame
public import proofs.«01_k».proof.Proof.Gen.NormIdeal
public import proofs.«01_k».proof.Proof.Gen.NormIdeal.Skeleton
public import proofs.«01_k».proof.Proof.Gen.NormIdeal.Launch
public import proofs.«01_k».proof.Proof.Gen.NormIdeal.Points
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Gates.Gen.facts, Cert.GatesIdeal.Gen.facts, Cert.GatesReferenceIdeal.Gen.facts,
  Cert.Heads.Gen.facts, Cert.HeadsIdeal.Gen.facts, Cert.HeadsReferenceIdeal.Gen.facts,
  Cert.Forget.Gen.facts, Cert.ForgetIdeal.Gen.facts, Cert.ForgetReferenceIdeal.Gen.facts,
  Cert.Input.Gen.facts, Cert.InputIdeal.Gen.facts, Cert.InputReferenceIdeal.Gen.facts,
  Cert.Output.Gen.facts, Cert.OutputIdeal.Gen.facts, Cert.OutputReferenceIdeal.Gen.facts,
  Cert.Merge.Gen.facts, Cert.MergeIdeal.Gen.facts, Cert.MergeReferenceIdeal.Gen.facts,
  Cert.Norm.Gen.facts, Cert.NormIdeal.Gen.facts, Cert.NormReferenceIdeal.Gen.facts, by
  exact ⟨fun m ρ _ => Cert.Kernel.Gen.frame m ρ, fun m ρ _ => Cert.KernelIdeal.Gen.frame m ρ,
    fun m ρ _ => (θ_run _ _ _).mono (fun r h => ⟨fun c => (h c).2, sem_eq_zero_of_no_sems (by decide) r.2⟩)
      (Cert.ReferenceIdeal.Value.run m ρ),
    fun m ρ _ => Cert.Gates.Gen.frame m ρ, fun m ρ _ => Cert.GatesIdeal.Gen.frame m ρ,
    fun m ρ _ => (θ_run _ _ _).mono (fun r h => ⟨fun c => (h c).2, sem_eq_zero_of_no_sems (by decide) r.2⟩)
      (Cert.GatesReferenceIdeal.Value.run m ρ),
    fun m ρ _ => Cert.Heads.Gen.frame m ρ, fun m ρ _ => Cert.HeadsIdeal.Gen.frame m ρ,
    fun m ρ _ => (θ_run _ _ _).mono (fun r h => ⟨fun c => (h c).2, sem_eq_zero_of_no_sems (by decide) r.2⟩)
      (Cert.HeadsReferenceIdeal.Value.run m ρ),
    fun m ρ _ => Cert.Forget.Gen.frame m ρ, fun m ρ _ => Cert.ForgetIdeal.Gen.frame m ρ,
    fun m ρ _ => (θ_run _ _ _).mono (fun r h => ⟨fun c => (h c).2, sem_eq_zero_of_no_sems (by decide) r.2⟩)
      (Cert.ForgetReferenceIdeal.Value.run m ρ),
    fun m ρ _ => Cert.Input.Gen.frame m ρ, fun m ρ _ => Cert.InputIdeal.Gen.frame m ρ,
    fun m ρ _ => (θ_run _ _ _).mono (fun r h => ⟨fun c => (h c).2, sem_eq_zero_of_no_sems (by decide) r.2⟩)
      (Cert.InputReferenceIdeal.Value.run m ρ),
    fun m ρ _ => Cert.Output.Gen.frame m ρ, fun m ρ _ => Cert.OutputIdeal.Gen.frame m ρ,
    fun m ρ _ => (θ_run _ _ _).mono (fun r h => ⟨fun c => (h c).2, sem_eq_zero_of_no_sems (by decide) r.2⟩)
      (Cert.OutputReferenceIdeal.Value.run m ρ),
    fun m ρ _ => Cert.Merge.Gen.frame m ρ, fun m ρ _ => Cert.MergeIdeal.Gen.frame m ρ,
    fun m ρ _ => (θ_run _ _ _).mono (fun r h => ⟨fun c => (h c).2, sem_eq_zero_of_no_sems (by decide) r.2⟩)
      (Cert.MergeReferenceIdeal.Value.run m ρ),
    fun m ρ _ => Cert.Norm.Gen.frame m ρ, fun m ρ _ => Cert.NormIdeal.Gen.frame m ρ,
    fun m ρ _ => (θ_run _ _ _).mono (fun r h => ⟨fun c => (h c).2.2, sem_eq_zero_of_no_sems (by decide) r.2⟩)
      (Cert.NormReferenceIdeal.Value.run m ρ),
    IdealRules.named_const.statement Cert.KernelIdeal.κ "scale" .f32 0x3DB504F3#32 (((Real.sqrt 128)⁻¹ : ℝ) : EReal) rfl,
    fun m g m' g' _ hm => ⟨fun c => (Cert.KernelIdeal.Gen.dats m 0 c).arrAt 4 Cert.KernelIdeal.cfg0.N,
      Cert.KernelIdeal.Value.run_blocks m g,
      (θ_run _ _ _).mono (fun r h c => ⟨(h c).1.trans (Cert.Att.agree m m' c (hm c).1 (hm c).2), (h c).2⟩)
        (Cert.ReferenceIdeal.Value.run m' g')⟩,
    trivial,
    fun m g m' g' _ hm => ⟨fun c => (Cert.GatesIdeal.Gen.dats m 0 c).arrAt 3 Cert.GatesIdeal.cfg0.N,
      Cert.GatesIdeal.Value.run_blocks m g,
      (θ_run _ _ _).mono (fun r h c => ⟨(h c).1.trans (Cert.Proj.gates_agree m m' c (hm c).1 (hm c).2), (h c).2⟩)
        (Cert.GatesReferenceIdeal.Value.run m' g')⟩,
    trivial,
    fun m g m' g' _ hm => ⟨fun c => (Cert.HeadsIdeal.Gen.dats m 0 c).arrAt 3 Cert.HeadsIdeal.cfg0.N,
      Cert.HeadsIdeal.Value.run_blocks m g,
      (θ_run _ _ _).mono (fun r h c => ⟨(h c).1.trans (Cert.Proj.heads_agree m m' c (hm c).1 (hm c).2), (h c).2⟩)
        (Cert.HeadsReferenceIdeal.Value.run m' g')⟩,
    trivial,
    fun m g m' g' _ hm => ⟨fun c => (Cert.ForgetIdeal.Gen.dats m 0 c).arrAt 3 Cert.ForgetIdeal.cfg0.N,
      Cert.ForgetIdeal.Value.run_blocks m g,
      (θ_run _ _ _).mono (fun r h c => ⟨(h c).1.trans (Cert.Recur.forget_agree m m' c (hm c).1 (hm c).2.1 (hm c).2.2), (h c).2⟩)
        (Cert.ForgetReferenceIdeal.Value.run m' g')⟩,
    trivial,
    fun m g m' g' _ hm => ⟨fun c => (Cert.InputIdeal.Gen.dats m 0 c).arrAt 3 Cert.InputIdeal.cfg0.N,
      Cert.InputIdeal.Value.run_blocks m g,
      (θ_run _ _ _).mono (fun r h c => ⟨(h c).1.trans (Cert.Recur.input_agree m m' c (hm c).1 (hm c).2), (h c).2⟩)
        (Cert.InputReferenceIdeal.Value.run m' g')⟩,
    trivial,
    fun m g m' g' _ hm => ⟨fun c => (Cert.OutputIdeal.Gen.dats m 0 c).arrAt 3 Cert.OutputIdeal.cfg0.N,
      Cert.OutputIdeal.Value.run_blocks m g,
      (θ_run _ _ _).mono (fun r h c => ⟨(h c).1.trans (Cert.Recur.output_agree m m' c (hm c).1 (hm c).2), (h c).2⟩)
        (Cert.OutputReferenceIdeal.Value.run m' g')⟩,
    trivial,
    fun m g m' g' _ hm => ⟨fun c => (Cert.MergeIdeal.Gen.dats m 0 c).arrAt 6 Cert.MergeIdeal.cfg0.N,
      Cert.MergeIdeal.Value.run_blocks m g,
      (θ_run _ _ _).mono (fun r h c => ⟨(h c).1.trans (Cert.Merged.agree m c m' (hm c).1 (hm c).2.1 (hm c).2.2.1 (hm c).2.2.2.1 (hm c).2.2.2.2), (h c).2⟩)
        (Cert.MergeReferenceIdeal.Value.run m' g')⟩,
    trivial,
    fun m g m' g' _ hm => ⟨fun c => (Cert.NormIdeal.Gen.dats m 0 c).arrAt 3 Cert.NormIdeal.cfg0.N,
      fun c => (Cert.NormIdeal.Gen.dats m 0 c).arrAt 4 Cert.NormIdeal.cfg0.N, Cert.NormIdeal.Value.run_blocks m g,
      (θ_run _ _ _).mono (fun r h c => ⟨(h c).1.trans (Cert.Normed.norm_agree m m' c (hm c).1 (hm c).2.1),
          (h c).2.1.trans (Cert.Normed.query_agree m m' c (hm c).1 (hm c).2.1 (hm c).2.2), (h c).2.2⟩)
        (Cert.NormReferenceIdeal.Value.run m' g')⟩⟩⟩

end Cert.Proof

end
